-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x32768 : Shape := ⟨2, ![128, 32768]⟩
abbrev S32768 : Shape := ⟨1, ![32768]⟩
abbrev S2048 : Shape := ⟨1, ![2048]⟩
abbrev S128 : Shape := ⟨1, ![128]⟩
abbrev S1024 : Shape := ⟨1, ![1024]⟩
abbrev S64 : Shape := ⟨1, ![64]⟩
abbrev S1040 : Shape := ⟨1, ![1040]⟩
abbrev S16 : Shape := ⟨1, ![16]⟩
abbrev S_ : Shape := ⟨0, ![]⟩
abbrev S1x32768 : Shape := ⟨2, ![1, 32768]⟩
abbrev S1 : Shape := ⟨1, ![1]⟩

abbrev nBuf : Table → Nat
  | .hbm => 2
  | .local .scVector .vmem => 10
  | _ => 0

abbrev bufTy : (tb : Table) → Fin (nBuf tb) → BufTy
  | .hbm, ⟨0, _⟩ => ⟨S128x32768, .f32⟩
  | .hbm, ⟨1, _⟩ => ⟨S128x32768, .f32⟩
  | .local .scVector .vmem, ⟨0, _⟩ => ⟨S32768, .f32⟩
  | .local .scVector .vmem, ⟨1, _⟩ => ⟨S32768, .f32⟩
  | .local .scVector .vmem, ⟨2, _⟩ => ⟨S2048, .f32⟩
  | .local .scVector .vmem, ⟨3, _⟩ => ⟨S128, .f32⟩
  | .local .scVector .vmem, ⟨4, _⟩ => ⟨S1024, .f32⟩
  | .local .scVector .vmem, ⟨5, _⟩ => ⟨S64, .i32⟩
  | .local .scVector .vmem, ⟨6, _⟩ => ⟨S64, .i32⟩
  | .local .scVector .vmem, ⟨7, _⟩ => ⟨S1040, .i32⟩
  | .local .scVector .vmem, ⟨8, _⟩ => ⟨S16, .f32⟩
  | .local .scVector .vmem, ⟨9, _⟩ => ⟨S16, .i32⟩
  | _, _ => ⟨S128x32768, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 2 → Bool
  | ⟨0, _⟩ => false
  | ⟨1, _⟩ => false
  | _ => false

abbrev sig : RefSig :=
  ofTables nBuf rfl bufTy 4 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_arg0_scv : Ref sig .scVector := ⟨.hbm, 0, rfl⟩
abbrev main_v0_scv : Ref sig .scVector := ⟨.hbm, 1, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c2048_i32 : BitVec 32 := 2048#32
  let v6 : BitVec 32 := Scalar.addi c0_i32_0 c2048_i32
  let c1_i32_1 : BitVec 32 := 1#32
  ⟨c0_i32_0, v6, c1_i32_1⟩
def k0_off1 (k0_t1 : Fin k0_t1_loop.trips) : Fin 1 → Nat :=
  let c0_i32_12 : BitVec 32 := 0#32
  let c0_i32_0 : BitVec 32 := 0#32
  let c1_i32_1 : BitVec 32 := 1#32
  let arg15 : BitVec 32 := Scf.iv c0_i32_0 c1_i32_1 k0_t1
  let c1_i32_11 : BitVec 32 := 1#32
  let v18 : BitVec 32 := Scalar.muli arg15 c1_i32_11
  let v19 : BitVec 32 := Scalar.addi c0_i32_12 v18
  let c16_i32 : BitVec 32 := 16#32
  let v20 : BitVec 32 := Scalar.muli v19 c16_i32
  let v21 : Index := Scalar.indexCast v20
  ![v21.toNat]
def k0_off2 (i : grid0.Coords) : Fin 2 → Nat :=
  let arg1 : BitVec 32 := BitVec.ofNat 32 (i 1).val
  let c2_i32 : BitVec 32 := 2#32
  let v4 : BitVec 32 := Scalar.muli arg1 c2_i32
  let arg0 : BitVec 32 := BitVec.ofNat 32 (i 0).val
  let v5 : BitVec 32 := Scalar.addi v4 arg0
  let c4_i32 : BitVec 32 := 4#32
  let v7 : BitVec 32 := Scalar.muli v5 c4_i32
  let c0_i32_3 : BitVec 32 := 0#32
  ![v7.toNat, 0]
@[reducible] def k0_t2_loop : Scf.Loop 32 :=
  let c0_i32_5 : BitVec 32 := 0#32
  let c4_i32_6 : BitVec 32 := 4#32
  let v12 : BitVec 32 := Scalar.addi c0_i32_5 c4_i32_6
  let c1_i32_7 : BitVec 32 := 1#32
  ⟨c0_i32_5, v12, c1_i32_7⟩
def k0_off3 (i : grid0.Coords) (k0_t2 : Fin k0_t2_loop.trips) : Fin 2 → Nat :=
  let arg1 : BitVec 32 := BitVec.ofNat 32 (i 1).val
  let c2_i32 : BitVec 32 := 2#32
  let v4 : BitVec 32 := Scalar.muli arg1 c2_i32
  let arg0 : BitVec 32 := BitVec.ofNat 32 (i 0).val
  let v5 : BitVec 32 := Scalar.addi v4 arg0
  let c4_i32_11 : BitVec 32 := 4#32
  let v18 : BitVec 32 := Scalar.muli v5 c4_i32_11
  let c0_i32_5 : BitVec 32 := 0#32
  let c1_i32_7 : BitVec 32 := 1#32
  let arg15 : BitVec 32 := Scf.iv c0_i32_5 c1_i32_7 k0_t2
  let v19 : BitVec 32 := Scalar.addi v18 arg15
  let c0_i32_347_r0 : BitVec 32 := 0#32
  ![v19.toNat, 0]
@[reducible] def k0_t3_loop : Scf.Loop 32 :=
  let c0_i32_12 : BitVec 32 := 0#32
  let c512_i32 : BitVec 32 := 512#32
  let v20 : BitVec 32 := Scalar.addi c0_i32_12 c512_i32
  let c1_i32_13 : BitVec 32 := 1#32
  ⟨c0_i32_12, v20, c1_i32_13⟩
def k0_off4 (k0_t3 : Fin k0_t3_loop.trips) : Fin 1 → Nat :=
  let c4_i32_349 : BitVec 32 := 4#32
  let c0_i32_348 : BitVec 32 := 0#32
  let c0_i32_12 : BitVec 32 := 0#32
  let c1_i32_13 : BitVec 32 := 1#32
  let arg24 : BitVec 32 := Scf.iv c0_i32_12 c1_i32_13 k0_t3
  let c1_i32_347 : BitVec 32 := 1#32
  let v1569 : BitVec 32 := Scalar.muli arg24 c1_i32_347
  let v1570 : BitVec 32 := Scalar.addi c0_i32_348 v1569
  let v1571 : BitVec 32 := Scalar.muli c4_i32_349 v1570
  let c16_i32_350 : BitVec 32 := 16#32
  let v1572 : BitVec 32 := Scalar.muli v1571 c16_i32_350
  let v1573 : Index := Scalar.indexCast v1572
  ![v1573.toNat]
def k0_off5 (k0_t3 : Fin k0_t3_loop.trips) (c1_i32_352 : BitVec 32) : Fin 1 → Nat :=
  let c4_i32_351 : BitVec 32 := 4#32
  let c0_i32_348 : BitVec 32 := 0#32
  let c0_i32_12 : BitVec 32 := 0#32
  let c1_i32_13 : BitVec 32 := 1#32
  let arg24 : BitVec 32 := Scf.iv c0_i32_12 c1_i32_13 k0_t3
  let c1_i32_347 : BitVec 32 := 1#32
  let v1569 : BitVec 32 := Scalar.muli arg24 c1_i32_347
  let v1570 : BitVec 32 := Scalar.addi c0_i32_348 v1569
  let v1576 : BitVec 32 := Scalar.muli c4_i32_351 v1570
  let v1577 : BitVec 32 := Scalar.addi v1576 c1_i32_352
  let c16_i32_353 : BitVec 32 := 16#32
  let v1578 : BitVec 32 := Scalar.muli v1577 c16_i32_353
  let v1579 : Index := Scalar.indexCast v1578
  ![v1579.toNat]
@[reducible] def k0_t4_loop : Scf.Loop 32 :=
  let c0_i32_16 : BitVec 32 := 0#32
  let c128_i32 : BitVec 32 := 128#32
  let v73 : BitVec 32 := Scalar.addi c0_i32_16 c128_i32
  let c1_i32_17 : BitVec 32 := 1#32
  ⟨c0_i32_16, v73, c1_i32_17⟩
@[reducible] def k0_t5_loop : Scf.Loop 32 :=
  let c0_i32_349 : BitVec 32 := 0#32
  let c16_i32_350 : BitVec 32 := 16#32
  let v1571 : BitVec 32 := Scalar.addi c0_i32_349 c16_i32_350
  let c1_i32_351 : BitVec 32 := 1#32
  ⟨c0_i32_349, v1571, c1_i32_351⟩
def k0_off6 (k0_t4 : Fin k0_t4_loop.trips) (k0_t5 : Fin k0_t5_loop.trips) : Fin 1 → Nat :=
  let c0_i32_348 : BitVec 32 := 0#32
  let c0_i32_16 : BitVec 32 := 0#32
  let c1_i32_17 : BitVec 32 := 1#32
  let arg24 : BitVec 32 := Scf.iv c0_i32_16 c1_i32_17 k0_t4
  let c1_i32_347 : BitVec 32 := 1#32
  let v1569 : BitVec 32 := Scalar.muli arg24 c1_i32_347
  let v1570 : BitVec 32 := Scalar.addi c0_i32_348 v1569
  let c16_i32_356 : BitVec 32 := 16#32
  let v1578 : BitVec 32 := Scalar.muli v1570 c16_i32_356
  let c0_i32_355 : BitVec 32 := 0#32
  let c0_i32_349 : BitVec 32 := 0#32
  let c1_i32_351 : BitVec 32 := 1#32
  let arg27 : BitVec 32 := Scf.iv c0_i32_349 c1_i32_351 k0_t5
  let c1_i32_354 : BitVec 32 := 1#32
  let v1576 : BitVec 32 := Scalar.muli arg27 c1_i32_354
  let v1577 : BitVec 32 := Scalar.addi c0_i32_355 v1576
  let v1579 : BitVec 32 := Scalar.addi v1578 v1577
  let c16_i32_357 : BitVec 32 := 16#32
  let v1580 : BitVec 32 := Scalar.muli v1579 c16_i32_357
  let v1581 : Index := Scalar.indexCast v1580
  ![v1581.toNat]
def k0_off7 (k0_t4 : Fin k0_t4_loop.trips) : Fin 1 → Nat :=
  let c0_i32_348 : BitVec 32 := 0#32
  let c0_i32_16 : BitVec 32 := 0#32
  let c1_i32_17 : BitVec 32 := 1#32
  let arg24 : BitVec 32 := Scf.iv c0_i32_16 c1_i32_17 k0_t4
  let c1_i32_347 : BitVec 32 := 1#32
  let v1569 : BitVec 32 := Scalar.muli arg24 c1_i32_347
  let v1570 : BitVec 32 := Scalar.addi c0_i32_348 v1569
  let c16_i32_353 : BitVec 32 := 16#32
  let v1573 : BitVec 32 := Scalar.muli v1570 c16_i32_353
  let v1574 : Index := Scalar.indexCast v1573
  ![v1574.toNat]
@[reducible] def k0_t6_loop : Scf.Loop 32 :=
  let c0_i32_20 : BitVec 32 := 0#32
  let c8_i32 : BitVec 32 := 8#32
  let v123 : BitVec 32 := Scalar.addi c0_i32_20 c8_i32
  let c1_i32_21 : BitVec 32 := 1#32
  ⟨c0_i32_20, v123, c1_i32_21⟩
@[reducible] def k0_t7_loop : Scf.Loop 32 :=
  let c0_i32_347 : BitVec 32 := 0#32
  let c16_i32_348 : BitVec 32 := 16#32
  let v1569 : BitVec 32 := Scalar.addi c0_i32_347 c16_i32_348
  let c1_i32_349 : BitVec 32 := 1#32
  ⟨c0_i32_347, v1569, c1_i32_349⟩
def k0_off8 (k0_t6 : Fin k0_t6_loop.trips) (k0_t7 : Fin k0_t7_loop.trips) : Fin 1 → Nat :=
  let c0_i32_20 : BitVec 32 := 0#32
  let c1_i32_21 : BitVec 32 := 1#32
  let arg24 : BitVec 32 := Scf.iv c0_i32_20 c1_i32_21 k0_t6
  let c16_i32_355 : BitVec 32 := 16#32
  let v1576 : BitVec 32 := Scalar.muli arg24 c16_i32_355
  let c0_i32_354 : BitVec 32 := 0#32
  let c0_i32_347 : BitVec 32 := 0#32
  let c1_i32_349 : BitVec 32 := 1#32
  let arg26 : BitVec 32 := Scf.iv c0_i32_347 c1_i32_349 k0_t7
  let c1_i32_353 : BitVec 32 := 1#32
  let v1574 : BitVec 32 := Scalar.muli arg26 c1_i32_353
  let v1575 : BitVec 32 := Scalar.addi c0_i32_354 v1574
  let v1577 : BitVec 32 := Scalar.addi v1576 v1575
  let c16_i32_356 : BitVec 32 := 16#32
  let v1580 : BitVec 32 := Scalar.muli v1577 c16_i32_356
  let v1581 : Index := Scalar.indexCast v1580
  ![v1581.toNat]
def k0_off9 (k0_t6 : Fin k0_t6_loop.trips) : Fin 1 → Nat :=
  let c0_i32_20 : BitVec 32 := 0#32
  let c1_i32_21 : BitVec 32 := 1#32
  let arg24 : BitVec 32 := Scf.iv c0_i32_20 c1_i32_21 k0_t6
  let c16_i32_351 : BitVec 32 := 16#32
  let v1571 : BitVec 32 := Scalar.muli arg24 c16_i32_351
  let v1572 : Index := Scalar.indexCast v1571
  ![v1572.toNat]
@[reducible] def k0_t8_loop : Scf.Loop 32 :=
  let c0_i32_23 : BitVec 32 := 0#32
  let c8_i32_24 : BitVec 32 := 8#32
  let v125 : BitVec 32 := Scalar.addi c0_i32_23 c8_i32_24
  let c1_i32_25 : BitVec 32 := 1#32
  ⟨c0_i32_23, v125, c1_i32_25⟩
def k0_off10 (k0_t8 : Fin k0_t8_loop.trips) : Fin 1 → Nat :=
  let c0_i32_348 : BitVec 32 := 0#32
  let c0_i32_23 : BitVec 32 := 0#32
  let c1_i32_25 : BitVec 32 := 1#32
  let arg24 : BitVec 32 := Scf.iv c0_i32_23 c1_i32_25 k0_t8
  let c1_i32_347 : BitVec 32 := 1#32
  let v1569 : BitVec 32 := Scalar.muli arg24 c1_i32_347
  let v1570 : BitVec 32 := Scalar.addi c0_i32_348 v1569
  let c16_i32_349 : BitVec 32 := 16#32
  let v1573 : BitVec 32 := Scalar.muli v1570 c16_i32_349
  let v1574 : Index := Scalar.indexCast v1573
  ![v1574.toNat]
@[reducible] def k0_t9_loop : Scf.Loop 32 :=
  let c0_i32_31 : BitVec 32 := 0#32
  let c16_i32_32 : BitVec 32 := 16#32
  let v143 : BitVec 32 := Scalar.addi c0_i32_31 c16_i32_32
  let c1_i32_33 : BitVec 32 := 1#32
  ⟨c0_i32_31, v143, c1_i32_33⟩

def k0_chk1 (v1571 : IVec S16 32) : Prop :=
  (∀ a x, ((![v1571] : Fin 1 → IVec S16 32) a x).toNat < S16.size a)
theorem k0_idx1_inb : ∀ (v1571 : IVec S16 32) (k0_hw1 : k0_chk1 v1571), ∀ a x, ((![v1571] : Fin 1 → IVec S16 32) a x).toNat < S16.size a := fun v1571 k0_hw1 => k0_hw1

def k0_chk2 (v146 : IVec S16 32) : Prop :=
  (∀ a x, ((![v146] : Fin 1 → IVec S16 32) a x).toNat < S16.size a) ∧
  (∀ a x, ((![v146] : Fin 1 → IVec S16 32) a x).toNat < S16.size a)
theorem k0_idx2_inb : ∀ (v146 : IVec S16 32) (k0_hw2 : k0_chk2 v146), ∀ a x, ((![v146] : Fin 1 → IVec S16 32) a x).toNat < S16.size a := fun v146 k0_hw2 => k0_hw2.1
theorem k0_idx3_inb : ∀ (v146 : IVec S16 32) (k0_hw2 : k0_chk2 v146), ∀ a x, ((![v146] : Fin 1 → IVec S16 32) a x).toNat < S16.size a := fun v146 k0_hw2 => k0_hw2.2
@[reducible] def k0_t10_loop : Scf.Loop 32 :=
  let c0_i32_40 : BitVec 32 := 0#32
  let c16_i32_41 : BitVec 32 := 16#32
  let v153 : BitVec 32 := Scalar.addi c0_i32_40 c16_i32_41
  let c1_i32_42 : BitVec 32 := 1#32
  ⟨c0_i32_40, v153, c1_i32_42⟩

def k0_chk3 (v1571 : IVec S16 32) : Prop :=
  (∀ a x, ((![v1571] : Fin 1 → IVec S16 32) a x).toNat < S16.size a)
theorem k0_idx4_inb : ∀ (v1571 : IVec S16 32) (k0_hw3 : k0_chk3 v1571), ∀ a x, ((![v1571] : Fin 1 → IVec S16 32) a x).toNat < S16.size a := fun v1571 k0_hw3 => k0_hw3

def k0_chk4 (v156 : IVec S16 32) : Prop :=
  (∀ a x, ((![v156] : Fin 1 → IVec S16 32) a x).toNat < S16.size a) ∧
  (∀ a x, ((![v156] : Fin 1 → IVec S16 32) a x).toNat < S16.size a)
theorem k0_idx5_inb : ∀ (v156 : IVec S16 32) (k0_hw4 : k0_chk4 v156), ∀ a x, ((![v156] : Fin 1 → IVec S16 32) a x).toNat < S16.size a := fun v156 k0_hw4 => k0_hw4.1
theorem k0_idx6_inb : ∀ (v156 : IVec S16 32) (k0_hw4 : k0_chk4 v156), ∀ a x, ((![v156] : Fin 1 → IVec S16 32) a x).toNat < S16.size a := fun v156 k0_hw4 => k0_hw4.2
@[reducible] def k0_t11_loop : Scf.Loop 32 :=
  let c0_i32_50 : BitVec 32 := 0#32
  let c16_i32_51 : BitVec 32 := 16#32
  let v163 : BitVec 32 := Scalar.addi c0_i32_50 c16_i32_51
  let c1_i32_52 : BitVec 32 := 1#32
  ⟨c0_i32_50, v163, c1_i32_52⟩

def k0_chk5 (v1571 : IVec S16 32) : Prop :=
  (∀ a x, ((![v1571] : Fin 1 → IVec S16 32) a x).toNat < S16.size a)
theorem k0_idx7_inb : ∀ (v1571 : IVec S16 32) (k0_hw5 : k0_chk5 v1571), ∀ a x, ((![v1571] : Fin 1 → IVec S16 32) a x).toNat < S16.size a := fun v1571 k0_hw5 => k0_hw5

def k0_chk6 (v166 : IVec S16 32) : Prop :=
  (∀ a x, ((![v166] : Fin 1 → IVec S16 32) a x).toNat < S16.size a) ∧
  (∀ a x, ((![v166] : Fin 1 → IVec S16 32) a x).toNat < S16.size a)
theorem k0_idx8_inb : ∀ (v166 : IVec S16 32) (k0_hw6 : k0_chk6 v166), ∀ a x, ((![v166] : Fin 1 → IVec S16 32) a x).toNat < S16.size a := fun v166 k0_hw6 => k0_hw6.1
theorem k0_idx9_inb : ∀ (v166 : IVec S16 32) (k0_hw6 : k0_chk6 v166), ∀ a x, ((![v166] : Fin 1 → IVec S16 32) a x).toNat < S16.size a := fun v166 k0_hw6 => k0_hw6.2
@[reducible] def k0_t12_loop : Scf.Loop 32 :=
  let c0_i32_60 : BitVec 32 := 0#32
  let c16_i32_61 : BitVec 32 := 16#32
  let v173 : BitVec 32 := Scalar.addi c0_i32_60 c16_i32_61
  let c1_i32_62 : BitVec 32 := 1#32
  ⟨c0_i32_60, v173, c1_i32_62⟩

def k0_chk7 (v1571 : IVec S16 32) : Prop :=
  (∀ a x, ((![v1571] : Fin 1 → IVec S16 32) a x).toNat < S16.size a)
theorem k0_idx10_inb : ∀ (v1571 : IVec S16 32) (k0_hw7 : k0_chk7 v1571), ∀ a x, ((![v1571] : Fin 1 → IVec S16 32) a x).toNat < S16.size a := fun v1571 k0_hw7 => k0_hw7

def k0_chk8 (v176 : IVec S16 32) : Prop :=
  (∀ a x, ((![v176] : Fin 1 → IVec S16 32) a x).toNat < S16.size a) ∧
  (∀ a x, ((![v176] : Fin 1 → IVec S16 32) a x).toNat < S16.size a)
theorem k0_idx11_inb : ∀ (v176 : IVec S16 32) (k0_hw8 : k0_chk8 v176), ∀ a x, ((![v176] : Fin 1 → IVec S16 32) a x).toNat < S16.size a := fun v176 k0_hw8 => k0_hw8.1
theorem k0_idx12_inb : ∀ (v176 : IVec S16 32) (k0_hw8 : k0_chk8 v176), ∀ a x, ((![v176] : Fin 1 → IVec S16 32) a x).toNat < S16.size a := fun v176 k0_hw8 => k0_hw8.2

def k0_chk9 (v182 : IVec S16 32) : Prop :=
  (∀ a x, ((![v182] : Fin 1 → IVec S16 32) a x).toNat < S16.size a)
theorem k0_idx13_inb : ∀ (v182 : IVec S16 32) (k0_hw9 : k0_chk9 v182), ∀ a x, ((![v182] : Fin 1 → IVec S16 32) a x).toNat < S16.size a := fun v182 k0_hw9 => k0_hw9

def k0_chk10 (v187 : IVec S16 32) : Prop :=
  (∀ a x, ((![v187] : Fin 1 → IVec S16 32) a x).toNat < S16.size a)
theorem k0_idx14_inb : ∀ (v187 : IVec S16 32) (k0_hw10 : k0_chk10 v187), ∀ a x, ((![v187] : Fin 1 → IVec S16 32) a x).toNat < S16.size a := fun v187 k0_hw10 => k0_hw10
@[reducible] def k0_t13_loop : Scf.Loop 32 :=
  let c0_i32_74 : BitVec 32 := 0#32
  let c16_i32_75 : BitVec 32 := 16#32
  let v198 : BitVec 32 := Scalar.addi c0_i32_74 c16_i32_75
  let c1_i32_76 : BitVec 32 := 1#32
  ⟨c0_i32_74, v198, c1_i32_76⟩

def k0_chk11 (v1571 : IVec S16 32) : Prop :=
  (∀ a x, ((![v1571] : Fin 1 → IVec S16 32) a x).toNat < S16.size a)
theorem k0_idx15_inb : ∀ (v1571 : IVec S16 32) (k0_hw11 : k0_chk11 v1571), ∀ a x, ((![v1571] : Fin 1 → IVec S16 32) a x).toNat < S16.size a := fun v1571 k0_hw11 => k0_hw11

def k0_chk12 (v201 : IVec S16 32) : Prop :=
  (∀ a x, ((![v201] : Fin 1 → IVec S16 32) a x).toNat < S16.size a) ∧
  (∀ a x, ((![v201] : Fin 1 → IVec S16 32) a x).toNat < S16.size a)
theorem k0_idx16_inb : ∀ (v201 : IVec S16 32) (k0_hw12 : k0_chk12 v201), ∀ a x, ((![v201] : Fin 1 → IVec S16 32) a x).toNat < S16.size a := fun v201 k0_hw12 => k0_hw12.1
theorem k0_idx17_inb : ∀ (v201 : IVec S16 32) (k0_hw12 : k0_chk12 v201), ∀ a x, ((![v201] : Fin 1 → IVec S16 32) a x).toNat < S16.size a := fun v201 k0_hw12 => k0_hw12.2
@[reducible] def k0_t14_loop : Scf.Loop 32 :=
  let c0_i32_84 : BitVec 32 := 0#32
  let c16_i32_85 : BitVec 32 := 16#32
  let v208 : BitVec 32 := Scalar.addi c0_i32_84 c16_i32_85
  let c1_i32_86 : BitVec 32 := 1#32
  ⟨c0_i32_84, v208, c1_i32_86⟩

def k0_chk13 (v1571 : IVec S16 32) : Prop :=
  (∀ a x, ((![v1571] : Fin 1 → IVec S16 32) a x).toNat < S16.size a)
theorem k0_idx18_inb : ∀ (v1571 : IVec S16 32) (k0_hw13 : k0_chk13 v1571), ∀ a x, ((![v1571] : Fin 1 → IVec S16 32) a x).toNat < S16.size a := fun v1571 k0_hw13 => k0_hw13

def k0_chk14 (v211 : IVec S16 32) : Prop :=
  (∀ a x, ((![v211] : Fin 1 → IVec S16 32) a x).toNat < S16.size a) ∧
  (∀ a x, ((![v211] : Fin 1 → IVec S16 32) a x).toNat < S16.size a)
theorem k0_idx19_inb : ∀ (v211 : IVec S16 32) (k0_hw14 : k0_chk14 v211), ∀ a x, ((![v211] : Fin 1 → IVec S16 32) a x).toNat < S16.size a := fun v211 k0_hw14 => k0_hw14.1
theorem k0_idx20_inb : ∀ (v211 : IVec S16 32) (k0_hw14 : k0_chk14 v211), ∀ a x, ((![v211] : Fin 1 → IVec S16 32) a x).toNat < S16.size a := fun v211 k0_hw14 => k0_hw14.2

def k0_chk15 (v217 : IVec S16 32) : Prop :=
  (∀ a x, ((![v217] : Fin 1 → IVec S16 32) a x).toNat < S16.size a)
theorem k0_idx21_inb : ∀ (v217 : IVec S16 32) (k0_hw15 : k0_chk15 v217), ∀ a x, ((![v217] : Fin 1 → IVec S16 32) a x).toNat < S16.size a := fun v217 k0_hw15 => k0_hw15

def k0_chk16 (v222 : IVec S16 32) : Prop :=
  (∀ a x, ((![v222] : Fin 1 → IVec S16 32) a x).toNat < S16.size a)
theorem k0_idx22_inb : ∀ (v222 : IVec S16 32) (k0_hw16 : k0_chk16 v222), ∀ a x, ((![v222] : Fin 1 → IVec S16 32) a x).toNat < S16.size a := fun v222 k0_hw16 => k0_hw16
@[reducible] def k0_t15_loop : Scf.Loop 32 :=
  let c0_i32_98 : BitVec 32 := 0#32
  let c16_i32_99 : BitVec 32 := 16#32
  let v233 : BitVec 32 := Scalar.addi c0_i32_98 c16_i32_99
  let c1_i32_100 : BitVec 32 := 1#32
  ⟨c0_i32_98, v233, c1_i32_100⟩

def k0_chk17 (v1571 : IVec S16 32) : Prop :=
  (∀ a x, ((![v1571] : Fin 1 → IVec S16 32) a x).toNat < S16.size a)
theorem k0_idx23_inb : ∀ (v1571 : IVec S16 32) (k0_hw17 : k0_chk17 v1571), ∀ a x, ((![v1571] : Fin 1 → IVec S16 32) a x).toNat < S16.size a := fun v1571 k0_hw17 => k0_hw17

def k0_chk18 (v236 : IVec S16 32) : Prop :=
  (∀ a x, ((![v236] : Fin 1 → IVec S16 32) a x).toNat < S16.size a) ∧
  (∀ a x, ((![v236] : Fin 1 → IVec S16 32) a x).toNat < S16.size a)
theorem k0_idx24_inb : ∀ (v236 : IVec S16 32) (k0_hw18 : k0_chk18 v236), ∀ a x, ((![v236] : Fin 1 → IVec S16 32) a x).toNat < S16.size a := fun v236 k0_hw18 => k0_hw18.1
theorem k0_idx25_inb : ∀ (v236 : IVec S16 32) (k0_hw18 : k0_chk18 v236), ∀ a x, ((![v236] : Fin 1 → IVec S16 32) a x).toNat < S16.size a := fun v236 k0_hw18 => k0_hw18.2
@[reducible] def k0_t16_loop : Scf.Loop 32 :=
  let c0_i32_108 : BitVec 32 := 0#32
  let c16_i32_109 : BitVec 32 := 16#32
  let v243 : BitVec 32 := Scalar.addi c0_i32_108 c16_i32_109
  let c1_i32_110 : BitVec 32 := 1#32
  ⟨c0_i32_108, v243, c1_i32_110⟩

def k0_chk19 (v1571 : IVec S16 32) : Prop :=
  (∀ a x, ((![v1571] : Fin 1 → IVec S16 32) a x).toNat < S16.size a)
theorem k0_idx26_inb : ∀ (v1571 : IVec S16 32) (k0_hw19 : k0_chk19 v1571), ∀ a x, ((![v1571] : Fin 1 → IVec S16 32) a x).toNat < S16.size a := fun v1571 k0_hw19 => k0_hw19

def k0_chk20 (v246 : IVec S16 32) : Prop :=
  (∀ a x, ((![v246] : Fin 1 → IVec S16 32) a x).toNat < S16.size a) ∧
  (∀ a x, ((![v246] : Fin 1 → IVec S16 32) a x).toNat < S16.size a)
theorem k0_idx27_inb : ∀ (v246 : IVec S16 32) (k0_hw20 : k0_chk20 v246), ∀ a x, ((![v246] : Fin 1 → IVec S16 32) a x).toNat < S16.size a := fun v246 k0_hw20 => k0_hw20.1
theorem k0_idx28_inb : ∀ (v246 : IVec S16 32) (k0_hw20 : k0_chk20 v246), ∀ a x, ((![v246] : Fin 1 → IVec S16 32) a x).toNat < S16.size a := fun v246 k0_hw20 => k0_hw20.2

def k0_chk21 (v252 : IVec S16 32) : Prop :=
  (∀ a x, ((![v252] : Fin 1 → IVec S16 32) a x).toNat < S16.size a)
theorem k0_idx29_inb : ∀ (v252 : IVec S16 32) (k0_hw21 : k0_chk21 v252), ∀ a x, ((![v252] : Fin 1 → IVec S16 32) a x).toNat < S16.size a := fun v252 k0_hw21 => k0_hw21

def k0_chk22 (v257 : IVec S16 32) : Prop :=
  (∀ a x, ((![v257] : Fin 1 → IVec S16 32) a x).toNat < S16.size a)
theorem k0_idx30_inb : ∀ (v257 : IVec S16 32) (k0_hw22 : k0_chk22 v257), ∀ a x, ((![v257] : Fin 1 → IVec S16 32) a x).toNat < S16.size a := fun v257 k0_hw22 => k0_hw22

def k0_chk23 (v262 : IVec S16 32) : Prop :=
  (∀ a x, ((![v262] : Fin 1 → IVec S16 32) a x).toNat < S16.size a)
theorem k0_idx31_inb : ∀ (v262 : IVec S16 32) (k0_hw23 : k0_chk23 v262), ∀ a x, ((![v262] : Fin 1 → IVec S16 32) a x).toNat < S16.size a := fun v262 k0_hw23 => k0_hw23

def k0_chk24 (v267 : IVec S16 32) : Prop :=
  (∀ a x, ((![v267] : Fin 1 → IVec S16 32) a x).toNat < S16.size a)
theorem k0_idx32_inb : ∀ (v267 : IVec S16 32) (k0_hw24 : k0_chk24 v267), ∀ a x, ((![v267] : Fin 1 → IVec S16 32) a x).toNat < S16.size a := fun v267 k0_hw24 => k0_hw24
@[reducible] def k0_t17_loop : Scf.Loop 32 :=
  let c0_i32_126 : BitVec 32 := 0#32
  let c16_i32_127 : BitVec 32 := 16#32
  let v293 : BitVec 32 := Scalar.addi c0_i32_126 c16_i32_127
  let c1_i32_128 : BitVec 32 := 1#32
  ⟨c0_i32_126, v293, c1_i32_128⟩

def k0_chk25 (v1571 : IVec S16 32) : Prop :=
  (∀ a x, ((![v1571] : Fin 1 → IVec S16 32) a x).toNat < S16.size a)
theorem k0_idx33_inb : ∀ (v1571 : IVec S16 32) (k0_hw25 : k0_chk25 v1571), ∀ a x, ((![v1571] : Fin 1 → IVec S16 32) a x).toNat < S16.size a := fun v1571 k0_hw25 => k0_hw25

def k0_chk26 (v296 : IVec S16 32) : Prop :=
  (∀ a x, ((![v296] : Fin 1 → IVec S16 32) a x).toNat < S16.size a) ∧
  (∀ a x, ((![v296] : Fin 1 → IVec S16 32) a x).toNat < S16.size a)
theorem k0_idx34_inb : ∀ (v296 : IVec S16 32) (k0_hw26 : k0_chk26 v296), ∀ a x, ((![v296] : Fin 1 → IVec S16 32) a x).toNat < S16.size a := fun v296 k0_hw26 => k0_hw26.1
theorem k0_idx35_inb : ∀ (v296 : IVec S16 32) (k0_hw26 : k0_chk26 v296), ∀ a x, ((![v296] : Fin 1 → IVec S16 32) a x).toNat < S16.size a := fun v296 k0_hw26 => k0_hw26.2
@[reducible] def k0_t18_loop : Scf.Loop 32 :=
  let c0_i32_136 : BitVec 32 := 0#32
  let c16_i32_137 : BitVec 32 := 16#32
  let v303 : BitVec 32 := Scalar.addi c0_i32_136 c16_i32_137
  let c1_i32_138 : BitVec 32 := 1#32
  ⟨c0_i32_136, v303, c1_i32_138⟩

def k0_chk27 (v1571 : IVec S16 32) : Prop :=
  (∀ a x, ((![v1571] : Fin 1 → IVec S16 32) a x).toNat < S16.size a)
theorem k0_idx36_inb : ∀ (v1571 : IVec S16 32) (k0_hw27 : k0_chk27 v1571), ∀ a x, ((![v1571] : Fin 1 → IVec S16 32) a x).toNat < S16.size a := fun v1571 k0_hw27 => k0_hw27

def k0_chk28 (v306 : IVec S16 32) : Prop :=
  (∀ a x, ((![v306] : Fin 1 → IVec S16 32) a x).toNat < S16.size a) ∧
  (∀ a x, ((![v306] : Fin 1 → IVec S16 32) a x).toNat < S16.size a)
theorem k0_idx37_inb : ∀ (v306 : IVec S16 32) (k0_hw28 : k0_chk28 v306), ∀ a x, ((![v306] : Fin 1 → IVec S16 32) a x).toNat < S16.size a := fun v306 k0_hw28 => k0_hw28.1
theorem k0_idx38_inb : ∀ (v306 : IVec S16 32) (k0_hw28 : k0_chk28 v306), ∀ a x, ((![v306] : Fin 1 → IVec S16 32) a x).toNat < S16.size a := fun v306 k0_hw28 => k0_hw28.2
@[reducible] def k0_t19_loop : Scf.Loop 32 :=
  let c0_i32_146 : BitVec 32 := 0#32
  let c16_i32_147 : BitVec 32 := 16#32
  let v313 : BitVec 32 := Scalar.addi c0_i32_146 c16_i32_147
  let c1_i32_148 : BitVec 32 := 1#32
  ⟨c0_i32_146, v313, c1_i32_148⟩

def k0_chk29 (v1571 : IVec S16 32) : Prop :=
  (∀ a x, ((![v1571] : Fin 1 → IVec S16 32) a x).toNat < S16.size a)
theorem k0_idx39_inb : ∀ (v1571 : IVec S16 32) (k0_hw29 : k0_chk29 v1571), ∀ a x, ((![v1571] : Fin 1 → IVec S16 32) a x).toNat < S16.size a := fun v1571 k0_hw29 => k0_hw29

def k0_chk30 (v316 : IVec S16 32) : Prop :=
  (∀ a x, ((![v316] : Fin 1 → IVec S16 32) a x).toNat < S16.size a) ∧
  (∀ a x, ((![v316] : Fin 1 → IVec S16 32) a x).toNat < S16.size a)
theorem k0_idx40_inb : ∀ (v316 : IVec S16 32) (k0_hw30 : k0_chk30 v316), ∀ a x, ((![v316] : Fin 1 → IVec S16 32) a x).toNat < S16.size a := fun v316 k0_hw30 => k0_hw30.1
theorem k0_idx41_inb : ∀ (v316 : IVec S16 32) (k0_hw30 : k0_chk30 v316), ∀ a x, ((![v316] : Fin 1 → IVec S16 32) a x).toNat < S16.size a := fun v316 k0_hw30 => k0_hw30.2
@[reducible] def k0_t20_loop : Scf.Loop 32 :=
  let c0_i32_156 : BitVec 32 := 0#32
  let c16_i32_157 : BitVec 32 := 16#32
  let v323 : BitVec 32 := Scalar.addi c0_i32_156 c16_i32_157
  let c1_i32_158 : BitVec 32 := 1#32
  ⟨c0_i32_156, v323, c1_i32_158⟩

def k0_chk31 (v1571 : IVec S16 32) : Prop :=
  (∀ a x, ((![v1571] : Fin 1 → IVec S16 32) a x).toNat < S16.size a)
theorem k0_idx42_inb : ∀ (v1571 : IVec S16 32) (k0_hw31 : k0_chk31 v1571), ∀ a x, ((![v1571] : Fin 1 → IVec S16 32) a x).toNat < S16.size a := fun v1571 k0_hw31 => k0_hw31

def k0_chk32 (v326 : IVec S16 32) : Prop :=
  (∀ a x, ((![v326] : Fin 1 → IVec S16 32) a x).toNat < S16.size a) ∧
  (∀ a x, ((![v326] : Fin 1 → IVec S16 32) a x).toNat < S16.size a)
theorem k0_idx43_inb : ∀ (v326 : IVec S16 32) (k0_hw32 : k0_chk32 v326), ∀ a x, ((![v326] : Fin 1 → IVec S16 32) a x).toNat < S16.size a := fun v326 k0_hw32 => k0_hw32.1
theorem k0_idx44_inb : ∀ (v326 : IVec S16 32) (k0_hw32 : k0_chk32 v326), ∀ a x, ((![v326] : Fin 1 → IVec S16 32) a x).toNat < S16.size a := fun v326 k0_hw32 => k0_hw32.2
@[reducible] def k0_t21_loop : Scf.Loop 32 :=
  let c0_i32_163 : BitVec 32 := 0#32
  let c16_i32_164 : BitVec 32 := 16#32
  let v329 : BitVec 32 := Scalar.addi c0_i32_163 c16_i32_164
  let c1_i32_165 : BitVec 32 := 1#32
  ⟨c0_i32_163, v329, c1_i32_165⟩

def k0_chk33 (v1576 : IVec S16 32) : Prop :=
  (∀ a x, ((![v1576] : Fin 1 → IVec S16 32) a x).toNat < S1024.size a)
theorem k0_idx45_inb : ∀ (v1576 : IVec S16 32) (k0_hw33 : k0_chk33 v1576), ∀ a x, ((![v1576] : Fin 1 → IVec S16 32) a x).toNat < S1024.size a := fun v1576 k0_hw33 => k0_hw33
@[reducible] def k0_t22_loop : Scf.Loop 32 :=
  let c0_i32_168 : BitVec 32 := 0#32
  let c16_i32_169 : BitVec 32 := 16#32
  let v331 : BitVec 32 := Scalar.addi c0_i32_168 c16_i32_169
  let c1_i32_170 : BitVec 32 := 1#32
  ⟨c0_i32_168, v331, c1_i32_170⟩

def k0_chk34 (v1576 : IVec S16 32) : Prop :=
  (∀ a x, ((![v1576] : Fin 1 → IVec S16 32) a x).toNat < S1024.size a)
theorem k0_idx46_inb : ∀ (v1576 : IVec S16 32) (k0_hw34 : k0_chk34 v1576), ∀ a x, ((![v1576] : Fin 1 → IVec S16 32) a x).toNat < S1024.size a := fun v1576 k0_hw34 => k0_hw34
@[reducible] def k0_t23_loop : Scf.Loop 32 :=
  let c0_i32_173 : BitVec 32 := 0#32
  let c16_i32_174 : BitVec 32 := 16#32
  let v333 : BitVec 32 := Scalar.addi c0_i32_173 c16_i32_174
  let c1_i32_175 : BitVec 32 := 1#32
  ⟨c0_i32_173, v333, c1_i32_175⟩

def k0_chk35 (v1576 : IVec S16 32) : Prop :=
  (∀ a x, ((![v1576] : Fin 1 → IVec S16 32) a x).toNat < S1024.size a)
theorem k0_idx47_inb : ∀ (v1576 : IVec S16 32) (k0_hw35 : k0_chk35 v1576), ∀ a x, ((![v1576] : Fin 1 → IVec S16 32) a x).toNat < S1024.size a := fun v1576 k0_hw35 => k0_hw35
@[reducible] def k0_t24_loop : Scf.Loop 32 :=
  let c0_i32_178 : BitVec 32 := 0#32
  let c16_i32_179 : BitVec 32 := 16#32
  let v335 : BitVec 32 := Scalar.addi c0_i32_178 c16_i32_179
  let c1_i32_180 : BitVec 32 := 1#32
  ⟨c0_i32_178, v335, c1_i32_180⟩

def k0_chk36 (v1576 : IVec S16 32) : Prop :=
  (∀ a x, ((![v1576] : Fin 1 → IVec S16 32) a x).toNat < S1024.size a)
theorem k0_idx48_inb : ∀ (v1576 : IVec S16 32) (k0_hw36 : k0_chk36 v1576), ∀ a x, ((![v1576] : Fin 1 → IVec S16 32) a x).toNat < S1024.size a := fun v1576 k0_hw36 => k0_hw36
@[reducible] def k0_t25_loop : Scf.Loop 32 :=
  let c0_i32_187 : BitVec 32 := 0#32
  let c64_i32 : BitVec 32 := 64#32
  let v341 : BitVec 32 := Scalar.addi c0_i32_187 c64_i32
  let c1_i32_188 : BitVec 32 := 1#32
  ⟨c0_i32_187, v341, c1_i32_188⟩
def k0_off11 (v1626 : BitVec 32) : Fin 1 → Nat :=
  let c16_i32_349 : BitVec 32 := 16#32
  let v1627 : BitVec 32 := Scalar.muli v1626 c16_i32_349
  let v1628 : Index := Scalar.indexCast v1627
  ![v1628.toNat]

def k0_off12 (v1626 : BitVec 32) (v1641 : BitVec 32) : Fin 1 → Nat :=
  let c16_i32_350 : BitVec 32 := 16#32
  let v1630 : BitVec 32 := Scalar.muli v1626 c16_i32_350
  let v1642 : BitVec 32 := Scalar.addi v1630 v1641
  let c16_i32_354 : BitVec 32 := 16#32
  let v1643 : BitVec 32 := Scalar.muli v1642 c16_i32_354
  let v1644 : Index := Scalar.indexCast v1643
  ![v1644.toNat]

def k0_off13 (v1626 : BitVec 32) (v1641 : BitVec 32) (v1657 : BitVec 32) : Fin 1 → Nat :=
  let c16_i32_350 : BitVec 32 := 16#32
  let v1630 : BitVec 32 := Scalar.muli v1626 c16_i32_350
  let v1642 : BitVec 32 := Scalar.addi v1630 v1641
  let c16_i32_355 : BitVec 32 := 16#32
  let v1646 : BitVec 32 := Scalar.muli v1642 c16_i32_355
  let v1658 : BitVec 32 := Scalar.addi v1646 v1657
  let c16_i32_359 : BitVec 32 := 16#32
  let v1659 : BitVec 32 := Scalar.muli v1658 c16_i32_359
  let v1660 : Index := Scalar.indexCast v1659
  ![v1660.toNat]

def k0_chk39 (v1626 : BitVec 32) (v1641 : BitVec 32) (v1657 : BitVec 32) : Prop :=
  (∀ a, (k0_off13 v1626 v1641 v1657) a + S16.size a ≤ S32768.size a)
theorem k0_off13_inb : ∀ (v1626 : BitVec 32) (v1641 : BitVec 32) (v1657 : BitVec 32) (k0_hw39 : k0_chk39 v1626 v1641 v1657), ∀ a, (k0_off13 v1626 v1641 v1657) a + S16.size a ≤ S32768.size a := fun v1626 v1641 v1657 k0_hw39 => k0_hw39

def k0_off14 (v1626 : BitVec 32) (v1641 : BitVec 32) : Fin 1 → Nat :=
  let c16_i32_350 : BitVec 32 := 16#32
  let v1630 : BitVec 32 := Scalar.muli v1626 c16_i32_350
  let v1642 : BitVec 32 := Scalar.addi v1630 v1641
  let c16_i32_390 : BitVec 32 := 16#32
  let v1827 : BitVec 32 := Scalar.muli v1642 c16_i32_390
  let v1828 : Index := Scalar.indexCast v1827
  ![v1828.toNat]

def k0_chk38 (v1626 : BitVec 32) (v1641 : BitVec 32) : Prop :=
  (∀ a, (k0_off12 v1626 v1641) a + S16.size a ≤ S2048.size a) ∧
  (∀ a, (k0_off14 v1626 v1641) a + S16.size a ≤ S2048.size a)
theorem k0_off12_inb : ∀ (v1626 : BitVec 32) (v1641 : BitVec 32) (k0_hw38 : k0_chk38 v1626 v1641), ∀ a, (k0_off12 v1626 v1641) a + S16.size a ≤ S2048.size a := fun v1626 v1641 k0_hw38 => k0_hw38.1
theorem k0_off14_inb : ∀ (v1626 : BitVec 32) (v1641 : BitVec 32) (k0_hw38 : k0_chk38 v1626 v1641), ∀ a, (k0_off14 v1626 v1641) a + S16.size a ≤ S2048.size a := fun v1626 v1641 k0_hw38 => k0_hw38.2

def k0_off15 (v1626 : BitVec 32) : Fin 1 → Nat :=
  let c16_i32_392 : BitVec 32 := 16#32
  let v1883 : BitVec 32 := Scalar.muli v1626 c16_i32_392
  let v1884 : Index := Scalar.indexCast v1883
  ![v1884.toNat]

def k0_chk37 (v1626 : BitVec 32) : Prop :=
  (∀ a, (k0_off11 v1626) a + S16.size a ≤ S128.size a) ∧
  (∀ a, (k0_off15 v1626) a + S16.size a ≤ S128.size a)
theorem k0_off11_inb : ∀ (v1626 : BitVec 32) (k0_hw37 : k0_chk37 v1626), ∀ a, (k0_off11 v1626) a + S16.size a ≤ S128.size a := fun v1626 k0_hw37 => k0_hw37.1
theorem k0_off15_inb : ∀ (v1626 : BitVec 32) (k0_hw37 : k0_chk37 v1626), ∀ a, (k0_off15 v1626) a + S16.size a ≤ S128.size a := fun v1626 k0_hw37 => k0_hw37.2

def k0_chk40 (v342_5 : IVec S16 32) : Prop :=
  (∀ a x, ((![v342_5] : Fin 1 → IVec S16 32) a x).toNat < S32768.size a)
theorem k0_idx49_inb : ∀ (v342_5 : IVec S16 32) (k0_hw40 : k0_chk40 v342_5), ∀ a x, ((![v342_5] : Fin 1 → IVec S16 32) a x).toNat < S32768.size a := fun v342_5 k0_hw40 => k0_hw40

def k0_chk41 (v342_6 : IVec S16 32) : Prop :=
  (∀ a x, ((![v342_6] : Fin 1 → IVec S16 32) a x).toNat < S32768.size a)
theorem k0_idx50_inb : ∀ (v342_6 : IVec S16 32) (k0_hw41 : k0_chk41 v342_6), ∀ a x, ((![v342_6] : Fin 1 → IVec S16 32) a x).toNat < S32768.size a := fun v342_6 k0_hw41 => k0_hw41

def k0_chk42 (v342_7 : IVec S16 32) : Prop :=
  (∀ a x, ((![v342_7] : Fin 1 → IVec S16 32) a x).toNat < S32768.size a)
theorem k0_idx51_inb : ∀ (v342_7 : IVec S16 32) (k0_hw42 : k0_chk42 v342_7), ∀ a x, ((![v342_7] : Fin 1 → IVec S16 32) a x).toNat < S32768.size a := fun v342_7 k0_hw42 => k0_hw42

def k0_chk43 (v342_8 : IVec S16 32) : Prop :=
  (∀ a x, ((![v342_8] : Fin 1 → IVec S16 32) a x).toNat < S32768.size a)
theorem k0_idx52_inb : ∀ (v342_8 : IVec S16 32) (k0_hw43 : k0_chk43 v342_8), ∀ a x, ((![v342_8] : Fin 1 → IVec S16 32) a x).toNat < S32768.size a := fun v342_8 k0_hw43 => k0_hw43
@[reducible] def k0_t26_loop : Scf.Loop 32 :=
  let c0_i32_260 : BitVec 32 := 0#32
  let c65_i32 : BitVec 32 := 65#32
  let v1021 : BitVec 32 := Scalar.addi c0_i32_260 c65_i32
  let c1_i32_261 : BitVec 32 := 1#32
  ⟨c0_i32_260, v1021, c1_i32_261⟩
def k0_off16 (k0_t26 : Fin k0_t26_loop.trips) : Fin 1 → Nat :=
  let c0_i32_348 : BitVec 32 := 0#32
  let c0_i32_260 : BitVec 32 := 0#32
  let c1_i32_261 : BitVec 32 := 1#32
  let arg24 : BitVec 32 := Scf.iv c0_i32_260 c1_i32_261 k0_t26
  let c1_i32_347 : BitVec 32 := 1#32
  let v1569 : BitVec 32 := Scalar.muli arg24 c1_i32_347
  let v1570 : BitVec 32 := Scalar.addi c0_i32_348 v1569
  let c16_i32_349 : BitVec 32 := 16#32
  let v1571 : BitVec 32 := Scalar.muli v1570 c16_i32_349
  let v1572 : Index := Scalar.indexCast v1571
  ![v1572.toNat]
@[reducible] def k0_t27_loop : Scf.Loop 32 :=
  let c0_i32_267 : BitVec 32 := 0#32
  let c2048_i32_268 : BitVec 32 := 2048#32
  let v1410 : BitVec 32 := Scalar.addi c0_i32_267 c2048_i32_268
  let c1_i32_269 : BitVec 32 := 1#32
  ⟨c0_i32_267, v1410, c1_i32_269⟩
def k0_off17 (k0_t27 : Fin k0_t27_loop.trips) : Fin 1 → Nat :=
  let c0_i32_348 : BitVec 32 := 0#32
  let c0_i32_267 : BitVec 32 := 0#32
  let c1_i32_269 : BitVec 32 := 1#32
  let arg24 : BitVec 32 := Scf.iv c0_i32_267 c1_i32_269 k0_t27
  let c1_i32_347 : BitVec 32 := 1#32
  let v1569 : BitVec 32 := Scalar.muli arg24 c1_i32_347
  let v1570 : BitVec 32 := Scalar.addi c0_i32_348 v1569
  let c16_i32_349 : BitVec 32 := 16#32
  let v1571 : BitVec 32 := Scalar.muli v1570 c16_i32_349
  let v1572 : Index := Scalar.indexCast v1571
  ![v1572.toNat]

def k0_chk44 (v1601 : IVec S16 32) : Prop :=
  (∀ a x, ((![v1601] : Fin 1 → IVec S16 32) a x).toNat < S1024.size a)
theorem k0_idx53_inb : ∀ (v1601 : IVec S16 32) (k0_hw44 : k0_chk44 v1601), ∀ a x, ((![v1601] : Fin 1 → IVec S16 32) a x).toNat < S1024.size a := fun v1601 k0_hw44 => k0_hw44

def k0_chk45 (v1611 : IVec S16 32) : Prop :=
  (∀ a x, ((![v1611] : Fin 1 → IVec S16 32) a x).toNat < S1024.size a)
theorem k0_idx54_inb : ∀ (v1611 : IVec S16 32) (k0_hw45 : k0_chk45 v1611), ∀ a x, ((![v1611] : Fin 1 → IVec S16 32) a x).toNat < S1024.size a := fun v1611 k0_hw45 => k0_hw45

def k0_chk46 (v1621 : IVec S16 32) : Prop :=
  (∀ a x, ((![v1621] : Fin 1 → IVec S16 32) a x).toNat < S1024.size a)
theorem k0_idx55_inb : ∀ (v1621 : IVec S16 32) (k0_hw46 : k0_chk46 v1621), ∀ a x, ((![v1621] : Fin 1 → IVec S16 32) a x).toNat < S1024.size a := fun v1621 k0_hw46 => k0_hw46

def k0_chk47 (v1636 : IVec S16 32) : Prop :=
  (∀ a x, ((![v1636] : Fin 1 → IVec S16 32) a x).toNat < S1040.size a)
theorem k0_idx56_inb : ∀ (v1636 : IVec S16 32) (k0_hw47 : k0_chk47 v1636), ∀ a x, ((![v1636] : Fin 1 → IVec S16 32) a x).toNat < S1040.size a := fun v1636 k0_hw47 => k0_hw47
@[reducible] def k0_t28_loop : Scf.Loop 32 :=
  let c0_i32_274 : BitVec 32 := 0#32
  let c16_i32_275 : BitVec 32 := 16#32
  let v1417 : BitVec 32 := Scalar.addi c0_i32_274 c16_i32_275
  let c1_i32_276 : BitVec 32 := 1#32
  ⟨c0_i32_274, v1417, c1_i32_276⟩

def k0_chk48 (v1572 : IVec S16 32) : Prop :=
  (∀ a x, ((![v1572] : Fin 1 → IVec S16 32) a x).toNat < S1040.size a)
theorem k0_idx57_inb : ∀ (v1572 : IVec S16 32) (k0_hw48 : k0_chk48 v1572), ∀ a x, ((![v1572] : Fin 1 → IVec S16 32) a x).toNat < S1040.size a := fun v1572 k0_hw48 => k0_hw48
@[reducible] def k0_t29_loop : Scf.Loop 32 :=
  let c0_i32_281 : BitVec 32 := 0#32
  let c16_i32_282 : BitVec 32 := 16#32
  let v1425 : BitVec 32 := Scalar.addi c0_i32_281 c16_i32_282
  let c1_i32_283 : BitVec 32 := 1#32
  ⟨c0_i32_281, v1425, c1_i32_283⟩

def k0_chk49 (v1572 : IVec S16 32) : Prop :=
  (∀ a x, ((![v1572] : Fin 1 → IVec S16 32) a x).toNat < S1040.size a)
theorem k0_idx58_inb : ∀ (v1572 : IVec S16 32) (k0_hw49 : k0_chk49 v1572), ∀ a x, ((![v1572] : Fin 1 → IVec S16 32) a x).toNat < S1040.size a := fun v1572 k0_hw49 => k0_hw49
@[reducible] def k0_t30_loop : Scf.Loop 32 :=
  let c0_i32_288 : BitVec 32 := 0#32
  let c16_i32_289 : BitVec 32 := 16#32
  let v1433 : BitVec 32 := Scalar.addi c0_i32_288 c16_i32_289
  let c1_i32_290 : BitVec 32 := 1#32
  ⟨c0_i32_288, v1433, c1_i32_290⟩

def k0_chk50 (v1572 : IVec S16 32) : Prop :=
  (∀ a x, ((![v1572] : Fin 1 → IVec S16 32) a x).toNat < S1040.size a)
theorem k0_idx59_inb : ∀ (v1572 : IVec S16 32) (k0_hw50 : k0_chk50 v1572), ∀ a x, ((![v1572] : Fin 1 → IVec S16 32) a x).toNat < S1040.size a := fun v1572 k0_hw50 => k0_hw50
@[reducible] def k0_t31_loop : Scf.Loop 32 :=
  let c0_i32_295 : BitVec 32 := 0#32
  let c16_i32_296 : BitVec 32 := 16#32
  let v1441 : BitVec 32 := Scalar.addi c0_i32_295 c16_i32_296
  let c1_i32_297 : BitVec 32 := 1#32
  ⟨c0_i32_295, v1441, c1_i32_297⟩

def k0_chk51 (v1572 : IVec S16 32) : Prop :=
  (∀ a x, ((![v1572] : Fin 1 → IVec S16 32) a x).toNat < S1040.size a)
theorem k0_idx60_inb : ∀ (v1572 : IVec S16 32) (k0_hw51 : k0_chk51 v1572), ∀ a x, ((![v1572] : Fin 1 → IVec S16 32) a x).toNat < S1040.size a := fun v1572 k0_hw51 => k0_hw51

def k0_chk52 (v1446 : IVec S16 32) : Prop :=
  (∀ a x, ((![v1446] : Fin 1 → IVec S16 32) a x).toNat < S16.size a)
theorem k0_idx61_inb : ∀ (v1446 : IVec S16 32) (k0_hw52 : k0_chk52 v1446), ∀ a x, ((![v1446] : Fin 1 → IVec S16 32) a x).toNat < S16.size a := fun v1446 k0_hw52 => k0_hw52

def k0_chk53 (v1453 : IVec S16 32) : Prop :=
  (∀ a x, ((![v1453] : Fin 1 → IVec S16 32) a x).toNat < S16.size a)
theorem k0_idx62_inb : ∀ (v1453 : IVec S16 32) (k0_hw53 : k0_chk53 v1453), ∀ a x, ((![v1453] : Fin 1 → IVec S16 32) a x).toNat < S16.size a := fun v1453 k0_hw53 => k0_hw53

def k0_chk54 (v1464 : IVec S16 32) : Prop :=
  (∀ a x, ((![v1464] : Fin 1 → IVec S16 32) a x).toNat < S16.size a)
theorem k0_idx63_inb : ∀ (v1464 : IVec S16 32) (k0_hw54 : k0_chk54 v1464), ∀ a x, ((![v1464] : Fin 1 → IVec S16 32) a x).toNat < S16.size a := fun v1464 k0_hw54 => k0_hw54

def k0_chk55 (v1471 : IVec S16 32) : Prop :=
  (∀ a x, ((![v1471] : Fin 1 → IVec S16 32) a x).toNat < S16.size a)
theorem k0_idx64_inb : ∀ (v1471 : IVec S16 32) (k0_hw55 : k0_chk55 v1471), ∀ a x, ((![v1471] : Fin 1 → IVec S16 32) a x).toNat < S16.size a := fun v1471 k0_hw55 => k0_hw55

def k0_chk56 (v1482 : IVec S16 32) : Prop :=
  (∀ a x, ((![v1482] : Fin 1 → IVec S16 32) a x).toNat < S16.size a)
theorem k0_idx65_inb : ∀ (v1482 : IVec S16 32) (k0_hw56 : k0_chk56 v1482), ∀ a x, ((![v1482] : Fin 1 → IVec S16 32) a x).toNat < S16.size a := fun v1482 k0_hw56 => k0_hw56

def k0_chk57 (v1489 : IVec S16 32) : Prop :=
  (∀ a x, ((![v1489] : Fin 1 → IVec S16 32) a x).toNat < S16.size a)
theorem k0_idx66_inb : ∀ (v1489 : IVec S16 32) (k0_hw57 : k0_chk57 v1489), ∀ a x, ((![v1489] : Fin 1 → IVec S16 32) a x).toNat < S16.size a := fun v1489 k0_hw57 => k0_hw57

def k0_chk58 (v1500 : IVec S16 32) : Prop :=
  (∀ a x, ((![v1500] : Fin 1 → IVec S16 32) a x).toNat < S16.size a)
theorem k0_idx67_inb : ∀ (v1500 : IVec S16 32) (k0_hw58 : k0_chk58 v1500), ∀ a x, ((![v1500] : Fin 1 → IVec S16 32) a x).toNat < S16.size a := fun v1500 k0_hw58 => k0_hw58

def k0_chk59 (v1507 : IVec S16 32) : Prop :=
  (∀ a x, ((![v1507] : Fin 1 → IVec S16 32) a x).toNat < S16.size a)
theorem k0_idx68_inb : ∀ (v1507 : IVec S16 32) (k0_hw59 : k0_chk59 v1507), ∀ a x, ((![v1507] : Fin 1 → IVec S16 32) a x).toNat < S16.size a := fun v1507 k0_hw59 => k0_hw59

def k0_chk60 (v298 : IVec S16 32) : Prop :=
  (∀ a x, ((![v298] : Fin 1 → IVec S16 32) a x).toNat < S64.size a)
theorem k0_idx69_inb : ∀ (v298 : IVec S16 32) (k0_hw60 : k0_chk60 v298), ∀ a x, ((![v298] : Fin 1 → IVec S16 32) a x).toNat < S64.size a := fun v298 k0_hw60 => k0_hw60

def k0_chk61 (v308 : IVec S16 32) : Prop :=
  (∀ a x, ((![v308] : Fin 1 → IVec S16 32) a x).toNat < S64.size a)
theorem k0_idx70_inb : ∀ (v308 : IVec S16 32) (k0_hw61 : k0_chk61 v308), ∀ a x, ((![v308] : Fin 1 → IVec S16 32) a x).toNat < S64.size a := fun v308 k0_hw61 => k0_hw61

def k0_chk62 (v318 : IVec S16 32) : Prop :=
  (∀ a x, ((![v318] : Fin 1 → IVec S16 32) a x).toNat < S64.size a)
theorem k0_idx71_inb : ∀ (v318 : IVec S16 32) (k0_hw62 : k0_chk62 v318), ∀ a x, ((![v318] : Fin 1 → IVec S16 32) a x).toNat < S64.size a := fun v318 k0_hw62 => k0_hw62

def k0_chk63 (v328 : IVec S16 32) : Prop :=
  (∀ a x, ((![v328] : Fin 1 → IVec S16 32) a x).toNat < S64.size a)
theorem k0_idx72_inb : ∀ (v328 : IVec S16 32) (k0_hw63 : k0_chk63 v328), ∀ a x, ((![v328] : Fin 1 → IVec S16 32) a x).toNat < S64.size a := fun v328 k0_hw63 => k0_hw63
@[reducible] def k0_t32_loop : Scf.Loop 32 :=
  let c0_i32_325 : BitVec 32 := 0#32
  let c63_i32 : BitVec 32 := 63#32
  let v1515 : BitVec 32 := Scalar.addi c0_i32_325 c63_i32
  let c1_i32_326 : BitVec 32 := 1#32
  ⟨c0_i32_325, v1515, c1_i32_326⟩

def k0_chk64 (v1570 : IVec S16 32) : Prop :=
  (∀ a x, ((![v1570] : Fin 1 → IVec S16 32) a x).toNat < S32768.size a)
theorem k0_idx73_inb : ∀ (v1570 : IVec S16 32) (k0_hw64 : k0_chk64 v1570), ∀ a x, ((![v1570] : Fin 1 → IVec S16 32) a x).toNat < S32768.size a := fun v1570 k0_hw64 => k0_hw64
def k0_off18 (i : grid0.Coords) (k0_t2 : Fin k0_t2_loop.trips) : Fin 2 → Nat :=
  let arg1 : BitVec 32 := BitVec.ofNat 32 (i 1).val
  let c2_i32 : BitVec 32 := 2#32
  let v4 : BitVec 32 := Scalar.muli arg1 c2_i32
  let arg0 : BitVec 32 := BitVec.ofNat 32 (i 0).val
  let v5 : BitVec 32 := Scalar.addi v4 arg0
  let c4_i32_11 : BitVec 32 := 4#32
  let v18 : BitVec 32 := Scalar.muli v5 c4_i32_11
  let c0_i32_5 : BitVec 32 := 0#32
  let c1_i32_7 : BitVec 32 := 1#32
  let arg15 : BitVec 32 := Scf.iv c0_i32_5 c1_i32_7 k0_t2
  let v19 : BitVec 32 := Scalar.addi v18 arg15
  let c0_i32_328 : BitVec 32 := 0#32
  ![v19.toNat, 0]

def k0_chk65 (arg16 : IVec S16 32) : Prop :=
  (∀ a x, ((![arg16] : Fin 1 → IVec S16 32) a x).toNat < S32768.size a)
theorem k0_idx74_inb : ∀ (arg16 : IVec S16 32) (k0_hw65 : k0_chk65 arg16), ∀ a x, ((![arg16] : Fin 1 → IVec S16 32) a x).toNat < S32768.size a := fun arg16 k0_hw65 => k0_hw65

def k0_chk66 (arg17 : IVec S16 32) : Prop :=
  (∀ a x, ((![arg17] : Fin 1 → IVec S16 32) a x).toNat < S32768.size a)
theorem k0_idx75_inb : ∀ (arg17 : IVec S16 32) (k0_hw66 : k0_chk66 arg17), ∀ a x, ((![arg17] : Fin 1 → IVec S16 32) a x).toNat < S32768.size a := fun arg17 k0_hw66 => k0_hw66

def k0_chk67 (arg18 : IVec S16 32) : Prop :=
  (∀ a x, ((![arg18] : Fin 1 → IVec S16 32) a x).toNat < S32768.size a)
theorem k0_idx76_inb : ∀ (arg18 : IVec S16 32) (k0_hw67 : k0_chk67 arg18), ∀ a x, ((![arg18] : Fin 1 → IVec S16 32) a x).toNat < S32768.size a := fun arg18 k0_hw67 => k0_hw67

def k0_chk68 (arg19 : IVec S16 32) : Prop :=
  (∀ a x, ((![arg19] : Fin 1 → IVec S16 32) a x).toNat < S32768.size a)
theorem k0_idx77_inb : ∀ (arg19 : IVec S16 32) (k0_hw68 : k0_chk68 arg19), ∀ a x, ((![arg19] : Fin 1 → IVec S16 32) a x).toNat < S32768.size a := fun arg19 k0_hw68 => k0_hw68

def k0_chk69 (v1532 : IVec S16 32) : Prop :=
  (∀ a x, ((![v1532] : Fin 1 → IVec S16 32) a x).toNat < S32768.size a)
theorem k0_idx78_inb : ∀ (v1532 : IVec S16 32) (k0_hw69 : k0_chk69 v1532), ∀ a x, ((![v1532] : Fin 1 → IVec S16 32) a x).toNat < S32768.size a := fun v1532 k0_hw69 => k0_hw69

def k0_chk70 (v1541 : IVec S16 32) : Prop :=
  (∀ a x, ((![v1541] : Fin 1 → IVec S16 32) a x).toNat < S32768.size a)
theorem k0_idx79_inb : ∀ (v1541 : IVec S16 32) (k0_hw70 : k0_chk70 v1541), ∀ a x, ((![v1541] : Fin 1 → IVec S16 32) a x).toNat < S32768.size a := fun v1541 k0_hw70 => k0_hw70

def k0_chk71 (v1550 : IVec S16 32) : Prop :=
  (∀ a x, ((![v1550] : Fin 1 → IVec S16 32) a x).toNat < S32768.size a)
theorem k0_idx80_inb : ∀ (v1550 : IVec S16 32) (k0_hw71 : k0_chk71 v1550), ∀ a x, ((![v1550] : Fin 1 → IVec S16 32) a x).toNat < S32768.size a := fun v1550 k0_hw71 => k0_hw71

def k0_chk72 (v1559 : IVec S16 32) : Prop :=
  (∀ a x, ((![v1559] : Fin 1 → IVec S16 32) a x).toNat < S32768.size a)
theorem k0_idx81_inb : ∀ (v1559 : IVec S16 32) (k0_hw72 : k0_chk72 v1559), ∀ a x, ((![v1559] : Fin 1 → IVec S16 32) a x).toNat < S32768.size a := fun v1559 k0_hw72 => k0_hw72
def k0_off19 (i : grid0.Coords) (k0_t2 : Fin k0_t2_loop.trips) : Fin 2 → Nat :=
  let arg1 : BitVec 32 := BitVec.ofNat 32 (i 1).val
  let c2_i32 : BitVec 32 := 2#32
  let v4 : BitVec 32 := Scalar.muli arg1 c2_i32
  let arg0 : BitVec 32 := BitVec.ofNat 32 (i 0).val
  let v5 : BitVec 32 := Scalar.addi v4 arg0
  let c4_i32_11 : BitVec 32 := 4#32
  let v18 : BitVec 32 := Scalar.muli v5 c4_i32_11
  let c0_i32_5 : BitVec 32 := 0#32
  let c1_i32_7 : BitVec 32 := 1#32
  let arg15 : BitVec 32 := Scf.iv c0_i32_5 c1_i32_7 k0_t2
  let v19 : BitVec 32 := Scalar.addi v18 arg15
  let c0_i32_345 : BitVec 32 := 0#32
  ![v19.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S128x32768 : Shape := ⟨2, ![128, 32768]⟩
abbrev S_ : Shape := ⟨0, ![]⟩
abbrev S128 : Shape := ⟨1, ![128]⟩
abbrev S128x1 : Shape := ⟨2, ![128, 1]⟩
abbrev S128x32768x1 : Shape := ⟨3, ![128, 32768, 1]⟩
abbrev S1 : Shape := ⟨1, ![1]⟩
abbrev S1x1x1 : Shape := ⟨3, ![1, 1, 1]⟩
abbrev S32768 : Shape := ⟨1, ![32768]⟩
abbrev S1x32768 : Shape := ⟨2, ![1, 32768]⟩

abbrev nBuf : Space → Nat
  | .hbm => 94
  | .vmem => 0
  | .smem => 0
  | _ => 0

abbrev bufTy : (tb : Table) → Fin (tcTables nBuf tb) → BufTy
  | .hbm, ⟨0, _⟩ => ⟨S128x32768, .f32⟩
  | .hbm, ⟨1, _⟩ => ⟨S_, .f32⟩
  | .hbm, ⟨2, _⟩ => ⟨S128, .f32⟩
  | .hbm, ⟨3, _⟩ => ⟨S_, .f32⟩
  | .hbm, ⟨4, _⟩ => ⟨S128, .f32⟩
  | .hbm, ⟨5, _⟩ => ⟨S128, .f32⟩
  | .hbm, ⟨6, _⟩ => ⟨S128x1, .f32⟩
  | .hbm, ⟨7, _⟩ => ⟨S128x32768, .f32⟩
  | .hbm, ⟨8, _⟩ => ⟨S128x32768, .f32⟩
  | .hbm, ⟨9, _⟩ => ⟨S128x32768, .f32⟩
  | .hbm, ⟨10, _⟩ => ⟨S_, .f32⟩
  | .hbm, ⟨11, _⟩ => ⟨S128, .f32⟩
  | .hbm, ⟨12, _⟩ => ⟨S128x1, .f32⟩
  | .hbm, ⟨13, _⟩ => ⟨S128x32768, .f32⟩
  | .hbm, ⟨14, _⟩ => ⟨S128x32768, .f32⟩
  | .hbm, ⟨15, _⟩ => ⟨S128x32768, .f32⟩
  | .hbm, ⟨16, _⟩ => ⟨S128x32768, .i32⟩
  | .hbm, ⟨17, _⟩ => ⟨S128x32768, .f32⟩
  | .hbm, ⟨18, _⟩ => ⟨S128x32768, .i32⟩
  | .hbm, ⟨19, _⟩ => ⟨S_, .i32⟩
  | .hbm, ⟨20, _⟩ => ⟨S128x32768, .i32⟩
  | .hbm, ⟨21, _⟩ => ⟨S128x32768, .i1⟩
  | .hbm, ⟨22, _⟩ => ⟨S_, .i32⟩
  | .hbm, ⟨23, _⟩ => ⟨S128x32768, .i32⟩
  | .hbm, ⟨24, _⟩ => ⟨S128x32768, .i32⟩
  | .hbm, ⟨25, _⟩ => ⟨S128x32768, .i32⟩
  | .hbm, ⟨26, _⟩ => ⟨S128x32768x1, .i32⟩
  | .hbm, ⟨27, _⟩ => ⟨S1, .i32⟩
  | .hbm, ⟨28, _⟩ => ⟨S_, .i32⟩
  | .hbm, ⟨29, _⟩ => ⟨S128x32768x1, .i32⟩
  | .hbm, ⟨30, _⟩ => ⟨S128x32768x1, .i1⟩
  | .hbm, ⟨31, _⟩ => ⟨S1x1x1, .i32⟩
  | .hbm, ⟨32, _⟩ => ⟨S128x32768x1, .i32⟩
  | .hbm, ⟨33, _⟩ => ⟨S128x32768x1, .i1⟩
  | .hbm, ⟨34, _⟩ => ⟨S128x32768x1, .i1⟩
  | .hbm, ⟨35, _⟩ => ⟨S_, .i1⟩
  | .hbm, ⟨36, _⟩ => ⟨S128x32768, .i1⟩
  | .hbm, ⟨37, _⟩ => ⟨S128x32768, .f32⟩
  | .hbm, ⟨38, _⟩ => ⟨S_, .f32⟩
  | .hbm, ⟨39, _⟩ => ⟨S128x32768, .f32⟩
  | .hbm, ⟨40, _⟩ => ⟨S128x32768, .f32⟩
  | .hbm, ⟨41, _⟩ => ⟨S_, .f32⟩
  | .hbm, ⟨42, _⟩ => ⟨S_, .f32⟩
  | .hbm, ⟨43, _⟩ => ⟨S128x32768, .f32⟩
  | .hbm, ⟨44, _⟩ => ⟨S_, .f32⟩
  | .hbm, ⟨45, _⟩ => ⟨S128x32768, .f32⟩
  | .hbm, ⟨46, _⟩ => ⟨S128x32768, .i1⟩
  | .hbm, ⟨47, _⟩ => ⟨S128x32768, .i32⟩
  | .hbm, ⟨48, _⟩ => ⟨S128x32768, .i32⟩
  | .hbm, ⟨49, _⟩ => ⟨S_, .i32⟩
  | .hbm, ⟨50, _⟩ => ⟨S_, .i32⟩
  | .hbm, ⟨51, _⟩ => ⟨S128, .i32⟩
  | .hbm, ⟨52, _⟩ => ⟨S128, .i32⟩
  | .hbm, ⟨53, _⟩ => ⟨S32768, .i32⟩
  | .hbm, ⟨54, _⟩ => ⟨S128x1, .i32⟩
  | .hbm, ⟨55, _⟩ => ⟨S1x32768, .i32⟩
  | .hbm, ⟨56, _⟩ => ⟨S128x32768, .i32⟩
  | .hbm, ⟨57, _⟩ => ⟨S128x32768, .i32⟩
  | .hbm, ⟨58, _⟩ => ⟨S128x32768, .i1⟩
  | .hbm, ⟨59, _⟩ => ⟨S128x32768, .i1⟩
  | .hbm, ⟨60, _⟩ => ⟨S128x32768, .i1⟩
  | .hbm, ⟨61, _⟩ => ⟨S32768, .i32⟩
  | .hbm, ⟨62, _⟩ => ⟨S_, .i32⟩
  | .hbm, ⟨63, _⟩ => ⟨S32768, .i32⟩
  | .hbm, ⟨64, _⟩ => ⟨S32768, .i1⟩
  | .hbm, ⟨65, _⟩ => ⟨S1x32768, .i1⟩
  | .hbm, ⟨66, _⟩ => ⟨S128x32768, .i1⟩
  | .hbm, ⟨67, _⟩ => ⟨S128x32768, .i1⟩
  | .hbm, ⟨68, _⟩ => ⟨S_, .f32⟩
  | .hbm, ⟨69, _⟩ => ⟨S_, .f32⟩
  | .hbm, ⟨70, _⟩ => ⟨S128x32768, .f32⟩
  | .hbm, ⟨71, _⟩ => ⟨S128x32768, .f32⟩
  | .hbm, ⟨72, _⟩ => ⟨S_, .i32⟩
  | .hbm, ⟨73, _⟩ => ⟨S128x32768, .i32⟩
  | .hbm, ⟨74, _⟩ => ⟨S128x32768, .i1⟩
  | .hbm, ⟨75, _⟩ => ⟨S_, .i32⟩
  | .hbm, ⟨76, _⟩ => ⟨S128x32768, .i32⟩
  | .hbm, ⟨77, _⟩ => ⟨S128x32768, .i32⟩
  | .hbm, ⟨78, _⟩ => ⟨S128x32768, .i32⟩
  | .hbm, ⟨79, _⟩ => ⟨S128x32768x1, .i32⟩
  | .hbm, ⟨80, _⟩ => ⟨S1, .i32⟩
  | .hbm, ⟨81, _⟩ => ⟨S_, .i32⟩
  | .hbm, ⟨82, _⟩ => ⟨S128x32768x1, .i32⟩
  | .hbm, ⟨83, _⟩ => ⟨S128x32768x1, .i1⟩
  | .hbm, ⟨84, _⟩ => ⟨S1x1x1, .i32⟩
  | .hbm, ⟨85, _⟩ => ⟨S128x32768x1, .i32⟩
  | .hbm, ⟨86, _⟩ => ⟨S128x32768x1, .i1⟩
  | .hbm, ⟨87, _⟩ => ⟨S128x32768x1, .i1⟩
  | .hbm, ⟨88, _⟩ => ⟨S_, .i1⟩
  | .hbm, ⟨89, _⟩ => ⟨S128x32768, .i1⟩
  | .hbm, ⟨90, _⟩ => ⟨S128x32768, .f32⟩
  | .hbm, ⟨91, _⟩ => ⟨S_, .f32⟩
  | .hbm, ⟨92, _⟩ => ⟨S128x32768, .f32⟩
  | .hbm, ⟨93, _⟩ => ⟨S128x32768, .f32⟩
  | _, _ => ⟨S128x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_call0_v0 : Ref sig .tc := ⟨.hbm, 16, rfl⟩
abbrev main_call0_v1_0 : Ref sig .tc := ⟨.hbm, 17, rfl⟩
abbrev main_v12 : Ref sig .tc := ⟨.hbm, 18, rfl⟩
abbrev main_call1_c : Ref sig .tc := ⟨.hbm, 19, rfl⟩
abbrev main_call1_v0 : Ref sig .tc := ⟨.hbm, 20, rfl⟩
abbrev main_call1_v1 : Ref sig .tc := ⟨.hbm, 21, rfl⟩
abbrev main_call1_c_0 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_v5 : Ref sig .tc := ⟨.hbm, 26, rfl⟩
abbrev main_call1_c_1 : Ref sig .tc := ⟨.hbm, 27, rfl⟩
abbrev main_call1_c_2 : Ref sig .tc := ⟨.hbm, 28, rfl⟩
abbrev main_call1_v6 : Ref sig .tc := ⟨.hbm, 29, rfl⟩
abbrev main_call1_v7 : Ref sig .tc := ⟨.hbm, 30, rfl⟩
abbrev main_call1_v8 : Ref sig .tc := ⟨.hbm, 31, rfl⟩
abbrev main_call1_v9 : Ref sig .tc := ⟨.hbm, 32, rfl⟩
abbrev main_call1_v10 : Ref sig .tc := ⟨.hbm, 33, rfl⟩
abbrev main_call1_v11 : Ref sig .tc := ⟨.hbm, 34, rfl⟩
abbrev main_call1_c_3 : Ref sig .tc := ⟨.hbm, 35, rfl⟩
abbrev main_call1_v12 : Ref sig .tc := ⟨.hbm, 36, rfl⟩
abbrev main_call1_v13 : Ref sig .tc := ⟨.hbm, 37, rfl⟩
abbrev main_call1_cst : Ref sig .tc := ⟨.hbm, 38, rfl⟩
abbrev main_call1_v14 : Ref sig .tc := ⟨.hbm, 39, rfl⟩
abbrev main_v13 : Ref sig .tc := ⟨.hbm, 40, rfl⟩
abbrev main_call2_call0_cst : Ref sig .tc := ⟨.hbm, 41, rfl⟩
abbrev main_call2_call0_v0 : Ref sig .tc := ⟨.hbm, 42, rfl⟩
abbrev main_v14 : Ref sig .tc := ⟨.hbm, 43, rfl⟩
abbrev main_cst_2 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_call3_v0 : Ref sig .tc := ⟨.hbm, 48, rfl⟩
abbrev main_call3_c : Ref sig .tc := ⟨.hbm, 49, rfl⟩
abbrev main_call3_c_0 : Ref sig .tc := ⟨.hbm, 50, rfl⟩
abbrev main_call3_v1_0 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_c : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_cst_3 : Ref sig .tc := ⟨.hbm, 68, rfl⟩
abbrev main_call4_v0 : Ref sig .tc := ⟨.hbm, 69, rfl⟩
abbrev main_call4_v1 : Ref sig .tc := ⟨.hbm, 70, rfl⟩
abbrev main_v33 : Ref sig .tc := ⟨.hbm, 71, rfl⟩
abbrev main_call5_c : Ref sig .tc := ⟨.hbm, 72, rfl⟩
abbrev main_call5_v0 : Ref sig .tc := ⟨.hbm, 73, rfl⟩
abbrev main_call5_v1 : Ref sig .tc := ⟨.hbm, 74, rfl⟩
abbrev main_call5_c_0 : Ref sig .tc := ⟨.hbm, 75, rfl⟩
abbrev main_call5_v2 : Ref sig .tc := ⟨.hbm, 76, rfl⟩
abbrev main_call5_v3 : Ref sig .tc := ⟨.hbm, 77, rfl⟩
abbrev main_call5_v4 : Ref sig .tc := ⟨.hbm, 78, rfl⟩
abbrev main_call5_v5 : Ref sig .tc := ⟨.hbm, 79, rfl⟩
abbrev main_call5_c_1 : Ref sig .tc := ⟨.hbm, 80, rfl⟩
abbrev main_call5_c_2 : Ref sig .tc := ⟨.hbm, 81, rfl⟩
abbrev main_call5_v6 : Ref sig .tc := ⟨.hbm, 82, rfl⟩
abbrev main_call5_v7 : Ref sig .tc := ⟨.hbm, 83, rfl⟩
abbrev main_call5_v8 : Ref sig .tc := ⟨.hbm, 84, rfl⟩
abbrev main_call5_v9 : Ref sig .tc := ⟨.hbm, 85, rfl⟩
abbrev main_call5_v10 : Ref sig .tc := ⟨.hbm, 86, rfl⟩
abbrev main_call5_v11 : Ref sig .tc := ⟨.hbm, 87, rfl⟩
abbrev main_call5_c_3 : Ref sig .tc := ⟨.hbm, 88, rfl⟩
abbrev main_call5_v12 : Ref sig .tc := ⟨.hbm, 89, rfl⟩
abbrev main_call5_v13 : Ref sig .tc := ⟨.hbm, 90, rfl⟩
abbrev main_call5_cst : Ref sig .tc := ⟨.hbm, 91, rfl⟩
abbrev main_call5_v14 : Ref sig .tc := ⟨.hbm, 92, rfl⟩
abbrev main_v34 : Ref sig .tc := ⟨.hbm, 93, rfl⟩

abbrev nD : Nat := 1
abbrev τ : Topo := Topo.v7x

variable {F : FTy → Type} [FloatOps F]
-- ==== Proof.Local.lean ====
/-
  A thread's work on its own buffers, run as a function: the loads, the stores and the checks at the
  head of a program are carried out on the contents the thread holds, and what is left is the program from
  the first effect that is none of these (or that touches a buffer not held), with the contents at that
  point. One lemma says that the program is proved by proving what is left.
-/
module

public import Idealize.ShloMosaic.Lib.SparseCore.Ops
public import Idealize.ShloMosaic.Lib.Scf
public import Idealize.ShloMosaic.Rules
public import Idealize.ShloMosaic.Lib.Tactic

@[expose] public section

noncomputable section

namespace Cert.Proof.Local

open Idealize.ShloMosaic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {Λ : Labels}

/-- Contents for every buffer the thread can name. -/
abbrev Bufs (sig : RefSig) (Val : EltTy → Type) (c : Thread nD τ) : Type := (b : Ref sig c.2.kind) → Buf Val (c.loc b)

variable (c : Thread nD τ)

/-- One effect of `res`: what it does to the contents, given what the rest of the program comes to. -/
def resOp (L : Finset (Ref sig c.2.kind)) {α : Type} : {β : Type} → (e : TpuEff nD τ sig Val Λ c.2 β) →
    (k : β → Prog (TpuEff nD τ sig Val Λ c.2) α) → (β → Bufs sig Val c → Prog (TpuEff nD τ sig Val Λ c.2) α × Bufs sig Val c) →
    Bufs sig Val c → Prog (TpuEff nD τ sig Val Λ c.2) α × Bufs sig Val c
  | _, .load m r h, k, ih, st =>
      if m.view.ref ∈ L then ih (m.view.readAt Val r (st m.view.ref)) st else (.op (.load m r h) k, st)
  | _, .store m r w M h hm, k, ih, st =>
      if (m.access r).ref ∈ L then
        ih ⟨⟩ (Function.update st (m.access r).ref ((m.access r).write Val (st (m.access r).ref) w M))
      else (.op (.store m r w M h hm) k, st)
  | _, .assume P dec, k, ih, st => if h : P then ih ⟨h⟩ st else (.op (.assume P dec) k, st)
  | _, e, k, _, st => (.op e k, st)

/-- The program from its first effect that is not a load, a store or a check on the buffers held (`L`), and the
    contents there. -/
def res (L : Finset (Ref sig c.2.kind)) {α : Type} (p : Prog (TpuEff nD τ sig Val Λ c.2) α) :
    Bufs sig Val c → Prog (TpuEff nD τ sig Val Λ c.2) α × Bufs sig Val c :=
  Prog.rec (motive := fun _ => Bufs sig Val c → Prog (TpuEff nD τ sig Val Λ c.2) α × Bufs sig Val c)
    (fun a st => (.ret a, st)) (fun e k ih st => resOp c L e k ih st) p

theorem res_op (L : Finset (Ref sig c.2.kind)) {α β : Type} (e : TpuEff nD τ sig Val Λ c.2 β)
    (k : β → Prog (TpuEff nD τ sig Val Λ c.2) α) (st : Bufs sig Val c) :
    res c L (.op e k) st = resOp c L e k (fun x => res c L (k x)) st := rfl

theorem res_load {cs : CoreSpace} {s : Shape} {e : EltTy} {α : Type} {L : Finset (Ref sig c.2.kind)} (m : Memref sig c.2.kind cs s e)
    (r : LoadRect s) (h : m.view.LoadsAt r) (k : (r.shape.Idx → Val e) → Prog (TpuEff nD τ sig Val Λ c.2) α) (st : Bufs sig Val c)
    (hb : m.view.ref ∈ L) :
    res c L (Prog.lift (.load m r h) >>= k) st = res c L (k (m.view.readAt Val r (st m.view.ref))) st :=
  (res_op c L (.load m r h) k st).trans (if_pos hb)

theorem res_store {cs : CoreSpace} {s : Shape} {e : EltTy} {α : Type} {L : Finset (Ref sig c.2.kind)} (m : Memref sig c.2.kind cs s e)
    (r : Rect s) (w : r.shape.Idx → Val e) (Mk : Finset r.shape.Idx) (h : (m.access r).Stores Mk) (hm)
    (k : PUnit → Prog (TpuEff nD τ sig Val Λ c.2) α) (st : Bufs sig Val c) (hb : (m.access r).ref ∈ L) :
    res c L (Prog.lift (.store m r w Mk h hm) >>= k) st
      = res c L (k ⟨⟩) (Function.update st (m.access r).ref ((m.access r).write Val (st (m.access r).ref) w Mk)) :=
  (res_op c L (.store m r w Mk h hm) k st).trans (if_pos hb)

theorem res_loadIdx {F : FTy → Type} {s t : Shape} {e : EltTy} {α : Type} {L : Finset (Ref sig c.2.kind)} (m : Memref sig c.2.kind .vmem s e)
    (idxs : Fin s.rank → IVec t 32) (h) (hl) (k : Vec F t e → Prog (TpuEff nD τ sig (Elt F) Λ c.2) α) (st : Bufs sig (Elt F) c)
    (hb : m.view.ref ∈ L) :
    res c L (SparseCore.vectorLoadIdx m idxs h hl >>= k) st
      = res c L (k (loadIdx (m.view.readAt (Elt F) (LoadRect.whole s) (st m.view.ref)) idxs h)) st := by
  rw [SparseCore.vectorLoadIdx_bind]
  exact (res_op c L _ _ st).trans (if_pos hb)

theorem res_storeIdx {F : FTy → Type} [FloatOps F] {s : Shape} {dm : Fin 1 → ℕ} {e : EltTy} {α : Type} {L : Finset (Ref sig c.2.kind)}
    (m : Memref sig c.2.kind .vmem s e) (idxs : Fin s.rank → IVec ⟨1, dm⟩ 32) (v : Vec F ⟨1, dm⟩ e) (mask) (add) (h) (hs)
    (k : PUnit → Prog (TpuEff nD τ sig (Elt F) Λ c.2) α) (st : Bufs sig (Elt F) c)
    (hb : m.view.ref ∈ L) :
    res c L (SparseCore.vectorStoreIdx m idxs v mask add h hs >>= k) st
      = res c L (k ⟨⟩) (Function.update st (m.access (.whole s)).ref ((m.access (.whole s)).write (Elt F) (st (m.access (.whole s)).ref)
          (storeIdx (m.view.readAt (Elt F) (LoadRect.whole s) (st m.view.ref)) idxs v mask add h) Finset.univ)) := by
  rw [SparseCore.vectorStoreIdx_bind]
  refine (res_op c L _ _ st).trans ((if_pos hb).trans ?_)
  exact (res_op c L _ _ st).trans (if_pos hb)

variable {Ix : Type} [DecidableEq Ix] {Name : Type} [DecidableEq Name] {U : Type} [URA U] {Lvl : Type} [Preorder Lvl]
variable {defs : Defs nD τ sig Val Λ} (𝒱 : Variants) (bd : Option 𝒱.V) (E : Set Name)

local notation "𝕄" => MT nD τ sig Ix Val Name U Lvl

/-- The buffers held, at the contents `st`. -/
def own (L : Finset (Ref sig c.2.kind)) (st : Bufs sig Val c) : sProp 𝕄 :=
  bigSep L fun b => c.loc b ↦{fullShare} st b

theorem own_take {L : Finset (Ref sig c.2.kind)} {b : Ref sig c.2.kind} (hb : b ∈ L) (st : Bufs sig Val c) :
    (own c L st : sProp 𝕄) = iprop((c.loc b ↦{fullShare} st b) ∗ bigSep (L.erase b) fun b => c.loc b ↦{fullShare} st b) :=
  bigSep_erase hb

theorem own_put {L : Finset (Ref sig c.2.kind)} {b : Ref sig c.2.kind} (hb : b ∈ L) (st : Bufs sig Val c) (f : Buf Val (c.loc b)) :
    iprop((c.loc b ↦{fullShare} f) ∗ bigSep (L.erase b) fun b => c.loc b ↦{fullShare} st b)
      ⊢ (own c L (Function.update st b f) : sProp 𝕄) := by
  rw [own_take c hb (Function.update st b f), Function.update_self]
  refine sep_mono_right (bigSep_mono fun i hi => ?_)
  rw [Function.update_of_ne (Finset.ne_of_mem_erase hi)]
  exact fun _ h => h

/-- The program is proved by proving what `res` leaves of it, at the contents it leaves. -/
theorem wp_res (L : Finset (Ref sig c.2.kind)) {α : Type} {Q : α → sProp 𝕄} :
    ∀ (p : Prog (TpuEff nD τ sig Val Λ c.2) α) (st : Bufs sig Val c),
      iprop(own c L st ∗ (own c L (res c L p st).2 -∗ wp frame (wpE defs 𝒱 c bd) E (res c L p st).1 Q))
        ⊢ wp frame (wpE defs 𝒱 c bd) E p Q := by
  have stop : ∀ (p : Prog (TpuEff nD τ sig Val Λ c.2) α) (st : Bufs sig Val c), res c L p st = (p, st) →
      iprop(own c L st ∗ (own c L (res c L p st).2 -∗ wp frame (wpE defs 𝒱 c bd) E (res c L p st).1 Q))
        ⊢ wp frame (wpE defs 𝒱 c bd) E p Q := by
    intro p st e
    rw [e]
    iintro ⟨H, K⟩; iapply K; iexact H
  intro p
  induction p with
  | ret a => exact fun st => stop _ _ rfl
  | op e k ih =>
    intro st
    cases e
    case load m r h =>
      by_cases hb : m.view.ref ∈ L
      · have e : res c L (.op (.load m r h) k) st = res c L (k (m.view.readAt Val r (st m.view.ref))) st := by
          rw [res_op, resOp, if_pos hb]
        rw [e, own_take c hb st]
        iintro ⟨⟨Hb, Hr⟩, K⟩
        iapply (wp_load (defs := defs) 𝒱 c bd E (m := m) (r := r) (hl := h) (S := Finset.univ) (q := fullShare) (f := st m.view.ref) (Finset.subset_univ _)) $$ Hb
        iintro Hb
        iapply (ih (m.view.readAt Val r (st m.view.ref)) st)
        isplitl [Hb Hr]
        · rw [own_take c hb st]
          isplitl [Hb] <;> iassumption
        · iexact K
      · exact stop _ _ (by rw [res_op, resOp, if_neg hb])
    case store m r w M h hm =>
      by_cases hb : (m.access r).ref ∈ L
      · have e : res c L (.op (.store m r w M h hm) k) st
            = res c L (k ⟨⟩) (Function.update st (m.access r).ref ((m.access r).write Val (st (m.access r).ref) w M)) := by
          rw [res_op, resOp, if_pos hb]
        rw [e, own_take c hb st]
        iintro ⟨⟨Hb, Hr⟩, K⟩
        iapply (wp_store (defs := defs) 𝒱 c bd E (m := m) (r := r) (w := w) (Mk := M) (hx := h) (hm := hm) (S := Finset.univ) (f := st (m.access r).ref) (Finset.subset_univ _)) $$ Hb
        iintro Hb
        iapply (ih ⟨⟩ _)
        isplitl [Hb Hr]
        · iapply (own_put c hb st _)
          isplitl [Hb] <;> iassumption
        · iexact K
      · exact stop _ _ (by rw [res_op, resOp, if_neg hb])
    case assume P dec =>
      by_cases hP : P
      · have e : res c L (.op (.assume P dec) k) st = res c L (k ⟨hP⟩) st := by rw [res_op, resOp, dif_pos hP]
        rw [e, wp_assume_of _ _ _ _ hP]
        exact ih ⟨hP⟩ st
      · exact stop _ _ (by rw [res_op, resOp, dif_neg hP])
    all_goals exact stop _ _ rfl

end Cert.Proof.Local
-- ==== Proof.Mem.lean ====
/-
  The ten scratch buffers of a vector subcore as one record, and what each load, store, gather and scatter of the
  kernel does to it.
-/
module

public import proofs.«01_k».proof.KernelIdeal
public import proofs.«01_k».proof.Proof.Local
public import Idealize.ShloMosaic.Lib.Pipeline.Value

@[expose] public section

noncomputable section

namespace Cert.Proof.Mem

open Idealize.ShloMosaic
open Idealize.SL Idealize.SL.Sem
open Cert.KernelIdeal Cert.Proof.Local

/-- A vector shape. -/
abbrev A (n : ℕ) : Shape := ⟨1, ![n]⟩

/-- The index `t` of a vector of `n` elements, for `t < n`. -/
def ix (n : ℕ) [NeZero n] (t : ℕ) : (A n).Idx := fun a =>
  ⟨t % n, by rw [Subsingleton.elim a 0]; exact Nat.mod_lt _ (Nat.pos_of_ne_zero (NeZero.ne n))⟩

variable {α : Type}

/-- Sixteen consecutive elements. -/
def ld {n : ℕ} [NeZero n] (f : (A n).Idx → α) (off : ℕ) : (A 16).Idx → α := fun j => f (ix n (off + (j 0).val))

/-- Sixteen consecutive elements replaced. -/
def sd {n : ℕ} (f : (A n).Idx → α) (off : ℕ) (w : (A 16).Idx → α) : (A n).Idx → α := fun i =>
  if off ≤ (i 0).val ∧ (i 0).val < off + 16 then w (ix 16 ((i 0).val - off)) else f i

theorem ix_val {n : ℕ} [NeZero n] {t : ℕ} (h : t < n) (a : Fin 1) : (ix n t a).val = t := Nat.mod_eq_of_lt h

theorem eq_ix {n : ℕ} [NeZero n] (i : (A n).Idx) : i = ix n (i 0).val := by
  funext a
  obtain rfl : a = 0 := Subsingleton.elim a 0
  exact Fin.ext (Nat.mod_eq_of_lt (i 0).isLt).symm

theorem updateSlice_sd {n : ℕ} (f : (A n).Idx → α) (w : (A 16).Idx → α) (off : Fin 1 → ℕ) (h) :
    updateSlice (s := A n) (u := A 16) f w off ⟨rfl, h⟩ = sd f (off 0) w := by
  funext i
  unfold updateSlice sd
  by_cases hin : off 0 ≤ (i 0).val ∧ (i 0).val < off 0 + 16
  · rw [if_pos hin, dif_pos (fun a => by obtain rfl : a = (0 : Fin 1) := Subsingleton.elim (α := Fin 1) a 0; exact hin)]
    congr 1
    funext b
    obtain rfl : b = (0 : Fin 1) := Subsingleton.elim (α := Fin 1) b 0
    exact Fin.ext (Nat.mod_eq_of_lt (show (i 0).val - off 0 < 16 by omega)).symm
  · rw [if_neg hin, dif_neg (fun h => hin (h 0))]

/-- Elements gathered at the indices `v` names. -/
def gat {n : ℕ} [NeZero n] {k : ℕ} (f : (A n).Idx → α) (v : (A k).Idx → BitVec 32) : (A k).Idx → α := fun x => f (ix n (v x).toNat)

/-- Elements scattered to the indices `v` names, in lane order, where the mask is set. -/
def sca {n : ℕ} [NeZero n] (f : (A n).Idx → α) (v : (A 16).Idx → BitVec 32) (w : (A 16).Idx → α) (mask : (A 16).Idx → BitVec 1) :
    (A n).Idx → α :=
  (List.finRange 16).foldl (fun g k =>
    if mask (ix 16 k.val) = 1 then fun j => if (j 0).val = (v (ix 16 k.val)).toNat then w (ix 16 k.val) else g j else g) f

theorem loadIdx_gat {Fl : FTy → Type} {n : ℕ} [NeZero n] {k : ℕ} {e : EltTy} (f : Vec Fl (A n) e) (v : IVec (A k) 32) (h) :
    loadIdx (F := Fl) (t := A k) f ![v] h = gat (n := n) (k := k) f v := by
  funext x
  show f _ = f _
  congr 1
  funext a
  obtain rfl : a = (0 : Fin 1) := Subsingleton.elim (α := Fin 1) a 0
  exact Fin.ext (Nat.mod_eq_of_lt (h 0 x)).symm

theorem ofLane_ix (k : Fin 16) : (Shape.ofLane (d := ![16]) k : (A 16).Idx) = ix 16 k.val := by
  funext a
  obtain rfl : a = (0 : Fin 1) := Subsingleton.elim (α := Fin 1) a 0
  exact Fin.ext (Nat.mod_eq_of_lt k.isLt).symm

theorem storeIdx_sca {Fl : FTy → Type} [FloatOps Fl] {n : ℕ} [NeZero n] {e : EltTy} (f : Vec Fl (A n) e) (v : IVec (A 16) 32) (w : Vec Fl (A 16) e)
    (mask : IVec (A 16) 1) (h) :
    storeIdx (F := Fl) (d := ![16]) f ![v] w mask false h = sca (n := n) f v w mask := by
  unfold storeIdx sca
  congr 1
  funext g k
  have e : (Shape.ofLane (d := ![16]) k : (A 16).Idx) = ix 16 k.val := ofLane_ix k
  show (if mask (Shape.ofLane (d := ![16]) k) = 1 then _ else g) = _
  rw [e]
  split
  · funext j
    have : (∀ a, (j a).val = ((idxAt ![v] h (Shape.ofLane (d := ![16]) k)) a).val) ↔ (j 0).val = (v (ix 16 k.val)).toNat := by
      rw [e]
      exact ⟨fun q => q 0, fun q a => by obtain rfl : a = (0 : Fin 1) := Subsingleton.elim (α := Fin 1) a 0; exact q⟩
    rw [e] at this
    by_cases hj : (j 0).val = (v (ix 16 k.val)).toNat
    · rw [if_pos hj]
      exact if_pos (this.mpr hj)
    · rw [if_neg hj]
      exact if_neg fun q => hj (this.mp q)
  · rfl

/-- `n` trips of `g` from `a`. -/
def iter {σ : Type} (n : ℕ) (g : ℕ → σ → σ) (a : σ) : σ := (List.range n).foldl (fun p i => g i p) a

variable {F : FTy → Type} [FloatOps F]

/-- The scratch buffers' contents. -/
structure Mem (F : FTy → Type) where
  s : S32768.Idx → Elt F .f32
  o : S32768.Idx → Elt F .f32
  m1 : S2048.Idx → Elt F .f32
  m2 : S128.Idx → Elt F .f32
  tk : S1024.Idx → Elt F .f32
  tp : S64.Idx → Elt F .i32
  rk : S64.Idx → Elt F .i32
  hi : S1040.Idx → Elt F .i32
  kb : S16.Idx → Elt F .f32
  vb : S16.Idx → Elt F .i32

variable (d : Dev nD) (C : Fin τ.nSC) (T : Fin τ.nSub)

/-- The vector subcore's thread. -/
abbrev th : Thread nD τ := (d, .scVector C T)

variable {d C T}

/-- The record as contents of the thread's buffers (`base` elsewhere). -/
def toSt (base : Bufs sig (Elt F) (th d C T)) (m : Mem F) : Bufs sig (Elt F) (th d C T) :=
  Function.update (Function.update (Function.update (Function.update (Function.update (Function.update (Function.update
    (Function.update (Function.update (Function.update base cc0_scratch0 m.s) cc0_scratch1 m.o) cc0_scratch2 m.m1)
    cc0_scratch3 m.m2) cc0_scratch4 m.tk) cc0_scratch5 m.tp) cc0_scratch6 m.rk) cc0_scratch7 m.hi) cc0_scratch8 m.kb)
    cc0_scratch9 m.vb

variable (base : Bufs sig (Elt F) (th d C T)) (m : Mem F)

theorem upc {I : Type} [DecidableEq I] {B : I → Type} {f g : ∀ i, B i} {a b : I} {v : B a} (h : f b = g b) :
    Function.update f a v b = Function.update g a v b := by
  by_cases e : b = a
  · subst e; rw [Function.update_self, Function.update_self]
  · rw [Function.update_of_ne e, Function.update_of_ne e, h]

theorem toSt_s : toSt base m cc0_scratch0 = m.s := by
  unfold toSt
  rw [Function.update_of_ne (a := cc0_scratch0) (a' := cc0_scratch9) (by decide)]
  rw [Function.update_of_ne (a := cc0_scratch0) (a' := cc0_scratch8) (by decide)]
  rw [Function.update_of_ne (a := cc0_scratch0) (a' := cc0_scratch7) (by decide)]
  rw [Function.update_of_ne (a := cc0_scratch0) (a' := cc0_scratch6) (by decide)]
  rw [Function.update_of_ne (a := cc0_scratch0) (a' := cc0_scratch5) (by decide)]
  rw [Function.update_of_ne (a := cc0_scratch0) (a' := cc0_scratch4) (by decide)]
  rw [Function.update_of_ne (a := cc0_scratch0) (a' := cc0_scratch3) (by decide)]
  rw [Function.update_of_ne (a := cc0_scratch0) (a' := cc0_scratch2) (by decide)]
  rw [Function.update_of_ne (a := cc0_scratch0) (a' := cc0_scratch1) (by decide)]
  rw [Function.update_self]

theorem toSt_o : toSt base m cc0_scratch1 = m.o := by
  unfold toSt
  rw [Function.update_of_ne (a := cc0_scratch1) (a' := cc0_scratch9) (by decide)]
  rw [Function.update_of_ne (a := cc0_scratch1) (a' := cc0_scratch8) (by decide)]
  rw [Function.update_of_ne (a := cc0_scratch1) (a' := cc0_scratch7) (by decide)]
  rw [Function.update_of_ne (a := cc0_scratch1) (a' := cc0_scratch6) (by decide)]
  rw [Function.update_of_ne (a := cc0_scratch1) (a' := cc0_scratch5) (by decide)]
  rw [Function.update_of_ne (a := cc0_scratch1) (a' := cc0_scratch4) (by decide)]
  rw [Function.update_of_ne (a := cc0_scratch1) (a' := cc0_scratch3) (by decide)]
  rw [Function.update_of_ne (a := cc0_scratch1) (a' := cc0_scratch2) (by decide)]
  rw [Function.update_self]

theorem toSt_m1 : toSt base m cc0_scratch2 = m.m1 := by
  unfold toSt
  rw [Function.update_of_ne (a := cc0_scratch2) (a' := cc0_scratch9) (by decide)]
  rw [Function.update_of_ne (a := cc0_scratch2) (a' := cc0_scratch8) (by decide)]
  rw [Function.update_of_ne (a := cc0_scratch2) (a' := cc0_scratch7) (by decide)]
  rw [Function.update_of_ne (a := cc0_scratch2) (a' := cc0_scratch6) (by decide)]
  rw [Function.update_of_ne (a := cc0_scratch2) (a' := cc0_scratch5) (by decide)]
  rw [Function.update_of_ne (a := cc0_scratch2) (a' := cc0_scratch4) (by decide)]
  rw [Function.update_of_ne (a := cc0_scratch2) (a' := cc0_scratch3) (by decide)]
  rw [Function.update_self]

theorem toSt_m2 : toSt base m cc0_scratch3 = m.m2 := by
  unfold toSt
  rw [Function.update_of_ne (a := cc0_scratch3) (a' := cc0_scratch9) (by decide)]
  rw [Function.update_of_ne (a := cc0_scratch3) (a' := cc0_scratch8) (by decide)]
  rw [Function.update_of_ne (a := cc0_scratch3) (a' := cc0_scratch7) (by decide)]
  rw [Function.update_of_ne (a := cc0_scratch3) (a' := cc0_scratch6) (by decide)]
  rw [Function.update_of_ne (a := cc0_scratch3) (a' := cc0_scratch5) (by decide)]
  rw [Function.update_of_ne (a := cc0_scratch3) (a' := cc0_scratch4) (by decide)]
  rw [Function.update_self]

theorem toSt_tk : toSt base m cc0_scratch4 = m.tk := by
  unfold toSt
  rw [Function.update_of_ne (a := cc0_scratch4) (a' := cc0_scratch9) (by decide)]
  rw [Function.update_of_ne (a := cc0_scratch4) (a' := cc0_scratch8) (by decide)]
  rw [Function.update_of_ne (a := cc0_scratch4) (a' := cc0_scratch7) (by decide)]
  rw [Function.update_of_ne (a := cc0_scratch4) (a' := cc0_scratch6) (by decide)]
  rw [Function.update_of_ne (a := cc0_scratch4) (a' := cc0_scratch5) (by decide)]
  rw [Function.update_self]

theorem toSt_tp : toSt base m cc0_scratch5 = m.tp := by
  unfold toSt
  rw [Function.update_of_ne (a := cc0_scratch5) (a' := cc0_scratch9) (by decide)]
  rw [Function.update_of_ne (a := cc0_scratch5) (a' := cc0_scratch8) (by decide)]
  rw [Function.update_of_ne (a := cc0_scratch5) (a' := cc0_scratch7) (by decide)]
  rw [Function.update_of_ne (a := cc0_scratch5) (a' := cc0_scratch6) (by decide)]
  rw [Function.update_self]

theorem toSt_rk : toSt base m cc0_scratch6 = m.rk := by
  unfold toSt
  rw [Function.update_of_ne (a := cc0_scratch6) (a' := cc0_scratch9) (by decide)]
  rw [Function.update_of_ne (a := cc0_scratch6) (a' := cc0_scratch8) (by decide)]
  rw [Function.update_of_ne (a := cc0_scratch6) (a' := cc0_scratch7) (by decide)]
  rw [Function.update_self]

theorem toSt_hi : toSt base m cc0_scratch7 = m.hi := by
  unfold toSt
  rw [Function.update_of_ne (a := cc0_scratch7) (a' := cc0_scratch9) (by decide)]
  rw [Function.update_of_ne (a := cc0_scratch7) (a' := cc0_scratch8) (by decide)]
  rw [Function.update_self]

theorem toSt_kb : toSt base m cc0_scratch8 = m.kb := by
  unfold toSt
  rw [Function.update_of_ne (a := cc0_scratch8) (a' := cc0_scratch9) (by decide)]
  rw [Function.update_self]

theorem toSt_vb : toSt base m cc0_scratch9 = m.vb := by
  unfold toSt
  rw [Function.update_self]

theorem up_s (w) : Function.update (toSt base m) cc0_scratch0 w = toSt base { m with s := w } := by
  funext b
  by_cases h : b = cc0_scratch0
  · subst h; rw [Function.update_self, toSt_s]
  · rw [Function.update_of_ne h]
    unfold toSt
    refine upc ?_
    refine upc ?_
    refine upc ?_
    refine upc ?_
    refine upc ?_
    refine upc ?_
    refine upc ?_
    refine upc ?_
    refine upc ?_
    rw [Function.update_of_ne h, Function.update_of_ne h]

theorem up_o (w) : Function.update (toSt base m) cc0_scratch1 w = toSt base { m with o := w } := by
  funext b
  by_cases h : b = cc0_scratch1
  · subst h; rw [Function.update_self, toSt_o]
  · rw [Function.update_of_ne h]
    unfold toSt
    refine upc ?_
    refine upc ?_
    refine upc ?_
    refine upc ?_
    refine upc ?_
    refine upc ?_
    refine upc ?_
    refine upc ?_
    rw [Function.update_of_ne h, Function.update_of_ne h]

theorem up_m1 (w) : Function.update (toSt base m) cc0_scratch2 w = toSt base { m with m1 := w } := by
  funext b
  by_cases h : b = cc0_scratch2
  · subst h; rw [Function.update_self, toSt_m1]
  · rw [Function.update_of_ne h]
    unfold toSt
    refine upc ?_
    refine upc ?_
    refine upc ?_
    refine upc ?_
    refine upc ?_
    refine upc ?_
    refine upc ?_
    rw [Function.update_of_ne h, Function.update_of_ne h]

theorem up_m2 (w) : Function.update (toSt base m) cc0_scratch3 w = toSt base { m with m2 := w } := by
  funext b
  by_cases h : b = cc0_scratch3
  · subst h; rw [Function.update_self, toSt_m2]
  · rw [Function.update_of_ne h]
    unfold toSt
    refine upc ?_
    refine upc ?_
    refine upc ?_
    refine upc ?_
    refine upc ?_
    refine upc ?_
    rw [Function.update_of_ne h, Function.update_of_ne h]

theorem up_tk (w) : Function.update (toSt base m) cc0_scratch4 w = toSt base { m with tk := w } := by
  funext b
  by_cases h : b = cc0_scratch4
  · subst h; rw [Function.update_self, toSt_tk]
  · rw [Function.update_of_ne h]
    unfold toSt
    refine upc ?_
    refine upc ?_
    refine upc ?_
    refine upc ?_
    refine upc ?_
    rw [Function.update_of_ne h, Function.update_of_ne h]

theorem up_tp (w) : Function.update (toSt base m) cc0_scratch5 w = toSt base { m with tp := w } := by
  funext b
  by_cases h : b = cc0_scratch5
  · subst h; rw [Function.update_self, toSt_tp]
  · rw [Function.update_of_ne h]
    unfold toSt
    refine upc ?_
    refine upc ?_
    refine upc ?_
    refine upc ?_
    rw [Function.update_of_ne h, Function.update_of_ne h]

theorem up_rk (w) : Function.update (toSt base m) cc0_scratch6 w = toSt base { m with rk := w } := by
  funext b
  by_cases h : b = cc0_scratch6
  · subst h; rw [Function.update_self, toSt_rk]
  · rw [Function.update_of_ne h]
    unfold toSt
    refine upc ?_
    refine upc ?_
    refine upc ?_
    rw [Function.update_of_ne h, Function.update_of_ne h]

theorem up_hi (w) : Function.update (toSt base m) cc0_scratch7 w = toSt base { m with hi := w } := by
  funext b
  by_cases h : b = cc0_scratch7
  · subst h; rw [Function.update_self, toSt_hi]
  · rw [Function.update_of_ne h]
    unfold toSt
    refine upc ?_
    refine upc ?_
    rw [Function.update_of_ne h, Function.update_of_ne h]

theorem up_kb (w) : Function.update (toSt base m) cc0_scratch8 w = toSt base { m with kb := w } := by
  funext b
  by_cases h : b = cc0_scratch8
  · subst h; rw [Function.update_self, toSt_kb]
  · rw [Function.update_of_ne h]
    unfold toSt
    refine upc ?_
    rw [Function.update_of_ne h, Function.update_of_ne h]

theorem up_vb (w) : Function.update (toSt base m) cc0_scratch9 w = toSt base { m with vb := w } := by
  funext b
  by_cases h : b = cc0_scratch9
  · subst h; rw [Function.update_self, toSt_vb]
  · rw [Function.update_of_ne h]
    unfold toSt
    rw [Function.update_of_ne h, Function.update_of_ne h]

/-! ### Reads and writes through a view of a whole buffer -/

theorem rd_s (off : Fin 1 → ℕ) (inb) (f : S32768.Idx → Elt F (cc0_scratch0.ty.elt)) :
    (Memref.whole cc0_scratch0).view.readAt (Elt F) (Rect.unit (s := S32768) off S16.size inb).toLoadRect f = ld f (off 0) := by
  funext x
  show f _ = f _
  congr 1
  funext a
  obtain rfl : a = (0 : Fin 1) := Subsingleton.elim (α := Fin 1) a 0
  have h1 : off 0 + 16 ≤ 32768 := inb 0
  have h2 : (x 0).val < 16 := (x 0).isLt
  exact Fin.ext ((congrArg (off 0 + ·) (one_mul _)).trans (Nat.mod_eq_of_lt (show off 0 + (x 0).val < 32768 by omega)).symm)

theorem wr_s (off : Fin 1 → ℕ) (inb) (f : S32768.Idx → Elt F (cc0_scratch0.ty.elt)) (w : S16.Idx → Elt F (cc0_scratch0.ty.elt)) :
    ((Memref.whole cc0_scratch0).access (Rect.unit (s := S32768) off S16.size inb)).write (Elt F) f w Finset.univ = sd f (off 0) w := by
  refine (View.write_whole_slice_unit cc0_scratch0 off S16.size inb f w).trans ?_
  exact updateSlice_sd f w off inb

theorem rd_o (off : Fin 1 → ℕ) (inb) (f : S32768.Idx → Elt F (cc0_scratch1.ty.elt)) :
    (Memref.whole cc0_scratch1).view.readAt (Elt F) (Rect.unit (s := S32768) off S16.size inb).toLoadRect f = ld f (off 0) := by
  funext x
  show f _ = f _
  congr 1
  funext a
  obtain rfl : a = (0 : Fin 1) := Subsingleton.elim (α := Fin 1) a 0
  have h1 : off 0 + 16 ≤ 32768 := inb 0
  have h2 : (x 0).val < 16 := (x 0).isLt
  exact Fin.ext ((congrArg (off 0 + ·) (one_mul _)).trans (Nat.mod_eq_of_lt (show off 0 + (x 0).val < 32768 by omega)).symm)

theorem wr_o (off : Fin 1 → ℕ) (inb) (f : S32768.Idx → Elt F (cc0_scratch1.ty.elt)) (w : S16.Idx → Elt F (cc0_scratch1.ty.elt)) :
    ((Memref.whole cc0_scratch1).access (Rect.unit (s := S32768) off S16.size inb)).write (Elt F) f w Finset.univ = sd f (off 0) w := by
  refine (View.write_whole_slice_unit cc0_scratch1 off S16.size inb f w).trans ?_
  exact updateSlice_sd f w off inb

theorem rd_m1 (off : Fin 1 → ℕ) (inb) (f : S2048.Idx → Elt F (cc0_scratch2.ty.elt)) :
    (Memref.whole cc0_scratch2).view.readAt (Elt F) (Rect.unit (s := S2048) off S16.size inb).toLoadRect f = ld f (off 0) := by
  funext x
  show f _ = f _
  congr 1
  funext a
  obtain rfl : a = (0 : Fin 1) := Subsingleton.elim (α := Fin 1) a 0
  have h1 : off 0 + 16 ≤ 2048 := inb 0
  have h2 : (x 0).val < 16 := (x 0).isLt
  exact Fin.ext ((congrArg (off 0 + ·) (one_mul _)).trans (Nat.mod_eq_of_lt (show off 0 + (x 0).val < 2048 by omega)).symm)

theorem wr_m1 (off : Fin 1 → ℕ) (inb) (f : S2048.Idx → Elt F (cc0_scratch2.ty.elt)) (w : S16.Idx → Elt F (cc0_scratch2.ty.elt)) :
    ((Memref.whole cc0_scratch2).access (Rect.unit (s := S2048) off S16.size inb)).write (Elt F) f w Finset.univ = sd f (off 0) w := by
  refine (View.write_whole_slice_unit cc0_scratch2 off S16.size inb f w).trans ?_
  exact updateSlice_sd f w off inb

theorem rd_m2 (off : Fin 1 → ℕ) (inb) (f : S128.Idx → Elt F (cc0_scratch3.ty.elt)) :
    (Memref.whole cc0_scratch3).view.readAt (Elt F) (Rect.unit (s := S128) off S16.size inb).toLoadRect f = ld f (off 0) := by
  funext x
  show f _ = f _
  congr 1
  funext a
  obtain rfl : a = (0 : Fin 1) := Subsingleton.elim (α := Fin 1) a 0
  have h1 : off 0 + 16 ≤ 128 := inb 0
  have h2 : (x 0).val < 16 := (x 0).isLt
  exact Fin.ext ((congrArg (off 0 + ·) (one_mul _)).trans (Nat.mod_eq_of_lt (show off 0 + (x 0).val < 128 by omega)).symm)

theorem wr_m2 (off : Fin 1 → ℕ) (inb) (f : S128.Idx → Elt F (cc0_scratch3.ty.elt)) (w : S16.Idx → Elt F (cc0_scratch3.ty.elt)) :
    ((Memref.whole cc0_scratch3).access (Rect.unit (s := S128) off S16.size inb)).write (Elt F) f w Finset.univ = sd f (off 0) w := by
  refine (View.write_whole_slice_unit cc0_scratch3 off S16.size inb f w).trans ?_
  exact updateSlice_sd f w off inb

theorem rd_tk (off : Fin 1 → ℕ) (inb) (f : S1024.Idx → Elt F (cc0_scratch4.ty.elt)) :
    (Memref.whole cc0_scratch4).view.readAt (Elt F) (Rect.unit (s := S1024) off S16.size inb).toLoadRect f = ld f (off 0) := by
  funext x
  show f _ = f _
  congr 1
  funext a
  obtain rfl : a = (0 : Fin 1) := Subsingleton.elim (α := Fin 1) a 0
  have h1 : off 0 + 16 ≤ 1024 := inb 0
  have h2 : (x 0).val < 16 := (x 0).isLt
  exact Fin.ext ((congrArg (off 0 + ·) (one_mul _)).trans (Nat.mod_eq_of_lt (show off 0 + (x 0).val < 1024 by omega)).symm)

theorem wr_tk (off : Fin 1 → ℕ) (inb) (f : S1024.Idx → Elt F (cc0_scratch4.ty.elt)) (w : S16.Idx → Elt F (cc0_scratch4.ty.elt)) :
    ((Memref.whole cc0_scratch4).access (Rect.unit (s := S1024) off S16.size inb)).write (Elt F) f w Finset.univ = sd f (off 0) w := by
  refine (View.write_whole_slice_unit cc0_scratch4 off S16.size inb f w).trans ?_
  exact updateSlice_sd f w off inb

theorem rd_tp (off : Fin 1 → ℕ) (inb) (f : S64.Idx → Elt F (cc0_scratch5.ty.elt)) :
    (Memref.whole cc0_scratch5).view.readAt (Elt F) (Rect.unit (s := S64) off S16.size inb).toLoadRect f = ld f (off 0) := by
  funext x
  show f _ = f _
  congr 1
  funext a
  obtain rfl : a = (0 : Fin 1) := Subsingleton.elim (α := Fin 1) a 0
  have h1 : off 0 + 16 ≤ 64 := inb 0
  have h2 : (x 0).val < 16 := (x 0).isLt
  exact Fin.ext ((congrArg (off 0 + ·) (one_mul _)).trans (Nat.mod_eq_of_lt (show off 0 + (x 0).val < 64 by omega)).symm)

theorem wr_tp (off : Fin 1 → ℕ) (inb) (f : S64.Idx → Elt F (cc0_scratch5.ty.elt)) (w : S16.Idx → Elt F (cc0_scratch5.ty.elt)) :
    ((Memref.whole cc0_scratch5).access (Rect.unit (s := S64) off S16.size inb)).write (Elt F) f w Finset.univ = sd f (off 0) w := by
  refine (View.write_whole_slice_unit cc0_scratch5 off S16.size inb f w).trans ?_
  exact updateSlice_sd f w off inb

theorem rd_rk (off : Fin 1 → ℕ) (inb) (f : S64.Idx → Elt F (cc0_scratch6.ty.elt)) :
    (Memref.whole cc0_scratch6).view.readAt (Elt F) (Rect.unit (s := S64) off S16.size inb).toLoadRect f = ld f (off 0) := by
  funext x
  show f _ = f _
  congr 1
  funext a
  obtain rfl : a = (0 : Fin 1) := Subsingleton.elim (α := Fin 1) a 0
  have h1 : off 0 + 16 ≤ 64 := inb 0
  have h2 : (x 0).val < 16 := (x 0).isLt
  exact Fin.ext ((congrArg (off 0 + ·) (one_mul _)).trans (Nat.mod_eq_of_lt (show off 0 + (x 0).val < 64 by omega)).symm)

theorem wr_rk (off : Fin 1 → ℕ) (inb) (f : S64.Idx → Elt F (cc0_scratch6.ty.elt)) (w : S16.Idx → Elt F (cc0_scratch6.ty.elt)) :
    ((Memref.whole cc0_scratch6).access (Rect.unit (s := S64) off S16.size inb)).write (Elt F) f w Finset.univ = sd f (off 0) w := by
  refine (View.write_whole_slice_unit cc0_scratch6 off S16.size inb f w).trans ?_
  exact updateSlice_sd f w off inb

theorem rd_hi (off : Fin 1 → ℕ) (inb) (f : S1040.Idx → Elt F (cc0_scratch7.ty.elt)) :
    (Memref.whole cc0_scratch7).view.readAt (Elt F) (Rect.unit (s := S1040) off S16.size inb).toLoadRect f = ld f (off 0) := by
  funext x
  show f _ = f _
  congr 1
  funext a
  obtain rfl : a = (0 : Fin 1) := Subsingleton.elim (α := Fin 1) a 0
  have h1 : off 0 + 16 ≤ 1040 := inb 0
  have h2 : (x 0).val < 16 := (x 0).isLt
  exact Fin.ext ((congrArg (off 0 + ·) (one_mul _)).trans (Nat.mod_eq_of_lt (show off 0 + (x 0).val < 1040 by omega)).symm)

theorem wr_hi (off : Fin 1 → ℕ) (inb) (f : S1040.Idx → Elt F (cc0_scratch7.ty.elt)) (w : S16.Idx → Elt F (cc0_scratch7.ty.elt)) :
    ((Memref.whole cc0_scratch7).access (Rect.unit (s := S1040) off S16.size inb)).write (Elt F) f w Finset.univ = sd f (off 0) w := by
  refine (View.write_whole_slice_unit cc0_scratch7 off S16.size inb f w).trans ?_
  exact updateSlice_sd f w off inb

theorem rd_kb (off : Fin 1 → ℕ) (inb) (f : S16.Idx → Elt F (cc0_scratch8.ty.elt)) :
    (Memref.whole cc0_scratch8).view.readAt (Elt F) (Rect.unit (s := S16) off S16.size inb).toLoadRect f = ld f (off 0) := by
  funext x
  show f _ = f _
  congr 1
  funext a
  obtain rfl : a = (0 : Fin 1) := Subsingleton.elim (α := Fin 1) a 0
  have h1 : off 0 + 16 ≤ 16 := inb 0
  have h2 : (x 0).val < 16 := (x 0).isLt
  exact Fin.ext ((congrArg (off 0 + ·) (one_mul _)).trans (Nat.mod_eq_of_lt (show off 0 + (x 0).val < 16 by omega)).symm)

theorem wr_kb (off : Fin 1 → ℕ) (inb) (f : S16.Idx → Elt F (cc0_scratch8.ty.elt)) (w : S16.Idx → Elt F (cc0_scratch8.ty.elt)) :
    ((Memref.whole cc0_scratch8).access (Rect.unit (s := S16) off S16.size inb)).write (Elt F) f w Finset.univ = sd f (off 0) w := by
  refine (View.write_whole_slice_unit cc0_scratch8 off S16.size inb f w).trans ?_
  exact updateSlice_sd f w off inb

theorem rd_vb (off : Fin 1 → ℕ) (inb) (f : S16.Idx → Elt F (cc0_scratch9.ty.elt)) :
    (Memref.whole cc0_scratch9).view.readAt (Elt F) (Rect.unit (s := S16) off S16.size inb).toLoadRect f = ld f (off 0) := by
  funext x
  show f _ = f _
  congr 1
  funext a
  obtain rfl : a = (0 : Fin 1) := Subsingleton.elim (α := Fin 1) a 0
  have h1 : off 0 + 16 ≤ 16 := inb 0
  have h2 : (x 0).val < 16 := (x 0).isLt
  exact Fin.ext ((congrArg (off 0 + ·) (one_mul _)).trans (Nat.mod_eq_of_lt (show off 0 + (x 0).val < 16 by omega)).symm)

theorem wr_vb (off : Fin 1 → ℕ) (inb) (f : S16.Idx → Elt F (cc0_scratch9.ty.elt)) (w : S16.Idx → Elt F (cc0_scratch9.ty.elt)) :
    ((Memref.whole cc0_scratch9).access (Rect.unit (s := S16) off S16.size inb)).write (Elt F) f w Finset.univ = sd f (off 0) w := by
  refine (View.write_whole_slice_unit cc0_scratch9 off S16.size inb f w).trans ?_
  exact updateSlice_sd f w off inb

/-! ### The run -/

/-- The buffers held: all ten, or all but the one a copy out is reading. -/
def Ls (o : Bool) : Finset (Ref sig .scVector) :=
  bif o then {cc0_scratch0, cc0_scratch1, cc0_scratch2, cc0_scratch3, cc0_scratch4, cc0_scratch5, cc0_scratch6, cc0_scratch7, cc0_scratch8, cc0_scratch9}
  else {cc0_scratch0, cc0_scratch2, cc0_scratch3, cc0_scratch4, cc0_scratch5, cc0_scratch6, cc0_scratch7, cc0_scratch8, cc0_scratch9}

theorem mem_s (o : Bool) : cc0_scratch0 ∈ Ls o := by cases o <;> decide
theorem mem_o : cc0_scratch1 ∈ Ls true := by decide
theorem mem_m1 (o : Bool) : cc0_scratch2 ∈ Ls o := by cases o <;> decide
theorem mem_m2 (o : Bool) : cc0_scratch3 ∈ Ls o := by cases o <;> decide
theorem mem_tk (o : Bool) : cc0_scratch4 ∈ Ls o := by cases o <;> decide
theorem mem_tp (o : Bool) : cc0_scratch5 ∈ Ls o := by cases o <;> decide
theorem mem_rk (o : Bool) : cc0_scratch6 ∈ Ls o := by cases o <;> decide
theorem mem_hi (o : Bool) : cc0_scratch7 ∈ Ls o := by cases o <;> decide
theorem mem_kb (o : Bool) : cc0_scratch8 ∈ Ls o := by cases o <;> decide
theorem mem_vb (o : Bool) : cc0_scratch9 ∈ Ls o := by cases o <;> decide

variable (o : Bool)

/-- The program from its first effect that is not local, and the contents there. -/
def run {β : Type} (o : Bool) (base : Bufs sig (Elt F) (th d C T)) (m : Mem F) (p : Prog (TpuEff nD τ sig (Elt F) Λ₀ (.scVector C T)) β) :=
  res (th d C T) (Ls o) p (toSt base m)

variable {β : Type}

theorem run_ret (a : β) : run o base m (.ret a) = (.ret a, toSt base m) := rfl

theorem run_assume {P : Prop} {dec : Decidable P} (h : P) (k : PLift P → Prog (TpuEff nD τ sig (Elt F) Λ₀ (.scVector C T)) β) :
    run o base m (Prog.lift (.assume P dec) >>= k) = run o base m (k ⟨h⟩) := dif_pos h

theorem run_for {σ : Type} {w : ℕ} (lb ub st : BitVec w) (hok) (init : σ)
    (body : Fin (Scf.trips lb ub st) → σ → Prog (TpuEff nD τ sig (Elt F) Λ₀ (.scVector C T)) σ) {N : ℕ} (hN : Scf.trips lb ub st = N)
    (f : ℕ → σ × Mem F → σ × Mem F) (k : σ → Prog (TpuEff nD τ sig (Elt F) Λ₀ (.scVector C T)) β)
    (h : ∀ (i : Fin (Scf.trips lb ub st)) (a : σ) (m : Mem F) (K : σ → Prog (TpuEff nD τ sig (Elt F) Λ₀ (.scVector C T)) β),
      run o base m (body i a >>= K) = run o base (f i.val (a, m)).2 (K (f i.val (a, m)).1)) :
    run o base m (Scf.for lb ub st hok init body >>= k) = run o base (iter N f (init, m)).2 (k (iter N f (init, m)).1) := by
  subst hN
  rw [Scf.for_eq]
  have hl : ∀ (l : List (Fin (Scf.trips lb ub st))) (a : σ) (m : Mem F),
      run o base m (Scf.forFrom body l a >>= k)
        = run o base (l.foldl (fun p i => f i.val p) (a, m)).2 (k (l.foldl (fun p i => f i.val p) (a, m)).1) := by
    intro l
    induction l with
    | nil => intro a m; rfl
    | cons i l ih =>
      intro a m
      show run o base m ((body i a >>= fun a' => Scf.forFrom body l a') >>= k) = _
      rw [bind_assoc, h i a m, ih, List.foldl_cons]
  rw [hl]
  have hr : ∀ p, (List.finRange (Scf.trips lb ub st)).foldl (fun p i => f i.val p) p = iter (Scf.trips lb ub st) f p := by
    intro p
    unfold iter
    rw [← List.map_coe_finRange_eq_range, List.foldl_map]
  rw [hr]

/-- A loop that leaves the buffers alone. -/
theorem run_for_acc {σ : Type} {w : ℕ} (lb ub st : BitVec w) (hok) (init : σ)
    (body : Fin (Scf.trips lb ub st) → σ → Prog (TpuEff nD τ sig (Elt F) Λ₀ (.scVector C T)) σ) {N : ℕ} (hN : Scf.trips lb ub st = N)
    (f : ℕ → σ → σ) (k : σ → Prog (TpuEff nD τ sig (Elt F) Λ₀ (.scVector C T)) β)
    (h : ∀ (i : Fin (Scf.trips lb ub st)) (a : σ) (K : σ → Prog (TpuEff nD τ sig (Elt F) Λ₀ (.scVector C T)) β),
      run o base m (body i a >>= K) = run o base m (K (f i.val a))) :
    run o base m (Scf.for lb ub st hok init body >>= k) = run o base m (k (iter N f init)) := by
  subst hN
  rw [Scf.for_eq]
  have hl : ∀ (l : List (Fin (Scf.trips lb ub st))) (a : σ),
      run o base m (Scf.forFrom body l a >>= k) = run o base m (k (l.foldl (fun p i => f i.val p) a)) := by
    intro l
    induction l with
    | nil => intro a; rfl
    | cons i l ih =>
      intro a
      show run o base m ((body i a >>= fun a' => Scf.forFrom body l a') >>= k) = _
      rw [bind_assoc, h i a, ih, List.foldl_cons]
  rw [hl]
  have hr : ∀ p, (List.finRange (Scf.trips lb ub st)).foldl (fun p i => f i.val p) p = iter (Scf.trips lb ub st) f p := by
    intro p
    unfold iter
    rw [← List.map_coe_finRange_eq_range, List.foldl_map]
  rw [hr]

theorem run_ld_s (off : Fin 1 → ℕ) (inb) (h) (k : Vec F S16 .f32 → Prog (TpuEff nD τ sig (Elt F) Λ₀ (.scVector C T)) β) :
    run o base m (@Bind.bind (Prog (TpuEff nD τ sig (Elt F) Λ₀ (.scVector C T))) _ (Vec F S16 .f32) _ (Prog.lift (α := Vec F S16 .f32) (TpuEff.load (cs := .vmem) (s := S32768) (e := .f32) (Memref.whole cc0_scratch0) (Rect.unit (s := S32768) off ![16] inb).toLoadRect h)) k)
      = run o base m (k (ld m.s (off 0))) := by
  unfold run
  rw [res_load (th d C T) (m := (Memref.whole cc0_scratch0)) _ _ _ _ (mem_s o)]
  show res (th d C T) (Ls o) (k ((Memref.whole cc0_scratch0).view.readAt (Elt F) (Rect.unit (s := S32768) off S16.size inb).toLoadRect (toSt base m cc0_scratch0))) _ = _
  rw [toSt_s, rd_s]

theorem run_sd_s (off : Fin 1 → ℕ) (inb) (w : Vec F S16 .f32) (h hm) (k : PUnit → Prog (TpuEff nD τ sig (Elt F) Λ₀ (.scVector C T)) β) :
    run o base m (Prog.lift (TpuEff.store (cs := .vmem) (s := S32768) (e := .f32) (Memref.whole cc0_scratch0) (Rect.unit (s := S32768) off ![16] inb) w Finset.univ h hm) >>= k)
      = run o base { m with s := sd m.s (off 0) w } (k ⟨⟩) := by
  unfold run
  rw [res_store (th d C T) (m := (Memref.whole cc0_scratch0)) _ _ _ _ _ _ _ (mem_s o)]
  show res (th d C T) (Ls o) (k ⟨⟩) (Function.update (toSt base m) cc0_scratch0
    (((Memref.whole cc0_scratch0).access (Rect.unit (s := S32768) off S16.size inb)).write (Elt F) (toSt base m cc0_scratch0) w Finset.univ)) = _
  rw [toSt_s, wr_s, up_s]

theorem run_gat_s (v : IVec S16 32) (hi hl) (k : Vec F S16 .f32 → Prog (TpuEff nD τ sig (Elt F) Λ₀ (.scVector C T)) β) :
    run o base m (SparseCore.vectorLoadIdx (s := S32768) (e := .f32) (t := S16) (Memref.whole cc0_scratch0) ![v] hi hl >>= k) = run o base m (k (gat m.s v)) := by
  unfold run
  rw [res_loadIdx (th d C T) (m := (Memref.whole cc0_scratch0)) _ _ _ _ _ (mem_s o)]
  show res (th d C T) (Ls o) (k (loadIdx ((Memref.whole cc0_scratch0).view.readAt (Elt F) (LoadRect.whole _) (toSt base m cc0_scratch0)) ![v] hi)) _ = _
  rw [toSt_s, Memref.readAt_whole]
  exact congrArg (fun z => res (th d C T) (Ls o) (k z) (toSt base m)) (loadIdx_gat (n := 32768) (k := 16) m.s v hi)

theorem run_sca_s (v : IVec S16 32) (w : Vec F S16 .f32) (mask : IVec S16 1) (hi hl) (k : PUnit → Prog (TpuEff nD τ sig (Elt F) Λ₀ (.scVector C T)) β) :
    run o base m (SparseCore.vectorStoreIdx (s := S32768) (e := .f32) (d := ![16]) (Memref.whole cc0_scratch0) ![v] w mask false hi hl >>= k)
      = run o base { m with s := sca m.s v w mask } (k ⟨⟩) := by
  unfold run
  rw [res_storeIdx (th d C T) (m := (Memref.whole cc0_scratch0)) _ _ _ _ _ _ _ _ (mem_s o)]
  show res (th d C T) (Ls o) (k ⟨⟩) (Function.update (toSt base m) cc0_scratch0
    (((Memref.whole cc0_scratch0).access (Rect.whole _)).write (Elt F) (toSt base m cc0_scratch0)
      (storeIdx ((Memref.whole cc0_scratch0).view.readAt (Elt F) (LoadRect.whole _) (toSt base m cc0_scratch0)) ![v] w mask false hi) Finset.univ)) = _
  rw [toSt_s, Memref.readAt_whole, Memref.write_access_whole_univ]
  refine (congrArg (fun z => res (th d C T) (Ls o) (k ⟨⟩) (Function.update (toSt base m) cc0_scratch0 z))
    (storeIdx_sca (n := 32768) m.s v w mask hi)).trans ?_
  rw [up_s]

theorem run_ld_o (off : Fin 1 → ℕ) (inb) (h) (k : Vec F S16 .f32 → Prog (TpuEff nD τ sig (Elt F) Λ₀ (.scVector C T)) β) :
    run true base m (@Bind.bind (Prog (TpuEff nD τ sig (Elt F) Λ₀ (.scVector C T))) _ (Vec F S16 .f32) _ (Prog.lift (α := Vec F S16 .f32) (TpuEff.load (cs := .vmem) (s := S32768) (e := .f32) (Memref.whole cc0_scratch1) (Rect.unit (s := S32768) off ![16] inb).toLoadRect h)) k)
      = run true base m (k (ld m.o (off 0))) := by
  unfold run
  rw [res_load (th d C T) (m := (Memref.whole cc0_scratch1)) _ _ _ _ mem_o]
  show res (th d C T) (Ls true) (k ((Memref.whole cc0_scratch1).view.readAt (Elt F) (Rect.unit (s := S32768) off S16.size inb).toLoadRect (toSt base m cc0_scratch1))) _ = _
  rw [toSt_o, rd_o]

theorem run_sd_o (off : Fin 1 → ℕ) (inb) (w : Vec F S16 .f32) (h hm) (k : PUnit → Prog (TpuEff nD τ sig (Elt F) Λ₀ (.scVector C T)) β) :
    run true base m (Prog.lift (TpuEff.store (cs := .vmem) (s := S32768) (e := .f32) (Memref.whole cc0_scratch1) (Rect.unit (s := S32768) off ![16] inb) w Finset.univ h hm) >>= k)
      = run true base { m with o := sd m.o (off 0) w } (k ⟨⟩) := by
  unfold run
  rw [res_store (th d C T) (m := (Memref.whole cc0_scratch1)) _ _ _ _ _ _ _ mem_o]
  show res (th d C T) (Ls true) (k ⟨⟩) (Function.update (toSt base m) cc0_scratch1
    (((Memref.whole cc0_scratch1).access (Rect.unit (s := S32768) off S16.size inb)).write (Elt F) (toSt base m cc0_scratch1) w Finset.univ)) = _
  rw [toSt_o, wr_o, up_o]

theorem run_gat_o (v : IVec S16 32) (hi hl) (k : Vec F S16 .f32 → Prog (TpuEff nD τ sig (Elt F) Λ₀ (.scVector C T)) β) :
    run true base m (SparseCore.vectorLoadIdx (s := S32768) (e := .f32) (t := S16) (Memref.whole cc0_scratch1) ![v] hi hl >>= k) = run true base m (k (gat m.o v)) := by
  unfold run
  rw [res_loadIdx (th d C T) (m := (Memref.whole cc0_scratch1)) _ _ _ _ _ mem_o]
  show res (th d C T) (Ls true) (k (loadIdx ((Memref.whole cc0_scratch1).view.readAt (Elt F) (LoadRect.whole _) (toSt base m cc0_scratch1)) ![v] hi)) _ = _
  rw [toSt_o, Memref.readAt_whole]
  exact congrArg (fun z => res (th d C T) (Ls true) (k z) (toSt base m)) (loadIdx_gat (n := 32768) (k := 16) m.o v hi)

theorem run_sca_o (v : IVec S16 32) (w : Vec F S16 .f32) (mask : IVec S16 1) (hi hl) (k : PUnit → Prog (TpuEff nD τ sig (Elt F) Λ₀ (.scVector C T)) β) :
    run true base m (SparseCore.vectorStoreIdx (s := S32768) (e := .f32) (d := ![16]) (Memref.whole cc0_scratch1) ![v] w mask false hi hl >>= k)
      = run true base { m with o := sca m.o v w mask } (k ⟨⟩) := by
  unfold run
  rw [res_storeIdx (th d C T) (m := (Memref.whole cc0_scratch1)) _ _ _ _ _ _ _ _ mem_o]
  show res (th d C T) (Ls true) (k ⟨⟩) (Function.update (toSt base m) cc0_scratch1
    (((Memref.whole cc0_scratch1).access (Rect.whole _)).write (Elt F) (toSt base m cc0_scratch1)
      (storeIdx ((Memref.whole cc0_scratch1).view.readAt (Elt F) (LoadRect.whole _) (toSt base m cc0_scratch1)) ![v] w mask false hi) Finset.univ)) = _
  rw [toSt_o, Memref.readAt_whole, Memref.write_access_whole_univ]
  refine (congrArg (fun z => res (th d C T) (Ls true) (k ⟨⟩) (Function.update (toSt base m) cc0_scratch1 z))
    (storeIdx_sca (n := 32768) m.o v w mask hi)).trans ?_
  rw [up_o]

theorem run_ld_m1 (off : Fin 1 → ℕ) (inb) (h) (k : Vec F S16 .f32 → Prog (TpuEff nD τ sig (Elt F) Λ₀ (.scVector C T)) β) :
    run o base m (@Bind.bind (Prog (TpuEff nD τ sig (Elt F) Λ₀ (.scVector C T))) _ (Vec F S16 .f32) _ (Prog.lift (α := Vec F S16 .f32) (TpuEff.load (cs := .vmem) (s := S2048) (e := .f32) (Memref.whole cc0_scratch2) (Rect.unit (s := S2048) off ![16] inb).toLoadRect h)) k)
      = run o base m (k (ld m.m1 (off 0))) := by
  unfold run
  rw [res_load (th d C T) (m := (Memref.whole cc0_scratch2)) _ _ _ _ (mem_m1 o)]
  show res (th d C T) (Ls o) (k ((Memref.whole cc0_scratch2).view.readAt (Elt F) (Rect.unit (s := S2048) off S16.size inb).toLoadRect (toSt base m cc0_scratch2))) _ = _
  rw [toSt_m1, rd_m1]

theorem run_sd_m1 (off : Fin 1 → ℕ) (inb) (w : Vec F S16 .f32) (h hm) (k : PUnit → Prog (TpuEff nD τ sig (Elt F) Λ₀ (.scVector C T)) β) :
    run o base m (Prog.lift (TpuEff.store (cs := .vmem) (s := S2048) (e := .f32) (Memref.whole cc0_scratch2) (Rect.unit (s := S2048) off ![16] inb) w Finset.univ h hm) >>= k)
      = run o base { m with m1 := sd m.m1 (off 0) w } (k ⟨⟩) := by
  unfold run
  rw [res_store (th d C T) (m := (Memref.whole cc0_scratch2)) _ _ _ _ _ _ _ (mem_m1 o)]
  show res (th d C T) (Ls o) (k ⟨⟩) (Function.update (toSt base m) cc0_scratch2
    (((Memref.whole cc0_scratch2).access (Rect.unit (s := S2048) off S16.size inb)).write (Elt F) (toSt base m cc0_scratch2) w Finset.univ)) = _
  rw [toSt_m1, wr_m1, up_m1]

theorem run_gat_m1 (v : IVec S16 32) (hi hl) (k : Vec F S16 .f32 → Prog (TpuEff nD τ sig (Elt F) Λ₀ (.scVector C T)) β) :
    run o base m (SparseCore.vectorLoadIdx (s := S2048) (e := .f32) (t := S16) (Memref.whole cc0_scratch2) ![v] hi hl >>= k) = run o base m (k (gat m.m1 v)) := by
  unfold run
  rw [res_loadIdx (th d C T) (m := (Memref.whole cc0_scratch2)) _ _ _ _ _ (mem_m1 o)]
  show res (th d C T) (Ls o) (k (loadIdx ((Memref.whole cc0_scratch2).view.readAt (Elt F) (LoadRect.whole _) (toSt base m cc0_scratch2)) ![v] hi)) _ = _
  rw [toSt_m1, Memref.readAt_whole]
  exact congrArg (fun z => res (th d C T) (Ls o) (k z) (toSt base m)) (loadIdx_gat (n := 2048) (k := 16) m.m1 v hi)

theorem run_sca_m1 (v : IVec S16 32) (w : Vec F S16 .f32) (mask : IVec S16 1) (hi hl) (k : PUnit → Prog (TpuEff nD τ sig (Elt F) Λ₀ (.scVector C T)) β) :
    run o base m (SparseCore.vectorStoreIdx (s := S2048) (e := .f32) (d := ![16]) (Memref.whole cc0_scratch2) ![v] w mask false hi hl >>= k)
      = run o base { m with m1 := sca m.m1 v w mask } (k ⟨⟩) := by
  unfold run
  rw [res_storeIdx (th d C T) (m := (Memref.whole cc0_scratch2)) _ _ _ _ _ _ _ _ (mem_m1 o)]
  show res (th d C T) (Ls o) (k ⟨⟩) (Function.update (toSt base m) cc0_scratch2
    (((Memref.whole cc0_scratch2).access (Rect.whole _)).write (Elt F) (toSt base m cc0_scratch2)
      (storeIdx ((Memref.whole cc0_scratch2).view.readAt (Elt F) (LoadRect.whole _) (toSt base m cc0_scratch2)) ![v] w mask false hi) Finset.univ)) = _
  rw [toSt_m1, Memref.readAt_whole, Memref.write_access_whole_univ]
  refine (congrArg (fun z => res (th d C T) (Ls o) (k ⟨⟩) (Function.update (toSt base m) cc0_scratch2 z))
    (storeIdx_sca (n := 2048) m.m1 v w mask hi)).trans ?_
  rw [up_m1]

theorem run_ld_m2 (off : Fin 1 → ℕ) (inb) (h) (k : Vec F S16 .f32 → Prog (TpuEff nD τ sig (Elt F) Λ₀ (.scVector C T)) β) :
    run o base m (@Bind.bind (Prog (TpuEff nD τ sig (Elt F) Λ₀ (.scVector C T))) _ (Vec F S16 .f32) _ (Prog.lift (α := Vec F S16 .f32) (TpuEff.load (cs := .vmem) (s := S128) (e := .f32) (Memref.whole cc0_scratch3) (Rect.unit (s := S128) off ![16] inb).toLoadRect h)) k)
      = run o base m (k (ld m.m2 (off 0))) := by
  unfold run
  rw [res_load (th d C T) (m := (Memref.whole cc0_scratch3)) _ _ _ _ (mem_m2 o)]
  show res (th d C T) (Ls o) (k ((Memref.whole cc0_scratch3).view.readAt (Elt F) (Rect.unit (s := S128) off S16.size inb).toLoadRect (toSt base m cc0_scratch3))) _ = _
  rw [toSt_m2, rd_m2]

theorem run_sd_m2 (off : Fin 1 → ℕ) (inb) (w : Vec F S16 .f32) (h hm) (k : PUnit → Prog (TpuEff nD τ sig (Elt F) Λ₀ (.scVector C T)) β) :
    run o base m (Prog.lift (TpuEff.store (cs := .vmem) (s := S128) (e := .f32) (Memref.whole cc0_scratch3) (Rect.unit (s := S128) off ![16] inb) w Finset.univ h hm) >>= k)
      = run o base { m with m2 := sd m.m2 (off 0) w } (k ⟨⟩) := by
  unfold run
  rw [res_store (th d C T) (m := (Memref.whole cc0_scratch3)) _ _ _ _ _ _ _ (mem_m2 o)]
  show res (th d C T) (Ls o) (k ⟨⟩) (Function.update (toSt base m) cc0_scratch3
    (((Memref.whole cc0_scratch3).access (Rect.unit (s := S128) off S16.size inb)).write (Elt F) (toSt base m cc0_scratch3) w Finset.univ)) = _
  rw [toSt_m2, wr_m2, up_m2]

theorem run_gat_m2 (v : IVec S16 32) (hi hl) (k : Vec F S16 .f32 → Prog (TpuEff nD τ sig (Elt F) Λ₀ (.scVector C T)) β) :
    run o base m (SparseCore.vectorLoadIdx (s := S128) (e := .f32) (t := S16) (Memref.whole cc0_scratch3) ![v] hi hl >>= k) = run o base m (k (gat m.m2 v)) := by
  unfold run
  rw [res_loadIdx (th d C T) (m := (Memref.whole cc0_scratch3)) _ _ _ _ _ (mem_m2 o)]
  show res (th d C T) (Ls o) (k (loadIdx ((Memref.whole cc0_scratch3).view.readAt (Elt F) (LoadRect.whole _) (toSt base m cc0_scratch3)) ![v] hi)) _ = _
  rw [toSt_m2, Memref.readAt_whole]
  exact congrArg (fun z => res (th d C T) (Ls o) (k z) (toSt base m)) (loadIdx_gat (n := 128) (k := 16) m.m2 v hi)

theorem run_sca_m2 (v : IVec S16 32) (w : Vec F S16 .f32) (mask : IVec S16 1) (hi hl) (k : PUnit → Prog (TpuEff nD τ sig (Elt F) Λ₀ (.scVector C T)) β) :
    run o base m (SparseCore.vectorStoreIdx (s := S128) (e := .f32) (d := ![16]) (Memref.whole cc0_scratch3) ![v] w mask false hi hl >>= k)
      = run o base { m with m2 := sca m.m2 v w mask } (k ⟨⟩) := by
  unfold run
  rw [res_storeIdx (th d C T) (m := (Memref.whole cc0_scratch3)) _ _ _ _ _ _ _ _ (mem_m2 o)]
  show res (th d C T) (Ls o) (k ⟨⟩) (Function.update (toSt base m) cc0_scratch3
    (((Memref.whole cc0_scratch3).access (Rect.whole _)).write (Elt F) (toSt base m cc0_scratch3)
      (storeIdx ((Memref.whole cc0_scratch3).view.readAt (Elt F) (LoadRect.whole _) (toSt base m cc0_scratch3)) ![v] w mask false hi) Finset.univ)) = _
  rw [toSt_m2, Memref.readAt_whole, Memref.write_access_whole_univ]
  refine (congrArg (fun z => res (th d C T) (Ls o) (k ⟨⟩) (Function.update (toSt base m) cc0_scratch3 z))
    (storeIdx_sca (n := 128) m.m2 v w mask hi)).trans ?_
  rw [up_m2]

theorem run_ld_tk (off : Fin 1 → ℕ) (inb) (h) (k : Vec F S16 .f32 → Prog (TpuEff nD τ sig (Elt F) Λ₀ (.scVector C T)) β) :
    run o base m (@Bind.bind (Prog (TpuEff nD τ sig (Elt F) Λ₀ (.scVector C T))) _ (Vec F S16 .f32) _ (Prog.lift (α := Vec F S16 .f32) (TpuEff.load (cs := .vmem) (s := S1024) (e := .f32) (Memref.whole cc0_scratch4) (Rect.unit (s := S1024) off ![16] inb).toLoadRect h)) k)
      = run o base m (k (ld m.tk (off 0))) := by
  unfold run
  rw [res_load (th d C T) (m := (Memref.whole cc0_scratch4)) _ _ _ _ (mem_tk o)]
  show res (th d C T) (Ls o) (k ((Memref.whole cc0_scratch4).view.readAt (Elt F) (Rect.unit (s := S1024) off S16.size inb).toLoadRect (toSt base m cc0_scratch4))) _ = _
  rw [toSt_tk, rd_tk]

theorem run_sd_tk (off : Fin 1 → ℕ) (inb) (w : Vec F S16 .f32) (h hm) (k : PUnit → Prog (TpuEff nD τ sig (Elt F) Λ₀ (.scVector C T)) β) :
    run o base m (Prog.lift (TpuEff.store (cs := .vmem) (s := S1024) (e := .f32) (Memref.whole cc0_scratch4) (Rect.unit (s := S1024) off ![16] inb) w Finset.univ h hm) >>= k)
      = run o base { m with tk := sd m.tk (off 0) w } (k ⟨⟩) := by
  unfold run
  rw [res_store (th d C T) (m := (Memref.whole cc0_scratch4)) _ _ _ _ _ _ _ (mem_tk o)]
  show res (th d C T) (Ls o) (k ⟨⟩) (Function.update (toSt base m) cc0_scratch4
    (((Memref.whole cc0_scratch4).access (Rect.unit (s := S1024) off S16.size inb)).write (Elt F) (toSt base m cc0_scratch4) w Finset.univ)) = _
  rw [toSt_tk, wr_tk, up_tk]

theorem run_gat_tk (v : IVec S16 32) (hi hl) (k : Vec F S16 .f32 → Prog (TpuEff nD τ sig (Elt F) Λ₀ (.scVector C T)) β) :
    run o base m (SparseCore.vectorLoadIdx (s := S1024) (e := .f32) (t := S16) (Memref.whole cc0_scratch4) ![v] hi hl >>= k) = run o base m (k (gat m.tk v)) := by
  unfold run
  rw [res_loadIdx (th d C T) (m := (Memref.whole cc0_scratch4)) _ _ _ _ _ (mem_tk o)]
  show res (th d C T) (Ls o) (k (loadIdx ((Memref.whole cc0_scratch4).view.readAt (Elt F) (LoadRect.whole _) (toSt base m cc0_scratch4)) ![v] hi)) _ = _
  rw [toSt_tk, Memref.readAt_whole]
  exact congrArg (fun z => res (th d C T) (Ls o) (k z) (toSt base m)) (loadIdx_gat (n := 1024) (k := 16) m.tk v hi)

theorem run_sca_tk (v : IVec S16 32) (w : Vec F S16 .f32) (mask : IVec S16 1) (hi hl) (k : PUnit → Prog (TpuEff nD τ sig (Elt F) Λ₀ (.scVector C T)) β) :
    run o base m (SparseCore.vectorStoreIdx (s := S1024) (e := .f32) (d := ![16]) (Memref.whole cc0_scratch4) ![v] w mask false hi hl >>= k)
      = run o base { m with tk := sca m.tk v w mask } (k ⟨⟩) := by
  unfold run
  rw [res_storeIdx (th d C T) (m := (Memref.whole cc0_scratch4)) _ _ _ _ _ _ _ _ (mem_tk o)]
  show res (th d C T) (Ls o) (k ⟨⟩) (Function.update (toSt base m) cc0_scratch4
    (((Memref.whole cc0_scratch4).access (Rect.whole _)).write (Elt F) (toSt base m cc0_scratch4)
      (storeIdx ((Memref.whole cc0_scratch4).view.readAt (Elt F) (LoadRect.whole _) (toSt base m cc0_scratch4)) ![v] w mask false hi) Finset.univ)) = _
  rw [toSt_tk, Memref.readAt_whole, Memref.write_access_whole_univ]
  refine (congrArg (fun z => res (th d C T) (Ls o) (k ⟨⟩) (Function.update (toSt base m) cc0_scratch4 z))
    (storeIdx_sca (n := 1024) m.tk v w mask hi)).trans ?_
  rw [up_tk]

theorem run_ld_tp (off : Fin 1 → ℕ) (inb) (h) (k : Vec F S16 .i32 → Prog (TpuEff nD τ sig (Elt F) Λ₀ (.scVector C T)) β) :
    run o base m (@Bind.bind (Prog (TpuEff nD τ sig (Elt F) Λ₀ (.scVector C T))) _ (Vec F S16 .i32) _ (Prog.lift (α := Vec F S16 .i32) (TpuEff.load (cs := .vmem) (s := S64) (e := .i32) (Memref.whole cc0_scratch5) (Rect.unit (s := S64) off ![16] inb).toLoadRect h)) k)
      = run o base m (k (ld m.tp (off 0))) := by
  unfold run
  rw [res_load (th d C T) (m := (Memref.whole cc0_scratch5)) _ _ _ _ (mem_tp o)]
  show res (th d C T) (Ls o) (k ((Memref.whole cc0_scratch5).view.readAt (Elt F) (Rect.unit (s := S64) off S16.size inb).toLoadRect (toSt base m cc0_scratch5))) _ = _
  rw [toSt_tp, rd_tp]

theorem run_sd_tp (off : Fin 1 → ℕ) (inb) (w : Vec F S16 .i32) (h hm) (k : PUnit → Prog (TpuEff nD τ sig (Elt F) Λ₀ (.scVector C T)) β) :
    run o base m (Prog.lift (TpuEff.store (cs := .vmem) (s := S64) (e := .i32) (Memref.whole cc0_scratch5) (Rect.unit (s := S64) off ![16] inb) w Finset.univ h hm) >>= k)
      = run o base { m with tp := sd m.tp (off 0) w } (k ⟨⟩) := by
  unfold run
  rw [res_store (th d C T) (m := (Memref.whole cc0_scratch5)) _ _ _ _ _ _ _ (mem_tp o)]
  show res (th d C T) (Ls o) (k ⟨⟩) (Function.update (toSt base m) cc0_scratch5
    (((Memref.whole cc0_scratch5).access (Rect.unit (s := S64) off S16.size inb)).write (Elt F) (toSt base m cc0_scratch5) w Finset.univ)) = _
  rw [toSt_tp, wr_tp, up_tp]

theorem run_gat_tp (v : IVec S16 32) (hi hl) (k : Vec F S16 .i32 → Prog (TpuEff nD τ sig (Elt F) Λ₀ (.scVector C T)) β) :
    run o base m (SparseCore.vectorLoadIdx (s := S64) (e := .i32) (t := S16) (Memref.whole cc0_scratch5) ![v] hi hl >>= k) = run o base m (k (gat m.tp v)) := by
  unfold run
  rw [res_loadIdx (th d C T) (m := (Memref.whole cc0_scratch5)) _ _ _ _ _ (mem_tp o)]
  show res (th d C T) (Ls o) (k (loadIdx ((Memref.whole cc0_scratch5).view.readAt (Elt F) (LoadRect.whole _) (toSt base m cc0_scratch5)) ![v] hi)) _ = _
  rw [toSt_tp, Memref.readAt_whole]
  exact congrArg (fun z => res (th d C T) (Ls o) (k z) (toSt base m)) (loadIdx_gat (n := 64) (k := 16) m.tp v hi)

theorem run_sca_tp (v : IVec S16 32) (w : Vec F S16 .i32) (mask : IVec S16 1) (hi hl) (k : PUnit → Prog (TpuEff nD τ sig (Elt F) Λ₀ (.scVector C T)) β) :
    run o base m (SparseCore.vectorStoreIdx (s := S64) (e := .i32) (d := ![16]) (Memref.whole cc0_scratch5) ![v] w mask false hi hl >>= k)
      = run o base { m with tp := sca m.tp v w mask } (k ⟨⟩) := by
  unfold run
  rw [res_storeIdx (th d C T) (m := (Memref.whole cc0_scratch5)) _ _ _ _ _ _ _ _ (mem_tp o)]
  show res (th d C T) (Ls o) (k ⟨⟩) (Function.update (toSt base m) cc0_scratch5
    (((Memref.whole cc0_scratch5).access (Rect.whole _)).write (Elt F) (toSt base m cc0_scratch5)
      (storeIdx ((Memref.whole cc0_scratch5).view.readAt (Elt F) (LoadRect.whole _) (toSt base m cc0_scratch5)) ![v] w mask false hi) Finset.univ)) = _
  rw [toSt_tp, Memref.readAt_whole, Memref.write_access_whole_univ]
  refine (congrArg (fun z => res (th d C T) (Ls o) (k ⟨⟩) (Function.update (toSt base m) cc0_scratch5 z))
    (storeIdx_sca (n := 64) m.tp v w mask hi)).trans ?_
  rw [up_tp]

theorem run_ld_rk (off : Fin 1 → ℕ) (inb) (h) (k : Vec F S16 .i32 → Prog (TpuEff nD τ sig (Elt F) Λ₀ (.scVector C T)) β) :
    run o base m (@Bind.bind (Prog (TpuEff nD τ sig (Elt F) Λ₀ (.scVector C T))) _ (Vec F S16 .i32) _ (Prog.lift (α := Vec F S16 .i32) (TpuEff.load (cs := .vmem) (s := S64) (e := .i32) (Memref.whole cc0_scratch6) (Rect.unit (s := S64) off ![16] inb).toLoadRect h)) k)
      = run o base m (k (ld m.rk (off 0))) := by
  unfold run
  rw [res_load (th d C T) (m := (Memref.whole cc0_scratch6)) _ _ _ _ (mem_rk o)]
  show res (th d C T) (Ls o) (k ((Memref.whole cc0_scratch6).view.readAt (Elt F) (Rect.unit (s := S64) off S16.size inb).toLoadRect (toSt base m cc0_scratch6))) _ = _
  rw [toSt_rk, rd_rk]

theorem run_sd_rk (off : Fin 1 → ℕ) (inb) (w : Vec F S16 .i32) (h hm) (k : PUnit → Prog (TpuEff nD τ sig (Elt F) Λ₀ (.scVector C T)) β) :
    run o base m (Prog.lift (TpuEff.store (cs := .vmem) (s := S64) (e := .i32) (Memref.whole cc0_scratch6) (Rect.unit (s := S64) off ![16] inb) w Finset.univ h hm) >>= k)
      = run o base { m with rk := sd m.rk (off 0) w } (k ⟨⟩) := by
  unfold run
  rw [res_store (th d C T) (m := (Memref.whole cc0_scratch6)) _ _ _ _ _ _ _ (mem_rk o)]
  show res (th d C T) (Ls o) (k ⟨⟩) (Function.update (toSt base m) cc0_scratch6
    (((Memref.whole cc0_scratch6).access (Rect.unit (s := S64) off S16.size inb)).write (Elt F) (toSt base m cc0_scratch6) w Finset.univ)) = _
  rw [toSt_rk, wr_rk, up_rk]

theorem run_gat_rk (v : IVec S16 32) (hi hl) (k : Vec F S16 .i32 → Prog (TpuEff nD τ sig (Elt F) Λ₀ (.scVector C T)) β) :
    run o base m (SparseCore.vectorLoadIdx (s := S64) (e := .i32) (t := S16) (Memref.whole cc0_scratch6) ![v] hi hl >>= k) = run o base m (k (gat m.rk v)) := by
  unfold run
  rw [res_loadIdx (th d C T) (m := (Memref.whole cc0_scratch6)) _ _ _ _ _ (mem_rk o)]
  show res (th d C T) (Ls o) (k (loadIdx ((Memref.whole cc0_scratch6).view.readAt (Elt F) (LoadRect.whole _) (toSt base m cc0_scratch6)) ![v] hi)) _ = _
  rw [toSt_rk, Memref.readAt_whole]
  exact congrArg (fun z => res (th d C T) (Ls o) (k z) (toSt base m)) (loadIdx_gat (n := 64) (k := 16) m.rk v hi)

theorem run_sca_rk (v : IVec S16 32) (w : Vec F S16 .i32) (mask : IVec S16 1) (hi hl) (k : PUnit → Prog (TpuEff nD τ sig (Elt F) Λ₀ (.scVector C T)) β) :
    run o base m (SparseCore.vectorStoreIdx (s := S64) (e := .i32) (d := ![16]) (Memref.whole cc0_scratch6) ![v] w mask false hi hl >>= k)
      = run o base { m with rk := sca m.rk v w mask } (k ⟨⟩) := by
  unfold run
  rw [res_storeIdx (th d C T) (m := (Memref.whole cc0_scratch6)) _ _ _ _ _ _ _ _ (mem_rk o)]
  show res (th d C T) (Ls o) (k ⟨⟩) (Function.update (toSt base m) cc0_scratch6
    (((Memref.whole cc0_scratch6).access (Rect.whole _)).write (Elt F) (toSt base m cc0_scratch6)
      (storeIdx ((Memref.whole cc0_scratch6).view.readAt (Elt F) (LoadRect.whole _) (toSt base m cc0_scratch6)) ![v] w mask false hi) Finset.univ)) = _
  rw [toSt_rk, Memref.readAt_whole, Memref.write_access_whole_univ]
  refine (congrArg (fun z => res (th d C T) (Ls o) (k ⟨⟩) (Function.update (toSt base m) cc0_scratch6 z))
    (storeIdx_sca (n := 64) m.rk v w mask hi)).trans ?_
  rw [up_rk]

theorem run_ld_hi (off : Fin 1 → ℕ) (inb) (h) (k : Vec F S16 .i32 → Prog (TpuEff nD τ sig (Elt F) Λ₀ (.scVector C T)) β) :
    run o base m (@Bind.bind (Prog (TpuEff nD τ sig (Elt F) Λ₀ (.scVector C T))) _ (Vec F S16 .i32) _ (Prog.lift (α := Vec F S16 .i32) (TpuEff.load (cs := .vmem) (s := S1040) (e := .i32) (Memref.whole cc0_scratch7) (Rect.unit (s := S1040) off ![16] inb).toLoadRect h)) k)
      = run o base m (k (ld m.hi (off 0))) := by
  unfold run
  rw [res_load (th d C T) (m := (Memref.whole cc0_scratch7)) _ _ _ _ (mem_hi o)]
  show res (th d C T) (Ls o) (k ((Memref.whole cc0_scratch7).view.readAt (Elt F) (Rect.unit (s := S1040) off S16.size inb).toLoadRect (toSt base m cc0_scratch7))) _ = _
  rw [toSt_hi, rd_hi]

theorem run_sd_hi (off : Fin 1 → ℕ) (inb) (w : Vec F S16 .i32) (h hm) (k : PUnit → Prog (TpuEff nD τ sig (Elt F) Λ₀ (.scVector C T)) β) :
    run o base m (Prog.lift (TpuEff.store (cs := .vmem) (s := S1040) (e := .i32) (Memref.whole cc0_scratch7) (Rect.unit (s := S1040) off ![16] inb) w Finset.univ h hm) >>= k)
      = run o base { m with hi := sd m.hi (off 0) w } (k ⟨⟩) := by
  unfold run
  rw [res_store (th d C T) (m := (Memref.whole cc0_scratch7)) _ _ _ _ _ _ _ (mem_hi o)]
  show res (th d C T) (Ls o) (k ⟨⟩) (Function.update (toSt base m) cc0_scratch7
    (((Memref.whole cc0_scratch7).access (Rect.unit (s := S1040) off S16.size inb)).write (Elt F) (toSt base m cc0_scratch7) w Finset.univ)) = _
  rw [toSt_hi, wr_hi, up_hi]

theorem run_gat_hi (v : IVec S16 32) (hi hl) (k : Vec F S16 .i32 → Prog (TpuEff nD τ sig (Elt F) Λ₀ (.scVector C T)) β) :
    run o base m (SparseCore.vectorLoadIdx (s := S1040) (e := .i32) (t := S16) (Memref.whole cc0_scratch7) ![v] hi hl >>= k) = run o base m (k (gat m.hi v)) := by
  unfold run
  rw [res_loadIdx (th d C T) (m := (Memref.whole cc0_scratch7)) _ _ _ _ _ (mem_hi o)]
  show res (th d C T) (Ls o) (k (loadIdx ((Memref.whole cc0_scratch7).view.readAt (Elt F) (LoadRect.whole _) (toSt base m cc0_scratch7)) ![v] hi)) _ = _
  rw [toSt_hi, Memref.readAt_whole]
  exact congrArg (fun z => res (th d C T) (Ls o) (k z) (toSt base m)) (loadIdx_gat (n := 1040) (k := 16) m.hi v hi)

theorem run_sca_hi (v : IVec S16 32) (w : Vec F S16 .i32) (mask : IVec S16 1) (hi hl) (k : PUnit → Prog (TpuEff nD τ sig (Elt F) Λ₀ (.scVector C T)) β) :
    run o base m (SparseCore.vectorStoreIdx (s := S1040) (e := .i32) (d := ![16]) (Memref.whole cc0_scratch7) ![v] w mask false hi hl >>= k)
      = run o base { m with hi := sca m.hi v w mask } (k ⟨⟩) := by
  unfold run
  rw [res_storeIdx (th d C T) (m := (Memref.whole cc0_scratch7)) _ _ _ _ _ _ _ _ (mem_hi o)]
  show res (th d C T) (Ls o) (k ⟨⟩) (Function.update (toSt base m) cc0_scratch7
    (((Memref.whole cc0_scratch7).access (Rect.whole _)).write (Elt F) (toSt base m cc0_scratch7)
      (storeIdx ((Memref.whole cc0_scratch7).view.readAt (Elt F) (LoadRect.whole _) (toSt base m cc0_scratch7)) ![v] w mask false hi) Finset.univ)) = _
  rw [toSt_hi, Memref.readAt_whole, Memref.write_access_whole_univ]
  refine (congrArg (fun z => res (th d C T) (Ls o) (k ⟨⟩) (Function.update (toSt base m) cc0_scratch7 z))
    (storeIdx_sca (n := 1040) m.hi v w mask hi)).trans ?_
  rw [up_hi]

theorem run_ld_kb (off : Fin 1 → ℕ) (inb) (h) (k : Vec F S16 .f32 → Prog (TpuEff nD τ sig (Elt F) Λ₀ (.scVector C T)) β) :
    run o base m (@Bind.bind (Prog (TpuEff nD τ sig (Elt F) Λ₀ (.scVector C T))) _ (Vec F S16 .f32) _ (Prog.lift (α := Vec F S16 .f32) (TpuEff.load (cs := .vmem) (s := S16) (e := .f32) (Memref.whole cc0_scratch8) (Rect.unit (s := S16) off ![16] inb).toLoadRect h)) k)
      = run o base m (k (ld m.kb (off 0))) := by
  unfold run
  rw [res_load (th d C T) (m := (Memref.whole cc0_scratch8)) _ _ _ _ (mem_kb o)]
  show res (th d C T) (Ls o) (k ((Memref.whole cc0_scratch8).view.readAt (Elt F) (Rect.unit (s := S16) off S16.size inb).toLoadRect (toSt base m cc0_scratch8))) _ = _
  rw [toSt_kb, rd_kb]

theorem run_sd_kb (off : Fin 1 → ℕ) (inb) (w : Vec F S16 .f32) (h hm) (k : PUnit → Prog (TpuEff nD τ sig (Elt F) Λ₀ (.scVector C T)) β) :
    run o base m (Prog.lift (TpuEff.store (cs := .vmem) (s := S16) (e := .f32) (Memref.whole cc0_scratch8) (Rect.unit (s := S16) off ![16] inb) w Finset.univ h hm) >>= k)
      = run o base { m with kb := sd m.kb (off 0) w } (k ⟨⟩) := by
  unfold run
  rw [res_store (th d C T) (m := (Memref.whole cc0_scratch8)) _ _ _ _ _ _ _ (mem_kb o)]
  show res (th d C T) (Ls o) (k ⟨⟩) (Function.update (toSt base m) cc0_scratch8
    (((Memref.whole cc0_scratch8).access (Rect.unit (s := S16) off S16.size inb)).write (Elt F) (toSt base m cc0_scratch8) w Finset.univ)) = _
  rw [toSt_kb, wr_kb, up_kb]

theorem run_gat_kb (v : IVec S16 32) (hi hl) (k : Vec F S16 .f32 → Prog (TpuEff nD τ sig (Elt F) Λ₀ (.scVector C T)) β) :
    run o base m (SparseCore.vectorLoadIdx (s := S16) (e := .f32) (t := S16) (Memref.whole cc0_scratch8) ![v] hi hl >>= k) = run o base m (k (gat m.kb v)) := by
  unfold run
  rw [res_loadIdx (th d C T) (m := (Memref.whole cc0_scratch8)) _ _ _ _ _ (mem_kb o)]
  show res (th d C T) (Ls o) (k (loadIdx ((Memref.whole cc0_scratch8).view.readAt (Elt F) (LoadRect.whole _) (toSt base m cc0_scratch8)) ![v] hi)) _ = _
  rw [toSt_kb, Memref.readAt_whole]
  exact congrArg (fun z => res (th d C T) (Ls o) (k z) (toSt base m)) (loadIdx_gat (n := 16) (k := 16) m.kb v hi)

theorem run_sca_kb (v : IVec S16 32) (w : Vec F S16 .f32) (mask : IVec S16 1) (hi hl) (k : PUnit → Prog (TpuEff nD τ sig (Elt F) Λ₀ (.scVector C T)) β) :
    run o base m (SparseCore.vectorStoreIdx (s := S16) (e := .f32) (d := ![16]) (Memref.whole cc0_scratch8) ![v] w mask false hi hl >>= k)
      = run o base { m with kb := sca m.kb v w mask } (k ⟨⟩) := by
  unfold run
  rw [res_storeIdx (th d C T) (m := (Memref.whole cc0_scratch8)) _ _ _ _ _ _ _ _ (mem_kb o)]
  show res (th d C T) (Ls o) (k ⟨⟩) (Function.update (toSt base m) cc0_scratch8
    (((Memref.whole cc0_scratch8).access (Rect.whole _)).write (Elt F) (toSt base m cc0_scratch8)
      (storeIdx ((Memref.whole cc0_scratch8).view.readAt (Elt F) (LoadRect.whole _) (toSt base m cc0_scratch8)) ![v] w mask false hi) Finset.univ)) = _
  rw [toSt_kb, Memref.readAt_whole, Memref.write_access_whole_univ]
  refine (congrArg (fun z => res (th d C T) (Ls o) (k ⟨⟩) (Function.update (toSt base m) cc0_scratch8 z))
    (storeIdx_sca (n := 16) m.kb v w mask hi)).trans ?_
  rw [up_kb]

theorem run_ld_vb (off : Fin 1 → ℕ) (inb) (h) (k : Vec F S16 .i32 → Prog (TpuEff nD τ sig (Elt F) Λ₀ (.scVector C T)) β) :
    run o base m (@Bind.bind (Prog (TpuEff nD τ sig (Elt F) Λ₀ (.scVector C T))) _ (Vec F S16 .i32) _ (Prog.lift (α := Vec F S16 .i32) (TpuEff.load (cs := .vmem) (s := S16) (e := .i32) (Memref.whole cc0_scratch9) (Rect.unit (s := S16) off ![16] inb).toLoadRect h)) k)
      = run o base m (k (ld m.vb (off 0))) := by
  unfold run
  rw [res_load (th d C T) (m := (Memref.whole cc0_scratch9)) _ _ _ _ (mem_vb o)]
  show res (th d C T) (Ls o) (k ((Memref.whole cc0_scratch9).view.readAt (Elt F) (Rect.unit (s := S16) off S16.size inb).toLoadRect (toSt base m cc0_scratch9))) _ = _
  rw [toSt_vb, rd_vb]

theorem run_sd_vb (off : Fin 1 → ℕ) (inb) (w : Vec F S16 .i32) (h hm) (k : PUnit → Prog (TpuEff nD τ sig (Elt F) Λ₀ (.scVector C T)) β) :
    run o base m (Prog.lift (TpuEff.store (cs := .vmem) (s := S16) (e := .i32) (Memref.whole cc0_scratch9) (Rect.unit (s := S16) off ![16] inb) w Finset.univ h hm) >>= k)
      = run o base { m with vb := sd m.vb (off 0) w } (k ⟨⟩) := by
  unfold run
  rw [res_store (th d C T) (m := (Memref.whole cc0_scratch9)) _ _ _ _ _ _ _ (mem_vb o)]
  show res (th d C T) (Ls o) (k ⟨⟩) (Function.update (toSt base m) cc0_scratch9
    (((Memref.whole cc0_scratch9).access (Rect.unit (s := S16) off S16.size inb)).write (Elt F) (toSt base m cc0_scratch9) w Finset.univ)) = _
  rw [toSt_vb, wr_vb, up_vb]

theorem run_gat_vb (v : IVec S16 32) (hi hl) (k : Vec F S16 .i32 → Prog (TpuEff nD τ sig (Elt F) Λ₀ (.scVector C T)) β) :
    run o base m (SparseCore.vectorLoadIdx (s := S16) (e := .i32) (t := S16) (Memref.whole cc0_scratch9) ![v] hi hl >>= k) = run o base m (k (gat m.vb v)) := by
  unfold run
  rw [res_loadIdx (th d C T) (m := (Memref.whole cc0_scratch9)) _ _ _ _ _ (mem_vb o)]
  show res (th d C T) (Ls o) (k (loadIdx ((Memref.whole cc0_scratch9).view.readAt (Elt F) (LoadRect.whole _) (toSt base m cc0_scratch9)) ![v] hi)) _ = _
  rw [toSt_vb, Memref.readAt_whole]
  exact congrArg (fun z => res (th d C T) (Ls o) (k z) (toSt base m)) (loadIdx_gat (n := 16) (k := 16) m.vb v hi)

theorem run_sca_vb (v : IVec S16 32) (w : Vec F S16 .i32) (mask : IVec S16 1) (hi hl) (k : PUnit → Prog (TpuEff nD τ sig (Elt F) Λ₀ (.scVector C T)) β) :
    run o base m (SparseCore.vectorStoreIdx (s := S16) (e := .i32) (d := ![16]) (Memref.whole cc0_scratch9) ![v] w mask false hi hl >>= k)
      = run o base { m with vb := sca m.vb v w mask } (k ⟨⟩) := by
  unfold run
  rw [res_storeIdx (th d C T) (m := (Memref.whole cc0_scratch9)) _ _ _ _ _ _ _ _ (mem_vb o)]
  show res (th d C T) (Ls o) (k ⟨⟩) (Function.update (toSt base m) cc0_scratch9
    (((Memref.whole cc0_scratch9).access (Rect.whole _)).write (Elt F) (toSt base m cc0_scratch9)
      (storeIdx ((Memref.whole cc0_scratch9).view.readAt (Elt F) (LoadRect.whole _) (toSt base m cc0_scratch9)) ![v] w mask false hi) Finset.univ)) = _
  rw [toSt_vb, Memref.readAt_whole, Memref.write_access_whole_univ]
  refine (congrArg (fun z => res (th d C T) (Ls o) (k ⟨⟩) (Function.update (toSt base m) cc0_scratch9 z))
    (storeIdx_sca (n := 16) m.vb v w mask hi)).trans ?_
  rw [up_vb]

end Cert.Proof.Mem
-- ==== Proof.Fun.lean ====
module
public import proofs.«01_k».proof.Proof.Mem
/-! The functions one row of the kernel computes, over any float values. -/
@[expose] public section
noncomputable section
namespace Cert.Proof.Mem
open Idealize.ShloMosaic
open Cert.KernelIdeal Cert.KernelIdeal.Facts₀ Cert.KernelIdeal.Facts
variable {F : FTy → Type} [FloatOps F]
variable [Facts]

/-- A vector of sixteen floats. -/
abbrev VF (F : FTy → Type) : Type := FVec F S16 .f32
/-- A vector of sixteen integers. -/
abbrev VI : Type := IVec S16 32

def io : VI := iota .scVector S16 32 [0] iota_S16_d0_w32_scVector
def bi (c : BitVec 32) : VI := broadcast S16 c
def bf (c : F .f32) : VF F := broadcast S16 c
def ninf : VF F := bf (Scalar.ofBits .f32 0xFF800000#32)
def zf : VF F := bf (Scalar.ofBits .f32 0x00000000#32)
/-- Every lane. -/
abbrev ones : IVec S16 1 := fun _ => 1#1

def vmax (v : VF F) : F .f32 :=
  (List.range 15).foldl (fun a k => Scalar.maximumf a (v (ix 16 (k + 1)))) (v (ix 16 0))
def vsum (v : VF F) : F .f32 :=
  (List.range 15).foldl (fun a k => Scalar.addf a (v (ix 16 (k + 1)))) (v (ix 16 0))
/-- The running sums, built lane by lane: the accumulator and the vector so far. -/
def vcum (v : VF F) : VF F :=
  ((List.range 15).foldl (fun (p : F .f32 × VF F) k =>
    (Scalar.addf p.1 (v (ix 16 (k + 1))),
      select (cmpi .eq io (bi (BitVec.ofNat 32 (k + 1)))) (bf (Scalar.addf p.1 (v (ix 16 (k + 1))))) p.2))
    (v (ix 16 0), v)).2
def topBit : BitVec 32 := 2147483648#32
/-- The first lane in a mask. -/
def ffs (c : IVec S16 1) (last : BitVec 32) : BitVec 32 :=
  extractAt (s := S16) ![15] (xori (scan .min (xori (select c io (bi last)) (bi topBit))) (bi topBit)) inpos_S16_p15

/-! ### Maximum and exponentials -/

def p1 (s : (A 32768).Idx → F .f32) (g : ℕ) (a : VF F × VF F × VF F × VF F) : VF F × VF F × VF F × VF F :=
  (maximumf a.1 (ld s (64 * g)), maximumf a.2.1 (ld s (64 * g + 16)), maximumf a.2.2.1 (ld s (64 * g + 32)),
    maximumf a.2.2.2 (ld s (64 * g + 48)))
def p1all (s : (A 32768).Idx → F .f32) : VF F × VF F × VF F × VF F := iter 512 (p1 s) (ninf, ninf, ninf, ninf)
def p1v (a : VF F × VF F × VF F × VF F) : VF F := maximumf (maximumf a.1 a.2.1) (maximumf a.2.2.1 a.2.2.2)

def p2in (mx : F .f32) (h k : ℕ) (p : (VF F × VF F × VF F) × Mem F) : (VF F × VF F × VF F) × Mem F :=
  ((p.1.2.1, addf p.1.1 (exp (subf (ld p.2.s (256 * h + 16 * k)) (bf mx))),
    select (cmpi .eq io (bi (BitVec.ofNat 32 k))) (bf (vmax (exp (subf (ld p.2.s (256 * h + 16 * k)) (bf mx))))) p.1.2.2),
   { p.2 with s := sd p.2.s (256 * h + 16 * k) (exp (subf (ld p.2.s (256 * h + 16 * k)) (bf mx))) })
def p2out (mx : F .f32) (h : ℕ) (p : (VF F × VF F) × Mem F) : (VF F × VF F) × Mem F :=
  let r := iter 16 (p2in mx h) ((p.1.1, p.1.2, ninf), p.2)
  ((r.1.1, r.1.2.1), { r.2 with m1 := sd r.2.m1 (16 * h) r.1.2.2 })
def p2all (mx : F .f32) (m : Mem F) : (VF F × VF F) × Mem F := iter 128 (p2out mx) ((zf, zf), m)

def m2in (m1 : (A 2048).Idx → F .f32) (q k : ℕ) (a : VF F) : VF F :=
  select (cmpi .eq io (bi (BitVec.ofNat 32 k))) (bf (vmax (ld m1 (256 * q + 16 * k)))) a
def m2out (q : ℕ) (p : BitVec 32 × Mem F) : BitVec 32 × Mem F :=
  (0#32, { p.2 with m2 := sd p.2.m2 (16 * q) (iter 16 (m2in p.2.m1 q) ninf) })
def m2all (m : Mem F) : Mem F := (iter 8 m2out (0#32, m)).2
def m3in (m2 : (A 128).Idx → F .f32) (q : ℕ) (a : VF F) : VF F :=
  select (cmpi .eq io (bi (BitVec.ofNat 32 q))) (bf (vmax (ld m2 (16 * q)))) a
def m3all (m : Mem F) : VF F := iter 8 (m3in m.m2) ninf

/-! ### Sorting sixty-four pairs -/

def cntStep (kb k : VF F) (b : ℕ) (r : VI) : VI :=
  addi r (select (select (cmpi .sgt io (bi (BitVec.ofNat 32 b)))
    (cmpf .ole (gat kb (bi (BitVec.ofNat 32 b))) k)
    (cmpf .olt (gat kb (bi (BitVec.ofNat 32 b))) k)) (bi 1#32) (bi 0#32))
def srtR (k : VF F) : VI := andi (iter 16 (cntStep k k) (bi 0#32)) (bi 15#32)
/-- Keys with their values. -/
abbrev KV (F : FTy → Type) : Type := VF F × VI
def srt (p : KV F) : KV F := (sca p.1 (srtR p.1) p.1 ones, sca p.2 (srtR p.1) p.2 ones)
def r15 : VI := subi (bi 15#32) io
def rvp (p : KV F) : KV F := (gat p.1 r15, gat p.2 r15)
def lop (a b : KV F) : KV F := (select (cmpf .ole a.1 b.1) a.1 b.1, select (cmpf .ole a.1 b.1) a.2 b.2)
def hip (a b : KV F) : KV F := (select (cmpf .ole a.1 b.1) b.1 a.1, select (cmpf .ole a.1 b.1) b.2 a.2)

def tkStep (v : VF F) (b : BitVec 32) (k : ℕ) (f : (A 1024).Idx → F .f32) : (A 1024).Idx → F .f32 :=
  sca f (addi (muli (addi io (bi b)) (bi 16#32)) (bi (BitVec.ofNat 32 k))) v ones

/-! ### Extraction -/

/-- What the extraction carries besides the buffers: the top maxima, the values and the indices found. -/
abbrev Ext (F : FTy → Type) : Type := VF F × VF F × VF F × VF F × VF F × VI × VI × VI × VI
/-- A floor division by sixteen as the kernel spells it. -/
def fdiv16 (a : BitVec 32) : BitVec 32 :=
  Scalar.select (Scalar.andi
    (Scalar.cmpi .ne
      (Scalar.subi (Scalar.extui (Scalar.cmpi .sgt a 0#32)) (Scalar.extui (Scalar.cmpi .slt a 0#32)))
      (Scalar.subi (Scalar.extui (Scalar.cmpi .sgt 16#32 0#32)) (Scalar.extui (Scalar.cmpi .slt 16#32 0#32))))
    (Scalar.cmpi .ne (Scalar.remsi a 16#32) 0#32)) (Scalar.subi (Scalar.divsi a 16#32) 1#32) (Scalar.divsi a 16#32)
def at_ (j : BitVec 32) (b : BitVec 32) : IVec S16 1 :=
  andi (broadcast S16 (Scalar.cmpi .eq (fdiv16 j) b))
    (cmpi .eq io (bi (Scalar.subi j (Scalar.muli (fdiv16 j) 16#32))))
def eQ (mv : F .f32) (v : VF F) (last : BitVec 32) : BitVec 32 := ffs (cmpf .oeq v (bf mv)) last
def extStep (j : ℕ) (p : Ext F × Mem F) : Ext F × Mem F :=
  let jb := BitVec.ofNat 32 j
  let mv := vmax p.1.1
  let q := eQ mv p.1.1 7#32
  let v2 := ld p.2.m2 (16 * q.toNat)
  let h1 := eQ mv v2 15#32
  let v1 := ld p.2.m1 (256 * q.toNat + 16 * h1.toNat)
  let g1 := eQ mv v1 15#32
  let ve := ld p.2.s (4096 * q.toNat + 256 * h1.toNat + 16 * g1.toNat)
  let e2 := eQ mv ve 15#32
  let h := Scalar.addi (Scalar.muli q 16#32) h1
  let g := Scalar.addi (Scalar.muli h 16#32) g1
  let flat := Scalar.addi (Scalar.muli g 16#32) e2
  let ve' : VF F := select (cmpi .eq io (bi e2)) (bf (Scalar.ofBits .f32 0xBF800000#32)) ve
  let v1' : VF F := select (cmpi .eq io (bi (Scalar.subi g (Scalar.muli (fdiv16 g) 16#32)))) (bf (vmax ve')) v1
  let v2' : VF F := select (cmpi .eq io (bi (Scalar.subi h (Scalar.muli q 16#32)))) (bf (vmax v1')) v2
  let m3' : VF F := select (cmpi .eq io (bi q)) (bf (vmax v2')) p.1.1
  ((m3', select (at_ jb 0#32) (bf mv) p.1.2.1, select (at_ jb 1#32) (bf mv) p.1.2.2.1,
    select (at_ jb 2#32) (bf mv) p.1.2.2.2.1, select (at_ jb 3#32) (bf mv) p.1.2.2.2.2.1,
    select (at_ jb 0#32) (bi flat) p.1.2.2.2.2.2.1, select (at_ jb 1#32) (bi flat) p.1.2.2.2.2.2.2.1,
    select (at_ jb 2#32) (bi flat) p.1.2.2.2.2.2.2.2.1, select (at_ jb 3#32) (bi flat) p.1.2.2.2.2.2.2.2.2),
   { p.2 with
     s := sd p.2.s (4096 * q.toNat + 256 * h1.toNat + 16 * g1.toNat) ve'
     m1 := sd p.2.m1 (256 * q.toNat + 16 * h1.toNat) v1'
     m2 := sd p.2.m2 (16 * q.toNat) v2' })
def extAll (m3 : VF F) (m : Mem F) : Ext F × Mem F :=
  iter 64 extStep ((m3, zf, zf, zf, zf, bi 0#32, bi 0#32, bi 0#32, bi 0#32), m)
/-- The extracted values put back. -/
def restore (x : Ext F) (s : (A 32768).Idx → F .f32) : (A 32768).Idx → F .f32 :=
  sca (sca (sca (sca s x.2.2.2.2.2.1 x.2.1 ones) x.2.2.2.2.2.2.1 x.2.2.1 ones) x.2.2.2.2.2.2.2.1 x.2.2.2.1 ones)
    x.2.2.2.2.2.2.2.2 x.2.2.2.2.1 ones

/-! ### How many are kept -/

def popc (c : IVec S16 1) : BitVec 32 := scan .sum (select c (bi 1#32) (bi 0#32)) (ix 16 15)
def kkStep (v : VF F) (p : F .f32 × BitVec 32) : F .f32 × BitVec 32 :=
  (Scalar.addf p.1 (vsum v),
   Scalar.addi p.2 (popc (cmpf .ole (addf (vcum v) (bf p.1)) (bf (Scalar.ofBits .f32 0x3F19999A#32)))))
def kkf (v0 v1 v2 v3 : VF F) : BitVec 32 :=
  Scalar.minsi (Scalar.addi (kkStep v3 (kkStep v2 (kkStep v1 (kkStep v0 (Scalar.ofBits .f32 0x00000000#32, 0#32))))).2 1#32) 64#32

/-! ### Ranks of the first sixty-four -/

def hzStep (k : ℕ) (f : (A 1040).Idx → BitVec 32) : (A 1040).Idx → BitVec 32 := sd f (16 * k) (bi 0#32)
/-- The highest of the lower eight lanes. -/
def low8 (v : VF F) : F .f32 := vmax (select (cmpi .slt io (bi 8#32)) v ninf)
def prb (tk : (A 1024).Idx → F .f32) (y : VF F) (w d : BitVec 32) (pos : VI) : VI :=
  select (cmpf .olt (gat tk (addi (muli (addi pos (bi d)) (bi 16#32)) io)) y) (addi pos (bi w)) pos
def bpos (s0 s1 s2 s3 : VF F) (tk : (A 1024).Idx → F .f32) (y : VF F) : VI :=
  let c32 := cmpf .olt (bf (vmax s1)) y
  let q0 : VI := select c32 (bi 32#32) (bi 0#32)
  let c16 := cmpf .olt (select c32 (bf (vmax s2)) (bf (vmax s0)) : VF F) y
  let q1 : VI := select c16 (addi q0 (bi 16#32)) q0
  let c8 := cmpf .olt (select c32 (select c16 (bf (low8 s3)) (bf (low8 s2))) (select c16 (bf (low8 s1)) (bf (low8 s0))) : VF F) y
  let q2 : VI := select c8 (addi q1 (bi 8#32)) q1
  let q5 := prb tk y 1#32 0#32 (prb tk y 2#32 1#32 (prb tk y 4#32 3#32 q2))
  select (andi (cmpi .eq q5 (bi 63#32)) (cmpf .olt (bf (vmax s3)) y)) (bi 64#32) q5

/-- One added at each index named, lane by lane. -/
def scaA {n : ℕ} (f : (A n).Idx → BitVec 32) (v : VI) : (A n).Idx → BitVec 32 :=
  (List.finRange 16).foldl (fun g k j => if (j 0).val = (v (ix 16 k.val)).toNat then g j + 1#32 else g j) f
def hStep (s0 s1 s2 s3 : VF F) (tk : (A 1024).Idx → F .f32) (s : (A 32768).Idx → F .f32) (g : ℕ) (f : (A 1040).Idx → BitVec 32) :
    (A 1040).Idx → BitVec 32 :=
  scaA f (addi (muli (bpos s0 s1 s2 s3 tk (ld s (16 * g))) (bi 16#32)) io)
def totStep (hi : (A 1040).Idx → BitVec 32) (b : BitVec 32) (k : ℕ) (a : VI) : VI :=
  addi a (gat hi (addi (muli (addi (addi io (bi b)) (bi 1#32)) (bi 16#32)) (bi (BitVec.ofNat 32 k))))
def tot (hi : (A 1040).Idx → BitVec 32) (b : BitVec 32) : VI := iter 16 (totStep hi b) (bi 0#32)
/-- Sums from each lane to the last. -/
def rcs (t : VI) : VI := gat (scan .sum (gat t r15)) r15
def lsum (t : VI) : BitVec 32 := scan .sum t (ix 16 15)
def gv (t : VI) (c : BitVec 32) : VI := addi (rcs t) (bi c)
def eqStep (s : (A 32768).Idx → F .f32) (u : ℕ) (a : VI × VI × VI × VI) : VI × VI × VI × VI :=
  let y : VF F := gat s (addi (bi 0#32) (bi (BitVec.ofNat 32 u)))
  let e := fun (b : BitVec 32) (n : ℕ) => (select (andi (cmpf .oeq (ld s n) y) (cmpi .sgt (addi io (bi b)) (bi (BitVec.ofNat 32 u)))) (bi 1#32) (bi 0#32) : VI)
  (addi a.1 (e 0#32 0), addi a.2.1 (e 16#32 16), addi a.2.2.1 (e 32#32 32), addi a.2.2.2 (e 48#32 48))
def eqAll (s : (A 32768).Idx → F .f32) : VI × VI × VI × VI := iter 63 (eqStep s) (bi 0#32, bi 0#32, bi 0#32, bi 0#32)
def rkf (r e : VI) : VI := andi (addi r e) (bi 32767#32)
def kpf (b kk : BitVec 32) : IVec S16 1 := cmpi .slt (addi io (bi b)) (bi kk)
/-- What a row leaves to the next: the ranks it wrote to and which of them it wrote. -/
abbrev Car : Type := VI × VI × VI × VI × VI × VI × VI × VI
def wipe (a : Car) (o : (A 32768).Idx → F .f32) : (A 32768).Idx → F .f32 :=
  sca (sca (sca (sca o a.1 ninf (cmpi .sgt a.2.2.2.2.1 (bi 0#32))) a.2.1 ninf (cmpi .sgt a.2.2.2.2.2.1 (bi 0#32)))
    a.2.2.1 ninf (cmpi .sgt a.2.2.2.2.2.2.1 (bi 0#32))) a.2.2.2.1 ninf (cmpi .sgt a.2.2.2.2.2.2.2 (bi 0#32))

end Cert.Proof.Mem
-- ==== Proof.Help.lean ====
module
public import proofs.«01_k».proof.Proof.Fun
/-! Small facts the walk through a row rests on: offsets, lanes, index bounds. -/
@[expose] public section
noncomputable section
namespace Cert.Proof.Mem
open Idealize.ShloMosaic
open Idealize.SL Idealize.SL.Sem
open Cert.KernelIdeal Cert.KernelIdeal.Facts₀ Cert.KernelIdeal.Facts Cert.Proof.Local
variable {F : FTy → Type} [FloatOps F]
variable [Facts]
variable {α : Type}

theorem idx16 (x : (A 16).Idx) : ∃ k : Fin 16, x = ix 16 k.val := ⟨x 0, eq_ix x⟩

theorem ld16 (f : (A 16).Idx → α) : ld f ((![0] : Fin 1 → ℕ) 0) = f := by
  funext j
  show f (ix 16 (0 + (j 0).val)) = f j
  rw [Nat.zero_add, ← eq_ix j]

theorem sd16 (f w : (A 16).Idx → α) : sd f ((![0] : Fin 1 → ℕ) 0) w = w := by
  funext j
  have h : (j 0).val < 16 := (j 0).isLt
  show (if 0 ≤ (j 0).val ∧ (j 0).val < 0 + 16 then w (ix 16 ((j 0).val - 0)) else f j) = w j
  rw [if_pos ⟨Nat.zero_le _, by omega⟩, Nat.sub_zero, ← eq_ix j]

theorem lane (v : (A 16).Idx → α) (k : ℕ) (h : (A 16).Slices ![k] S1) (h') : extractAt (s := S1) ![0] (extractStridedSlice (s := S16) S1 ![k] v h) h' = v (ix 16 k) := by
  have hk : k + 1 ≤ 16 := h.2 0
  unfold extractAt extractStridedSlice
  congr 1
  funext a
  obtain rfl : a = (0 : Fin 1) := Subsingleton.elim (α := Fin 1) a 0
  exact Fin.ext (Nat.mod_eq_of_lt (show k + 0 < 16 by omega)).symm

theorem iv1 (b : ℕ) : Scalar.addi 0#32 (Scalar.muli (Scf.iv 0#32 1#32 b) 1#32) = BitVec.ofNat 32 b := by
  show 0#32 + (0#32 + BitVec.ofNat 32 b * 1#32) * 1#32 = _
  rw [BitVec.mul_one, BitVec.mul_one, BitVec.zero_add, BitVec.zero_add]
theorem iv0 (b : ℕ) : Scf.iv 0#32 1#32 b = BitVec.ofNat 32 b := by
  show 0#32 + BitVec.ofNat 32 b * 1#32 = _
  rw [BitVec.mul_one, BitVec.zero_add]
theorem zadd (c : BitVec 32) : addi (broadcast S16 0#32) (broadcast S16 c) = bi c := by
  funext x
  show 0#32 + c = c
  rw [BitVec.zero_add]

/-! ### Offsets -/

theorem off1 (b) : (k0_off1 b) 0 = 16 * b.val := by
  have h : b.val < 2048 := b.isLt
  show (((0#32 + (0#32 + BitVec.ofNat 32 b.val * 1#32) * 1#32) * 16#32 : BitVec 32)).toNat = _
  simp; omega
theorem off4 (b) : (k0_off4 b) 0 = 64 * b.val := by
  have h : b.val < 512 := b.isLt
  show ((4#32 * (0#32 + (0#32 + BitVec.ofNat 32 b.val * 1#32) * 1#32)) * 16#32 : BitVec 32).toNat = _
  simp; omega
theorem off5 (b) (c : BitVec 32) (hc : c.toNat < 4) : (k0_off5 b c) 0 = 64 * b.val + 16 * c.toNat := by
  have h : b.val < 512 := b.isLt
  show ((4#32 * (0#32 + (0#32 + BitVec.ofNat 32 b.val * 1#32) * 1#32) + c) * 16#32 : BitVec 32).toNat = _
  simp; omega
theorem off6 (a b) : (k0_off6 a b) 0 = 256 * a.val + 16 * b.val := by
  have h : a.val < 128 := a.isLt
  have h : b.val < 16 := b.isLt
  show (((0#32 + (0#32 + BitVec.ofNat 32 a.val * 1#32) * 1#32) * 16#32 + (0#32 + (0#32 + BitVec.ofNat 32 b.val * 1#32) * 1#32)) * 16#32 : BitVec 32).toNat = _
  simp; omega
theorem off7 (b) : (k0_off7 b) 0 = 16 * b.val := by
  have h : b.val < 128 := b.isLt
  show (((0#32 + (0#32 + BitVec.ofNat 32 b.val * 1#32) * 1#32) * 16#32 : BitVec 32)).toNat = _
  simp; omega
theorem off8 (a b) : (k0_off8 a b) 0 = 256 * a.val + 16 * b.val := by
  have h : a.val < 8 := a.isLt
  have h : b.val < 16 := b.isLt
  show (((0#32 + BitVec.ofNat 32 a.val * 1#32) * 16#32 + (0#32 + (0#32 + BitVec.ofNat 32 b.val * 1#32) * 1#32)) * 16#32 : BitVec 32).toNat = _
  simp; omega
theorem off9 (b) : (k0_off9 b) 0 = 16 * b.val := by
  have h : b.val < 8 := b.isLt
  show (((0#32 + BitVec.ofNat 32 b.val * 1#32) * 16#32 : BitVec 32)).toNat = _
  simp; omega
theorem off10 (b) : (k0_off10 b) 0 = 16 * b.val := by
  have h : b.val < 8 := b.isLt
  show (((0#32 + (0#32 + BitVec.ofNat 32 b.val * 1#32) * 1#32) * 16#32 : BitVec 32)).toNat = _
  simp; omega
theorem off16 (b) : (k0_off16 b) 0 = 16 * b.val := by
  have h : b.val < 65 := b.isLt
  show (((0#32 + (0#32 + BitVec.ofNat 32 b.val * 1#32) * 1#32) * 16#32 : BitVec 32)).toNat = _
  simp; omega
theorem off17 (b) : (k0_off17 b) 0 = 16 * b.val := by
  have h : b.val < 2048 := b.isLt
  show (((0#32 + (0#32 + BitVec.ofNat 32 b.val * 1#32) * 1#32) * 16#32 : BitVec 32)).toNat = _
  simp; omega
theorem off11 (a : BitVec 32) (ha : a.toNat < 8) : (k0_off11 a) 0 = 16 * a.toNat := by
  show ((a * 16#32 : BitVec 32)).toNat = _
  simp; omega
theorem off15 (a : BitVec 32) (ha : a.toNat < 8) : (k0_off15 a) 0 = 16 * a.toNat := by
  show ((a * 16#32 : BitVec 32)).toNat = _
  simp; omega
theorem off12 (a b : BitVec 32) (ha : a.toNat < 8) (hb : b.toNat < 16) : (k0_off12 a b) 0 = 256 * a.toNat + 16 * b.toNat := by
  show (((a * 16#32 + b) * 16#32 : BitVec 32)).toNat = _
  simp; omega
theorem off14 (a b : BitVec 32) (ha : a.toNat < 8) (hb : b.toNat < 16) : (k0_off14 a b) 0 = 256 * a.toNat + 16 * b.toNat := by
  show (((a * 16#32 + b) * 16#32 : BitVec 32)).toNat = _
  simp; omega
theorem off13 (a b c : BitVec 32) (ha : a.toNat < 8) (hb : b.toNat < 16) (hc : c.toNat < 16) :
    (k0_off13 a b c) 0 = 4096 * a.toNat + 256 * b.toNat + 16 * c.toNat := by
  show ((((a * 16#32 + b) * 16#32 + c) * 16#32 : BitVec 32)).toNat = _
  simp; omega

/-! ### The first lane of a mask -/

theorem top_xor (x : BitVec 32) (h : x.toNat < 2 ^ 31) : (x ^^^ topBit).toNat = x.toNat + 2 ^ 31 := by
  rw [BitVec.toNat_xor]
  show x.toNat ^^^ 2 ^ 31 = _
  rw [Nat.add_comm, show 2 ^ 31 + x.toNat = 2 ^ 31 ||| x.toNat by simpa using Nat.two_pow_add_eq_or_of_lt h 1]
  refine Nat.eq_of_testBit_eq fun j => ?_
  rw [Nat.testBit_xor, Nat.testBit_or, Nat.testBit_two_pow]
  by_cases hj : 31 = j
  · subst hj
    rw [Nat.testBit_lt_two_pow h]; rfl
  · rw [decide_eq_false hj]; simp

theorem xor_xor_top (x : BitVec 32) : (x ^^^ topBit) ^^^ topBit = x := by
  rw [BitVec.xor_assoc, BitVec.xor_self, BitVec.xor_zero]

theorem toNat_minui (x y : BitVec 32) : (IntOp.minui x y).toNat = min x.toNat y.toNat := by
  unfold IntOp.minui
  by_cases h : x.toNat < y.toNat
  · rw [if_pos (show x.ult y = true from decide_eq_true h)]; omega
  · rw [if_neg (show ¬ x.ult y = true from fun q => h (of_decide_eq_true q))]; omega

theorem foldl_min {β : Type} (l : List β) (g : β → BitVec 32) (a : BitVec 32) :
    (l.foldl (fun r x => IntOp.minui r (g x)) a).toNat ≤ a.toNat
    ∧ (∀ x ∈ l, (l.foldl (fun r x => IntOp.minui r (g x)) a).toNat ≤ (g x).toNat)
    ∧ (l.foldl (fun r x => IntOp.minui r (g x)) a = a ∨ ∃ x ∈ l, l.foldl (fun r x => IntOp.minui r (g x)) a = g x) := by
  induction l generalizing a with
  | nil => exact ⟨le_refl _, fun x h => absurd h (List.not_mem_nil), .inl rfl⟩
  | cons y l ih =>
    obtain ⟨h1, h2, h3⟩ := ih (IntOp.minui a (g y))
    rw [List.foldl_cons]
    rw [toNat_minui] at h1
    refine ⟨by omega, fun x hx => ?_, ?_⟩
    · rcases List.mem_cons.mp hx with rfl | hx
      · omega
      · exact h2 x hx
    · rcases h3 with h3 | ⟨x, hx, h3⟩
      · rw [h3]
        by_cases h : a.toNat < (g y).toNat
        · exact .inl (if_pos (decide_eq_true h))
        · exact .inr ⟨y, List.mem_cons_self, if_neg (fun q => h (of_decide_eq_true q))⟩
      · exact .inr ⟨x, List.mem_cons_of_mem _ hx, h3⟩

theorem io_ix (k : ℕ) (h : k < 16) : io (ix 16 k) = BitVec.ofNat 32 k := by
  show BitVec.ofNat 32 (0 * 16 + k % 16) = _
  rw [Nat.mod_eq_of_lt h, Nat.zero_mul, Nat.zero_add]

theorem scan_ix (kind : ScanKind) (v : VI) (j : ℕ) (hj : j < 16) :
    scan kind v (ix 16 j) = (List.range j).foldl (fun r k => kind.step r (v (ix 16 (k + 1)))) (v (ix 16 0)) := by
  have hm : ∀ j : Fin 16, ((List.finRange 16).filter fun k => decide (0 < k.val ∧ k.val ≤ j.val)).map Fin.val = (List.range j.val).map (· + 1) := by decide
  have hj' : (ix 16 j) 0 = (⟨j, hj⟩ : Fin 16) := Fin.ext (ix_val (n := 16) hj 0)
  show (((List.finRange 16).filter fun k => decide (0 < k.val ∧ k.val ≤ ((ix 16 j) 0).val)).foldl
      (fun r k => kind.step r (v (Shape.ofLane (d := ![16]) k))) (v (Shape.ofLane (d := ![16]) (0 : Fin 16)))) = _
  rw [hj', show v (Shape.ofLane (d := ![16]) (0 : Fin 16)) = v (ix 16 0) from congrArg v (ofLane_ix _)]
  have := congrArg (List.foldl (fun r k => kind.step r (v (ix 16 k))) (v (ix 16 0))) (hm ⟨j, hj⟩)
  rw [List.foldl_map, List.foldl_map] at this
  rw [← this]
  exact List.foldl_ext _ _ _ fun r k _ => congrArg (fun z => kind.step r (v z)) (ofLane_ix k)

/-- What a lane offers the search for the first lane of a mask. -/
def off1st (c : IVec S16 1) (last : ℕ) (k : ℕ) : ℕ := if c (ix 16 k) = 1 then k else last

theorem ffs_spec (c : IVec S16 1) (last : BitVec 32) (hl : last.toNat < 2 ^ 31) :
    (∀ k < 16, (ffs c last).toNat ≤ off1st c last.toNat k) ∧ ∃ k < 16, (ffs c last).toNat = off1st c last.toNat k := by
  let g : ℕ → BitVec 32 := fun k => (if c (ix 16 k) = 1 then BitVec.ofNat 32 k else last)
  have hg : ∀ k < 16, (g k).toNat = off1st c last.toNat k := by
    intro k hk
    show (if c (ix 16 k) = 1 then BitVec.ofNat 32 k else last).toNat = if c (ix 16 k) = 1 then k else last.toNat
    split
    · rw [BitVec.toNat_ofNat]; omega
    · rfl
  have hg' : ∀ k < 16, (g k).toNat < 2 ^ 31 := by
    intro k hk
    rw [hg k hk]; unfold off1st; split <;> omega
  have hv : ∀ k < 16, (xori (select c io (bi last)) (bi topBit) : VI) (ix 16 k) = g k ^^^ topBit := by
    intro k hk
    show (if c (ix 16 k) = 1 then io (ix 16 k) else last) ^^^ topBit = _
    rw [io_ix _ hk]
  have hf : ffs c last = ((List.range 15).foldl (fun r k => IntOp.minui r (g (k + 1) ^^^ topBit)) (g 0 ^^^ topBit)) ^^^ topBit := by
    have e : ffs c last = scan .min (xori (select c io (bi last)) (bi topBit)) (ix 16 15) ^^^ topBit :=
      congrArg (xori (scan .min (xori (select c io (bi last)) (bi topBit))) (bi topBit)) (eq_ix _)
    rw [e, scan_ix _ _ 15 (by decide), hv 0 (by decide)]
    refine congrArg (· ^^^ topBit) ?_
    exact List.foldl_ext _ _ _ fun r k hk => congrArg (IntOp.minui r) (hv (k + 1) (by have := List.mem_range.mp hk; omega))
  obtain ⟨h1, h2, h3⟩ := foldl_min (List.range 15) (fun k => g (k + 1) ^^^ topBit) (g 0 ^^^ topBit)
  obtain ⟨k0, hk0, he⟩ : ∃ k < 16, (List.range 15).foldl (fun r k => IntOp.minui r (g (k + 1) ^^^ topBit)) (g 0 ^^^ topBit) = g k ^^^ topBit := by
    rcases h3 with h3 | ⟨x, hx, h3⟩
    · exact ⟨0, by decide, h3⟩
    · exact ⟨x + 1, by have := List.mem_range.mp hx; omega, h3⟩
  have hfe : ffs c last = g k0 := by rw [hf, he, xor_xor_top]
  rw [hfe]
  refine ⟨fun k hk => ?_, k0, hk0, hg k0 hk0⟩
  rw [← hg k hk]
  have hle : (g k0 ^^^ topBit).toNat ≤ (g k ^^^ topBit).toNat := by
    rw [← he]
    rcases Nat.eq_zero_or_pos k with rfl | hp
    · exact h1
    · obtain ⟨k, rfl⟩ : ∃ l, k = l + 1 := ⟨k - 1, by omega⟩
      exact h2 k (List.mem_range.mpr (by omega))
  rw [top_xor _ (hg' _ hk0), top_xor _ (hg' _ hk)] at hle
  omega

theorem ffs_le (c : IVec S16 1) (last : BitVec 32) (hl : last.toNat < 16) : (ffs c last).toNat ≤ last.toNat := by
  have h := (ffs_spec c last (by omega)).1 0 (by decide)
  unfold off1st at h
  split at h <;> omega

/-! ### Index bounds -/

theorem idxlt (n : ℕ) (v : VI) (h : ∀ k < 16, (v (ix 16 k)).toNat < n) : ∀ a x, ((![v] : Fin 1 → IVec S16 32) a x).toNat < (A n).size a := by
  intro a x
  obtain rfl : a = (0 : Fin 1) := Subsingleton.elim (α := Fin 1) a 0
  obtain ⟨k, rfl⟩ := idx16 x
  exact h k.val k.isLt

theorem chkB (b : ℕ) (h : b < 16) : ∀ a x, ((![addi (broadcast S16 0#32) (broadcast S16 (Scf.iv 0#32 1#32 b))] : Fin 1 → IVec S16 32) a x).toNat < S16.size a :=
  idxlt 16 _ fun k _ => by
    show (0#32 + (0#32 + BitVec.ofNat 32 b * 1#32)).toNat < 16
    simp; omega

theorem and15 (r : VI) : ∀ a x, ((![andi r (broadcast S16 15#32)] : Fin 1 → IVec S16 32) a x).toNat < S16.size a :=
  idxlt 16 _ fun k _ => by
    show (r (ix 16 k) &&& 15#32).toNat < 16
    rw [BitVec.toNat_and]
    exact lt_of_le_of_lt Nat.and_le_right (by decide)

theorem andN (r : VI) : ∀ a x, ((![andi r (broadcast S16 32767#32)] : Fin 1 → IVec S16 32) a x).toNat < S32768.size a :=
  idxlt 32768 _ fun k _ => by
    show (r (ix 16 k) &&& 32767#32).toNat < 32768
    rw [BitVec.toNat_and]
    exact lt_of_le_of_lt Nat.and_le_right (by decide)

theorem rev15 : ∀ a x, ((![subi (broadcast S16 15#32) (iota .scVector S16 32 [0] iota_S16_d0_w32_scVector)] : Fin 1 → IVec S16 32) a x).toNat < S16.size a :=
  idxlt 16 _ fun k h => by
    show (15#32 - io (ix 16 k)).toNat < 16
    rw [io_ix k h]
    simp; omega

theorem tkidx (b c : BitVec 32) (hb : b.toNat ≤ 48) (hc : c.toNat < 16) :
    ∀ a x, ((![addi (muli (addi io (bi b)) (bi 16#32)) (bi c)] : Fin 1 → IVec S16 32) a x).toNat < S1024.size a :=
  idxlt 1024 _ fun k h => by
    show ((io (ix 16 k) + b) * 16#32 + c).toNat < 1024
    rw [io_ix k h]
    simp; omega

theorem totidx (b c : BitVec 32) (hb : b.toNat ≤ 48) (hc : c.toNat < 16) :
    ∀ a x, ((![addi (muli (addi (addi io (bi b)) (bi 1#32)) (bi 16#32)) (bi c)] : Fin 1 → IVec S16 32) a x).toNat < S1040.size a :=
  idxlt 1040 _ fun k h => by
    show ((io (ix 16 k) + b + 1#32) * 16#32 + c).toNat < 1040
    rw [io_ix k h]
    simp; omega

theorem toNat_of_lt {b n : ℕ} (h : b < n) (hn : n ≤ 2 ^ 32) : (BitVec.ofNat 32 b).toNat = b := by
  rw [BitVec.toNat_ofNat]; exact Nat.mod_eq_of_lt (by omega)

/-! ### Adding scatters -/

section
variable {d : Dev nD} {C : Fin τ.nSC} {T : Fin τ.nSub} {β : Type}
variable (base : Bufs sig (Elt F) (th d C T)) (m : Mem F) (o : Bool)

theorem storeIdx_scaA {n : ℕ} [NeZero n] (f : Vec F (A n) .i32) (v : VI) (h) :
    storeIdx (F := F) (s := A n) (d := ![16]) (e := .i32) f ![v] (broadcast S16 1#32 : VI) (fun _ => 1#1) true h = scaA (n := n) f v := by
  unfold storeIdx scaA
  congr 1
  funext g k
  have e : (Shape.ofLane (d := ![16]) k : (A 16).Idx) = ix 16 k.val := ofLane_ix k
  refine (if_pos (show (1#1 : BitVec 1) = 1 from rfl)).trans ?_
  funext j
  have hi : (∀ a, (j a).val = ((idxAt ![v] h (Shape.ofLane (d := ![16]) k)) a).val) ↔ (j 0).val = (v (ix 16 k.val)).toNat := by
    rw [e]
    exact ⟨fun q => q 0, fun q a => by obtain rfl : a = (0 : Fin 1) := Subsingleton.elim (α := Fin 1) a 0; exact q⟩
  by_cases hj : (j 0).val = (v (ix 16 k.val)).toNat
  · refine (if_pos (hi.mpr hj)).trans ((congrArg (fun z => (g z : BitVec 32) + 1#32) ?_).trans (if_pos hj).symm)
    funext a
    exact Fin.ext (hi.mpr hj a).symm
  · exact (if_neg fun q => hj (hi.mp q)).trans (if_neg hj).symm

theorem run_scaA_hi (v : IVec S16 32) (hi hl) (k : PUnit → Prog (TpuEff nD τ sig (Elt F) Λ₀ (.scVector C T)) β) :
    run o base m (SparseCore.vectorStoreIdx (s := S1040) (e := .i32) (d := ![16]) (Memref.whole cc0_scratch7) ![v] (broadcast S16 1#32 : VI) (fun _ => 1#1) true hi hl >>= k)
      = run o base { m with hi := scaA m.hi v } (k ⟨⟩) := by
  unfold run
  rw [res_storeIdx (th d C T) (m := (Memref.whole cc0_scratch7)) _ _ _ _ _ _ _ _ (mem_hi o)]
  show res (th d C T) (Ls o) (k ⟨⟩) (Function.update (toSt base m) cc0_scratch7
    (((Memref.whole cc0_scratch7).access (Rect.whole _)).write (Elt F) (toSt base m cc0_scratch7)
      (storeIdx ((Memref.whole cc0_scratch7).view.readAt (Elt F) (LoadRect.whole _) (toSt base m cc0_scratch7)) ![v] (broadcast S16 1#32 : VI) (fun _ => 1#1) true hi) Finset.univ)) = _
  rw [toSt_hi, Memref.readAt_whole, Memref.write_access_whole_univ]
  refine (congrArg (fun z => res (th d C T) (Ls o) (k ⟨⟩) (Function.update (toSt base m) cc0_scratch7 z))
    (storeIdx_scaA (n := 1040) m.hi v hi)).trans ?_
  rw [up_hi]

theorem run_ld_kb0 (inb) (h) (k : Vec F S16 .f32 → Prog (TpuEff nD τ sig (Elt F) Λ₀ (.scVector C T)) β) :
    run o base m (@Bind.bind (Prog (TpuEff nD τ sig (Elt F) Λ₀ (.scVector C T))) _ (Vec F S16 .f32) _ (Prog.lift (α := Vec F S16 .f32) (TpuEff.load (cs := .vmem) (s := S16) (e := .f32) (Memref.whole cc0_scratch8) (Rect.unit (s := S16) ![0] ![16] inb).toLoadRect h)) k)
      = run o base m (k m.kb) := by
  rw [run_ld_kb, ld16]

theorem run_ld_vb0 (inb) (h) (k : Vec F S16 .i32 → Prog (TpuEff nD τ sig (Elt F) Λ₀ (.scVector C T)) β) :
    run o base m (@Bind.bind (Prog (TpuEff nD τ sig (Elt F) Λ₀ (.scVector C T))) _ (Vec F S16 .i32) _ (Prog.lift (α := Vec F S16 .i32) (TpuEff.load (cs := .vmem) (s := S16) (e := .i32) (Memref.whole cc0_scratch9) (Rect.unit (s := S16) ![0] ![16] inb).toLoadRect h)) k)
      = run o base m (k m.vb) := by
  rw [run_ld_vb, ld16]
end

end Cert.Proof.Mem
-- ==== Proof.R14.lean ====
module
public import proofs.«01_k».proof.Proof.Help
/-! The maxima and the exponentials of a row. -/
@[expose] public section
noncomputable section
namespace Cert.Proof.Mem
open Idealize.ShloMosaic
open Idealize.SL Idealize.SL.Sem
open Cert.KernelIdeal Cert.KernelIdeal.Facts₀ Cert.KernelIdeal.Facts Cert.Proof.Local
variable {F : FTy → Type} [FloatOps F]
variable [Facts]
attribute [local irreducible] iter sca scaA
variable {d : Dev nD} (i : grid0.Coords) {γ : Type}
variable (base : Bufs sig (Elt F) (th d ((i 0).castLE hcore0) ((i 1).castLE hsub0))) (m : Mem F) (o : Bool)

theorem run_part1 (K : (Σ' (v1585 : FVec F S16 .f32) (v1590 : IVec S16 1) (v1606 : F .f32) (v1608 : F .f32) (v1610 : F .f32) (v1612 : F .f32) (v1614 : F .f32) (v1616 : F .f32) (v1618 : F .f32) (v1620 : F .f32) (v1622 : F .f32), F .f32) → Prog (TpuEff nD τ sig (Elt F) Λ₀ (.scVector ((i 0).castLE hcore0) ((i 1).castLE hsub0))) γ) (v0 : IVec S16 32) (v71 : F .f32) (k0_t4 : Fin k0_t4_loop.trips) (v1570 : BitVec 32) (c0_i32_349 : BitVec 32) (c1_i32_351 : BitVec 32) (k0_t5 : Fin k0_t5_loop.trips) (h0 : v0 = io) (h1 : v1570 = BitVec.ofNat 32 k0_t4) (h2 : c0_i32_349 = 0#32) (h3 : c1_i32_351 = 1#32) :
    run o base m (k0_part1 i (Memref.whole main_arg0_scv) (Memref.isWhole_whole _) (Memref.whole main_v0_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scoped0 v0 v71 k0_t4 v1570 c0_i32_349 c1_i32_351 k0_t5 >>= K)
      = run o base { m with s := sd m.s (256 * k0_t4.val + 16 * k0_t5.val) (exp (subf (ld m.s (256 * k0_t4.val + 16 * k0_t5.val)) (bf v71))) } (K (let y := exp (subf (ld m.s (256 * k0_t4.val + 16 * k0_t5.val)) (bf v71)); ⟨y, cmpi .eq io (bi (BitVec.ofNat 32 k0_t5)), y (ix 16 7), y (ix 16 8), y (ix 16 9), y (ix 16 10), y (ix 16 11), y (ix 16 12), y (ix 16 13), y (ix 16 14), y (ix 16 15), (List.range 6).foldl (fun a k => Scalar.maximumf a (y (ix 16 (k + 1)))) (y (ix 16 0))⟩)) := by
  subst h0 h1 h2 h3
  rw [k0_part1]
  simp only [bind_assoc, pure_bind]
  simp only [run_ld_s, run_sd_s, off6, lane, iv1]
  rfl
theorem run_part14 (K : (Σ' (v81 : F .f32) (v83 : F .f32) (v85 : F .f32) (v87 : F .f32) (v89 : F .f32) (v91 : F .f32) (v93 : F .f32) (v95 : F .f32) (v97 : F .f32) (v99 : F .f32) (v101 : F .f32) (v103 : F .f32) (v105 : F .f32) (v107 : F .f32), F .f32) → Prog (TpuEff nD τ sig (Elt F) Λ₀ (.scVector ((i 0).castLE hcore0) ((i 1).castLE hsub0))) γ) (v0 : IVec S16 32) (v1 : FVec F S16 .f32) (v24 : FVec F S16 .f32) (v26 : F .f32) (v28 : F .f32) (v30 : F .f32) (v32 : F .f32) (v34 : F .f32) (v36 : F .f32) (v38 : F .f32) (v40 : F .f32) (v42 : F .f32) (v44 : F .f32) (v46 : F .f32) (v48 : F .f32) (v50 : F .f32) (v52 : F .f32) (v53 : FVec F S1 .f32) (h0 : v0 = io) (h1 : v1 = ninf) (h26 : v26 = v24 (ix 16 0)) (h28 : v28 = v24 (ix 16 1)) (h30 : v30 = v24 (ix 16 2)) (h32 : v32 = v24 (ix 16 3)) (h34 : v34 = v24 (ix 16 4)) (h36 : v36 = v24 (ix 16 5)) (h38 : v38 = v24 (ix 16 6)) (h40 : v40 = v24 (ix 16 7)) (h42 : v42 = v24 (ix 16 8)) (h44 : v44 = v24 (ix 16 9)) (h46 : v46 = v24 (ix 16 10)) (h48 : v48 = v24 (ix 16 11)) (h50 : v50 = v24 (ix 16 12)) (h52 : v52 = v24 (ix 16 13)) (h53 : v53 = extractStridedSlice S1 ![14] v24 slices_S16_o14_S1) :
    run o base m (k0_part14 i (Memref.whole main_arg0_scv) (Memref.isWhole_whole _) (Memref.whole main_v0_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scoped0 v0 v1 v24 v26 v28 v30 v32 v34 v36 v38 v40 v42 v44 v46 v48 v50 v52 v53 >>= K)
      = run o base (p2all (vmax v24) m).2 (K (let y := addf (p2all (vmax v24) m).1.1 (p2all (vmax v24) m).1.2; ⟨y (ix 16 2), y (ix 16 3), y (ix 16 4), y (ix 16 5), y (ix 16 6), y (ix 16 7), y (ix 16 8), y (ix 16 9), y (ix 16 10), y (ix 16 11), y (ix 16 12), y (ix 16 13), y (ix 16 14), y (ix 16 15), Scalar.addf (y (ix 16 0)) (y (ix 16 1))⟩)) := by
  subst h0 h1 h26 h28 h30 h32 h34 h36 h38 h40 h42 h44 h46 h48 h50 h52 h53
  rw [k0_part14]
  simp only [bind_assoc, pure_bind]
  simp only [lane]
  rw [run_for (N := 128) (hN := by decide) (f := p2out (vmax v24))]
  case h =>
    rintro b ⟨a0, a1⟩ m K
    dsimp only
    simp only [bind_assoc, pure_bind]
    rw [run_for (N := 16) (hN := by decide) (f := p2in (vmax v24) b)]
    case h =>
      rintro c ⟨x0, x1, x2⟩ m K
      dsimp only
      simp only [bind_assoc, pure_bind]
      rw [run_part1]
      case h0 => rfl
      case h1 => exact iv1 _
      case h2 => rfl
      case h3 => rfl
      rfl
    simp only [run_ld_m1, run_sd_m1, off7]
    rfl
  generalize hz : iter 128 (p2out (vmax v24)) _ = z
  have hz' : p2all (vmax v24) m = z := hz
  rw [hz']

theorem run_part2 (K : (Σ' (v1579 : IVec S16 1) (v1614 : F .f32), F .f32) → Prog (TpuEff nD τ sig (Elt F) Λ₀ (.scVector ((i 0).castLE hcore0) ((i 1).castLE hsub0))) γ) (v0 : IVec S16 32) (k0_t6 : Fin k0_t6_loop.trips) (arg24 : BitVec 32) (c0_i32_347 : BitVec 32) (c1_i32_349 : BitVec 32) (k0_t7 : Fin k0_t7_loop.trips) (h0 : v0 = io) (h2 : c0_i32_347 = 0#32) (h3 : c1_i32_349 = 1#32) :
    run o base m (k0_part2 i (Memref.whole main_arg0_scv) (Memref.isWhole_whole _) (Memref.whole main_v0_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scoped0 v0 k0_t6 arg24 c0_i32_347 c1_i32_349 k0_t7 >>= K)
      = run o base m (K (let y := ld m.m1 (256 * k0_t6.val + 16 * k0_t7.val); ⟨cmpi .eq io (bi (BitVec.ofNat 32 k0_t7)), y (ix 16 15), (List.range 14).foldl (fun a k => Scalar.maximumf a (y (ix 16 (k + 1)))) (y (ix 16 0))⟩)) := by
  subst h0 h2 h3
  rw [k0_part2]
  simp only [bind_assoc, pure_bind]
  simp only [run_ld_m1, off8, lane, iv1]
  rfl
theorem run_part3 (K : (FVec F S16 .f32) → Prog (TpuEff nD τ sig (Elt F) Λ₀ (.scVector ((i 0).castLE hcore0) ((i 1).castLE hsub0))) γ) (v0 : IVec S16 32) (c0_i32_23 : BitVec 32) (c1_i32_25 : BitVec 32) (k0_t8 : Fin k0_t8_loop.trips) (arg25 : FVec F S16 .f32) (h0 : v0 = io) (h2 : c0_i32_23 = 0#32) (h3 : c1_i32_25 = 1#32) :
    run o base m (k0_part3 i (Memref.whole main_arg0_scv) (Memref.isWhole_whole _) (Memref.whole main_v0_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scoped0 v0 c0_i32_23 c1_i32_25 k0_t8 arg25 >>= K)
      = run o base m (K (m3in m.m2 k0_t8.val arg25)) := by
  subst h0 h2 h3
  rw [k0_part3]
  simp only [bind_assoc, pure_bind]
  simp only [run_ld_m2, off10, lane, iv1]
  rfl
theorem iter_m2_s (n : ℕ) (p : BitVec 32 × Mem F) : (iter n m2out p).2.s = p.2.s := by
  unfold iter
  induction n with
  | zero => rfl
  | succ n ih => rw [List.range_succ, List.foldl_append]; exact ih

theorem addi_zero (v : VI) : addi v (broadcast S16 0#32) = v := by
  funext x
  exact BitVec.add_zero (v x)

theorem run_part15 (K : (Σ' (v122 : F .f32) (v126 : FVec F S16 .f32) (v127 : Vec F S16 .f32) (v128 : Vec F S16 .f32) (v129 : Vec F S16 .f32) (v130 : Vec F S16 .f32) (v132 : IVec S16 32) (v134 : IVec S16 32) (v136 : IVec S16 32) (v138 : IVec S16 32) (v139 : IVec S16 32) (v142 : IVec S16 32) (c0_i32_31 : BitVec 32), BitVec 32) → Prog (TpuEff nD τ sig (Elt F) Λ₀ (.scVector ((i 0).castLE hcore0) ((i 1).castLE hsub0))) γ) (v0 : IVec S16 32) (v1 : FVec F S16 .f32) (v81 : F .f32) (v83 : F .f32) (v85 : F .f32) (v87 : F .f32) (v89 : F .f32) (v91 : F .f32) (v93 : F .f32) (v95 : F .f32) (v97 : F .f32) (v99 : F .f32) (v101 : F .f32) (v103 : F .f32) (v105 : F .f32) (v107 : F .f32) (v108 : F .f32) (y : VF F) (h0 : v0 = io) (h1 : v1 = ninf) (h81 : v81 = y (ix 16 2)) (h83 : v83 = y (ix 16 3)) (h85 : v85 = y (ix 16 4)) (h87 : v87 = y (ix 16 5)) (h89 : v89 = y (ix 16 6)) (h91 : v91 = y (ix 16 7)) (h93 : v93 = y (ix 16 8)) (h95 : v95 = y (ix 16 9)) (h97 : v97 = y (ix 16 10)) (h99 : v99 = y (ix 16 11)) (h101 : v101 = y (ix 16 12)) (h103 : v103 = y (ix 16 13)) (h105 : v105 = y (ix 16 14)) (h107 : v107 = y (ix 16 15)) (h108 : v108 = Scalar.addf (y (ix 16 0)) (y (ix 16 1))) :
    run o base m (k0_part15 i (Memref.whole main_arg0_scv) (Memref.isWhole_whole _) (Memref.whole main_v0_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scoped0 v0 v1 v81 v83 v85 v87 v89 v91 v93 v95 v97 v99 v101 v103 v105 v107 v108 >>= K)
      = run o base { m2all m with kb := ld (m2all m).s 0, vb := io } (K ⟨vsum y, m3all (m2all m), ld (m2all m).s 0, ld (m2all m).s 16, ld (m2all m).s 32, ld (m2all m).s 48, io, addi io (bi 16#32), addi io (bi 32#32), addi io (bi 48#32), io, bi 0#32, 0#32, 1#32⟩) := by
  subst h0 h1 h81 h83 h85 h87 h89 h91 h93 h95 h97 h99 h101 h103 h105 h107 h108
  rw [k0_part15]
  simp only [bind_assoc, pure_bind]
  rw [run_for (N := 8) (hN := by decide) (f := m2out)]
  case h =>
    rintro b a m K
    simp only [bind_assoc, pure_bind]
    rw [run_for_acc (N := 16) (hN := by decide) (f := m2in m.m1 b)]
    case h =>
      rintro c x K
      simp only [bind_assoc, pure_bind]
      rw [run_part2]
      case h0 => rfl
      case h2 => rfl
      case h3 => rfl
      rfl
    simp only [run_ld_m2, run_sd_m2, off9]
    rfl
  rw [run_for_acc (N := 8) (hN := by decide) (f := m3in (m2all m).m2)]
  case h =>
    rintro b a K
    simp only [bind_assoc, pure_bind]
    rw [run_part3]
    case h0 => rfl
    case h2 => rfl
    case h3 => rfl
    rfl
  simp only [run_ld_s, run_ld_kb, run_ld_vb, run_sd_kb, run_sd_vb, sd16]
  rw [addi_zero, show (iter 8 m2out (0#32, m)).2 = m2all m from rfl]
  rfl

end Cert.Proof.Mem
-- ==== Proof.R16.lean ====
module
public import proofs.«01_k».proof.Proof.Help
/-! Sorting the first sixty-four entries of a row. -/
@[expose] public section
noncomputable section
namespace Cert.Proof.Mem
open Idealize.ShloMosaic
open Idealize.SL Idealize.SL.Sem
open Cert.KernelIdeal Cert.KernelIdeal.Facts₀ Cert.KernelIdeal.Facts Cert.Proof.Local
variable {F : FTy → Type} [FloatOps F]
variable [Facts]
attribute [local irreducible] iter sca scaA
variable {d : Dev nD} (i : grid0.Coords) {γ : Type}
variable (base : Bufs sig (Elt F) (th d ((i 0).castLE hcore0) ((i 1).castLE hsub0))) (m : Mem F) (o : Bool)

theorem cnt_eq (kb k : VF F) (b : ℕ) (r : VI) :
    addi r (select (select (cmpi .sgt io (broadcast S16 (Scf.iv 0#32 1#32 b)))
      (cmpf .ole (gat kb (addi (broadcast S16 0#32) (broadcast S16 (Scf.iv 0#32 1#32 b)))) k)
      (cmpf .olt (gat kb (addi (broadcast S16 0#32) (broadcast S16 (Scf.iv 0#32 1#32 b)))) k)) (broadcast S16 1#32) (broadcast S16 0#32))
      = cntStep kb k b r := by
  rw [iv0, zadd]
  rfl

theorem iter_tk (n : ℕ) (g : ℕ → (S1024.Idx → F .f32) → (S1024.Idx → F .f32)) (u : PUnit) (m : Mem F) :
    iter n (fun k (p : PUnit × Mem F) => (p.1, { p.2 with tk := g k p.2.tk })) (u, m) = (u, { m with tk := iter n g m.tk }) := by
  unfold iter
  induction n with
  | zero => rfl
  | succ n ih => rw [List.range_succ, List.foldl_append, List.foldl_append, ih]; rfl

theorem run_part16 (K : (Σ' (v147 : Vec F S16 .f32) (v148 : Vec F S16 .i32) (v157 : Vec F S16 .f32) (v158 : Vec F S16 .i32), Vec F S16 .f32) → Prog (TpuEff nD τ sig (Elt F) Λ₀ (.scVector ((i 0).castLE hcore0) ((i 1).castLE hsub0))) γ) (v127 : Vec F S16 .f32) (v128 : Vec F S16 .f32) (v129 : Vec F S16 .f32) (v132 : IVec S16 32) (v134 : IVec S16 32) (v136 : IVec S16 32) (v139 : IVec S16 32) (v142 : IVec S16 32) (c0_i32_31 : BitVec 32) (c1_i32_33 : BitVec 32) (h139 : v139 = io) (h142 : v142 = bi 0#32) (hc : c0_i32_31 = 0#32) (hc' : c1_i32_33 = 1#32) (hk : m.kb = v127) (hv : m.vb = v132) :
    run o base m (k0_part16 i (Memref.whole main_arg0_scv) (Memref.isWhole_whole _) (Memref.whole main_v0_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scoped0 v127 v128 v129 v132 v134 v136 v139 v142 c0_i32_31 c1_i32_33 >>= K)
      = run o base { m with kb := (srt (v129, v136)).1, vb := (srt (v129, v136)).2 } (K ⟨(srt (v127, v132)).1, (srt (v127, v132)).2, (srt (v128, v134)).1, (srt (v128, v134)).2, (srt (v129, v136)).1⟩) := by
  subst h139 h142 hc hc' hk hv
  rw [k0_part16]
  simp only [bind_assoc, pure_bind]
  rw [run_for_acc (N := 16) (hN := by decide) (f := cntStep m.kb m.kb)]
  case h =>
    intro b a K
    simp only [bind_assoc, pure_bind]
    rw [run_assume (h := by exact chkB b b.isLt)]
    simp only [run_gat_kb]
    exact congrArg (fun z => run o base _ (K z)) (cnt_eq ..)
  rw [run_assume (h := by exact ⟨and15 _, and15 _⟩)]
  simp only [run_ld_kb0, run_ld_vb0, run_sd_kb, run_sd_vb, run_sca_kb, run_sca_vb, run_gat_kb, run_gat_vb, sd16, ld16]
  rw [run_for_acc (N := 16) (hN := by decide) (f := cntStep v128 v128)]
  case h =>
    intro b a K
    simp only [bind_assoc, pure_bind]
    rw [run_assume (h := by exact chkB b b.isLt)]
    simp only [run_gat_kb]
    exact congrArg (fun z => run o base _ (K z)) (cnt_eq ..)
  rw [run_assume (h := by exact ⟨and15 _, and15 _⟩)]
  simp only [run_ld_kb0, run_ld_vb0, run_sd_kb, run_sd_vb, run_sca_kb, run_sca_vb, run_gat_kb, run_gat_vb, sd16, ld16]
  rw [run_for_acc (N := 16) (hN := by decide) (f := cntStep v129 v129)]
  case h =>
    intro b a K
    simp only [bind_assoc, pure_bind]
    rw [run_assume (h := by exact chkB b b.isLt)]
    simp only [run_gat_kb]
    exact congrArg (fun z => run o base _ (K z)) (cnt_eq ..)
  rw [run_assume (h := by exact ⟨and15 _, and15 _⟩)]
  simp only [run_ld_kb0, run_ld_vb0, run_sd_kb, run_sd_vb, run_sca_kb, run_sca_vb, run_gat_kb, run_gat_vb, sd16, ld16]
  rfl
theorem run_part17 (K : (Σ' (v168 : Vec F S16 .i32) (v177 : Vec F S16 .f32) (v178 : Vec F S16 .i32) (v190 : Vec F S16 .f32) (v191 : Vec F S16 .i32) (v192 : Vec F S16 .f32) (v193 : Vec F S16 .i32) (v194 : IVec S16 32) (v197 : IVec S16 32), BitVec 32) → Prog (TpuEff nD τ sig (Elt F) Λ₀ (.scVector ((i 0).castLE hcore0) ((i 1).castLE hsub0))) γ) (v130 : Vec F S16 .f32) (v138 : IVec S16 32) (v147 : Vec F S16 .f32) (v148 : Vec F S16 .i32) (v157 : Vec F S16 .f32) (v158 : Vec F S16 .i32)  :
    run o base m (k0_part17 i (Memref.whole main_arg0_scv) (Memref.isWhole_whole _) (Memref.whole main_v0_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scoped0 v130 v138 v147 v148 v157 v158 >>= K)
      = run o base { m with kb := (lop (v147, v148) (rvp (v157, v158))).1, vb := (lop (v147, v148) (rvp (v157, v158))).2 } (K ⟨m.vb, (srt (v130, v138)).1, (srt (v130, v138)).2, (lop (v147, v148) (rvp (v157, v158))).1, (lop (v147, v148) (rvp (v157, v158))).2, (hip (v147, v148) (rvp (v157, v158))).1, (hip (v147, v148) (rvp (v157, v158))).2, io, bi 0#32, 0#32⟩) := by
  rw [k0_part17]
  simp only [bind_assoc, pure_bind]
  simp only [run_ld_kb0, run_ld_vb0, run_sd_kb, run_sd_vb, run_sca_kb, run_sca_vb, run_gat_kb, run_gat_vb, sd16, ld16]
  rw [run_for_acc (N := 16) (hN := by decide) (f := cntStep v130 v130)]
  case h =>
    intro b a K
    simp only [bind_assoc, pure_bind]
    rw [run_assume (h := by exact chkB b b.isLt)]
    simp only [run_gat_kb]
    exact congrArg (fun z => run o base _ (K z)) (cnt_eq ..)
  rw [run_assume (h := by exact ⟨and15 _, and15 _⟩)]
  simp only [run_ld_kb0, run_ld_vb0, run_sd_kb, run_sd_vb, run_sca_kb, run_sca_vb, run_gat_kb, run_gat_vb, sd16, ld16]
  rw [run_assume (h := by exact rev15)]
  simp only [run_ld_kb0, run_ld_vb0, run_sd_kb, run_sd_vb, run_sca_kb, run_sca_vb, run_gat_kb, run_gat_vb, sd16, ld16]
  rw [run_assume (h := by exact rev15)]
  simp only [run_ld_kb0, run_ld_vb0, run_sd_kb, run_sd_vb, run_sca_kb, run_sca_vb, run_gat_kb, run_gat_vb, sd16, ld16]
  rfl
theorem run_part18 (K : (Σ' (v202 : Vec F S16 .f32) (v203 : Vec F S16 .i32) (v212 : Vec F S16 .f32) (v213 : Vec F S16 .i32) (v218 : Vec F S16 .f32) (v223 : Vec F S16 .i32) (v224 : IVec S16 1), Vec F S16 .f32) → Prog (TpuEff nD τ sig (Elt F) Λ₀ (.scVector ((i 0).castLE hcore0) ((i 1).castLE hsub0))) γ) (v167 : Vec F S16 .f32) (v177 : Vec F S16 .f32) (v178 : Vec F S16 .i32) (v190 : Vec F S16 .f32) (v191 : Vec F S16 .i32) (v192 : Vec F S16 .f32) (v193 : Vec F S16 .i32) (v194 : IVec S16 32) (v197 : IVec S16 32) (c0_i32_74 : BitVec 32) (h194 : v194 = io) (h197 : v197 = bi 0#32) (hc : c0_i32_74 = 0#32) (hk : m.kb = v190) (hv : m.vb = v191) :
    run o base m (k0_part18 i (Memref.whole main_arg0_scv) (Memref.isWhole_whole _) (Memref.whole main_v0_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scoped0 v167 v177 v178 v190 v191 v192 v193 v194 v197 c0_i32_74 >>= K)
      = run o base { m with kb := v177, vb := v178 } (K ⟨(srt (v190, v191)).1, (srt (v190, v191)).2, (srt (v192, v193)).1, (srt (v192, v193)).2, gat v177 r15, gat v178 r15, cmpf .ole v167 (gat v177 r15), (select (cmpf .ole v167 (gat v177 r15)) v167 (gat v177 r15) : VF F)⟩) := by
  subst h194 h197 hc hk hv
  rw [k0_part18]
  simp only [bind_assoc, pure_bind]
  rw [run_for_acc (N := 16) (hN := by decide) (f := cntStep m.kb m.kb)]
  case h =>
    intro b a K
    simp only [bind_assoc, pure_bind]
    rw [run_assume (h := by exact chkB b b.isLt)]
    simp only [run_gat_kb]
    exact congrArg (fun z => run o base _ (K z)) (cnt_eq ..)
  rw [run_assume (h := by exact ⟨and15 _, and15 _⟩)]
  simp only [run_ld_kb0, run_ld_vb0, run_sd_kb, run_sd_vb, run_sca_kb, run_sca_vb, run_gat_kb, run_gat_vb, sd16, ld16]
  rw [run_for_acc (N := 16) (hN := by decide) (f := cntStep v192 v192)]
  case h =>
    intro b a K
    simp only [bind_assoc, pure_bind]
    rw [run_assume (h := by exact chkB b b.isLt)]
    simp only [run_gat_kb]
    exact congrArg (fun z => run o base _ (K z)) (cnt_eq ..)
  rw [run_assume (h := by exact ⟨and15 _, and15 _⟩)]
  simp only [run_ld_kb0, run_ld_vb0, run_sd_kb, run_sd_vb, run_sca_kb, run_sca_vb, run_gat_kb, run_gat_vb, sd16, ld16]
  rw [run_assume (h := by exact rev15)]
  simp only [run_ld_kb0, run_ld_vb0, run_sd_kb, run_sd_vb, run_sca_kb, run_sca_vb, run_gat_kb, run_gat_vb, sd16, ld16]
  rw [run_assume (h := by exact rev15)]
  simp only [run_ld_kb0, run_ld_vb0, run_sd_kb, run_sd_vb, run_sca_kb, run_sca_vb, run_gat_kb, run_gat_vb, sd16, ld16]
  rfl
theorem run_part19 (K : (Σ' (v237 : Vec F S16 .f32) (v238 : Vec F S16 .i32) (v248 : Vec F S16 .i32), IVec S16 32) → Prog (TpuEff nD τ sig (Elt F) Λ₀ (.scVector ((i 0).castLE hcore0) ((i 1).castLE hsub0))) γ) (v167 : Vec F S16 .f32) (v168 : Vec F S16 .i32) (v218 : Vec F S16 .f32) (v223 : Vec F S16 .i32) (v224 : IVec S16 1) (v225 : Vec F S16 .f32) (h224 : v224 = cmpf .ole v167 v218) (h225 : v225 = (select v224 v167 v218 : VF F)) :
    run o base m (k0_part19 i (Memref.whole main_arg0_scv) (Memref.isWhole_whole _) (Memref.whole main_v0_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scoped0 v167 v168 v218 v223 v224 v225 >>= K)
      = run o base { m with kb := (srt (hip (v167, v168) (v218, v223))).1, vb := (srt (hip (v167, v168) (v218, v223))).2 } (K ⟨(srt (lop (v167, v168) (v218, v223))).1, (srt (lop (v167, v168) (v218, v223))).2, (srt (hip (v167, v168) (v218, v223))).2, r15⟩) := by
  subst h225 h224
  rw [k0_part19]
  simp only [bind_assoc, pure_bind]
  simp only [run_ld_kb0, run_ld_vb0, run_sd_kb, run_sd_vb, run_sca_kb, run_sca_vb, run_gat_kb, run_gat_vb, sd16, ld16]
  rw [run_for_acc (N := 16) (hN := by decide) (f := cntStep (lop (v167, v168) (v218, v223)).1 (lop (v167, v168) (v218, v223)).1)]
  case h =>
    intro b a K
    simp only [bind_assoc, pure_bind]
    rw [run_assume (h := by exact chkB b b.isLt)]
    simp only [run_gat_kb]
    exact congrArg (fun z => run o base _ (K z)) (cnt_eq ..)
  rw [run_assume (h := by exact ⟨and15 _, and15 _⟩)]
  simp only [run_ld_kb0, run_ld_vb0, run_sd_kb, run_sd_vb, run_sca_kb, run_sca_vb, run_gat_kb, run_gat_vb, sd16, ld16]
  rw [run_for_acc (N := 16) (hN := by decide) (f := cntStep (hip (v167, v168) (v218, v223)).1 (hip (v167, v168) (v218, v223)).1)]
  case h =>
    intro b a K
    simp only [bind_assoc, pure_bind]
    rw [run_assume (h := by exact chkB b b.isLt)]
    simp only [run_gat_kb]
    exact congrArg (fun z => run o base _ (K z)) (cnt_eq ..)
  rw [run_assume (h := by exact ⟨and15 _, and15 _⟩)]
  simp only [run_ld_kb0, run_ld_vb0, run_sd_kb, run_sd_vb, run_sca_kb, run_sca_vb, run_gat_kb, run_gat_vb, sd16, ld16]
  rfl
theorem run_part20 (K : (Σ' (v280 : Vec F S16 .f32) (v281 : Vec F S16 .i32) (v282 : Vec F S16 .f32) (v283 : Vec F S16 .i32) (v285 : Vec F S16 .f32) (v286 : Vec F S16 .i32) (v287 : Vec F S16 .f32) (v288 : Vec F S16 .i32) (v289 : IVec S16 32) (v292 : IVec S16 32) (c0_i32_126 : BitVec 32), BitVec 32) → Prog (TpuEff nD τ sig (Elt F) Λ₀ (.scVector ((i 0).castLE hcore0) ((i 1).castLE hsub0))) γ) (v202 : Vec F S16 .f32) (v203 : Vec F S16 .i32) (v212 : Vec F S16 .f32) (v213 : Vec F S16 .i32) (v237 : Vec F S16 .f32) (v238 : Vec F S16 .i32) (v248 : Vec F S16 .i32) (v252 : IVec S16 32) (h252 : v252 = r15) :
    run o base m (k0_part20 i (Memref.whole main_arg0_scv) (Memref.isWhole_whole _) (Memref.whole main_v0_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scoped0 v202 v203 v212 v213 v237 v238 v248 v252 >>= K)
      = run o base { m with kb := (lop (lop (v202, v203) (rvp (m.kb, v248))) (lop (v212, v213) (rvp (v237, v238)))).1, vb := (lop (lop (v202, v203) (rvp (m.kb, v248))) (lop (v212, v213) (rvp (v237, v238)))).2 } (K ⟨(lop (lop (v202, v203) (rvp (m.kb, v248))) (lop (v212, v213) (rvp (v237, v238)))).1, (lop (lop (v202, v203) (rvp (m.kb, v248))) (lop (v212, v213) (rvp (v237, v238)))).2, (hip (lop (v202, v203) (rvp (m.kb, v248))) (lop (v212, v213) (rvp (v237, v238)))).1, (hip (lop (v202, v203) (rvp (m.kb, v248))) (lop (v212, v213) (rvp (v237, v238)))).2, (lop (hip (v202, v203) (rvp (m.kb, v248))) (hip (v212, v213) (rvp (v237, v238)))).1, (lop (hip (v202, v203) (rvp (m.kb, v248))) (hip (v212, v213) (rvp (v237, v238)))).2, (hip (hip (v202, v203) (rvp (m.kb, v248))) (hip (v212, v213) (rvp (v237, v238)))).1, (hip (hip (v202, v203) (rvp (m.kb, v248))) (hip (v212, v213) (rvp (v237, v238)))).2, io, bi 0#32, 0#32, 16#32⟩) := by
  subst h252
  rw [k0_part20]
  simp only [bind_assoc, pure_bind]
  rw [run_assume (h := by exact rev15)]
  simp only [run_ld_kb0, run_ld_vb0, run_sd_kb, run_sd_vb, run_sca_kb, run_sca_vb, run_gat_kb, run_gat_vb, sd16, ld16]
  rw [run_assume (h := by exact rev15)]
  simp only [run_ld_kb0, run_ld_vb0, run_sd_kb, run_sd_vb, run_sca_kb, run_sca_vb, run_gat_kb, run_gat_vb, sd16, ld16]
  rw [run_assume (h := by exact rev15)]
  simp only [run_ld_kb0, run_ld_vb0, run_sd_kb, run_sd_vb, run_sca_kb, run_sca_vb, run_gat_kb, run_gat_vb, sd16, ld16]
  rw [run_assume (h := by exact rev15)]
  simp only [run_ld_kb0, run_ld_vb0, run_sd_kb, run_sd_vb, run_sca_kb, run_sca_vb, run_gat_kb, run_gat_vb, sd16, ld16]
  rfl
theorem run_part21 (K : (Σ' (v297 : Vec F S16 .f32) (v298 : Vec F S16 .i32) (k0_hw60 : k0_chk60 v298) (v307 : Vec F S16 .f32) (v308 : Vec F S16 .i32) (k0_hw61 : k0_chk61 v308) (v316 : IVec S16 32), k0_chk30 v316) → Prog (TpuEff nD τ sig (Elt F) Λ₀ (.scVector ((i 0).castLE hcore0) ((i 1).castLE hsub0))) γ) (v280 : Vec F S16 .f32) (v281 : Vec F S16 .i32) (v282 : Vec F S16 .f32) (v283 : Vec F S16 .i32) (v285 : Vec F S16 .f32) (v286 : Vec F S16 .i32) (v289 : IVec S16 32) (v292 : IVec S16 32) (c0_i32_126 : BitVec 32) (c16_i32_127 : BitVec 32) (h289 : v289 = io) (h292 : v292 = bi 0#32) (hc : c0_i32_126 = 0#32) (hk : m.kb = v280) (hv : m.vb = v281) (b60 : ∀ k < 16, ((srt (v280, v281)).2 (ix 16 k)).toNat < 64) (b61 : ∀ k < 16, ((srt (v282, v283)).2 (ix 16 k)).toNat < 64) :
    run o base m (k0_part21 i (Memref.whole main_arg0_scv) (Memref.isWhole_whole _) (Memref.whole main_v0_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scoped0 v280 v281 v282 v283 v285 v286 v289 v292 c0_i32_126 c16_i32_127 >>= K)
      = run o base { m with kb := v285, vb := v286 } (K ⟨(srt (v280, v281)).1, (srt (v280, v281)).2, idxlt 64 _ b60, (srt (v282, v283)).1, (srt (v282, v283)).2, idxlt 64 _ b61, srtR v285, ⟨and15 _, and15 _⟩⟩) := by
  subst h289 h292 hc hk hv
  rw [k0_part21]
  simp only [bind_assoc, pure_bind]
  rw [run_for_acc (N := 16) (hN := by decide) (f := cntStep m.kb m.kb)]
  case h =>
    intro b a K
    simp only [bind_assoc, pure_bind]
    rw [run_assume (h := by exact chkB b b.isLt)]
    simp only [run_gat_kb]
    exact congrArg (fun z => run o base _ (K z)) (cnt_eq ..)
  rw [run_assume (h := by exact ⟨and15 _, and15 _⟩)]
  simp only [run_ld_kb0, run_ld_vb0, run_sd_kb, run_sd_vb, run_sca_kb, run_sca_vb, run_gat_kb, run_gat_vb, sd16, ld16]
  rw [run_assume (h := by exact idxlt 64 _ b60)]
  simp only [run_ld_kb0, run_ld_vb0, run_sd_kb, run_sd_vb, run_sca_kb, run_sca_vb, run_gat_kb, run_gat_vb, sd16, ld16]
  rw [run_for_acc (N := 16) (hN := by decide) (f := cntStep v282 v282)]
  case h =>
    intro b a K
    simp only [bind_assoc, pure_bind]
    rw [run_assume (h := by exact chkB b b.isLt)]
    simp only [run_gat_kb]
    exact congrArg (fun z => run o base _ (K z)) (cnt_eq ..)
  rw [run_assume (h := by exact ⟨and15 _, and15 _⟩)]
  simp only [run_ld_kb0, run_ld_vb0, run_sd_kb, run_sd_vb, run_sca_kb, run_sca_vb, run_gat_kb, run_gat_vb, sd16, ld16]
  rw [run_assume (h := by exact idxlt 64 _ b61)]
  simp only [run_ld_kb0, run_ld_vb0, run_sd_kb, run_sd_vb, run_sca_kb, run_sca_vb, run_gat_kb, run_gat_vb, sd16, ld16]
  rw [run_for_acc (N := 16) (hN := by decide) (f := cntStep v285 v285)]
  case h =>
    intro b a K
    simp only [bind_assoc, pure_bind]
    rw [run_assume (h := by exact chkB b b.isLt)]
    simp only [run_gat_kb]
    exact congrArg (fun z => run o base _ (K z)) (cnt_eq ..)
  rw [run_assume (h := by exact ⟨and15 _, and15 _⟩)]
  rfl
theorem run_part22 (K : (Σ' (v317 : Vec F S16 .f32) (v318 : Vec F S16 .i32) (k0_hw62 : k0_chk62 v318) (v327 : Vec F S16 .f32) (v328 : Vec F S16 .i32), k0_chk63 v328) → Prog (TpuEff nD τ sig (Elt F) Λ₀ (.scVector ((i 0).castLE hcore0) ((i 1).castLE hsub0))) γ) (v0 : IVec S16 32) (v285 : Vec F S16 .f32) (v286 : Vec F S16 .i32) (v287 : Vec F S16 .f32) (v288 : Vec F S16 .i32) (v297 : Vec F S16 .f32) (v298 : Vec F S16 .i32) (v307 : Vec F S16 .f32) (v308 : Vec F S16 .i32) (v316 : IVec S16 32) (k0_hw30 : k0_chk30 v316) (h0 : v0 = io) (h316 : v316 = srtR v285) (hk : m.kb = v285) (hv : m.vb = v286) (b62 : ∀ k < 16, ((srt (v285, v286)).2 (ix 16 k)).toNat < 64) (b63 : ∀ k < 16, ((srt (v287, v288)).2 (ix 16 k)).toNat < 64) :
    run o base m (k0_part22 i (Memref.whole main_arg0_scv) (Memref.isWhole_whole _) (Memref.whole main_v0_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scoped0 v0 v285 v286 v287 v288 v297 v298 v307 v308 v316 k0_hw30 >>= K)
      = run o base { m with
        kb := (srt (v287, v288)).1
        vb := (srt (v287, v288)).2
        tk := iter 16 (tkStep (srt (v285, v286)).1 32#32) (iter 16 (tkStep v307 16#32) (iter 16 (tkStep v297 0#32) m.tk))
        tp := sd (sd (sd m.tp 0 v298) 16 v308) 32 (srt (v285, v286)).2 } (K ⟨(srt (v285, v286)).1, (srt (v285, v286)).2, idxlt 64 _ b62, (srt (v287, v288)).1, (srt (v287, v288)).2, idxlt 64 _ b63⟩) := by
  subst h0 h316 hk hv
  rw [k0_part22]
  simp only [bind_assoc, pure_bind]
  simp only [run_ld_kb0, run_ld_vb0, run_sd_kb, run_sd_vb, run_sca_kb, run_sca_vb, run_gat_kb, run_gat_vb, sd16, ld16]
  rw [run_assume (h := by exact idxlt 64 _ b62)]
  simp only [run_ld_kb0, run_ld_vb0, run_sd_kb, run_sd_vb, run_sca_kb, run_sca_vb, run_gat_kb, run_gat_vb, sd16, ld16]
  rw [run_for_acc (N := 16) (hN := by decide) (f := cntStep v287 v287)]
  case h =>
    intro b a K
    simp only [bind_assoc, pure_bind]
    rw [run_assume (h := by exact chkB b b.isLt)]
    simp only [run_gat_kb]
    exact congrArg (fun z => run o base _ (K z)) (cnt_eq ..)
  rw [run_assume (h := by exact ⟨and15 _, and15 _⟩)]
  simp only [run_ld_kb0, run_ld_vb0, run_sd_kb, run_sd_vb, run_sca_kb, run_sca_vb, run_gat_kb, run_gat_vb, sd16, ld16]
  rw [run_assume (h := by exact idxlt 64 _ b63)]
  rw [run_for (N := 16) (hN := by decide) (f := fun k p => (p.1, { p.2 with tk := tkStep v297 0#32 k p.2.tk }))]
  case h =>
    intro b a m K
    simp only [bind_assoc, pure_bind, iv1]
    rw [run_assume (h := by exact tkidx 0#32 _ (by decide) (by rw [iv1, toNat_of_lt (n := 16) b.isLt (by decide)]; exact b.isLt))]
    simp only [run_sca_tk]
    rfl
  rw [iter_tk]
  simp only [run_ld_tp, run_sd_tp]
  rw [run_for (N := 16) (hN := by decide) (f := fun k p => (p.1, { p.2 with tk := tkStep v307 16#32 k p.2.tk }))]
  case h =>
    intro b a m K
    simp only [bind_assoc, pure_bind, iv1]
    rw [run_assume (h := by exact tkidx 16#32 _ (by decide) (by rw [iv1, toNat_of_lt (n := 16) b.isLt (by decide)]; exact b.isLt))]
    simp only [run_sca_tk]
    rfl
  rw [iter_tk]
  simp only [run_ld_tp, run_sd_tp]
  rw [run_for (N := 16) (hN := by decide) (f := fun k p => (p.1, { p.2 with tk := tkStep (srt (m.kb, m.vb)).1 32#32 k p.2.tk }))]
  case h =>
    intro b a m K
    simp only [bind_assoc, pure_bind, iv1]
    rw [run_assume (h := by exact tkidx 32#32 _ (by decide) (by rw [iv1, toNat_of_lt (n := 16) b.isLt (by decide)]; exact b.isLt))]
    simp only [run_sca_tk]
    rfl
  rw [iter_tk]
  simp only [run_ld_tp, run_sd_tp]
  rfl
end Cert.Proof.Mem
-- ==== Proof.R4.lean ====
module
public import proofs.«01_k».proof.Proof.R16
/-! Extracting the sixty-four largest entries of a row. -/
@[expose] public section
noncomputable section
namespace Cert.Proof.Mem
open Idealize.ShloMosaic
open Idealize.SL Idealize.SL.Sem
open Cert.KernelIdeal Cert.KernelIdeal.Facts₀ Cert.KernelIdeal.Facts Cert.Proof.Local
variable {F : FTy → Type} [FloatOps F]
variable [Facts]
attribute [local irreducible] iter sca scaA
variable {d : Dev nD} (i : grid0.Coords) {γ : Type}
variable (base : Bufs sig (Elt F) (th d ((i 0).castLE hcore0) ((i 1).castLE hsub0))) (m : Mem F) (o : Bool)

theorem ffs7 (c : IVec S16 1) : (ffs c 7#32).toNat < 8 := Nat.lt_succ_of_le (ffs_le c 7#32 (by decide))
theorem ffs15 (c : IVec S16 1) : (ffs c 15#32).toNat < 16 := Nat.lt_succ_of_le (ffs_le c 15#32 (by decide))

theorem q15 (a : F .f32) (c : VF F) : (eQ a c 15#32).toNat < 16 := ffs15 _

theorem all1 {p : Fin 1 → Prop} (h : p 0) : ∀ a, p a := fun a => by
  obtain rfl : a = (0 : Fin 1) := Subsingleton.elim (α := Fin 1) a 0; exact h

theorem ok37 (q : BitVec 32) (hq : q.toNat < 8) : k0_chk37 q :=
  ⟨all1 (by rw [off11 q hq]; show _ + 16 ≤ 128; omega), all1 (by rw [off15 q hq]; show _ + 16 ≤ 128; omega)⟩
theorem ok38 (q h : BitVec 32) (hq : q.toNat < 8) (hh : h.toNat < 16) : k0_chk38 q h :=
  ⟨all1 (by rw [off12 q h hq hh]; show _ + 16 ≤ 2048; omega), all1 (by rw [off14 q h hq hh]; show _ + 16 ≤ 2048; omega)⟩
theorem ok39 (q h g : BitVec 32) (hq : q.toNat < 8) (hh : h.toNat < 16) (hg : g.toNat < 16) : k0_chk39 q h g :=
  all1 (by rw [off13 q h g hq hh hg]; show _ + 16 ≤ 32768; omega)

theorem run_part4 (K : (Σ' (arg24 : BitVec 32) (v1615 : F .f32) (v1622 : IVec S16 32), IVec S16 32) → Prog (TpuEff nD τ sig (Elt F) Λ₀ (.scVector ((i 0).castLE hcore0) ((i 1).castLE hsub0))) γ) (c0_i32_187 : BitVec 32) (c1_i32_188 : BitVec 32) (k0_t25 : Fin k0_t25_loop.trips) (arg25 : FVec F S16 .f32) (hc : c0_i32_187 = 0#32) (hc' : c1_i32_188 = 1#32) :
    run o base m (k0_part4 i (Memref.whole main_arg0_scv) (Memref.isWhole_whole _) (Memref.whole main_v0_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scoped0 c0_i32_187 c1_i32_188 k0_t25 arg25 >>= K)
      = run o base m (K ⟨BitVec.ofNat 32 k0_t25, vmax arg25, broadcast S16 2147483648#32, scan .min (xori (select (cmpf .oeq arg25 (bf (vmax arg25))) (iota .scVector S16 32 [0] iota_S16_d0_w32_scVector) (broadcast S16 7#32)) (broadcast S16 2147483648#32))⟩) := by
  subst hc hc'
  rw [k0_part4]
  simp only [bind_assoc, pure_bind]
  simp only [lane, iv0]
  rfl
theorem run_part5a (K : (Σ' (v1626 : BitVec 32) (k0_hw37 : k0_chk37 v1626) (v1629 : Vec F S16 .f32) (v1641 : BitVec 32) (k0_hw38 : k0_chk38 v1626 v1641) (v1642 : BitVec 32) (v1645 : Vec F S16 .f32) (v1657 : BitVec 32) (k0_hw39 : k0_chk39 v1626 v1641 v1657) (v1658 : BitVec 32) (v1661 : Vec F S16 .f32) (v1666 : IVec S16 32), BitVec 32) → Prog (TpuEff nD τ sig (Elt F) Λ₀ (.scVector ((i 0).castLE hcore0) ((i 1).castLE hsub0))) γ) (v1615 : F .f32) (v1622 : IVec S16 32) (v1624 : IVec S16 32) (c : IVec S16 1) (h1 : v1622 = broadcast S16 2147483648#32) (h2 : v1624 = scan .min (xori (select c (iota .scVector S16 32 [0] iota_S16_d0_w32_scVector) (broadcast S16 7#32)) (broadcast S16 2147483648#32))) :
    run o base m (k0_part5 i (Memref.whole main_arg0_scv) (Memref.isWhole_whole _) (Memref.whole main_v0_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scoped0 v1615 v1622 v1624 >>= K)
      = run o base m (K ⟨(ffs c 7#32), ok37 _ (ffs7 _), (ld m.m2 (k0_off11 (ffs c 7#32) 0)), (eQ v1615 (ld m.m2 (k0_off11 (ffs c 7#32) 0)) 15#32), ok38 _ _ (ffs7 _) (ffs15 _), (Scalar.addi (Scalar.muli (ffs c 7#32) 16#32) (eQ v1615 (ld m.m2 (k0_off11 (ffs c 7#32) 0)) 15#32)), (ld m.m1 (k0_off12 (ffs c 7#32) (eQ v1615 (ld m.m2 (k0_off11 (ffs c 7#32) 0)) 15#32) 0)), (eQ v1615 (ld m.m1 (k0_off12 (ffs c 7#32) (eQ v1615 (ld m.m2 (k0_off11 (ffs c 7#32) 0)) 15#32) 0)) 15#32), ok39 _ _ _ (ffs7 _) (ffs15 _) (ffs15 _), (Scalar.addi (Scalar.muli (Scalar.addi (Scalar.muli (ffs c 7#32) 16#32) (eQ v1615 (ld m.m2 (k0_off11 (ffs c 7#32) 0)) 15#32)) 16#32) (eQ v1615 (ld m.m1 (k0_off12 (ffs c 7#32) (eQ v1615 (ld m.m2 (k0_off11 (ffs c 7#32) 0)) 15#32) 0)) 15#32)), (ld m.s (k0_off13 (ffs c 7#32) (eQ v1615 (ld m.m2 (k0_off11 (ffs c 7#32) 0)) 15#32) (eQ v1615 (ld m.m1 (k0_off12 (ffs c 7#32) (eQ v1615 (ld m.m2 (k0_off11 (ffs c 7#32) 0)) 15#32) 0)) 15#32) 0)), select (cmpf .oeq (ld m.s (k0_off13 (ffs c 7#32) (eQ v1615 (ld m.m2 (k0_off11 (ffs c 7#32) 0)) 15#32) (eQ v1615 (ld m.m1 (k0_off12 (ffs c 7#32) (eQ v1615 (ld m.m2 (k0_off11 (ffs c 7#32) 0)) 15#32) 0)) 15#32) 0)) (bf v1615)) (iota .scVector S16 32 [0] iota_S16_d0_w32_scVector) (broadcast S16 15#32), 2147483648#32⟩) := by
  subst h1 h2
  rw [k0_part5]
  simp only [bind_assoc, pure_bind]
  refine (run_assume base m o (ok37 _ (ffs7 c)) _).trans ?_
  rw [run_ld_m2]
  refine (run_assume base m o (ok38 _ _ (ffs7 c) (ffs15 _)) _).trans ?_
  rw [run_ld_m1]
  refine (run_assume base m o (ok39 _ _ _ (ffs7 c) (ffs15 _) (ffs15 _)) _).trans ?_
  rw [run_ld_s]
  rfl

theorem run_part5 (K : (Σ' (v1626 : BitVec 32) (k0_hw37 : k0_chk37 v1626) (v1629 : Vec F S16 .f32) (v1641 : BitVec 32) (k0_hw38 : k0_chk38 v1626 v1641) (v1642 : BitVec 32) (v1645 : Vec F S16 .f32) (v1657 : BitVec 32) (k0_hw39 : k0_chk39 v1626 v1641 v1657) (v1658 : BitVec 32) (v1661 : Vec F S16 .f32) (v1666 : IVec S16 32), BitVec 32) → Prog (TpuEff nD τ sig (Elt F) Λ₀ (.scVector ((i 0).castLE hcore0) ((i 1).castLE hsub0))) γ) (v1615 : F .f32) (v1622 : IVec S16 32) (v1624 : IVec S16 32) (c : IVec S16 1) (h1 : v1622 = broadcast S16 2147483648#32) (h2 : v1624 = scan .min (xori (select c (iota .scVector S16 32 [0] iota_S16_d0_w32_scVector) (broadcast S16 7#32)) (broadcast S16 2147483648#32))) :
    run o base m (k0_part5 i (Memref.whole main_arg0_scv) (Memref.isWhole_whole _) (Memref.whole main_v0_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scoped0 v1615 v1622 v1624 >>= K)
      = run o base m (K ⟨(ffs c 7#32), ok37 _ (ffs7 _), (ld m.m2 (16 * (ffs c 7#32).toNat)), (eQ v1615 (ld m.m2 (16 * (ffs c 7#32).toNat)) 15#32), ok38 _ _ (ffs7 _) (ffs15 _), (Scalar.addi (Scalar.muli (ffs c 7#32) 16#32) (eQ v1615 (ld m.m2 (16 * (ffs c 7#32).toNat)) 15#32)), (ld m.m1 (256 * (ffs c 7#32).toNat + 16 * (eQ v1615 (ld m.m2 (16 * (ffs c 7#32).toNat)) 15#32).toNat)), (eQ v1615 (ld m.m1 (256 * (ffs c 7#32).toNat + 16 * (eQ v1615 (ld m.m2 (16 * (ffs c 7#32).toNat)) 15#32).toNat)) 15#32), ok39 _ _ _ (ffs7 _) (ffs15 _) (ffs15 _), (Scalar.addi (Scalar.muli (Scalar.addi (Scalar.muli (ffs c 7#32) 16#32) (eQ v1615 (ld m.m2 (16 * (ffs c 7#32).toNat)) 15#32)) 16#32) (eQ v1615 (ld m.m1 (256 * (ffs c 7#32).toNat + 16 * (eQ v1615 (ld m.m2 (16 * (ffs c 7#32).toNat)) 15#32).toNat)) 15#32)), (ld m.s (4096 * (ffs c 7#32).toNat + 256 * (eQ v1615 (ld m.m2 (16 * (ffs c 7#32).toNat)) 15#32).toNat + 16 * (eQ v1615 (ld m.m1 (256 * (ffs c 7#32).toNat + 16 * (eQ v1615 (ld m.m2 (16 * (ffs c 7#32).toNat)) 15#32).toNat)) 15#32).toNat)), select (cmpf .oeq (ld m.s (4096 * (ffs c 7#32).toNat + 256 * (eQ v1615 (ld m.m2 (16 * (ffs c 7#32).toNat)) 15#32).toNat + 16 * (eQ v1615 (ld m.m1 (256 * (ffs c 7#32).toNat + 16 * (eQ v1615 (ld m.m2 (16 * (ffs c 7#32).toNat)) 15#32).toNat)) 15#32).toNat)) (bf v1615)) (iota .scVector S16 32 [0] iota_S16_d0_w32_scVector) (broadcast S16 15#32), 2147483648#32⟩) := by
  rw [run_part5a (c := c) (h1 := h1) (h2 := h2), off11 _ (ffs7 _), off12 _ _ (ffs7 _) (q15 _ _), off13 _ _ _ (ffs7 _) (q15 _ _) (q15 _ _)]
theorem run_part6 (K : (Σ' (v1672 : BitVec 32) (v1674 : BitVec 32) (v1691 : BitVec 32) (v1693 : BitVec 32) (v1700 : FVec F S16 .f32) (v1707 : FVec F S16 .f32) (v1714 : FVec F S16 .f32), BitVec 32) → Prog (TpuEff nD τ sig (Elt F) Λ₀ (.scVector ((i 0).castLE hcore0) ((i 1).castLE hsub0))) γ) (v0 : IVec S16 32) (arg26 : FVec F S16 .f32) (arg27 : FVec F S16 .f32) (arg28 : FVec F S16 .f32) (arg24 : BitVec 32) (v1615 : F .f32) (v1658 : BitVec 32) (v1666 : IVec S16 32) (c_m2147483648_i32_362 : BitVec 32) (c : IVec S16 1) (h0 : v0 = io) (h1 : v1666 = select c (iota .scVector S16 32 [0] iota_S16_d0_w32_scVector) (broadcast S16 15#32)) (h2 : c_m2147483648_i32_362 = 2147483648#32) :
    run o base m (k0_part6 i (Memref.whole main_arg0_scv) (Memref.isWhole_whole _) (Memref.whole main_v0_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scoped0 v0 arg26 arg27 arg28 arg24 v1615 v1658 v1666 c_m2147483648_i32_362 >>= K)
      = run o base m (K ⟨ffs c 15#32, Scalar.addi (Scalar.muli v1658 16#32) (ffs c 15#32), fdiv16 arg24, (Scalar.subi arg24 (Scalar.muli (fdiv16 arg24) 16#32)), select (at_ arg24 0#32) (bf v1615) arg26, select (at_ arg24 1#32) (bf v1615) arg27, select (at_ arg24 2#32) (bf v1615) arg28, 3#32⟩) := by
  subst h0 h1 h2
  rw [k0_part6]
  simp only [bind_assoc, pure_bind]
  rfl
theorem run_part7 (K : (Σ' (v1721 : FVec F S16 .f32) (v1728 : IVec S16 32) (v1735 : IVec S16 32) (v1742 : IVec S16 32) (v1749 : IVec S16 32) (v1753 : FVec F S16 .f32) (c16_i32_382 : BitVec 32) (v1757 : BitVec 32) (v1762 : BitVec 32), BitVec 1) → Prog (TpuEff nD τ sig (Elt F) Λ₀ (.scVector ((i 0).castLE hcore0) ((i 1).castLE hsub0))) γ) (v0 : IVec S16 32) (arg29 : FVec F S16 .f32) (arg30 : IVec S16 32) (arg31 : IVec S16 32) (arg32 : IVec S16 32) (arg33 : IVec S16 32) (v1615 : F .f32) (v1626 : BitVec 32) (v1641 : BitVec 32) (v1657 : BitVec 32) (k0_hw39 : k0_chk39 v1626 v1641 v1657) (v1658 : BitVec 32) (v1661 : Vec F S16 .f32) (v1672 : BitVec 32) (v1674 : BitVec 32) (v1691 : BitVec 32) (v1693 : BitVec 32) (c3_i32_375 : BitVec 32) (j : BitVec 32) (h0 : v0 = io) (h1 : v1691 = fdiv16 j) (h2 : v1693 = (Scalar.subi j (Scalar.muli (fdiv16 j) 16#32))) (h3 : c3_i32_375 = 3#32) (hq : v1626.toNat < 8) (hh : v1641.toNat < 16) (hg : v1657.toNat < 16) :
    run o base m (k0_part7 i (Memref.whole main_arg0_scv) (Memref.isWhole_whole _) (Memref.whole main_v0_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scoped0 v0 arg29 arg30 arg31 arg32 arg33 v1615 v1626 v1641 v1657 k0_hw39 v1658 v1661 v1672 v1674 v1691 v1693 c3_i32_375 >>= K)
      = run o base { m with s := sd m.s (4096 * v1626.toNat + 256 * v1641.toNat + 16 * v1657.toNat) (select (cmpi .eq io (bi v1672)) (bf (Scalar.ofBits .f32 0xBF800000#32)) v1661 : VF F) } (K ⟨select (at_ j 3#32) (bf v1615) arg29, select (at_ j 0#32) (bi v1674) arg30, select (at_ j 1#32) (bi v1674) arg31, select (at_ j 2#32) (bi v1674) arg32, select (at_ j 3#32) (bi v1674) arg33, (select (cmpi .eq io (bi v1672)) (bf (Scalar.ofBits .f32 0xBF800000#32)) v1661 : VF F), 16#32, Scalar.divsi v1658 16#32, Scalar.subi (Scalar.extui (Scalar.cmpi .sgt v1658 0#32)) (Scalar.extui (Scalar.cmpi .slt v1658 0#32)), Scalar.cmpi .sgt 16#32 0#32⟩) := by
  subst h0 h1 h2 h3
  rw [k0_part7]
  simp only [bind_assoc, pure_bind]
  simp only [run_ld_s, run_sd_s, off13 _ _ _ hq hh hg]
  rfl
theorem run_part8 (K : (Σ' (v1777 : IVec S16 1) (v1801 : F .f32) (v1803 : F .f32) (v1805 : F .f32) (v1807 : F .f32) (v1809 : F .f32), F .f32) → Prog (TpuEff nD τ sig (Elt F) Λ₀ (.scVector ((i 0).castLE hcore0) ((i 1).castLE hsub0))) γ) (v0 : IVec S16 32) (v1658 : BitVec 32) (v1753 : FVec F S16 .f32) (c16_i32_382 : BitVec 32) (v1757 : BitVec 32) (v1762 : BitVec 32) (v1763 : BitVec 1) (h0 : v0 = io) (hc : c16_i32_382 = 16#32) (h1 : v1757 = Scalar.divsi v1658 16#32) (h2 : v1762 = Scalar.subi (Scalar.extui (Scalar.cmpi .sgt v1658 0#32)) (Scalar.extui (Scalar.cmpi .slt v1658 0#32))) (h3 : v1763 = Scalar.cmpi .sgt 16#32 0#32) :
    run o base m (k0_part8 i (Memref.whole main_arg0_scv) (Memref.isWhole_whole _) (Memref.whole main_v0_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scoped0 v0 v1658 v1753 c16_i32_382 v1757 v1762 v1763 >>= K)
      = run o base m (K ⟨cmpi .eq io (bi (Scalar.subi v1658 (Scalar.muli (fdiv16 v1658) 16#32))), v1753 (ix 16 11), v1753 (ix 16 12), v1753 (ix 16 13), v1753 (ix 16 14), v1753 (ix 16 15), (List.range 10).foldl (fun a k => Scalar.maximumf a (v1753 (ix 16 (k + 1)))) (v1753 (ix 16 0))⟩) := by
  subst h0 hc h1 h2 h3
  rw [k0_part8]
  simp only [bind_assoc, pure_bind]
  simp only [lane]
  rfl
theorem run_part9 (K : (Σ' (v1833 : IVec S16 1) (v1859 : F .f32) (v1861 : F .f32) (v1863 : F .f32) (v1865 : F .f32), F .f32) → Prog (TpuEff nD τ sig (Elt F) Λ₀ (.scVector ((i 0).castLE hcore0) ((i 1).castLE hsub0))) γ) (v0 : IVec S16 32) (v1626 : BitVec 32) (v1641 : BitVec 32) (k0_hw38 : k0_chk38 v1626 v1641) (v1642 : BitVec 32) (v1645 : Vec F S16 .f32) (v1777 : IVec S16 1) (v1801 : F .f32) (v1803 : F .f32) (v1805 : F .f32) (v1807 : F .f32) (v1809 : F .f32) (v1819 : F .f32) (y : VF F) (h0 : v0 = io) (h1801 : v1801 = y (ix 16 11)) (h1803 : v1803 = y (ix 16 12)) (h1805 : v1805 = y (ix 16 13)) (h1807 : v1807 = y (ix 16 14)) (h1809 : v1809 = y (ix 16 15)) (h1 : v1819 = (List.range 10).foldl (fun a k => Scalar.maximumf a (y (ix 16 (k + 1)))) (y (ix 16 0))) (hq : v1626.toNat < 8) (hh : v1641.toNat < 16) :
    run o base m (k0_part9 i (Memref.whole main_arg0_scv) (Memref.isWhole_whole _) (Memref.whole main_v0_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scoped0 v0 v1626 v1641 k0_hw38 v1642 v1645 v1777 v1801 v1803 v1805 v1807 v1809 v1819 >>= K)
      = run o base { m with m1 := sd m.m1 (256 * v1626.toNat + 16 * v1641.toNat) (select v1777 (bf (vmax y)) v1645 : VF F) } (K ⟨cmpi .eq io (bi (Scalar.subi v1642 (Scalar.muli v1626 16#32))), (select v1777 (bf (vmax y)) v1645 : VF F) (ix 16 12), (select v1777 (bf (vmax y)) v1645 : VF F) (ix 16 13), (select v1777 (bf (vmax y)) v1645 : VF F) (ix 16 14), (select v1777 (bf (vmax y)) v1645 : VF F) (ix 16 15), (List.range 11).foldl (fun a k => Scalar.maximumf a ((select v1777 (bf (vmax y)) v1645 : VF F) (ix 16 (k + 1)))) ((select v1777 (bf (vmax y)) v1645 : VF F) (ix 16 0))⟩) := by
  subst h0 h1801 h1803 h1805 h1807 h1809 h1
  rw [k0_part9]
  simp only [bind_assoc, pure_bind]
  simp only [run_ld_m1, run_sd_m1, off14 _ _ hq hh, lane]
  rfl
theorem run_part10 (K : (Σ' (v1887 : IVec S16 1), F .f32) → Prog (TpuEff nD τ sig (Elt F) Λ₀ (.scVector ((i 0).castLE hcore0) ((i 1).castLE hsub0))) γ) (v0 : IVec S16 32) (v1626 : BitVec 32) (k0_hw37 : k0_chk37 v1626) (v1629 : Vec F S16 .f32) (v1833 : IVec S16 1) (v1859 : F .f32) (v1861 : F .f32) (v1863 : F .f32) (v1865 : F .f32) (v1876 : F .f32) (y : VF F) (h0 : v0 = io) (h1859 : v1859 = y (ix 16 12)) (h1861 : v1861 = y (ix 16 13)) (h1863 : v1863 = y (ix 16 14)) (h1865 : v1865 = y (ix 16 15)) (h1 : v1876 = (List.range 11).foldl (fun a k => Scalar.maximumf a (y (ix 16 (k + 1)))) (y (ix 16 0))) (hq : v1626.toNat < 8) :
    run o base m (k0_part10 i (Memref.whole main_arg0_scv) (Memref.isWhole_whole _) (Memref.whole main_v0_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scoped0 v0 v1626 k0_hw37 v1629 v1833 v1859 v1861 v1863 v1865 v1876 >>= K)
      = run o base { m with m2 := sd m.m2 (16 * v1626.toNat) (select v1833 (bf (vmax y)) v1629 : VF F) } (K ⟨cmpi .eq io (bi v1626), vmax (select v1833 (bf (vmax y)) v1629 : VF F)⟩) := by
  subst h0 h1859 h1861 h1863 h1865 h1
  rw [k0_part10]
  simp only [bind_assoc, pure_bind]
  simp only [run_ld_m2, run_sd_m2, off15 _ hq, lane]
  rfl
end Cert.Proof.Mem
-- ==== Proof.R23.lean ====
module
public import proofs.«01_k».proof.Proof.R4
/-! The extraction loop and the values restored. -/
@[expose] public section
set_option pp.maxSteps 300
noncomputable section
namespace Cert.Proof.Mem
open Idealize.ShloMosaic
open Idealize.SL Idealize.SL.Sem
open Cert.KernelIdeal Cert.KernelIdeal.Facts₀ Cert.KernelIdeal.Facts Cert.Proof.Local
variable {F : FTy → Type} [FloatOps F]
variable [Facts]
attribute [local irreducible] iter sca scaA
variable {d : Dev nD} (i : grid0.Coords) {γ : Type}
variable (base : Bufs sig (Elt F) (th d ((i 0).castLE hcore0) ((i 1).castLE hsub0))) (m : Mem F) (o : Bool)

/-- The running sums after `n` lanes: the accumulator and the vector so far. -/
def vcumP (v : VF F) (n : ℕ) : F .f32 × VF F :=
  (List.range n).foldl (fun (p : F .f32 × VF F) k =>
    (Scalar.addf p.1 (v (ix 16 (k + 1))),
      select (cmpi .eq io (bi (BitVec.ofNat 32 (k + 1)))) (bf (Scalar.addf p.1 (v (ix 16 (k + 1))))) p.2))
    (v (ix 16 0), v)

theorem flat_lt (q h g e : BitVec 32) (hq : q.toNat < 8) (hh : h.toNat < 16) (hg : g.toNat < 16) (he : e.toNat < 16) :
    (Scalar.addi (Scalar.muli (Scalar.addi (Scalar.muli (Scalar.addi (Scalar.muli q 16#32) h) 16#32) g) 16#32) e).toNat < 32768 := by
  show ((((q * 16#32 + h) * 16#32 + g) * 16#32 + e : BitVec 32)).toNat < 32768
  simp only [BitVec.toNat_add, BitVec.toNat_mul, BitVec.toNat_ofNat]
  omega

theorem sel_lt (n : ℕ) (c : IVec S16 1) (a b : VI) (ha : ∀ k < 16, (a (ix 16 k)).toNat < n) (hb : ∀ k < 16, (b (ix 16 k)).toNat < n) :
    ∀ k < 16, ((select c a b : VI) (ix 16 k)).toNat < n := by
  intro k hk
  show (if c (ix 16 k) = 1 then a (ix 16 k) else b (ix 16 k)).toNat < n
  split
  · exact ha k hk
  · exact hb k hk

/-- Every index the extraction carries lies in the row. -/
def ExtOk (x : Ext F) : Prop :=
  (∀ k < 16, (x.2.2.2.2.2.1 (ix 16 k)).toNat < 32768) ∧ (∀ k < 16, (x.2.2.2.2.2.2.1 (ix 16 k)).toNat < 32768) ∧
    (∀ k < 16, (x.2.2.2.2.2.2.2.1 (ix 16 k)).toNat < 32768) ∧ ∀ k < 16, (x.2.2.2.2.2.2.2.2 (ix 16 k)).toNat < 32768

theorem extOk_step (j : ℕ) (p : Ext F × Mem F) (h : ExtOk p.1) : ExtOk (extStep j p).1 := by
  have hf : ∀ v2 v1 ve : VF F, ∀ k < 16, ((bi (Scalar.addi (Scalar.muli (Scalar.addi (Scalar.muli (Scalar.addi (Scalar.muli
      (eQ (vmax p.1.1) p.1.1 7#32) 16#32) (eQ (vmax p.1.1) v2 15#32)) 16#32) (eQ (vmax p.1.1) v1 15#32)) 16#32)
      (eQ (vmax p.1.1) ve 15#32)) : VI) (ix 16 k)).toNat < 32768 := fun v2 v1 ve k _ =>
    flat_lt _ _ _ _ (ffs7 _) (q15 _ _) (q15 _ _) (q15 _ _)
  exact ⟨sel_lt _ _ _ _ (hf _ _ _) h.1, sel_lt _ _ _ _ (hf _ _ _) h.2.1, sel_lt _ _ _ _ (hf _ _ _) h.2.2.1, sel_lt _ _ _ _ (hf _ _ _) h.2.2.2⟩

theorem extOk_all (m3 : VF F) (m : Mem F) : ExtOk (extAll m3 m).1 := by
  unfold extAll iter
  have hl : ∀ (l : List ℕ) (p : Ext F × Mem F), ExtOk p.1 → ExtOk (l.foldl (fun p i => extStep i p) p).1 := by
    intro l
    induction l with
    | nil => exact fun p h => h
    | cons j l ih => exact fun p h => ih _ (extOk_step j p h)
  refine hl _ _ ⟨?_, ?_, ?_, ?_⟩ <;> exact fun k _ => show (0#32 : BitVec 32).toNat < 32768 by decide

theorem run_part23 (K : (Σ' (v344 : FVec F S16 .f32) (v346 : FVec F S16 .f32) (v348 : FVec F S16 .f32) (v350 : FVec F S16 .f32) (v351 : IVec S16 32) (v363 : F .f32) (v367 : FVec F S16 .f32), F .f32) → Prog (TpuEff nD τ sig (Elt F) Λ₀ (.scVector ((i 0).castLE hcore0) ((i 1).castLE hsub0))) γ) (v0 : IVec S16 32) (v2 : IVec S16 32) (v122 : F .f32) (v126 : FVec F S16 .f32) (v327 : Vec F S16 .f32) (v328 : Vec F S16 .i32) (h0 : v0 = io) (h2 : v2 = bi 0#32) :
    run o base m (k0_part23 i (Memref.whole main_arg0_scv) (Memref.isWhole_whole _) (Memref.whole main_v0_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scoped0 v0 v2 v122 v126 v327 v328 >>= K)
      = run o base { (extAll v126 { m with tk := iter 16 (tkStep v327 48#32) m.tk, tp := sd m.tp 48 v328 }).2 with s := restore (extAll v126 { m with tk := iter 16 (tkStep v327 48#32) m.tk, tp := sd m.tp 48 v328 }).1 (extAll v126 { m with tk := iter 16 (tkStep v327 48#32) m.tk, tp := sd m.tp 48 v328 }).2.s } (K ⟨divf (extAll v126 { m with tk := iter 16 (tkStep v327 48#32) m.tk, tp := sd m.tp 48 v328 }).1.2.1 (bf v122), divf (extAll v126 { m with tk := iter 16 (tkStep v327 48#32) m.tk, tp := sd m.tp 48 v328 }).1.2.2.1 (bf v122), divf (extAll v126 { m with tk := iter 16 (tkStep v327 48#32) m.tk, tp := sd m.tp 48 v328 }).1.2.2.2.1 (bf v122), divf (extAll v126 { m with tk := iter 16 (tkStep v327 48#32) m.tk, tp := sd m.tp 48 v328 }).1.2.2.2.2.1 (bf v122), io, (vcumP (divf (extAll v126 { m with tk := iter 16 (tkStep v327 48#32) m.tk, tp := sd m.tp 48 v328 }).1.2.1 (bf v122)) 2).1, (vcumP (divf (extAll v126 { m with tk := iter 16 (tkStep v327 48#32) m.tk, tp := sd m.tp 48 v328 }).1.2.1 (bf v122)) 2).2, (divf (extAll v126 { m with tk := iter 16 (tkStep v327 48#32) m.tk, tp := sd m.tp 48 v328 }).1.2.1 (bf v122) : VF F) (ix 16 3)⟩) := by
  subst h0 h2
  rw [k0_part23]
  simp only [bind_assoc, pure_bind]
  rw [run_for (N := 16) (hN := by decide) (f := fun k p => (p.1, { p.2 with tk := tkStep v327 48#32 k p.2.tk }))]
  case h =>
    intro b a m K
    simp only [bind_assoc, pure_bind, iv1]
    rw [run_assume (h := by exact tkidx 48#32 _ (by decide) (by rw [iv1, toNat_of_lt (n := 16) b.isLt (by decide)]; exact b.isLt))]
    simp only [run_sca_tk]
    rfl
  rw [iter_tk]
  simp only [run_ld_tp, run_sd_tp]
  rw [run_for (N := 64) (hN := by decide) (f := extStep)]
  case h =>
    intro b a m K
    obtain ⟨a1, a2, a3, a4, a5, a6, a7, a8, a9⟩ := a
    simp only [bind_assoc, pure_bind]
    rw [run_part4]
    case hc => rfl
    case hc' => rfl
    simp only []
    rw [run_part5]
    case h1 => rfl
    case h2 => rfl
    simp only []
    rw [run_part6]
    case h0 => rfl
    case h1 => rfl
    case h2 => rfl
    simp only []
    rw [run_part7]
    case h0 => rfl
    case h1 => rfl
    case h2 => rfl
    case h3 => rfl
    case hq => exact ffs7 _
    case hh => exact q15 (F := F) _ _
    case hg => exact q15 (F := F) _ _
    simp only []
    rw [run_part8]
    case h0 => rfl
    case hc => rfl
    case h1 => rfl
    case h2 => rfl
    case h3 => rfl
    simp only []
    rw [run_part9]
    case h0 => rfl
    case h1801 => rfl
    case h1803 => rfl
    case h1805 => rfl
    case h1807 => rfl
    case h1809 => rfl
    case h1 => rfl
    case hq => exact ffs7 _
    case hh => exact q15 (F := F) _ _
    simp only []
    rw [run_part10]
    case h0 => rfl
    case h1859 => rfl
    case h1861 => rfl
    case h1863 => rfl
    case h1865 => rfl
    case h1 => rfl
    case hq => exact ffs7 _
    rfl
  generalize hz : iter 64 (extStep (F := F)) _ = z
  have hz' : (extAll v126 { m with tk := iter 16 (tkStep v327 48#32) m.tk, tp := sd m.tp 48 v328 }) = z := hz
  have hok : ExtOk z.1 := by rw [← hz']; exact extOk_all _ _
  rw [hz']
  obtain ⟨⟨b1, b2, b3, b4, b5, b6, b7, b8, b9⟩, m⟩ := z
  simp only []
  rw [run_assume (h := by exact idxlt 32768 _ hok.2.2.2)]
  rw [run_assume (h := by exact idxlt 32768 _ hok.2.2.1)]
  rw [run_assume (h := by exact idxlt 32768 _ hok.2.1)]
  rw [run_assume (h := by exact idxlt 32768 _ hok.1)]
  simp only [run_sca_s, lane]
  rfl

end Cert.Proof.Mem
-- ==== Proof.R24.lean ====
module
public import proofs.«01_k».proof.Proof.R23
/-! How many of the sixty-four are kept, and the maxima the search starts from. -/
@[expose] public section
set_option pp.maxSteps 300
noncomputable section
namespace Cert.Proof.Mem
open Idealize.ShloMosaic
open Idealize.SL Idealize.SL.Sem
open Cert.KernelIdeal Cert.KernelIdeal.Facts₀ Cert.KernelIdeal.Facts Cert.Proof.Local
variable {F : FTy → Type} [FloatOps F]
variable [Facts]
attribute [local irreducible] iter sca scaA
variable {d : Dev nD} (i : grid0.Coords) {γ : Type}
variable (base : Bufs sig (Elt F) (th d ((i 0).castLE hcore0) ((i 1).castLE hsub0))) (m : Mem F) (o : Bool)

/-- Sums and maxima of the first lanes. -/
def sumP (v : VF F) (n : ℕ) : F .f32 := (List.range n).foldl (fun a k => Scalar.addf a (v (ix 16 (k + 1)))) (v (ix 16 0))
def maxP (v : VF F) (n : ℕ) : F .f32 := (List.range n).foldl (fun a k => Scalar.maximumf a (v (ix 16 (k + 1)))) (v (ix 16 0))

theorem ext15 {w : ℕ} (v : IVec S16 w) (h) : extractAt (s := S16) ![15] v h = v (ix 16 15) := congrArg v (eq_ix _)

theorem iter_hi (n : ℕ) (g : ℕ → (S1040.Idx → BitVec 32) → (S1040.Idx → BitVec 32)) (u : PUnit) (m : Mem F) :
    iter n (fun k (p : PUnit × Mem F) => (p.1, { p.2 with hi := g k p.2.hi })) (u, m) = (u, { m with hi := iter n g m.hi }) := by
  unfold iter
  induction n with
  | zero => rfl
  | succ n ih => rw [List.range_succ, List.foldl_append, List.foldl_append, ih]; rfl

/-- The constant the running sums are compared with. -/
abbrev topP : F .f32 := Scalar.ofBits .f32 0x3F19999A#32
abbrev f0 : F .f32 := Scalar.ofBits .f32 0x00000000#32

theorem run_part24 (K : (Σ' (v416 : FVec F S16 .f32) (v419 : F .f32), IVec S16 1) → Prog (TpuEff nD τ sig (Elt F) Λ₀ (.scVector ((i 0).castLE hcore0) ((i 1).castLE hsub0))) γ) (v344 : FVec F S16 .f32) (v351 : IVec S16 32) (v363 : F .f32) (v367 : FVec F S16 .f32) (v369 : F .f32) (h351 : v351 = io) (h363 : v363 = (vcumP v344 2).1) (h367 : v367 = (vcumP v344 2).2) (h369 : v369 = (v344 : VF F) (ix 16 3)) :
    run o base m (k0_part24 i (Memref.whole main_arg0_scv) (Memref.isWhole_whole _) (Memref.whole main_v0_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scoped0 v344 v351 v363 v367 v369 >>= K)
      = run o base m (K ⟨(vcumP v344 9).2, (vcumP v344 10).1, cmpi .eq io (bi 10#32)⟩) := by
  subst h351 h363 h367 h369
  rw [k0_part24]
  simp only [bind_assoc, pure_bind]
  simp only [lane, ext15]
  rfl

theorem run_part25 (K : (Σ' (v469 : BitVec 32), FVec F S1 .f32) → Prog (TpuEff nD τ sig (Elt F) Λ₀ (.scVector ((i 0).castLE hcore0) ((i 1).castLE hsub0))) γ) (v344 : FVec F S16 .f32) (v351 : IVec S16 32) (v416 : FVec F S16 .f32) (v419 : F .f32) (v421 : IVec S16 1) (h351 : v351 = io) (h416 : v416 = (vcumP v344 9).2) (h419 : v419 = (vcumP v344 10).1) (h421 : v421 = cmpi .eq io (bi 10#32)) :
    run o base m (k0_part25 i (Memref.whole main_arg0_scv) (Memref.isWhole_whole _) (Memref.whole main_v0_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scoped0 v344 v351 v416 v419 v421 >>= K)
      = run o base m (K ⟨Scalar.addi 0#32 (popc (cmpf .ole (addf (vcum v344) (bf f0)) (bf topP))), (extractStridedSlice S1 ![0] v344 slices_S16_o0_S1 : FVec F S1 .f32)⟩) := by
  subst h351 h416 h419 h421
  rw [k0_part25]
  simp only [bind_assoc, pure_bind]
  simp only [lane, ext15]
  rfl

theorem run_part26 (K : (Σ' (v517 : F .f32) (v518 : IVec S16 32) (v523 : F .f32) (v527 : FVec F S16 .f32), FVec F S1 .f32) → Prog (TpuEff nD τ sig (Elt F) Λ₀ (.scVector ((i 0).castLE hcore0) ((i 1).castLE hsub0))) γ) (v344 : FVec F S16 .f32) (v346 : FVec F S16 .f32) (v470 : FVec F S1 .f32) (h470 : v470 = (extractStridedSlice S1 ![0] v344 slices_S16_o0_S1 : FVec F S1 .f32)) :
    run o base m (k0_part26 i (Memref.whole main_arg0_scv) (Memref.isWhole_whole _) (Memref.whole main_v0_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scoped0 v344 v346 v470 >>= K)
      = run o base m (K ⟨Scalar.addf f0 (vsum v344), io, (vcumP v346 1).1, (vcumP v346 1).2, (extractStridedSlice S1 ![2] v346 slices_S16_o2_S1 : FVec F S1 .f32)⟩) := by
  subst h470
  rw [k0_part26]
  simp only [bind_assoc, pure_bind]
  simp only [lane, ext15]
  rfl

theorem run_part27 (K : (Σ' (v576 : FVec F S16 .f32) (v579 : F .f32), IVec S16 32) → Prog (TpuEff nD τ sig (Elt F) Λ₀ (.scVector ((i 0).castLE hcore0) ((i 1).castLE hsub0))) γ) (v346 : FVec F S16 .f32) (v518 : IVec S16 32) (v523 : F .f32) (v527 : FVec F S16 .f32) (v528 : FVec F S1 .f32) (h518 : v518 = io) (h523 : v523 = (vcumP v346 1).1) (h527 : v527 = (vcumP v346 1).2) (h528 : v528 = (extractStridedSlice S1 ![2] v346 slices_S16_o2_S1 : FVec F S1 .f32)) :
    run o base m (k0_part27 i (Memref.whole main_arg0_scv) (Memref.isWhole_whole _) (Memref.whole main_v0_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scoped0 v346 v518 v523 v527 v528 >>= K)
      = run o base m (K ⟨(vcumP v346 8).2, (vcumP v346 9).1, bi 9#32⟩) := by
  subst h518 h523 h527 h528
  rw [k0_part27]
  simp only [bind_assoc, pure_bind]
  simp only [lane, ext15]
  rfl

theorem run_part28 (K : (Σ' (v629 : IVec S16 1) (v630 : IVec S16 32), IVec S16 32) → Prog (TpuEff nD τ sig (Elt F) Λ₀ (.scVector ((i 0).castLE hcore0) ((i 1).castLE hsub0))) γ) (v346 : FVec F S16 .f32) (v517 : F .f32) (v518 : IVec S16 32) (v576 : FVec F S16 .f32) (v579 : F .f32) (v580 : IVec S16 32) (h518 : v518 = io) (h576 : v576 = (vcumP v346 8).2) (h579 : v579 = (vcumP v346 9).1) (h580 : v580 = bi 9#32) :
    run o base m (k0_part28 i (Memref.whole main_arg0_scv) (Memref.isWhole_whole _) (Memref.whole main_v0_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scoped0 v346 v517 v518 v576 v579 v580 >>= K)
      = run o base m (K ⟨(cmpf .ole (addf (vcum v346) (bf v517)) (bf topP)), bi 1#32, bi 0#32⟩) := by
  subst h518 h576 h579 h580
  rw [k0_part28]
  simp only [bind_assoc, pure_bind]
  simp only [lane, ext15]
  rfl

theorem run_part29 (K : (Σ' (v636 : BitVec 32) (v684 : F .f32) (v685 : IVec S16 32), F .f32) → Prog (TpuEff nD τ sig (Elt F) Λ₀ (.scVector ((i 0).castLE hcore0) ((i 1).castLE hsub0))) γ) (v346 : FVec F S16 .f32) (v348 : FVec F S16 .f32) (v469 : BitVec 32) (v517 : F .f32) (v629 : IVec S16 1) (v630 : IVec S16 32) (v631 : IVec S16 32) (h630 : v630 = bi 1#32) (h631 : v631 = bi 0#32) :
    run o base m (k0_part29 i (Memref.whole main_arg0_scv) (Memref.isWhole_whole _) (Memref.whole main_v0_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scoped0 v346 v348 v469 v517 v629 v630 v631 >>= K)
      = run o base m (K ⟨Scalar.addi v469 (popc v629), Scalar.addf v517 (vsum v346), io, (vcumP v348 1).1⟩) := by
  subst h630 h631
  rw [k0_part29]
  simp only [bind_assoc, pure_bind]
  simp only [lane, ext15]
  rfl

theorem run_part30 (K : (Σ' (v736 : FVec F S16 .f32) (v739 : F .f32) (v741 : IVec S16 1), FVec F S16 .f32) → Prog (TpuEff nD τ sig (Elt F) Λ₀ (.scVector ((i 0).castLE hcore0) ((i 1).castLE hsub0))) γ) (v348 : FVec F S16 .f32) (v685 : IVec S16 32) (v690 : F .f32) (h685 : v685 = io) (h690 : v690 = (vcumP v348 1).1) :
    run o base m (k0_part30 i (Memref.whole main_arg0_scv) (Memref.isWhole_whole _) (Memref.whole main_v0_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scoped0 v348 v685 v690 >>= K)
      = run o base m (K ⟨(vcumP v348 7).2, (vcumP v348 8).1, cmpi .eq io (bi 8#32), bf (vcumP v348 8).1⟩) := by
  subst h685 h690
  rw [k0_part30]
  simp only [bind_assoc, pure_bind]
  simp only [lane, ext15]
  rfl

theorem run_part31 (K : (Σ' (v794 : FVec F S16 .f32), F .f32) → Prog (TpuEff nD τ sig (Elt F) Λ₀ (.scVector ((i 0).castLE hcore0) ((i 1).castLE hsub0))) γ) (v348 : FVec F S16 .f32) (v684 : F .f32) (v685 : IVec S16 32) (v736 : FVec F S16 .f32) (v739 : F .f32) (v741 : IVec S16 1) (v742 : FVec F S16 .f32) (h685 : v685 = io) (h736 : v736 = (vcumP v348 7).2) (h739 : v739 = (vcumP v348 8).1) (h741 : v741 = cmpi .eq io (bi 8#32)) (h742 : v742 = bf (vcumP v348 8).1) :
    run o base m (k0_part31 i (Memref.whole main_arg0_scv) (Memref.isWhole_whole _) (Memref.whole main_v0_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scoped0 v348 v684 v685 v736 v739 v741 v742 >>= K)
      = run o base m (K ⟨addf (vcum v348) (bf v684), topP⟩) := by
  subst h685 h736 h739 h741 h742
  rw [k0_part31]
  simp only [bind_assoc, pure_bind]
  simp only [lane, ext15]
  rfl

theorem run_part32 (K : (Σ' (v803 : BitVec 32), F .f32) → Prog (TpuEff nD τ sig (Elt F) Λ₀ (.scVector ((i 0).castLE hcore0) ((i 1).castLE hsub0))) γ) (v348 : FVec F S16 .f32) (v636 : BitVec 32) (v684 : F .f32) (v794 : FVec F S16 .f32) (cst_235 : F .f32) (h794 : v794 = addf (vcum v348) (bf v684)) (hc : cst_235 = topP) :
    run o base m (k0_part32 i (Memref.whole main_arg0_scv) (Memref.isWhole_whole _) (Memref.whole main_v0_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scoped0 v348 v636 v684 v794 cst_235 >>= K)
      = run o base m (K ⟨Scalar.addi v636 (popc (cmpf .ole (addf (vcum v348) (bf v684)) (bf topP))), Scalar.addf v684 (vsum v348)⟩) := by
  subst h794 hc
  rw [k0_part32]
  simp only [bind_assoc, pure_bind]
  simp only [lane, ext15]
  rfl

theorem run_part33 (K : (Σ' (v852 : IVec S16 32) (v899 : F .f32) (v903 : FVec F S16 .f32), FVec F S1 .f32) → Prog (TpuEff nD τ sig (Elt F) Λ₀ (.scVector ((i 0).castLE hcore0) ((i 1).castLE hsub0))) γ) (v350 : FVec F S16 .f32)  :
    run o base m (k0_part33 i (Memref.whole main_arg0_scv) (Memref.isWhole_whole _) (Memref.whole main_v0_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scoped0 v350 >>= K)
      = run o base m (K ⟨io, (vcumP v350 7).1, (vcumP v350 7).2, (extractStridedSlice S1 ![8] v350 slices_S16_o8_S1 : FVec F S1 .f32)⟩) := by
  rw [k0_part33]
  simp only [bind_assoc, pure_bind]
  simp only [lane, ext15]
  rfl

theorem run_part34 (K : (Σ' (v952 : FVec F S16 .f32) (v955 : F .f32), IVec S16 32) → Prog (TpuEff nD τ sig (Elt F) Λ₀ (.scVector ((i 0).castLE hcore0) ((i 1).castLE hsub0))) γ) (v350 : FVec F S16 .f32) (v852 : IVec S16 32) (v899 : F .f32) (v903 : FVec F S16 .f32) (v904 : FVec F S1 .f32) (h852 : v852 = io) (h899 : v899 = (vcumP v350 7).1) (h903 : v903 = (vcumP v350 7).2) (h904 : v904 = (extractStridedSlice S1 ![8] v350 slices_S16_o8_S1 : FVec F S1 .f32)) :
    run o base m (k0_part34 i (Memref.whole main_arg0_scv) (Memref.isWhole_whole _) (Memref.whole main_v0_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scoped0 v350 v852 v899 v903 v904 >>= K)
      = run o base m (K ⟨(vcumP v350 14).2, (vcumP v350 15).1, bi 15#32⟩) := by
  subst h852 h899 h903 h904
  rw [k0_part34]
  simp only [bind_assoc, pure_bind]
  simp only [lane, ext15]
  rfl

theorem run_part35 (K : (Σ' (v970 : BitVec 32) (v994 : F .f32) (v996 : F .f32) (v998 : F .f32) (v1000 : F .f32) (v1002 : F .f32), F .f32) → Prog (TpuEff nD τ sig (Elt F) Λ₀ (.scVector ((i 0).castLE hcore0) ((i 1).castLE hsub0))) γ) (v350 : FVec F S16 .f32) (v803 : BitVec 32) (v851 : F .f32) (v852 : IVec S16 32) (v952 : FVec F S16 .f32) (v955 : F .f32) (v956 : IVec S16 32) (h852 : v852 = io) (h952 : v952 = (vcumP v350 14).2) (h955 : v955 = (vcumP v350 15).1) (h956 : v956 = bi 15#32) :
    run o base m (k0_part35 i (Memref.whole main_arg0_scv) (Memref.isWhole_whole _) (Memref.whole main_v0_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scoped0 v350 v803 v851 v852 v952 v955 v956 >>= K)
      = run o base m (K ⟨Scalar.addi v803 (popc (cmpf .ole (addf (vcum v350) (bf v851)) (bf topP))), (v350 : VF F) (ix 16 11), (v350 : VF F) (ix 16 12), (v350 : VF F) (ix 16 13), (v350 : VF F) (ix 16 14), (v350 : VF F) (ix 16 15), sumP v350 10⟩) := by
  subst h852 h952 h955 h956
  rw [k0_part35]
  simp only [bind_assoc, pure_bind]
  simp only [lane, ext15]
  rfl

theorem run_part36 (K : (Σ' (v1020 : BitVec 32) (v1049 : F .f32) (v1051 : F .f32) (v1053 : F .f32), F .f32) → Prog (TpuEff nD τ sig (Elt F) Λ₀ (.scVector ((i 0).castLE hcore0) ((i 1).castLE hsub0))) γ) (v2 : IVec S16 32) (v297 : Vec F S16 .f32) (v851 : F .f32) (v970 : BitVec 32) (v994 : F .f32) (v996 : F .f32) (v998 : F .f32) (v1000 : F .f32) (v1002 : F .f32) (v1012 : F .f32) (h2 : v2 = bi 0#32) :
    run o base m (k0_part36 i (Memref.whole main_arg0_scv) (Memref.isWhole_whole _) (Memref.whole main_v0_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scoped0 v2 v297 v851 v970 v994 v996 v998 v1000 v1002 v1012 >>= K)
      = run o base { m with hi := iter 65 hzStep m.hi } (K  ⟨Scalar.minsi (Scalar.addi v970 1#32) 64#32, (v297 : VF F) (ix 16 13), (v297 : VF F) (ix 16 14), (v297 : VF F) (ix 16 15), maxP v297 12⟩) := by
  subst h2
  rw [k0_part36]
  simp only [bind_assoc, pure_bind]
  rw [run_for (N := 65) (hN := by decide) (f := fun k p => (p.1, { p.2 with hi := hzStep k p.2.hi }))]
  case h =>
    intro b a m K
    simp only [bind_assoc, pure_bind, run_ld_hi, run_sd_hi, off16]
    rfl
  rw [iter_hi]
  simp only [lane]
  rfl

end Cert.Proof.Mem
-- ==== Proof.R43.lean ====
module
public import proofs.«01_k».proof.Proof.R24
/-! From the counts to the ranks of the sixty-four. -/
@[expose] public section
set_option pp.maxSteps 500
noncomputable section
namespace Cert.Proof.Mem
open Idealize.ShloMosaic
open Idealize.SL Idealize.SL.Sem
open Cert.KernelIdeal Cert.KernelIdeal.Facts₀ Cert.KernelIdeal.Facts Cert.Proof.Local
variable {F : FTy → Type} [FloatOps F]
variable [Facts]
attribute [local irreducible] iter sca scaA
variable {d : Dev nD} (i : grid0.Coords) {γ : Type}
variable (base : Bufs sig (Elt F) (th d ((i 0).castLE hcore0) ((i 1).castLE hsub0))) (m : Mem F) (o : Bool)

theorem uidx (u : ℕ) (hu : u < 63) : ∀ a x, ((![addi (bi 0#32) (bi (BitVec.ofNat 32 u))] : Fin 1 → IVec S16 32) a x).toNat < S32768.size a :=
  idxlt 32768 _ fun k _ => by
    show (0#32 + BitVec.ofNat 32 u).toNat < 32768
    rw [BitVec.zero_add, toNat_of_lt hu (by decide)]
    omega

theorem run_part43 (K : (Σ' (v1418 : IVec S16 32) (v1426 : IVec S16 32) (v1434 : IVec S16 32) (v1442 : IVec S16 32) (v1444 : IVec S16 32), IVec S16 32) → Prog (TpuEff nD τ sig (Elt F) Λ₀ (.scVector ((i 0).castLE hcore0) ((i 1).castLE hsub0))) γ) (v0 : IVec S16 32) (v2 : IVec S16 32) (v1414 : IVec S16 32) (h0 : v0 = io) (h2 : v2 = bi 0#32) (h1414 : v1414 = addi (addi io (bi 0#32)) (bi 1#32)) :
    run o base m (k0_part43 i (Memref.whole main_arg0_scv) (Memref.isWhole_whole _) (Memref.whole main_v0_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scoped0 v0 v2 v1414 >>= K)
      = run o base { m with vb := tot m.hi 48#32 } (K ⟨tot m.hi 0#32, tot m.hi 16#32, tot m.hi 32#32, tot m.hi 48#32, io, bi 15#32⟩) := by
  subst h0 h2 h1414
  rw [k0_part43]
  simp only [bind_assoc, pure_bind]
  rw [run_for_acc (N := 16) (hN := by decide) (f := totStep m.hi 0#32)]
  case h =>
    intro b a K
    simp only [bind_assoc, pure_bind, iv1]
    rw [run_assume (h := by exact totidx 0#32 _ (by decide) (by rw [iv1, toNat_of_lt (n := 16) b.isLt (by decide)]; exact b.isLt))]
    simp only [run_gat_hi]
    rfl
  rw [run_for_acc (N := 16) (hN := by decide) (f := totStep m.hi 16#32)]
  case h =>
    intro b a K
    simp only [bind_assoc, pure_bind, iv1]
    rw [run_assume (h := by exact totidx 16#32 _ (by decide) (by rw [iv1, toNat_of_lt (n := 16) b.isLt (by decide)]; exact b.isLt))]
    simp only [run_gat_hi]
    rfl
  rw [run_for_acc (N := 16) (hN := by decide) (f := totStep m.hi 32#32)]
  case h =>
    intro b a K
    simp only [bind_assoc, pure_bind, iv1]
    rw [run_assume (h := by exact totidx 32#32 _ (by decide) (by rw [iv1, toNat_of_lt (n := 16) b.isLt (by decide)]; exact b.isLt))]
    simp only [run_gat_hi]
    rfl
  rw [run_for_acc (N := 16) (hN := by decide) (f := totStep m.hi 48#32)]
  case h =>
    intro b a K
    simp only [bind_assoc, pure_bind, iv1]
    rw [run_assume (h := by exact totidx 48#32 _ (by decide) (by rw [iv1, toNat_of_lt (n := 16) b.isLt (by decide)]; exact b.isLt))]
    simp only [run_gat_hi]
    rfl
  simp only [run_ld_vb0, run_sd_vb, sd16]
  rfl

theorem run_part44 (K : (Σ' (v1456 : IVec S16 32) (v1474 : IVec S16 32) (v1478 : BitVec 32) (v1482 : IVec S16 32), k0_chk56 v1482) → Prog (TpuEff nD τ sig (Elt F) Λ₀ (.scVector ((i 0).castLE hcore0) ((i 1).castLE hsub0))) γ) (v1426 : IVec S16 32) (v1434 : IVec S16 32) (v1442 : IVec S16 32) (v1444 : IVec S16 32) (v1445 : IVec S16 32) (h1444 : v1444 = io) (h1445 : v1445 = bi 15#32) (hv : m.vb = v1442) :
    run o base m (k0_part44 i (Memref.whole main_arg0_scv) (Memref.isWhole_whole _) (Memref.whole main_v0_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scoped0 v1426 v1434 v1442 v1444 v1445 >>= K)
      = run o base { m with vb := v1426 } (K ⟨gv m.vb 0#32, gv v1434 (Scalar.addi 0#32 (lsum m.vb)), Scalar.addi (Scalar.addi 0#32 (lsum m.vb)) (lsum v1434), r15, rev15⟩) := by
  subst h1444 h1445 hv
  rw [k0_part44]
  simp only [bind_assoc, pure_bind]
  rw [run_assume (h := by exact rev15)]
  simp only [run_ld_vb0, run_sd_vb, run_gat_vb, sd16, ext15]
  rw [run_assume (h := by exact rev15)]
  simp only [run_ld_vb0, run_sd_vb, run_gat_vb, sd16, ext15]
  rw [run_assume (h := by exact rev15)]
  simp only [run_ld_vb0, run_sd_vb, run_gat_vb, sd16, ext15]
  rw [run_assume (h := by exact rev15)]
  simp only [run_ld_vb0, run_sd_vb, run_gat_vb, sd16, ext15]
  rw [run_assume (h := by exact rev15)]
  rfl

theorem run_part12 (K : (Σ' (v1582 : IVec S16 32) (v1593 : IVec S16 32) (v1604 : IVec S16 32) (v1611 : IVec S16 1), BitVec 32) → Prog (TpuEff nD τ sig (Elt F) Λ₀ (.scVector ((i 0).castLE hcore0) ((i 1).castLE hsub0))) γ) (v0 : IVec S16 32) (v2 : IVec S16 32) (c0_i32_325 : BitVec 32) (c1_i32_326 : BitVec 32) (k0_t32 : Fin k0_t32_loop.trips) (arg25 : IVec S16 32) (arg26 : IVec S16 32) (arg27 : IVec S16 32) (h0 : v0 = io) (h2 : v2 = bi 0#32) (hc : c0_i32_325 = 0#32) (hc' : c1_i32_326 = 1#32) :
    run o base m (k0_part12 i (Memref.whole main_arg0_scv) (Memref.isWhole_whole _) (Memref.whole main_v0_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scoped0 v0 v2 c0_i32_325 c1_i32_326 k0_t32 arg25 arg26 arg27 >>= K)
      = run o base m (K ⟨addi arg25 (select (andi (cmpf .oeq (ld m.s 0 : VF F) (gat m.s (addi (bi 0#32) (bi (BitVec.ofNat 32 k0_t32.val))) : VF F)) (cmpi .sgt (addi io (bi 0#32)) (bi (BitVec.ofNat 32 k0_t32.val)))) (bi 1#32) (bi 0#32) : VI), addi arg26 (select (andi (cmpf .oeq (ld m.s 16 : VF F) (gat m.s (addi (bi 0#32) (bi (BitVec.ofNat 32 k0_t32.val))) : VF F)) (cmpi .sgt (addi io (bi 16#32)) (bi (BitVec.ofNat 32 k0_t32.val)))) (bi 1#32) (bi 0#32) : VI), addi arg27 (select (andi (cmpf .oeq (ld m.s 32 : VF F) (gat m.s (addi (bi 0#32) (bi (BitVec.ofNat 32 k0_t32.val))) : VF F)) (cmpi .sgt (addi io (bi 32#32)) (bi (BitVec.ofNat 32 k0_t32.val)))) (bi 1#32) (bi 0#32) : VI), (andi (cmpf .oeq (ld m.s 48 : VF F) (gat m.s (addi (bi 0#32) (bi (BitVec.ofNat 32 k0_t32.val))) : VF F)) (cmpi .sgt (addi io (bi 48#32)) (bi (BitVec.ofNat 32 k0_t32.val)))), 1#32⟩) := by
  subst h0 h2 hc hc'
  rw [k0_part12]
  simp only [bind_assoc, pure_bind]
  rw [run_assume (h := by rw [iv0]; exact uidx k0_t32.val (Nat.lt_of_lt_of_le k0_t32.isLt (by decide)))]
  simp only [run_gat_s, run_ld_s, iv0]
  rfl

theorem run_part45 (K : (Σ' (v1516_0 : IVec S16 32) (v1516_1 : IVec S16 32) (v1516_2 : IVec S16 32), IVec S16 32) → Prog (TpuEff nD τ sig (Elt F) Λ₀ (.scVector ((i 0).castLE hcore0) ((i 1).castLE hsub0))) γ) (v0 : IVec S16 32) (v2 : IVec S16 32) (k0_t2 : Fin k0_t2_loop.trips) (v298 : Vec F S16 .i32) (k0_hw60 : k0_chk60 v298) (v308 : Vec F S16 .i32) (k0_hw61 : k0_chk61 v308) (v318 : Vec F S16 .i32) (k0_hw62 : k0_chk62 v318) (v328 : Vec F S16 .i32) (k0_hw63 : k0_chk63 v328) (v1418 : IVec S16 32) (v1426 : IVec S16 32) (v1456 : IVec S16 32) (v1474 : IVec S16 32) (v1478 : BitVec 32) (v1482 : IVec S16 32) (k0_hw56 : k0_chk56 v1482) (h0 : v0 = io) (h2 : v2 = bi 0#32) (hv : m.vb = v1426) (h1482 : v1482 = r15) :
    run o base m (k0_part45 i (Memref.whole main_arg0_scv) (Memref.isWhole_whole _) (Memref.whole main_v0_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scoped0 v0 v2 k0_t2 v298 k0_hw60 v308 k0_hw61 v318 k0_hw62 v328 k0_hw63 v1418 v1426 v1456 v1474 v1478 v1482 k0_hw56 >>= K)
      = run o base { m with vb := scan .sum (gat v1418 r15), rk := sca (sca (sca (sca m.rk v298 (gv v1418 (Scalar.addi v1478 (lsum m.vb))) ones) v308 (gv m.vb v1478) ones) v318 v1474 ones) v328 v1456 ones } (K ⟨(eqAll m.s).1, (eqAll m.s).2.1, (eqAll m.s).2.2.1, (eqAll m.s).2.2.2⟩) := by
  subst h0 h2 hv h1482
  rw [k0_part45]
  simp only [bind_assoc, pure_bind]
  simp only [run_ld_vb0, run_sd_vb, run_gat_vb, sd16, ext15]
  rw [run_assume (h := by exact rev15)]
  simp only [run_ld_vb0, run_sd_vb, run_gat_vb, sd16, ext15]
  rw [run_assume (h := by exact rev15)]
  simp only [run_ld_vb0, run_sd_vb, run_gat_vb, sd16, ext15]
  rw [run_assume (h := by exact rev15)]
  simp only [run_ld_vb0, run_sd_vb, run_gat_vb, sd16, ext15]
  simp only [run_sca_rk]
  rw [run_for_acc (N := 63) (hN := by decide) (f := eqStep m.s)]
  case h =>
    rintro b ⟨a0, a1, a2, a3⟩ K
    simp only [bind_assoc, pure_bind]
    rw [run_part12]
    case h0 => rfl
    case h2 => rfl
    case hc => rfl
    case hc' => rfl
    rfl
  rfl

end Cert.Proof.Mem
-- ==== Proof.R37.lean ====
module
public import proofs.«01_k».proof.Proof.R24
/-! The search for each value's place among the sorted ones. -/
@[expose] public section
set_option pp.maxSteps 500
noncomputable section
namespace Cert.Proof.Mem
open Idealize.ShloMosaic
open Idealize.SL Idealize.SL.Sem
open Cert.KernelIdeal Cert.KernelIdeal.Facts₀ Cert.KernelIdeal.Facts Cert.Proof.Local
variable {F : FTy → Type} [FloatOps F]
variable [Facts]
attribute [local irreducible] iter sca scaA
variable {d : Dev nD} (i : grid0.Coords) {γ : Type}
variable (base : Bufs sig (Elt F) (th d ((i 0).castLE hcore0) ((i 1).castLE hsub0))) (m : Mem F) (o : Bool)

/-- The first three steps of the search, from the values compared with. -/
def bq (a0 a1 a2 l0 l1 l2 l3 : F .f32) (y : VF F) : VI :=
  let c32 := cmpf .olt (bf a1) y
  let q0 : VI := select c32 (bi 32#32) (bi 0#32)
  let c16 := cmpf .olt (select c32 (bf a2) (bf a0) : VF F) y
  let q1 : VI := select c16 (addi q0 (bi 16#32)) q0
  let c8 := cmpf .olt (select c32 (select c16 (bf l3) (bf l2)) (select c16 (bf l1) (bf l0)) : VF F) y
  select c8 (addi q1 (bi 8#32)) q1

theorem add_le (n : ℕ) (v : VI) (b : BitVec 32) (hv : ∀ k < 16, (v (ix 16 k)).toNat < n) (hb : n + b.toNat < 2 ^ 32) :
    ∀ k < 16, ((addi v (bi b) : VI) (ix 16 k)).toNat < n + b.toNat := by
  intro k hk
  have h := hv k hk
  show (v (ix 16 k) + b).toNat < _
  rw [BitVec.toNat_add, Nat.mod_eq_of_lt (by omega)]
  omega

theorem sel_mono (c : IVec S16 1) (a b : VI) (n m l : ℕ) (ha : ∀ k < 16, (a (ix 16 k)).toNat < n) (hb : ∀ k < 16, (b (ix 16 k)).toNat < m)
    (hn : n ≤ l) (hm : m ≤ l) : ∀ k < 16, ((select c a b : VI) (ix 16 k)).toNat < l :=
  sel_lt l c a b (fun k h => Nat.lt_of_lt_of_le (ha k h) hn) (fun k h => Nat.lt_of_lt_of_le (hb k h) hm)

theorem bi_lt (b : BitVec 32) (n : ℕ) (h : b.toNat < n) : ∀ k < 16, ((bi b : VI) (ix 16 k)).toNat < n := fun _ _ => h

theorem bq_lt (a0 a1 a2 l0 l1 l2 l3 : F .f32) (y : VF F) : ∀ k < 16, (bq a0 a1 a2 l0 l1 l2 l3 y (ix 16 k)).toNat < 57 := by
  have h0 : ∀ c : IVec S16 1, ∀ k < 16, ((select c (bi 32#32) (bi 0#32) : VI) (ix 16 k)).toNat < 33 := fun c =>
    sel_mono _ _ _ 33 1 33 (bi_lt _ _ (by decide)) (bi_lt _ _ (by decide)) (by decide) (by decide)
  have h1 : ∀ c d : IVec S16 1, ∀ k < 16, ((select d (addi (select c (bi 32#32) (bi 0#32) : VI) (bi 16#32)) (select c (bi 32#32) (bi 0#32)) : VI) (ix 16 k)).toNat < 49 := fun c d =>
    sel_mono _ _ _ 49 33 49 (add_le 33 _ 16#32 (h0 c) (by decide)) (h0 c) (by decide) (by decide)
  exact sel_mono _ _ _ 57 49 57 (add_le 49 _ 8#32 (h1 _ _) (by decide)) (h1 _ _) (by decide) (by decide)

theorem prb_lt (tk : (A 1024).Idx → F .f32) (y : VF F) (w d : BitVec 32) (pos : VI) (n : ℕ) (h : ∀ k < 16, (pos (ix 16 k)).toNat < n)
    (hn : n + w.toNat < 2 ^ 32) : ∀ k < 16, (prb tk y w d pos (ix 16 k)).toNat < n + w.toNat :=
  sel_mono _ _ _ (n + w.toNat) n _ (add_le n _ w h hn) h (Nat.le_refl _) (Nat.le_add_right _ _)

theorem pidx (l n : ℕ) (v : VI) (h : ∀ k < 16, (v (ix 16 k)).toNat < n) (hn : 16 * n ≤ l) (hl : l < 2 ^ 31) :
    ∀ a x, ((![addi (muli v (bi 16#32)) io] : Fin 1 → IVec S16 32) a x).toNat < (A l).size a :=
  idxlt l _ fun k hk => by
    have := h k hk
    show (v (ix 16 k) * 16#32 + io (ix 16 k)).toNat < l
    rw [io_ix k hk, BitVec.toNat_add, BitVec.toNat_mul, BitVec.toNat_ofNat, BitVec.toNat_ofNat]
    omega

theorem bpos_eq (s0 s1 s2 s3 : VF F) (tk : (A 1024).Idx → F .f32) (y : VF F) :
    bpos s0 s1 s2 s3 tk y =
      select (andi (cmpi .eq (prb tk y 1#32 0#32 (prb tk y 2#32 1#32 (prb tk y 4#32 3#32 (bq (vmax s0) (vmax s1) (vmax s2) (low8 s0) (low8 s1) (low8 s2) (low8 s3) y)))) (bi 63#32))
        (cmpf .olt (bf (vmax s3)) y)) (bi 64#32)
        (prb tk y 1#32 0#32 (prb tk y 2#32 1#32 (prb tk y 4#32 3#32 (bq (vmax s0) (vmax s1) (vmax s2) (low8 s0) (low8 s1) (low8 s2) (low8 s3) y)))) := rfl

theorem iter_hist (s0 s1 s2 s3 : VF F) (n : ℕ) (u : PUnit) (m : Mem F) :
    iter n (fun k (p : PUnit × Mem F) => (p.1, { p.2 with hi := hStep s0 s1 s2 s3 p.2.tk p.2.s k p.2.hi })) (u, m)
      = (u, { m with hi := iter n (hStep s0 s1 s2 s3 m.tk m.s) m.hi }) := by
  unfold iter
  induction n with
  | zero => rfl
  | succ n ih => rw [List.range_succ, List.foldl_append, List.foldl_append, ih]; rfl

theorem run_part37 (K : (Σ' (v1068 : F .f32) (v1115 : F .f32) (v1117 : F .f32) (v1119 : F .f32) (v1121 : F .f32) (v1123 : F .f32), F .f32) → Prog (TpuEff nD τ sig (Elt F) Λ₀ (.scVector ((i 0).castLE hcore0) ((i 1).castLE hsub0))) γ) (v307 : Vec F S16 .f32) (v317 : Vec F S16 .f32) (v1049 : F .f32) (v1051 : F .f32) (v1053 : F .f32) (v1065 : F .f32) (y : VF F) (h1049 : v1049 = (y : VF F) (ix 16 13)) (h1051 : v1051 = (y : VF F) (ix 16 14)) (h1053 : v1053 = (y : VF F) (ix 16 15)) (h1065 : v1065 = maxP y 12) :
    run o base m (k0_part37 i (Memref.whole main_arg0_scv) (Memref.isWhole_whole _) (Memref.whole main_v0_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scoped0 v307 v317 v1049 v1051 v1053 v1065 >>= K)
      = run o base m (K ⟨vmax y, vmax v307, (v317 : VF F) (ix 16 0), (v317 : VF F) (ix 16 1), (v317 : VF F) (ix 16 2), (v317 : VF F) (ix 16 3), (v317 : VF F) (ix 16 4)⟩) := by
  subst h1049 h1051 h1053 h1065
  rw [k0_part37]
  simp only [bind_assoc, pure_bind]
  simp only [lane]
  rfl

theorem run_part38 (K : (Σ' (v1162 : F .f32) (v1164 : F .f32) (v1166 : F .f32) (v1168 : F .f32) (v1170 : F .f32) (v1172 : F .f32) (v1174 : F .f32) (v1176 : F .f32) (v1178 : F .f32) (v1180 : F .f32) (v1182 : F .f32) (v1184 : F .f32), FVec F S1 .f32) → Prog (TpuEff nD τ sig (Elt F) Λ₀ (.scVector ((i 0).castLE hcore0) ((i 1).castLE hsub0))) γ) (v317 : Vec F S16 .f32) (v327 : Vec F S16 .f32) (v1117 : F .f32) (v1119 : F .f32) (v1121 : F .f32) (v1123 : F .f32) (v1125 : F .f32) (h1117 : v1117 = (v317 : VF F) (ix 16 0)) (h1119 : v1119 = (v317 : VF F) (ix 16 1)) (h1121 : v1121 = (v317 : VF F) (ix 16 2)) (h1123 : v1123 = (v317 : VF F) (ix 16 3)) (h1125 : v1125 = (v317 : VF F) (ix 16 4)) :
    run o base m (k0_part38 i (Memref.whole main_arg0_scv) (Memref.isWhole_whole _) (Memref.whole main_v0_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scoped0 v317 v327 v1117 v1119 v1121 v1123 v1125 >>= K)
      = run o base m (K ⟨vmax v317, (v327 : VF F) (ix 16 0), (v327 : VF F) (ix 16 1), (v327 : VF F) (ix 16 2), (v327 : VF F) (ix 16 3), (v327 : VF F) (ix 16 4), (v327 : VF F) (ix 16 5), (v327 : VF F) (ix 16 6), (v327 : VF F) (ix 16 7), (v327 : VF F) (ix 16 8), (v327 : VF F) (ix 16 9), (v327 : VF F) (ix 16 10), (extractStridedSlice S1 ![11] v327 slices_S16_o11_S1 : FVec F S1 .f32)⟩) := by
  subst h1117 h1119 h1121 h1123 h1125
  rw [k0_part38]
  simp only [bind_assoc, pure_bind]
  simp only [lane]
  rfl

theorem run_part39 (K : (Σ' (v1209 : F .f32) (v1214 : F .f32) (v1216 : F .f32) (v1218 : F .f32) (v1220 : F .f32) (v1222 : F .f32) (v1224 : F .f32) (v1226 : F .f32) (v1228 : F .f32) (v1230 : F .f32) (v1232 : F .f32) (v1234 : F .f32) (v1236 : F .f32) (v1238 : F .f32) (v1240 : F .f32) (v1242 : F .f32), F .f32) → Prog (TpuEff nD τ sig (Elt F) Λ₀ (.scVector ((i 0).castLE hcore0) ((i 1).castLE hsub0))) γ) (v0 : IVec S16 32) (v1 : FVec F S16 .f32) (v297 : Vec F S16 .f32) (v327 : Vec F S16 .f32) (v1164 : F .f32) (v1166 : F .f32) (v1168 : F .f32) (v1170 : F .f32) (v1172 : F .f32) (v1174 : F .f32) (v1176 : F .f32) (v1178 : F .f32) (v1180 : F .f32) (v1182 : F .f32) (v1184 : F .f32) (v1185 : FVec F S1 .f32) (h0 : v0 = io) (h1 : v1 = ninf) (h1164 : v1164 = (v327 : VF F) (ix 16 0)) (h1166 : v1166 = (v327 : VF F) (ix 16 1)) (h1168 : v1168 = (v327 : VF F) (ix 16 2)) (h1170 : v1170 = (v327 : VF F) (ix 16 3)) (h1172 : v1172 = (v327 : VF F) (ix 16 4)) (h1174 : v1174 = (v327 : VF F) (ix 16 5)) (h1176 : v1176 = (v327 : VF F) (ix 16 6)) (h1178 : v1178 = (v327 : VF F) (ix 16 7)) (h1180 : v1180 = (v327 : VF F) (ix 16 8)) (h1182 : v1182 = (v327 : VF F) (ix 16 9)) (h1184 : v1184 = (v327 : VF F) (ix 16 10)) (h1185 : v1185 = (extractStridedSlice S1 ![11] v327 slices_S16_o11_S1 : FVec F S1 .f32)) :
    run o base m (k0_part39 i (Memref.whole main_arg0_scv) (Memref.isWhole_whole _) (Memref.whole main_v0_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scoped0 v0 v1 v297 v327 v1164 v1166 v1168 v1170 v1172 v1174 v1176 v1178 v1180 v1182 v1184 v1185 >>= K)
      = run o base m (K ⟨vmax v327, ((select (cmpi .slt io (bi 8#32)) v297 ninf : VF F) : VF F) (ix 16 0), ((select (cmpi .slt io (bi 8#32)) v297 ninf : VF F) : VF F) (ix 16 1), ((select (cmpi .slt io (bi 8#32)) v297 ninf : VF F) : VF F) (ix 16 2), ((select (cmpi .slt io (bi 8#32)) v297 ninf : VF F) : VF F) (ix 16 3), ((select (cmpi .slt io (bi 8#32)) v297 ninf : VF F) : VF F) (ix 16 4), ((select (cmpi .slt io (bi 8#32)) v297 ninf : VF F) : VF F) (ix 16 5), ((select (cmpi .slt io (bi 8#32)) v297 ninf : VF F) : VF F) (ix 16 6), ((select (cmpi .slt io (bi 8#32)) v297 ninf : VF F) : VF F) (ix 16 7), ((select (cmpi .slt io (bi 8#32)) v297 ninf : VF F) : VF F) (ix 16 8), ((select (cmpi .slt io (bi 8#32)) v297 ninf : VF F) : VF F) (ix 16 9), ((select (cmpi .slt io (bi 8#32)) v297 ninf : VF F) : VF F) (ix 16 10), ((select (cmpi .slt io (bi 8#32)) v297 ninf : VF F) : VF F) (ix 16 11), ((select (cmpi .slt io (bi 8#32)) v297 ninf : VF F) : VF F) (ix 16 12), ((select (cmpi .slt io (bi 8#32)) v297 ninf : VF F) : VF F) (ix 16 13), ((select (cmpi .slt io (bi 8#32)) v297 ninf : VF F) : VF F) (ix 16 14), ((select (cmpi .slt io (bi 8#32)) v297 ninf : VF F) : VF F) (ix 16 15)⟩) := by
  subst h0 h1 h1164 h1166 h1168 h1170 h1172 h1174 h1176 h1178 h1180 h1182 h1184 h1185
  rw [k0_part39]
  simp only [bind_assoc, pure_bind]
  simp only [lane]
  rfl

theorem run_part40 (K : (Σ' (v1259 : F .f32) (v1284 : F .f32) (v1286 : F .f32) (v1288 : F .f32) (v1290 : F .f32) (v1292 : F .f32) (v1294 : F .f32), F .f32) → Prog (TpuEff nD τ sig (Elt F) Λ₀ (.scVector ((i 0).castLE hcore0) ((i 1).castLE hsub0))) γ) (v0 : IVec S16 32) (v1 : FVec F S16 .f32) (v307 : Vec F S16 .f32) (v1214 : F .f32) (v1216 : F .f32) (v1218 : F .f32) (v1220 : F .f32) (v1222 : F .f32) (v1224 : F .f32) (v1226 : F .f32) (v1228 : F .f32) (v1230 : F .f32) (v1232 : F .f32) (v1234 : F .f32) (v1236 : F .f32) (v1238 : F .f32) (v1240 : F .f32) (v1242 : F .f32) (v1244 : F .f32) (y : VF F) (h0 : v0 = io) (h1 : v1 = ninf) (h1214 : v1214 = ((select (cmpi .slt io (bi 8#32)) y ninf : VF F) : VF F) (ix 16 0)) (h1216 : v1216 = ((select (cmpi .slt io (bi 8#32)) y ninf : VF F) : VF F) (ix 16 1)) (h1218 : v1218 = ((select (cmpi .slt io (bi 8#32)) y ninf : VF F) : VF F) (ix 16 2)) (h1220 : v1220 = ((select (cmpi .slt io (bi 8#32)) y ninf : VF F) : VF F) (ix 16 3)) (h1222 : v1222 = ((select (cmpi .slt io (bi 8#32)) y ninf : VF F) : VF F) (ix 16 4)) (h1224 : v1224 = ((select (cmpi .slt io (bi 8#32)) y ninf : VF F) : VF F) (ix 16 5)) (h1226 : v1226 = ((select (cmpi .slt io (bi 8#32)) y ninf : VF F) : VF F) (ix 16 6)) (h1228 : v1228 = ((select (cmpi .slt io (bi 8#32)) y ninf : VF F) : VF F) (ix 16 7)) (h1230 : v1230 = ((select (cmpi .slt io (bi 8#32)) y ninf : VF F) : VF F) (ix 16 8)) (h1232 : v1232 = ((select (cmpi .slt io (bi 8#32)) y ninf : VF F) : VF F) (ix 16 9)) (h1234 : v1234 = ((select (cmpi .slt io (bi 8#32)) y ninf : VF F) : VF F) (ix 16 10)) (h1236 : v1236 = ((select (cmpi .slt io (bi 8#32)) y ninf : VF F) : VF F) (ix 16 11)) (h1238 : v1238 = ((select (cmpi .slt io (bi 8#32)) y ninf : VF F) : VF F) (ix 16 12)) (h1240 : v1240 = ((select (cmpi .slt io (bi 8#32)) y ninf : VF F) : VF F) (ix 16 13)) (h1242 : v1242 = ((select (cmpi .slt io (bi 8#32)) y ninf : VF F) : VF F) (ix 16 14)) (h1244 : v1244 = ((select (cmpi .slt io (bi 8#32)) y ninf : VF F) : VF F) (ix 16 15)) :
    run o base m (k0_part40 i (Memref.whole main_arg0_scv) (Memref.isWhole_whole _) (Memref.whole main_v0_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scoped0 v0 v1 v307 v1214 v1216 v1218 v1220 v1222 v1224 v1226 v1228 v1230 v1232 v1234 v1236 v1238 v1240 v1242 v1244 >>= K)
      = run o base m (K ⟨low8 y, ((select (cmpi .slt io (bi 8#32)) v307 ninf : VF F) : VF F) (ix 16 10), ((select (cmpi .slt io (bi 8#32)) v307 ninf : VF F) : VF F) (ix 16 11), ((select (cmpi .slt io (bi 8#32)) v307 ninf : VF F) : VF F) (ix 16 12), ((select (cmpi .slt io (bi 8#32)) v307 ninf : VF F) : VF F) (ix 16 13), ((select (cmpi .slt io (bi 8#32)) v307 ninf : VF F) : VF F) (ix 16 14), ((select (cmpi .slt io (bi 8#32)) v307 ninf : VF F) : VF F) (ix 16 15), maxP (select (cmpi .slt io (bi 8#32)) v307 ninf : VF F) 9⟩) := by
  subst h0 h1 h1214 h1216 h1218 h1220 h1222 h1224 h1226 h1228 h1230 h1232 h1234 h1236 h1238 h1240 h1242 h1244
  rw [k0_part40]
  simp only [bind_assoc, pure_bind]
  simp only [lane]
  rfl

theorem run_part41 (K : (Σ' (v1309 : F .f32) (v1359 : F .f32), IVec S16 1) → Prog (TpuEff nD τ sig (Elt F) Λ₀ (.scVector ((i 0).castLE hcore0) ((i 1).castLE hsub0))) γ) (v0 : IVec S16 32) (v1 : FVec F S16 .f32) (v317 : Vec F S16 .f32) (v1284 : F .f32) (v1286 : F .f32) (v1288 : F .f32) (v1290 : F .f32) (v1292 : F .f32) (v1294 : F .f32) (v1303 : F .f32) (y : VF F) (h0 : v0 = io) (h1 : v1 = ninf) (h1284 : v1284 = ((select (cmpi .slt io (bi 8#32)) y ninf : VF F) : VF F) (ix 16 10)) (h1286 : v1286 = ((select (cmpi .slt io (bi 8#32)) y ninf : VF F) : VF F) (ix 16 11)) (h1288 : v1288 = ((select (cmpi .slt io (bi 8#32)) y ninf : VF F) : VF F) (ix 16 12)) (h1290 : v1290 = ((select (cmpi .slt io (bi 8#32)) y ninf : VF F) : VF F) (ix 16 13)) (h1292 : v1292 = ((select (cmpi .slt io (bi 8#32)) y ninf : VF F) : VF F) (ix 16 14)) (h1294 : v1294 = ((select (cmpi .slt io (bi 8#32)) y ninf : VF F) : VF F) (ix 16 15)) (h1303 : v1303 = maxP (select (cmpi .slt io (bi 8#32)) y ninf : VF F) 9) :
    run o base m (k0_part41 i (Memref.whole main_arg0_scv) (Memref.isWhole_whole _) (Memref.whole main_v0_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scoped0 v0 v1 v317 v1284 v1286 v1288 v1290 v1292 v1294 v1303 >>= K)
      = run o base m (K ⟨low8 y, low8 v317, cmpi .slt io (bi 8#32)⟩) := by
  subst h0 h1 h1284 h1286 h1288 h1290 h1292 h1294 h1303
  rw [k0_part41]
  simp only [bind_assoc, pure_bind]
  simp only [lane]
  rfl

theorem run_part11 (K : (Σ' (v1573 : Vec F S16 .f32) (v1606 : IVec S16 32), IVec S16 1) → Prog (TpuEff nD τ sig (Elt F) Λ₀ (.scVector ((i 0).castLE hcore0) ((i 1).castLE hsub0))) γ) (v0 : IVec S16 32) (v1068 : F .f32) (v1115 : F .f32) (v1162 : F .f32) (v1259 : F .f32) (v1309 : F .f32) (v1359 : F .f32) (v1409 : F .f32) (c0_i32_267 : BitVec 32) (c1_i32_269 : BitVec 32) (k0_t27 : Fin k0_t27_loop.trips) (l3 : F .f32) (h1409 : v1409 = l3) (h0 : v0 = io) (hc : c0_i32_267 = 0#32) (hc' : c1_i32_269 = 1#32) :
    run o base m (k0_part11 i (Memref.whole main_arg0_scv) (Memref.isWhole_whole _) (Memref.whole main_v0_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scoped0 v0 v1068 v1115 v1162 v1259 v1309 v1359 v1409 c0_i32_267 c1_i32_269 k0_t27 >>= K)
      = run o base m (K ⟨(ld m.s (16 * k0_t27.val)), prb m.tk (ld m.s (16 * k0_t27.val)) 4#32 3#32 (bq v1068 v1115 v1162 v1259 v1309 v1359 l3 (ld m.s (16 * k0_t27.val))), cmpf .olt (gat m.tk (addi (muli (addi (prb m.tk (ld m.s (16 * k0_t27.val)) 4#32 3#32 (bq v1068 v1115 v1162 v1259 v1309 v1359 l3 (ld m.s (16 * k0_t27.val)))) (bi 1#32)) (bi 16#32)) io)) (ld m.s (16 * k0_t27.val))⟩) := by
  subst h0 hc hc' h1409
  rw [k0_part11]
  simp only [bind_assoc, pure_bind]
  rw [run_ld_s, off17]
  rw [run_assume (h := by exact pidx 1024 60 _ (add_le 57 _ 3#32 (bq_lt v1068 v1115 v1162 v1259 v1309 v1359 v1409 (ld m.s (16 * k0_t27.val))) (by decide)) (by decide) (by decide))]
  rw [run_gat_tk]
  rw [run_assume (h := by exact pidx 1024 62 _ (add_le 61 _ 1#32 (prb_lt m.tk (ld m.s (16 * k0_t27.val)) 4#32 3#32 _ 57 (bq_lt v1068 v1115 v1162 v1259 v1309 v1359 v1409 (ld m.s (16 * k0_t27.val))) (by decide)) (by decide)) (by decide) (by decide))]
  rw [run_gat_tk]
  rfl

theorem run_part42 (K : (IVec S16 32) → Prog (TpuEff nD τ sig (Elt F) Λ₀ (.scVector ((i 0).castLE hcore0) ((i 1).castLE hsub0))) γ) (v0 : IVec S16 32) (v1 : FVec F S16 .f32) (v3 : IVec S16 32) (v327 : Vec F S16 .f32) (v1068 : F .f32) (v1115 : F .f32) (v1162 : F .f32) (v1209 : F .f32) (v1259 : F .f32) (v1309 : F .f32) (v1359 : F .f32) (v1361 : IVec S16 1) (s0 s1 s2 : VF F) (h0 : v0 = io) (h1 : v1 = ninf) (h3 : v3 = broadcast S16 1#32) (h1068 : v1068 = vmax s0) (h1115 : v1115 = vmax s1) (h1162 : v1162 = vmax s2) (h1209 : v1209 = vmax v327) (h1259 : v1259 = low8 s0) (h1309 : v1309 = low8 s1) (h1359 : v1359 = low8 s2) (h1361 : v1361 = cmpi .slt io (bi 8#32)) :
    run o base m (k0_part42 i (Memref.whole main_arg0_scv) (Memref.isWhole_whole _) (Memref.whole main_v0_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scoped0 v0 v1 v3 v327 v1068 v1115 v1162 v1209 v1259 v1309 v1359 v1361 >>= K)
      = run o base { m with hi := iter 2048 (hStep s0 s1 s2 v327 m.tk m.s) m.hi } (K (addi (addi io (bi 0#32)) (bi 1#32))) := by
  subst h0 h1 h3 h1068 h1115 h1162 h1209 h1259 h1309 h1359 h1361
  rw [k0_part42]
  simp only [bind_assoc, pure_bind]
  rw [run_for (N := 2048) (hN := by decide) (f := fun k p => (p.1, { p.2 with hi := hStep s0 s1 s2 v327 p.2.tk p.2.s k p.2.hi }))]
  case h =>
    intro b a m K
    simp only [bind_assoc, pure_bind]
    rw [run_part11]
    case h0 => rfl
    case hc => rfl
    case hc' => rfl
    case l3 => exact low8 v327
    case h1409 => simp only [lane]; rfl
    have B := bq_lt (vmax s0) (vmax s1) (vmax s2) (low8 s0) (low8 s1) (low8 s2) (low8 v327) (ld m.s (16 * b.val))
    have h4 := prb_lt m.tk (ld m.s (16 * b.val)) 4#32 3#32 _ 57 B (by decide)
    have h2 := prb_lt m.tk (ld m.s (16 * b.val)) 2#32 1#32 _ 61 h4 (by decide)
    have h1 := prb_lt m.tk (ld m.s (16 * b.val)) 1#32 0#32 _ 63 h2 (by decide)
    rw [run_assume (h := by exact pidx 1024 63 _ (add_le 63 _ 0#32 h2 (by decide)) (by decide) (by decide))]
    rw [run_gat_tk]
    rw [run_assume (h := by exact pidx 1040 65 _ (sel_mono _ _ _ 65 64 65 (bi_lt _ _ (by decide)) h1 (by decide) (by decide)) (by decide) (by decide))]
    rw [run_scaA_hi]
    rfl
  rw [iter_hist]
  rfl

end Cert.Proof.Mem
-- ==== Proof.R46.lean ====
module
public import proofs.«01_k».proof.Proof.R24
/-! The copies of a row: where the run stops, and what comes after. -/
@[expose] public section
noncomputable section
namespace Cert.Proof.Mem
open Idealize.ShloMosaic
open Idealize.SL Idealize.SL.Sem
open Cert.KernelIdeal Cert.KernelIdeal.Facts₀ Cert.KernelIdeal.Facts Cert.Proof.Local
variable {F : FTy → Type} [FloatOps F]
variable [Facts]
attribute [local irreducible] iter sca scaA
variable {d : Dev nD} (i : grid0.Coords) {γ : Type}
variable (base : Bufs sig (Elt F) (th d ((i 0).castLE hcore0) ((i 1).castLE hsub0))) (m : Mem F) (o : Bool)

/-- The copy of a row in. -/
abbrev enqX (k0_t2 : Fin k0_t2_loop.trips) : Prog (TpuEff nD τ sig (Elt F) Λ₀ (.scVector ((i 0).castLE hcore0) ((i 1).castLE hsub0))) PUnit :=
  Prog.lift (.enqueueDma (((Memref.whole main_arg0_scv).slice (Rect.unit (s := S128x32768) (k0_off3 i k0_t2) S1x32768.size (k0_off3_inb i k0_t2)) (fun _ => rfl)).squeeze S32768 squeezes_S1x32768_S32768) (.here (Memref.whole cc0_scratch0)) (.dma cc0_scoped0.sem) ((View.wordExact_bits rfl).reshape _ _) (Memref.isWhole_whole cc0_scratch0).wordExact ⟨Or.inl rfl, trivial⟩)
abbrev waitX (k0_t2 : Fin k0_t2_loop.trips) : Prog (TpuEff nD τ sig (Elt F) Λ₀ (.scVector ((i 0).castLE hcore0) ((i 1).castLE hsub0))) PUnit :=
  Prog.lift (.waitDma2 cc0_scoped0.sem (((Memref.whole main_arg0_scv).slice (Rect.unit (s := S128x32768) (k0_off3 i k0_t2) S1x32768.size (k0_off3_inb i k0_t2)) (fun _ => rfl)).squeeze S32768 squeezes_S1x32768_S32768) (Memref.whole cc0_scratch0) ((View.wordExact_bits rfl).reshape _ _) (Memref.isWhole_whole cc0_scratch0).wordExact)
/-- The copy of a row out. -/
abbrev enqO (k0_t2 : Fin k0_t2_loop.trips) : Prog (TpuEff nD τ sig (Elt F) Λ₀ (.scVector ((i 0).castLE hcore0) ((i 1).castLE hsub0))) PUnit :=
  Prog.lift (.enqueueDma (Memref.whole cc0_scratch1) (.here (((Memref.whole main_v0_scv).slice (Rect.unit (s := S128x32768) (k0_off19 i k0_t2) S1x32768.size (k0_off19_inb i k0_t2)) (fun _ => rfl)).squeeze S32768 squeezes_S1x32768_S32768)) (.dma cc0_scratch10.sem) (Memref.isWhole_whole cc0_scratch1).wordExact ((View.wordExact_bits rfl).reshape _ _) ⟨Or.inl rfl, trivial⟩)
abbrev waitO (k0_t2 : Fin k0_t2_loop.trips) : Prog (TpuEff nD τ sig (Elt F) Λ₀ (.scVector ((i 0).castLE hcore0) ((i 1).castLE hsub0))) PUnit :=
  Prog.lift (.waitDma2 cc0_scratch10.sem (Memref.whole cc0_scratch1) (((Memref.whole main_v0_scv).slice (Rect.unit (s := S128x32768) (k0_off18 i k0_t2) S1x32768.size (k0_off18_inb i k0_t2)) (fun _ => rfl)).squeeze S32768 squeezes_S1x32768_S32768) (Memref.isWhole_whole cc0_scratch1).wordExact ((View.wordExact_bits rfl).reshape _ _))
/-- The first copy out and the last wait. -/
abbrev enqI : Prog (TpuEff nD τ sig (Elt F) Λ₀ (.scVector ((i 0).castLE hcore0) ((i 1).castLE hsub0))) PUnit :=
  Prog.lift (.enqueueDma (Memref.whole cc0_scratch1) (.here (((Memref.whole main_v0_scv).slice (Rect.unit (s := S128x32768) (k0_off2 i) S1x32768.size (k0_off2_inb i)) (fun _ => rfl)).squeeze S32768 squeezes_S1x32768_S32768)) (.dma cc0_scratch10.sem) (Memref.isWhole_whole cc0_scratch1).wordExact ((View.wordExact_bits rfl).reshape _ _) ⟨Or.inl rfl, trivial⟩)
abbrev waitI : Prog (TpuEff nD τ sig (Elt F) Λ₀ (.scVector ((i 0).castLE hcore0) ((i 1).castLE hsub0))) PUnit :=
  Prog.lift (.waitDma2 cc0_scratch10.sem (Memref.whole cc0_scratch1) (((Memref.whole main_v0_scv).slice (Rect.unit (s := S128x32768) (k0_off2 i) S1x32768.size (k0_off2_inb i)) (fun _ => rfl)).squeeze S32768 squeezes_S1x32768_S32768) (Memref.isWhole_whole cc0_scratch1).wordExact ((View.wordExact_bits rfl).reshape _ _))

theorem run_stop {β : Type} (e : TpuEff nD τ sig (Elt F) Λ₀ (.scVector ((i 0).castLE hcore0) ((i 1).castLE hsub0)) β)
    (k : β → Prog (TpuEff nD τ sig (Elt F) Λ₀ (.scVector ((i 0).castLE hcore0) ((i 1).castLE hsub0))) γ) (h : run o base m (Prog.op e k) = (Prog.op e k, toSt base m)) :
    run o base m (Prog.lift e >>= k) = (Prog.lift e >>= k, toSt base m) := h

theorem run_part13 (v1 : FVec F S16 .f32) (v5 : BitVec 32) (c0_i32_5 : BitVec 32) (c1_i32_7 : BitVec 32) (k0_t2 : Fin k0_t2_loop.trips) (arg16 : IVec S16 32) (arg17 : IVec S16 32) (arg18 : IVec S16 32) (arg19 : IVec S16 32) (K : (Σ' (k0_hw68 : k0_chk68 arg19) (k0_hw67 : k0_chk67 arg18) (k0_hw66 : k0_chk66 arg17) (k0_hw65 : k0_chk65 arg16) (v24 : FVec F S16 .f32) (v26 : F .f32) (v28 : F .f32) (v30 : F .f32) (v32 : F .f32) (v34 : F .f32) (v36 : F .f32) (v38 : F .f32) (v40 : F .f32) (v42 : F .f32) (v44 : F .f32) (v46 : F .f32) (v48 : F .f32) (v50 : F .f32) (v52 : F .f32), FVec F S1 .f32) → Prog (TpuEff nD τ sig (Elt F) Λ₀ (.scVector ((i 0).castLE hcore0) ((i 1).castLE hsub0))) γ) (h1 : v1 = ninf) (h68 : k0_chk68 arg19) (h67 : k0_chk67 arg18) (h66 : k0_chk66 arg17) (h65 : k0_chk65 arg16) :
    ∃ P : PUnit → Prog (TpuEff nD τ sig (Elt F) Λ₀ (.scVector ((i 0).castLE hcore0) ((i 1).castLE hsub0))) γ, (∀ o m, run o base m (k0_part13 i (Memref.whole main_arg0_scv) (Memref.isWhole_whole _) (Memref.whole main_v0_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scoped0 v1 v5 c0_i32_5 c1_i32_7 k0_t2 arg16 arg17 arg18 arg19 >>= K) = (enqX i k0_t2 >>= fun _ => waitX i k0_t2 >>= P, toSt base m)) ∧
      ∀ m, run false base m (P ⟨⟩) = run false base m (let v : VF F := p1v (p1all m.s); K ⟨h68, h67, h66, h65, v, v (ix 16 0), v (ix 16 1), v (ix 16 2), v (ix 16 3), v (ix 16 4), v (ix 16 5), v (ix 16 6), v (ix 16 7), v (ix 16 8), v (ix 16 9), v (ix 16 10), v (ix 16 11), v (ix 16 12), v (ix 16 13), extractStridedSlice S1 ![14] v slices_S16_o14_S1⟩) := by
  subst h1
  apply Exists.intro
  apply And.intro
  · intro o m
    rw [k0_part13]
    simp only [bind_assoc, pure_bind]
    rw [run_assume (h := h68), run_assume (h := h67), run_assume (h := h66), run_assume (h := h65)]
    rw [run_stop i base m o _ _ rfl]
    rfl
  · intro m
    rw [run_for_acc (N := 512) (hN := by decide) (f := p1 m.s)]
    case h =>
      intro b a K
      simp only [bind_assoc, pure_bind, run_ld_s, off4, off5 _ 1#32 (by decide), off5 _ 2#32 (by decide), off5 _ 3#32 (by decide)]
      rfl
    simp only [lane]
    rfl

theorem run_part46 (K : (Σ' (v1532 : IVec S16 32) (v1537 : IVec S16 32) (v1541 : IVec S16 32) (v1546 : IVec S16 32) (v1550 : IVec S16 32) (k0_hw71 : k0_chk71 v1550) (v1552 : IVec S16 32), IVec S16 32) → Prog (TpuEff nD τ sig (Elt F) Λ₀ (.scVector ((i 0).castLE hcore0) ((i 1).castLE hsub0))) γ) (v0 : IVec S16 32) (v1 : FVec F S16 .f32) (k0_t2 : Fin k0_t2_loop.trips) (arg16 : IVec S16 32) (arg17 : IVec S16 32) (arg18 : IVec S16 32) (arg19 : IVec S16 32) (arg20 : IVec S16 32) (arg21 : IVec S16 32) (arg22 : IVec S16 32) (arg23 : IVec S16 32) (k0_hw68 : k0_chk68 arg19) (k0_hw67 : k0_chk67 arg18) (k0_hw66 : k0_chk66 arg17) (k0_hw65 : k0_chk65 arg16) (v344 : FVec F S16 .f32) (v346 : FVec F S16 .f32) (v1020 : BitVec 32) (v1516_0 : IVec S16 32) (v1516_1 : IVec S16 32) (v1516_2 : IVec S16 32) (h0 : v0 = io) (h1 : v1 = ninf) :
    ∃ P : PUnit → Prog (TpuEff nD τ sig (Elt F) Λ₀ (.scVector ((i 0).castLE hcore0) ((i 1).castLE hsub0))) γ, (∀ m, run false base m (k0_part46 i (Memref.whole main_arg0_scv) (Memref.isWhole_whole _) (Memref.whole main_v0_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scoped0 v0 v1 k0_t2 arg16 arg17 arg18 arg19 arg20 arg21 arg22 arg23 k0_hw68 k0_hw67 k0_hw66 k0_hw65 v344 v346 v1020 v1516_0 v1516_1 v1516_2 >>= K) = (waitO i k0_t2 >>= P, toSt base m)) ∧
      ∀ m, run true base m (P ⟨⟩) = run true base { m with o := sca (sca (wipe (arg16, arg17, arg18, arg19, arg20, arg21, arg22, arg23) m.o) (rkf (ld m.rk 0) v1516_0) v344 (kpf 0#32 v1020)) (rkf (ld m.rk 16) v1516_1) v346 (kpf 16#32 v1020) }
        (K ⟨rkf (ld m.rk 0) v1516_0, extui 32 (kpf 0#32 v1020) natLt_1_32, rkf (ld m.rk 16) v1516_1, extui 32 (kpf 16#32 v1020) natLt_1_32, rkf (ld m.rk 32) v1516_2, andN _, addi io (bi 32#32), bi v1020⟩) := by
  subst h0 h1
  apply Exists.intro
  apply And.intro
  · intro m
    rw [k0_part46]
    simp only [bind_assoc, pure_bind]
    rw [run_stop i base m false _ _ rfl]
    rfl
  · intro m
    simp only [run_sca_o, run_ld_rk]
    rw [run_assume (h := by exact andN _)]
    simp only [run_sca_o, run_ld_rk]
    rw [run_assume (h := by exact andN _)]
    simp only [run_sca_o, run_ld_rk]
    rw [run_assume (h := by exact andN _)]
    rfl

end Cert.Proof.Mem
-- ==== Proof.RowDef.lean ====
module
public import proofs.«01_k».proof.Proof.R14
public import proofs.«01_k».proof.Proof.R43
public import proofs.«01_k».proof.Proof.R37
public import proofs.«01_k».proof.Proof.R46
/-! A row's values, each named: what the kernel computes from the row its buffer holds. -/
@[expose] public section
noncomputable section
namespace Cert.Proof.Mem
open Idealize.ShloMosaic
open Idealize.SL Idealize.SL.Sem
open Cert.KernelIdeal Cert.KernelIdeal.Facts₀ Cert.KernelIdeal.Facts Cert.Proof.Local
variable {F : FTy → Type} [FloatOps F]
variable [Facts]

/-- The row's maximum, the exponentials and the first sums. -/
def rE (m : Mem F) : (VF F × VF F) × Mem F := p2all (vmax (p1v (p1all m.s))) m
/-- The memory once the maxima of the exponentials are in place. -/
def rA (m : Mem F) : Mem F := m2all (rE m).2
/-- The sum of the row's exponentials. -/
def rS (m : Mem F) : F .f32 := vsum (addf (rE m).1.1 (rE m).1.2)

/-! The first sixty-four, sorted with their positions. -/
def qa (s : (A 32768).Idx → F .f32) : KV F := srt (ld s 0, io)
def qb (s : (A 32768).Idx → F .f32) : KV F := srt (ld s 16, addi io (bi 16#32))
def qc (s : (A 32768).Idx → F .f32) : KV F := srt (ld s 32, addi io (bi 32#32))
def qd (s : (A 32768).Idx → F .f32) : KV F := srt (ld s 48, addi io (bi 48#32))
def qA (s : (A 32768).Idx → F .f32) : KV F := srt (lop (qa s) (rvp (qb s)))
def qB (s : (A 32768).Idx → F .f32) : KV F := srt (hip (qa s) (rvp (qb s)))
def qC (s : (A 32768).Idx → F .f32) : KV F := srt (lop (qc s) (rvp (qd s)))
def qD (s : (A 32768).Idx → F .f32) : KV F := srt (hip (qc s) (rvp (qd s)))
def l0 (s : (A 32768).Idx → F .f32) : KV F := lop (qA s) (rvp (qD s))
def l1 (s : (A 32768).Idx → F .f32) : KV F := lop (qB s) (rvp (qC s))
def h0 (s : (A 32768).Idx → F .f32) : KV F := hip (qA s) (rvp (qD s))
def h1 (s : (A 32768).Idx → F .f32) : KV F := hip (qB s) (rvp (qC s))
def q0 (s : (A 32768).Idx → F .f32) : KV F := srt (lop (l0 s) (l1 s))
def q1 (s : (A 32768).Idx → F .f32) : KV F := srt (hip (l0 s) (l1 s))
def q2 (s : (A 32768).Idx → F .f32) : KV F := srt (lop (h0 s) (h1 s))
def q3 (s : (A 32768).Idx → F .f32) : KV F := srt (hip (h0 s) (h1 s))

/-- The memory once the sorted sixty-four are in their tables. -/
def rB (m : Mem F) : Mem F :=
  { rA m with
    kb := (q3 (rA m).s).1, vb := (q3 (rA m).s).2
    tk := iter 16 (tkStep (q3 (rA m).s).1 48#32) (iter 16 (tkStep (q2 (rA m).s).1 32#32) (iter 16 (tkStep (q1 (rA m).s).1 16#32)
      (iter 16 (tkStep (q0 (rA m).s).1 0#32) (rA m).tk)))
    tp := sd (sd (sd (sd (rA m).tp 0 (q0 (rA m).s).2) 16 (q1 (rA m).s).2) 32 (q2 (rA m).s).2) 48 (q3 (rA m).s).2 }
/-- The sixty-four extractions. -/
def rX (m : Mem F) : Ext F × Mem F := extAll (m3all (rA m)) (rB m)
/-- The row's exponentials, restored. -/
def rR (m : Mem F) : (A 32768).Idx → F .f32 := restore (rX m).1 (rX m).2.s
def sv0 (m : Mem F) : VF F := divf (rX m).1.2.1 (bf (rS m))
def sv1 (m : Mem F) : VF F := divf (rX m).1.2.2.1 (bf (rS m))
def sv2 (m : Mem F) : VF F := divf (rX m).1.2.2.2.1 (bf (rS m))
def sv3 (m : Mem F) : VF F := divf (rX m).1.2.2.2.2.1 (bf (rS m))
/-- How many are kept. -/
def rK (m : Mem F) : BitVec 32 := kkf (sv0 m) (sv1 m) (sv2 m) (sv3 m)
/-- The counts between the sorted sixty-four. -/
def rH (m : Mem F) : (A 1040).Idx → BitVec 32 :=
  iter 2048 (hStep (q0 (rA m).s).1 (q1 (rA m).s).1 (q2 (rA m).s).1 (q3 (rA m).s).1 (rX m).2.tk (rR m)) (iter 65 hzStep (rX m).2.hi)
def c3 (m : Mem F) : BitVec 32 := Scalar.addi 0#32 (lsum (tot (rH m) 48#32))
def c2 (m : Mem F) : BitVec 32 := Scalar.addi (c3 m) (lsum (tot (rH m) 32#32))
def c1 (m : Mem F) : BitVec 32 := Scalar.addi (c2 m) (lsum (tot (rH m) 16#32))
/-- The ranks of the sixty-four, up to their equals. -/
def rG (m : Mem F) : (A 64).Idx → BitVec 32 :=
  sca (sca (sca (sca (rX m).2.rk (q0 (rA m).s).2 (gv (tot (rH m) 0#32) (c1 m)) ones) (q1 (rA m).s).2 (gv (tot (rH m) 16#32) (c2 m)) ones)
    (q2 (rA m).s).2 (gv (tot (rH m) 32#32) (c3 m)) ones) (q3 (rA m).s).2 (gv (tot (rH m) 48#32) 0#32) ones
/-- What the row leaves to the next. -/
def rowCar (m : Mem F) : Car :=
  (rkf (ld (rG m) 0) (eqAll (rR m)).1, rkf (ld (rG m) 16) (eqAll (rR m)).2.1, rkf (ld (rG m) 32) (eqAll (rR m)).2.2.1,
   rkf (ld (rG m) 48) (eqAll (rR m)).2.2.2, extui 32 (kpf 0#32 (rK m)) natLt_1_32, extui 32 (kpf 16#32 (rK m)) natLt_1_32,
   extui 32 (kpf 32#32 (rK m)) natLt_1_32, extui 32 (kpf 48#32 (rK m)) natLt_1_32)
/-- What the row writes. -/
def rowOut (m : Mem F) (o : (A 32768).Idx → F .f32) : (A 32768).Idx → F .f32 :=
  sca (sca (sca (sca o (rowCar m).1 (sv0 m) (kpf 0#32 (rK m))) (rowCar m).2.1 (sv1 m) (kpf 16#32 (rK m)))
    (rowCar m).2.2.1 (sv2 m) (kpf 32#32 (rK m))) (rowCar m).2.2.2.1 (sv3 m) (kpf 48#32 (rK m))

def kk1 (m : Mem F) : F .f32 × BitVec 32 := kkStep (sv0 m) (Scalar.ofBits .f32 0x00000000#32, 0#32)
def kk2 (m : Mem F) : F .f32 × BitVec 32 := kkStep (sv1 m) (kk1 m)
def kk3 (m : Mem F) : F .f32 × BitVec 32 := kkStep (sv2 m) (kk2 m)

theorem iter_zero {σ : Type} (g : ℕ → σ → σ) (a : σ) : iter 0 g a = a := rfl
theorem iter_succ {σ : Type} (n : ℕ) (g : ℕ → σ → σ) (a : σ) : iter (n + 1) g a = g n (iter n g a) := by
  unfold iter
  rw [List.range_succ, List.foldl_append]
  rfl

/-- Lanes whose positions are below sixty-four. -/
def KOk (p : KV F) : Prop := ∀ x, (p.2 x).toNat < 64

theorem sca_all {α : Type} {n : ℕ} [NeZero n] (P : α → Prop) (f : (A n).Idx → α) (v : VI) (w : (A 16).Idx → α) (mask : IVec S16 1)
    (hf : ∀ j, P (f j)) (hw : ∀ j, P (w j)) : ∀ j, P (sca f v w mask j) := by
  unfold sca
  generalize List.finRange 16 = l
  induction l generalizing f with
  | nil => exact hf
  | cons k l ih =>
    refine ih _ fun j => ?_
    dsimp only
    split
    · dsimp only
      split
      · exact hw _
      · exact hf _
    · exact hf _

theorem kok_srt {p : KV F} (h : KOk p) : KOk (srt p) := sca_all (α := BitVec 32) (fun b => b.toNat < 64) p.2 (srtR p.1) p.2 ones h h
theorem kok_rvp {p : KV F} (h : KOk p) : KOk (rvp p) := fun x => h _
theorem kok_lop {a b : KV F} (h : KOk a) (h' : KOk b) : KOk (lop a b) := fun x => by
  show (Scalar.select _ (a.2 x) (b.2 x)).toNat < 64
  unfold Scalar.select
  split
  · exact h x
  · exact h' x
theorem kok_hip {a b : KV F} (h : KOk a) (h' : KOk b) : KOk (hip a b) := fun x => by
  show (Scalar.select _ (b.2 x) (a.2 x)).toNat < 64
  unfold Scalar.select
  split
  · exact h' x
  · exact h x
theorem kok_io (v : VF F) (b : ℕ) (hb : b ≤ 48) : KOk (F := F) (v, addi io (bi (BitVec.ofNat 32 b))) := fun x => by
  obtain ⟨k, rfl⟩ := idx16 x
  show (io (ix 16 k.val) + BitVec.ofNat 32 b).toNat < 64
  rw [io_ix _ k.isLt, BitVec.toNat_add, BitVec.toNat_ofNat, BitVec.toNat_ofNat]
  have := k.isLt
  omega
theorem kok_a (s : (A 32768).Idx → F .f32) : KOk (qa s) := kok_srt fun x => by
  obtain ⟨k, rfl⟩ := idx16 x
  show (io (ix 16 k.val)).toNat < 64
  rw [io_ix _ k.isLt, BitVec.toNat_ofNat]
  have := k.isLt
  omega
theorem kok_b (s : (A 32768).Idx → F .f32) : KOk (qb s) := kok_srt (kok_io _ 16 (by decide))
theorem kok_c (s : (A 32768).Idx → F .f32) : KOk (qc s) := kok_srt (kok_io _ 32 (by decide))
theorem kok_d (s : (A 32768).Idx → F .f32) : KOk (qd s) := kok_srt (kok_io _ 48 (by decide))
theorem kok_A (s : (A 32768).Idx → F .f32) : KOk (qA s) := kok_srt (kok_lop (kok_a s) (kok_rvp (kok_b s)))
theorem kok_B (s : (A 32768).Idx → F .f32) : KOk (qB s) := kok_srt (kok_hip (kok_a s) (kok_rvp (kok_b s)))
theorem kok_C (s : (A 32768).Idx → F .f32) : KOk (qC s) := kok_srt (kok_lop (kok_c s) (kok_rvp (kok_d s)))
theorem kok_D (s : (A 32768).Idx → F .f32) : KOk (qD s) := kok_srt (kok_hip (kok_c s) (kok_rvp (kok_d s)))
theorem kok_l0 (s : (A 32768).Idx → F .f32) : KOk (l0 s) := kok_lop (kok_A s) (kok_rvp (kok_D s))
theorem kok_l1 (s : (A 32768).Idx → F .f32) : KOk (l1 s) := kok_lop (kok_B s) (kok_rvp (kok_C s))
theorem kok_h0 (s : (A 32768).Idx → F .f32) : KOk (h0 s) := kok_hip (kok_A s) (kok_rvp (kok_D s))
theorem kok_h1 (s : (A 32768).Idx → F .f32) : KOk (h1 s) := kok_hip (kok_B s) (kok_rvp (kok_C s))
theorem kok_0 (s : (A 32768).Idx → F .f32) : KOk (q0 s) := kok_srt (kok_lop (kok_l0 s) (kok_l1 s))
theorem kok_1 (s : (A 32768).Idx → F .f32) : KOk (q1 s) := kok_srt (kok_hip (kok_l0 s) (kok_l1 s))
theorem kok_2 (s : (A 32768).Idx → F .f32) : KOk (q2 s) := kok_srt (kok_lop (kok_h0 s) (kok_h1 s))
theorem kok_3 (s : (A 32768).Idx → F .f32) : KOk (q3 s) := kok_srt (kok_hip (kok_h0 s) (kok_h1 s))

end Cert.Proof.Mem
-- ==== Proof.Row0.lean ====
module
public import proofs.«01_k».proof.Proof.RowDef
/-! A row's run, part after part. -/
@[expose] public section
noncomputable section
namespace Cert.Proof.Mem
open Idealize.ShloMosaic
open Idealize.SL Idealize.SL.Sem
open Cert.KernelIdeal Cert.KernelIdeal.Facts₀ Cert.KernelIdeal.Facts Cert.Proof.Local
variable {F : FTy → Type} [FloatOps F]
variable [Facts]
attribute [local irreducible] iter sca scaA
variable {d : Dev nD} (i : grid0.Coords) {γ : Type}
variable (base : Bufs sig (Elt F) (th d ((i 0).castLE hcore0) ((i 1).castLE hsub0))) (m : Mem F) (o : Bool)

theorem run_spec21 (s : (A 32768).Idx → F .f32) (v289 : IVec S16 32) (v292 : IVec S16 32) (c0_i32_126 : BitVec 32) (c16_i32_127 : BitVec 32) (K : (Σ' (v297 : Vec F S16 .f32) (v298 : Vec F S16 .i32) (k0_hw60 : k0_chk60 v298) (v307 : Vec F S16 .f32) (v308 : Vec F S16 .i32) (k0_hw61 : k0_chk61 v308) (v316 : IVec S16 32), k0_chk30 v316) → Prog (TpuEff nD τ sig (Elt F) Λ₀ (.scVector ((i 0).castLE hcore0) ((i 1).castLE hsub0))) γ) (h289 : v289 = io) (h292 : v292 = bi 0#32) (hc : c0_i32_126 = 0#32) (hc' : c16_i32_127 = 16#32) (hk : m.kb = (lop (l0 s) (l1 s)).1) (hv : m.vb = (lop (l0 s) (l1 s)).2) :
    run o base m (k0_part21 i (Memref.whole main_arg0_scv) (Memref.isWhole_whole _) (Memref.whole main_v0_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scoped0 ((lop (l0 s) (l1 s)).1) ((lop (l0 s) (l1 s)).2) ((hip (l0 s) (l1 s)).1) ((hip (l0 s) (l1 s)).2) ((lop (h0 s) (h1 s)).1) ((lop (h0 s) (h1 s)).2) v289 v292 c0_i32_126 c16_i32_127 >>= K)
      = run o base { m with kb := (lop (h0 s) (h1 s)).1, vb := (lop (h0 s) (h1 s)).2 } (K ⟨(q0 s).1, (q0 s).2, (idxlt 64 (q0 s).2 fun k _ => kok_0 s (ix 16 k)), (q1 s).1, (q1 s).2, (idxlt 64 (q1 s).2 fun k _ => kok_1 s (ix 16 k)), srtR (lop (h0 s) (h1 s)).1, ⟨and15 _, and15 _⟩⟩) := by
  rw [run_part21]
  case b60 => exact fun k _ => kok_0 s (ix 16 k)
  case b61 => exact fun k _ => kok_1 s (ix 16 k)
  · rfl
  all_goals assumption

theorem run_spec22 (s : (A 32768).Idx → F .f32) (v0 : IVec S16 32) (k0_hw30 : k0_chk30 (srtR (lop (h0 s) (h1 s)).1)) (K : (Σ' (v317 : Vec F S16 .f32) (v318 : Vec F S16 .i32) (k0_hw62 : k0_chk62 v318) (v327 : Vec F S16 .f32) (v328 : Vec F S16 .i32), k0_chk63 v328) → Prog (TpuEff nD τ sig (Elt F) Λ₀ (.scVector ((i 0).castLE hcore0) ((i 1).castLE hsub0))) γ) (hv0 : v0 = io) (hk : m.kb = (lop (h0 s) (h1 s)).1) (hv : m.vb = (lop (h0 s) (h1 s)).2) :
    run o base m (k0_part22 i (Memref.whole main_arg0_scv) (Memref.isWhole_whole _) (Memref.whole main_v0_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scoped0 v0 ((lop (h0 s) (h1 s)).1) ((lop (h0 s) (h1 s)).2) ((hip (h0 s) (h1 s)).1) ((hip (h0 s) (h1 s)).2) ((q0 s).1) ((q0 s).2) ((q1 s).1) ((q1 s).2) (srtR (lop (h0 s) (h1 s)).1) k0_hw30 >>= K)
      = run o base { m with kb := (q3 s).1, vb := (q3 s).2, tk := iter 16 (tkStep (q2 s).1 32#32) (iter 16 (tkStep (q1 s).1 16#32) (iter 16 (tkStep (q0 s).1 0#32) m.tk)), tp := sd (sd (sd m.tp 0 (q0 s).2) 16 (q1 s).2) 32 (q2 s).2 } (K ⟨(q2 s).1, (q2 s).2, (idxlt 64 (q2 s).2 fun k _ => kok_2 s (ix 16 k)), (q3 s).1, (q3 s).2, (idxlt 64 (q3 s).2 fun k _ => kok_3 s (ix 16 k))⟩) := by
  rw [run_part22]
  case b62 => exact fun k _ => kok_2 s (ix 16 k)
  case b63 => exact fun k _ => kok_3 s (ix 16 k)
  · rfl
  · assumption
  · rfl
  all_goals assumption

theorem run_spec23 (m1 : Mem F) (v0 v2 : VI) (K : (Σ' (v344 : FVec F S16 .f32) (v346 : FVec F S16 .f32) (v348 : FVec F S16 .f32) (v350 : FVec F S16 .f32) (v351 : IVec S16 32) (v363 : F .f32) (v367 : FVec F S16 .f32), F .f32) → Prog (TpuEff nD τ sig (Elt F) Λ₀ (.scVector ((i 0).castLE hcore0) ((i 1).castLE hsub0))) γ) (hv0 : v0 = io) (hv2 : v2 = bi 0#32)
    (hm : m1 = { rA m with
      kb := (q3 (rA m).s).1
      vb := (q3 (rA m).s).2
      tk := iter 16 (tkStep (q2 (rA m).s).1 32#32) (iter 16 (tkStep (q1 (rA m).s).1 16#32) (iter 16 (tkStep (q0 (rA m).s).1 0#32) (rA m).tk))
      tp := sd (sd (sd (rA m).tp 0 (q0 (rA m).s).2) 16 (q1 (rA m).s).2) 32 (q2 (rA m).s).2 }) :
    run o base m1 (k0_part23 i (Memref.whole main_arg0_scv) (Memref.isWhole_whole _) (Memref.whole main_v0_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scoped0 v0 v2 (rS m) (m3all (rA m)) (q3 (rA m).s).1 (q3 (rA m).s).2 >>= K)
      = run o base { (rX m).2 with s := rR m } (K ⟨sv0 m, sv1 m, sv2 m, sv3 m, io, (vcumP (sv0 m) 2).1, (vcumP (sv0 m) 2).2, sv0 m (ix 16 3)⟩) := by
  subst hm
  rw [run_part23]
  case h0 => exact hv0
  case h2 => exact hv2
  have hX : ∀ M, M = rB m → extAll (m3all (rA m)) M = rX m := fun M e => by rw [e]; rfl
  simp only []
  rw [hX _ (by rfl)]
  simp only [sv0, sv1, sv2, sv3, rR]

theorem run_46a (v0 : IVec S16 32) (v1 : FVec F S16 .f32) (k0_t2 : Fin k0_t2_loop.trips) (arg16 : IVec S16 32) (arg17 : IVec S16 32) (arg18 : IVec S16 32) (arg19 : IVec S16 32) (arg20 : IVec S16 32) (arg21 : IVec S16 32) (arg22 : IVec S16 32) (arg23 : IVec S16 32) (k0_hw68 : k0_chk68 arg19) (k0_hw67 : k0_chk67 arg18) (k0_hw66 : k0_chk66 arg17) (k0_hw65 : k0_chk65 arg16) (v344 : FVec F S16 .f32) (v346 : FVec F S16 .f32) (v1020 : BitVec 32) (v1516_0 : IVec S16 32) (v1516_1 : IVec S16 32) (v1516_2 : IVec S16 32) (K : (Σ' (v1532 : IVec S16 32) (v1537 : IVec S16 32) (v1541 : IVec S16 32) (v1546 : IVec S16 32) (v1550 : IVec S16 32) (k0_hw71 : k0_chk71 v1550) (v1552 : IVec S16 32), IVec S16 32) → Prog (TpuEff nD τ sig (Elt F) Λ₀ (.scVector ((i 0).castLE hcore0) ((i 1).castLE hsub0))) γ) (hv0 : v0 = io) (hv1 : v1 = ninf) :
    run false base m (k0_part46 i (Memref.whole main_arg0_scv) (Memref.isWhole_whole _) (Memref.whole main_v0_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scoped0 v0 v1 k0_t2 arg16 arg17 arg18 arg19 arg20 arg21 arg22 arg23 k0_hw68 k0_hw67 k0_hw66 k0_hw65 v344 v346 v1020 v1516_0 v1516_1 v1516_2 >>= K) = (waitO i k0_t2 >>= Classical.choose (run_part46 i base K v0 v1 k0_t2 arg16 arg17 arg18 arg19 arg20 arg21 arg22 arg23 k0_hw68 k0_hw67 k0_hw66 k0_hw65 v344 v346 v1020 v1516_0 v1516_1 v1516_2 hv0 hv1), toSt base m) :=
  (Classical.choose_spec (run_part46 i base K v0 v1 k0_t2 arg16 arg17 arg18 arg19 arg20 arg21 arg22 arg23 k0_hw68 k0_hw67 k0_hw66 k0_hw65 v344 v346 v1020 v1516_0 v1516_1 v1516_2 hv0 hv1)).1 m

theorem run_13a (v1 : FVec F S16 .f32) (v5 : BitVec 32) (c0_i32_5 : BitVec 32) (c1_i32_7 : BitVec 32) (k0_t2 : Fin k0_t2_loop.trips) (arg16 : IVec S16 32) (arg17 : IVec S16 32) (arg18 : IVec S16 32) (arg19 : IVec S16 32) (K : (Σ' (k0_hw68 : k0_chk68 arg19) (k0_hw67 : k0_chk67 arg18) (k0_hw66 : k0_chk66 arg17) (k0_hw65 : k0_chk65 arg16) (v24 : FVec F S16 .f32) (v26 : F .f32) (v28 : F .f32) (v30 : F .f32) (v32 : F .f32) (v34 : F .f32) (v36 : F .f32) (v38 : F .f32) (v40 : F .f32) (v42 : F .f32) (v44 : F .f32) (v46 : F .f32) (v48 : F .f32) (v50 : F .f32) (v52 : F .f32), FVec F S1 .f32) → Prog (TpuEff nD τ sig (Elt F) Λ₀ (.scVector ((i 0).castLE hcore0) ((i 1).castLE hsub0))) γ) (hv1 : v1 = ninf) (h68 : k0_chk68 arg19) (h67 : k0_chk67 arg18) (h66 : k0_chk66 arg17) (h65 : k0_chk65 arg16) :
    run o base m (k0_part13 i (Memref.whole main_arg0_scv) (Memref.isWhole_whole _) (Memref.whole main_v0_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scoped0 v1 v5 c0_i32_5 c1_i32_7 k0_t2 arg16 arg17 arg18 arg19 >>= K) = (enqX i k0_t2 >>= fun _ => waitX i k0_t2 >>= Classical.choose (run_part13 i base v1 v5 c0_i32_5 c1_i32_7 k0_t2 arg16 arg17 arg18 arg19 K hv1 h68 h67 h66 h65), toSt base m) :=
  (Classical.choose_spec (run_part13 i base v1 v5 c0_i32_5 c1_i32_7 k0_t2 arg16 arg17 arg18 arg19 K hv1 h68 h67 h66 h65)).1 o m

end Cert.Proof.Mem
-- ==== Proof.Row.lean ====
module
public import proofs.«01_k».proof.Proof.Row0
/-! A row's run, from its copies in and out. -/
@[expose] public section
set_option pp.maxSteps 400
noncomputable section
namespace Cert.Proof.Mem
open Idealize.ShloMosaic
open Idealize.SL Idealize.SL.Sem
open Cert.KernelIdeal Cert.KernelIdeal.Facts₀ Cert.KernelIdeal.Facts Cert.Proof.Local
variable {F : FTy → Type} [FloatOps F]
variable [Facts]
attribute [local irreducible] iter sca scaA
variable {d : Dev nD} (i : grid0.Coords) {γ : Type}
variable (base : Bufs sig (Elt F) (th d ((i 0).castLE hcore0) ((i 1).castLE hsub0)))

/-- A row's slots from the row before. -/
def CarOk (a : Car) : Prop :=
  (∀ k < 16, (a.1 (ix 16 k)).toNat < 32768) ∧ (∀ k < 16, (a.2.1 (ix 16 k)).toNat < 32768) ∧ (∀ k < 16, (a.2.2.1 (ix 16 k)).toNat < 32768)
    ∧ ∀ k < 16, (a.2.2.2.1 (ix 16 k)).toNat < 32768

theorem carOk_rkf (r e : VI) : ∀ k < 16, (rkf r e (ix 16 k)).toNat < 32768 := fun k _ => by
  show ((addi r e) (ix 16 k) &&& 32767#32).toNat < 32768
  rw [BitVec.toNat_and]
  exact lt_of_le_of_lt Nat.and_le_right (by decide)

theorem carOk_row (m : Mem F) : CarOk (rowCar m) := ⟨carOk_rkf _ _, carOk_rkf _ _, carOk_rkf _ _, carOk_rkf _ _⟩

/-- The first contents of the buffer that goes out. -/
def blank : (A 32768).Idx → F .f32 := fun _ => Scalar.ofBits .f32 0xFF800000#32

theorem fill_eq (o : (A 32768).Idx → F .f32) : iter 2048 (fun k (f : (A 32768).Idx → F .f32) => sd f (16 * k) (ninf : VF F)) o = blank := by
  have : ∀ n ≤ 2048, ∀ j : (A 32768).Idx, (j 0).val < 16 * n →
      iter n (fun k (f : (A 32768).Idx → F .f32) => sd f (16 * k) (ninf : VF F)) o j = blank j := by
    intro n
    induction n with
    | zero => intro _ j hj; omega
    | succ n ih =>
      intro hn j hj
      rw [iter_succ]
      show (if 16 * n ≤ (j 0).val ∧ (j 0).val < 16 * n + 16 then (ninf : VF F) (ix 16 ((j 0).val - 16 * n)) else _) = blank j
      split
      · rfl
      · exact ih (by omega) j (by omega)
  funext j
  have h : (j 0).val < 32768 := (j 0).isLt
  exact this 2048 le_rfl j (by omega)

theorem iter_fill (m : Mem F) : (iter 2048 (fun k (p : PUnit × Mem F) => (p.1, { p.2 with o := sd p.2.o (16 * k) ninf })) (⟨⟩, m)) = (⟨⟩, { m with o := blank }) := by
  have : ∀ n, iter n (fun k (p : PUnit × Mem F) => (p.1, { p.2 with o := sd p.2.o (16 * k) ninf })) (⟨⟩, m)
      = (⟨⟩, { m with o := iter n (fun k (f : (A 32768).Idx → F .f32) => sd f (16 * k) (ninf : VF F)) m.o }) := by
    intro n
    induction n with
    | zero => rw [iter_zero, iter_zero]
    | succ n ih => rw [iter_succ, ih, iter_succ]
  rw [this, fill_eq]

theorem body_shape : ∃ B : Fin k0_t2_loop.trips → Car → Prog (TpuEff nD τ sig (Elt F) Λ₀ (.scVector ((i 0).castLE hcore0) ((i 1).castLE hsub0))) Car,
    (∀ m, run true base m (cc0__sc_body i (Memref.whole main_arg0_scv) (Memref.isWhole_whole _) (Memref.whole main_v0_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scoped0) = (enqI i >>= fun _ => (Scf.Loop.for k0_t2_loop k0_t2_ok ((bi 0#32, bi 0#32, bi 0#32, bi 0#32, bi 0#32, bi 0#32, bi 0#32, bi 0#32) : Car) B >>= fun _ => waitI i), toSt base { m with o := blank })) ∧
    ∀ t car, CarOk car → ∃ Q : PUnit → Prog (TpuEff nD τ sig (Elt F) Λ₀ (.scVector ((i 0).castLE hcore0) ((i 1).castLE hsub0))) Car,
      (∀ o m, run o base m (B t car) = (enqX i t >>= fun _ => waitX i t >>= Q, toSt base m)) ∧
      ∀ m, ∃ (M : Mem F) (P : PUnit → Prog (TpuEff nD τ sig (Elt F) Λ₀ (.scVector ((i 0).castLE hcore0) ((i 1).castLE hsub0))) Car), run false base m (Q ⟨⟩) = (waitO i t >>= P, toSt base M) ∧
        ∀ o', run true base { M with o := o' } (P ⟨⟩) = (enqO i t >>= fun _ => .ret (rowCar m), toSt base { M with o := rowOut m (wipe car o') }) := by
  apply Exists.intro
  apply And.intro
  · intro m
    rw [cc0__sc_body]
    simp only [bind_assoc, pure_bind]
    rw [run_for (N := 2048) (hN := by decide) (f := fun k p => (p.1, { p.2 with o := sd p.2.o (16 * k) ninf }))]
    case h =>
      intro b a m K
      simp only [bind_assoc, pure_bind, run_ld_o, run_sd_o, off1]
      rfl
    rw [run_stop i base _ true _ _ rfl]
    rw [iter_fill]
    rfl
  · rintro t ⟨a0, a1, a2, a3, a4, a5, a6, a7⟩ ⟨g0, g1, g2, g3⟩
    apply Exists.intro
    apply And.intro
    · intro o m
      simp only []
      rw [run_13a (h68 := idxlt 32768 _ g3) (h67 := idxlt 32768 _ g2) (h66 := idxlt 32768 _ g1) (h65 := idxlt 32768 _ g0)]
      case hv1 => rfl
      rfl
    · intro m
      apply Exists.intro
      apply Exists.intro
      apply And.intro
      · rw [(Classical.choose_spec (run_part13 i base _ _ _ _ _ _ _ _ _ _ _ _ _ _ _)).2 m]
        rotate_left
        · exact idxlt 32768 _ g3
        · exact idxlt 32768 _ g2
        · exact idxlt 32768 _ g1
        · exact idxlt 32768 _ g0
        · rfl
        simp only []
        rw [run_part14]
        case h0 => rfl
        case h1 => rfl
        case h26 => rfl
        case h28 => rfl
        case h30 => rfl
        case h32 => rfl
        case h34 => rfl
        case h36 => rfl
        case h38 => rfl
        case h40 => rfl
        case h42 => rfl
        case h44 => rfl
        case h46 => rfl
        case h48 => rfl
        case h50 => rfl
        case h52 => rfl
        case h53 => rfl
        simp only []
        rw [show p2all (vmax (p1v (p1all m.s))) m = rE m from rfl]
        rw [run_part15]
        case y => exact addf (rE m).1.1 (rE m).1.2
        case h0 => rfl
        case h1 => rfl
        case h81 => rfl
        case h83 => rfl
        case h85 => rfl
        case h87 => rfl
        case h89 => rfl
        case h91 => rfl
        case h93 => rfl
        case h95 => rfl
        case h97 => rfl
        case h99 => rfl
        case h101 => rfl
        case h103 => rfl
        case h105 => rfl
        case h107 => rfl
        case h108 => rfl
        simp only []
        rw [show vsum (addf (rE m).1.1 (rE m).1.2) = rS m from rfl]
        rw [show m2all (rE m).2 = rA m from rfl]
        rw [run_part16]
        case h139 => rfl
        case h142 => rfl
        case hc => rfl
        case hc' => rfl
        case hk => rfl
        case hv => rfl
        simp only []
        rw [show srt (ld (rA m).s 0, io) = qa (rA m).s from rfl]
        rw [show srt (ld (rA m).s 16, addi io (bi 16#32)) = qb (rA m).s from rfl]
        rw [show srt (ld (rA m).s 32, addi io (bi 32#32)) = qc (rA m).s from rfl]
        rw [run_part17]
        simp only []
        rw [show srt (ld (rA m).s 48, addi io (bi 48#32)) = qd (rA m).s from rfl]
        rw [run_part18]
        case h194 => rfl
        case h197 => rfl
        case hc => rfl
        case hk => rfl
        case hv => rfl
        simp only []
        rw [show srt ((lop (qa (rA m).s) (rvp (qb (rA m).s))).1, (lop (qa (rA m).s) (rvp (qb (rA m).s))).2) = qA (rA m).s from rfl]
        rw [show srt ((hip (qa (rA m).s) (rvp (qb (rA m).s))).1, (hip (qa (rA m).s) (rvp (qb (rA m).s))).2) = qB (rA m).s from rfl]
        rw [run_part19]
        case h224 => rfl
        case h225 => rfl
        simp only []
        rw [show srt (lop (qc (rA m).s) (gat (qd (rA m).s).1 r15, gat (qd (rA m).s).2 r15)) = qC (rA m).s from rfl]
        rw [show srt (hip (qc (rA m).s) (gat (qd (rA m).s).1 r15, gat (qd (rA m).s).2 r15)) = qD (rA m).s from rfl]
        rw [run_part20]
        case h252 => rfl
        simp only []
        rw [show lop (qA (rA m).s) (rvp (qD (rA m).s)) = l0 (rA m).s from rfl]
        rw [show lop (qB (rA m).s) (rvp (qC (rA m).s)) = l1 (rA m).s from rfl]
        rw [show hip (qA (rA m).s) (rvp (qD (rA m).s)) = h0 (rA m).s from rfl]
        rw [show hip (qB (rA m).s) (rvp (qC (rA m).s)) = h1 (rA m).s from rfl]
        rw [run_spec21]
        case h289 => rfl
        case h292 => rfl
        case hc => rfl
        case hc' => rfl
        case hk => rfl
        case hv => rfl
        simp only []
        rw [run_spec22]
        case hv0 => rfl
        case hk => rfl
        case hv => rfl
        simp only []
        rw [run_spec23 (m := m)]
        case hv0 => rfl
        case hv2 => rfl
        case hm => rfl
        simp only []
        rw [run_part24]
        case h351 => rfl
        case h363 => rfl
        case h367 => rfl
        case h369 => rfl
        simp only []
        rw [run_part25]
        case h351 => rfl
        case h416 => rfl
        case h419 => rfl
        case h421 => rfl
        simp only []
        rw [show Scalar.addi 0#32 (popc (cmpf .ole (addf (vcum (sv0 m)) (bf f0)) (bf topP))) = (kk1 m).2 from rfl]
        rw [run_part26]
        case h470 => rfl
        simp only []
        rw [show Scalar.addf f0 (vsum (sv0 m)) = (kk1 m).1 from rfl]
        rw [run_part27]
        case h518 => rfl
        case h523 => rfl
        case h527 => rfl
        case h528 => rfl
        simp only []
        rw [run_part28]
        case h518 => rfl
        case h576 => rfl
        case h579 => rfl
        case h580 => rfl
        simp only []
        rw [run_part29]
        case h630 => rfl
        case h631 => rfl
        simp only []
        rw [show Scalar.addi (kk1 m).2 (popc (cmpf .ole (addf (vcum (sv1 m)) (bf (kk1 m).1)) (bf topP))) = (kk2 m).2 from rfl]
        rw [show Scalar.addf (kk1 m).1 (vsum (sv1 m)) = (kk2 m).1 from rfl]
        rw [run_part30]
        case h690 => rfl
        simp only []
        rw [run_part31]
        case h736 => rfl
        case h739 => rfl
        case h741 => rfl
        case h742 => rfl
        simp only []
        rw [run_part32]
        case h794 => rfl
        case hc => rfl
        simp only []
        rw [show Scalar.addi (kk2 m).2 (popc (cmpf .ole (addf (vcum (sv2 m)) (bf (kk2 m).1)) (bf topP))) = (kk3 m).2 from rfl]
        rw [show Scalar.addf (kk2 m).1 (vsum (sv2 m)) = (kk3 m).1 from rfl]
        rw [run_part33]
        simp only []
        rw [run_part34]
        case h852 => rfl
        case h899 => rfl
        case h903 => rfl
        case h904 => rfl
        simp only []
        rw [run_part35]
        case h852 => rfl
        case h952 => rfl
        case h955 => rfl
        case h956 => rfl
        simp only []
        rw [run_part36]
        case h2 => rfl
        simp only []
        rw [show Scalar.minsi (Scalar.addi (Scalar.addi (kk3 m).2 (popc (cmpf .ole (addf (vcum (sv3 m)) (bf (kk3 m).1)) (bf topP)))) 1#32) 64#32 = rK m from rfl]
        rw [run_part37]
        case y => exact (q0 (rA m).s).1
        case h1049 => rfl
        case h1051 => rfl
        case h1053 => rfl
        case h1065 => rfl
        simp only []
        rw [run_part38]
        case h1117 => rfl
        case h1119 => rfl
        case h1121 => rfl
        case h1123 => rfl
        case h1125 => rfl
        simp only []
        rw [run_part39]
        case h0 => rfl
        case h1 => rfl
        case h1164 => rfl
        case h1166 => rfl
        case h1168 => rfl
        case h1170 => rfl
        case h1172 => rfl
        case h1174 => rfl
        case h1176 => rfl
        case h1178 => rfl
        case h1180 => rfl
        case h1182 => rfl
        case h1184 => rfl
        case h1185 => rfl
        simp only []
        rw [run_part40]
        case y => exact (q0 (rA m).s).1
        case h0 => rfl
        case h1 => rfl
        case h1214 => rfl
        case h1216 => rfl
        case h1218 => rfl
        case h1220 => rfl
        case h1222 => rfl
        case h1224 => rfl
        case h1226 => rfl
        case h1228 => rfl
        case h1230 => rfl
        case h1232 => rfl
        case h1234 => rfl
        case h1236 => rfl
        case h1238 => rfl
        case h1240 => rfl
        case h1242 => rfl
        case h1244 => rfl
        simp only []
        rw [run_part41]
        case y => exact (q1 (rA m).s).1
        case h0 => rfl
        case h1 => rfl
        case h1284 => rfl
        case h1286 => rfl
        case h1288 => rfl
        case h1290 => rfl
        case h1292 => rfl
        case h1294 => rfl
        case h1303 => rfl
        simp only []
        rw [run_part42]
        case s0 => exact (q0 (rA m).s).1
        case s1 => exact (q1 (rA m).s).1
        case s2 => exact (q2 (rA m).s).1
        case h0 => rfl
        case h1 => rfl
        case h3 => rfl
        case h1068 => rfl
        case h1115 => rfl
        case h1162 => rfl
        case h1209 => rfl
        case h1259 => rfl
        case h1309 => rfl
        case h1359 => rfl
        case h1361 => rfl
        simp only []
        rw [show iter 2048 (hStep (q0 (rA m).s).1 (q1 (rA m).s).1 (q2 (rA m).s).1 (q3 (rA m).s).1 (rX m).2.tk (rR m)) (iter 65 hzStep (rX m).2.hi) = rH m from rfl]
        rw [run_part43]
        case h0 => rfl
        case h2 => rfl
        case h1414 => rfl
        simp only []
        rw [run_part44]
        case h1444 => rfl
        case h1445 => rfl
        case hv => rfl
        simp only []
        rw [show Scalar.addi 0#32 (lsum (tot (rH m) 48#32)) = c3 m from rfl]
        rw [show Scalar.addi (c3 m) (lsum (tot (rH m) 32#32)) = c2 m from rfl]
        rw [run_part45]
        case h0 => rfl
        case h2 => rfl
        case hv => rfl
        case h1482 => rfl
        simp only []
        rw [show Scalar.addi (c2 m) (lsum (tot (rH m) 16#32)) = c1 m from rfl]
        rw [show sca (sca (sca (sca (rX m).2.rk (q0 (rA m).s).2 (gv (tot (rH m) 0#32) (c1 m)) ones) (q1 (rA m).s).2 (gv (tot (rH m) 16#32) (c2 m)) ones) (q2 (rA m).s).2 (gv (tot (rH m) 32#32) (c3 m)) ones) (q3 (rA m).s).2 (gv (tot (rH m) 48#32) 0#32) ones = rG m from rfl]

        rw [run_46a]
        case hv0 => rfl
        case hv1 => rfl
        rfl
        all_goals rfl
      · intro o'
        rw [(Classical.choose_spec (run_part46 i base _ _ _ _ _ _ _ _ _ _ _ _ _ _ _ _ _ _ _ _ _ _ _ _)).2 _]
        rotate_left
        · rfl
        · rfl
        simp only [run_sca_o, run_ld_rk]
        rw [run_assume (h := by exact andN _)]
        simp only [run_sca_o]
        rw [run_stop i base _ true _ _ rfl]
        rfl
end Cert.Proof.Mem
-- ==== Proof.Geo.lean ====
module
public import proofs.«01_k».proof.Proof.Row
public import Idealize.ShloMosaic.Lib.SparseCore.Quiescent
/-! Scatters read back, and the rows of the two arrays as a tile addresses them. -/
@[expose] public section
set_option pp.maxSteps 400
noncomputable section
namespace Cert.Proof.Mem
open Idealize.ShloMosaic
open Idealize.SL Idealize.SL.Sem
open Cert.KernelIdeal Cert.KernelIdeal.Facts₀ Cert.KernelIdeal.Facts Cert.Proof.Local
variable {F : FTy → Type} [FloatOps F]
variable [Facts]

/-! ### Scatters -/

/-- Lane `k` of a scatter writes the element `j`. -/
def Hit {n : ℕ} (v : VI) (mask : IVec S16 1) (j : (A n).Idx) : Prop := ∃ k : Fin 16, mask (ix 16 k.val) = 1 ∧ (j 0).val = (v (ix 16 k.val)).toNat

theorem sca_not {α : Type} {n : ℕ} [NeZero n] (f : (A n).Idx → α) (v : VI) (w : (A 16).Idx → α) (mask : IVec S16 1) (j : (A n).Idx)
    (h : ¬ Hit v mask j) : sca f v w mask j = f j := by
  have h' : ∀ k ∈ List.finRange 16, ¬ (mask (ix 16 k.val) = 1 ∧ (j 0).val = (v (ix 16 k.val)).toNat) := fun k _ e => h ⟨k, e⟩
  unfold sca
  revert h'
  generalize List.finRange 16 = l
  intro h'
  induction l generalizing f with
  | nil => rfl
  | cons k l ih =>
    rw [List.foldl_cons, ih _ (fun k hk => h' k (List.mem_cons_of_mem _ hk))]
    have := h' k List.mem_cons_self
    by_cases e : mask (ix 16 k.val) = 1
    · rw [if_pos e]; exact if_neg fun e' => this ⟨e, e'⟩
    · rw [if_neg e]

theorem sca_hit {α : Type} {n : ℕ} [NeZero n] (f : (A n).Idx → α) (v : VI) (w : (A 16).Idx → α) (mask : IVec S16 1) (j : (A n).Idx)
    (h : Hit v mask j) : ∃ k : Fin 16, mask (ix 16 k.val) = 1 ∧ (j 0).val = (v (ix 16 k.val)).toNat ∧ sca f v w mask j = w (ix 16 k.val) := by
  obtain ⟨k0, h1, h2⟩ := h
  have h' : (∃ k ∈ List.finRange 16, mask (ix 16 k.val) = 1 ∧ (j 0).val = (v (ix 16 k.val)).toNat) := ⟨k0, List.mem_finRange _, h1, h2⟩
  unfold sca
  revert h'
  generalize List.finRange 16 = l
  clear h1 h2 k0
  have gen : ∀ f : (A n).Idx → α, ((∃ k ∈ l, mask (ix 16 k.val) = 1 ∧ (j 0).val = (v (ix 16 k.val)).toNat)
      ∨ ∃ k : Fin 16, mask (ix 16 k.val) = 1 ∧ (j 0).val = (v (ix 16 k.val)).toNat ∧ f j = w (ix 16 k.val)) →
      ∃ k : Fin 16, mask (ix 16 k.val) = 1 ∧ (j 0).val = (v (ix 16 k.val)).toNat ∧
        l.foldl (fun g k => if mask (ix 16 k.val) = 1 then fun j => if (j 0).val = (v (ix 16 k.val)).toNat then w (ix 16 k.val) else g j else g) f j
          = w (ix 16 k.val) := by
    induction l with
    | nil =>
      rintro f (⟨k, hk, -⟩ | h)
      · cases hk
      · exact h
    | cons k l ih =>
      intro f h
      rw [List.foldl_cons]
      apply ih
      by_cases e : mask (ix 16 k.val) = 1 ∧ (j 0).val = (v (ix 16 k.val)).toNat
      · right
        refine ⟨k, e.1, e.2, ?_⟩
        rw [if_pos e.1]; exact if_pos e.2
      · rcases h with ⟨k', hk', e'⟩ | ⟨k', e1, e2, e3⟩
        · rcases List.mem_cons.mp hk' with rfl | hk'
          · exact absurd e' e
          · exact .inl ⟨k', hk', e'⟩
        · right
          refine ⟨k', e1, e2, ?_⟩
          by_cases e4 : mask (ix 16 k.val) = 1
          · rw [if_pos e4]; exact (if_neg fun e5 => e ⟨e4, e5⟩).trans e3
          · rw [if_neg e4]; exact e3
  exact fun h => gen f (.inl h)

/-! ### What a row wrote is taken back -/

theorem sgt_ext (m : IVec S16 1) : cmpi .sgt (extui 32 m natLt_1_32) (bi 0#32) = m := by
  funext x
  show IntOp.cmpi .sgt ((m x).setWidth 32) 0#32 = m x
  generalize m x = b
  revert b; decide

theorem wipe_row (m : Mem F) : wipe (rowCar m) (rowOut m blank) = blank := by
  funext j
  unfold wipe rowOut
  have e1 : cmpi .sgt (rowCar m).2.2.2.2.1 (bi 0#32) = kpf 0#32 (rK m) := sgt_ext _
  have e2 : cmpi .sgt (rowCar m).2.2.2.2.2.1 (bi 0#32) = kpf 16#32 (rK m) := sgt_ext _
  have e3 : cmpi .sgt (rowCar m).2.2.2.2.2.2.1 (bi 0#32) = kpf 32#32 (rK m) := sgt_ext _
  have e4 : cmpi .sgt (rowCar m).2.2.2.2.2.2.2 (bi 0#32) = kpf 48#32 (rK m) := sgt_ext _
  rw [e1, e2, e3, e4]
  generalize kpf 0#32 (rK m) = k1, kpf 16#32 (rK m) = k2, kpf 32#32 (rK m) = k3, kpf 48#32 (rK m) = k4
  generalize (rowCar m).1 = v1, (rowCar m).2.1 = v2, (rowCar m).2.2.1 = v3, (rowCar m).2.2.2.1 = v4
  generalize sv0 m = w1, sv1 m = w2, sv2 m = w3, sv3 m = w4
  by_cases h4 : Hit v4 k4 j
  · obtain ⟨k, -, -, e⟩ := sca_hit (sca (sca (sca _ v1 ninf k1) v2 ninf k2) v3 ninf k3) v4 (ninf : VF F) k4 j h4
    exact e
  rw [sca_not _ _ _ _ _ h4]
  by_cases h3 : Hit v3 k3 j
  · obtain ⟨k, -, -, e⟩ := sca_hit (sca (sca _ v1 ninf k1) v2 ninf k2) v3 (ninf : VF F) k3 j h3
    exact e
  rw [sca_not _ _ _ _ _ h3]
  by_cases h2 : Hit v2 k2 j
  · obtain ⟨k, -, -, e⟩ := sca_hit (sca _ v1 ninf k1) v2 (ninf : VF F) k2 j h2
    exact e
  rw [sca_not _ _ _ _ _ h2]
  by_cases h1 : Hit v1 k1 j
  · obtain ⟨k, -, -, e⟩ := sca_hit _ v1 (ninf : VF F) k1 j h1
    exact e
  rw [sca_not _ _ _ _ _ h1, sca_not _ _ _ _ _ h4, sca_not _ _ _ _ _ h3, sca_not _ _ _ _ _ h2, sca_not _ _ _ _ _ h1]

/-- What the first row starts from. -/
abbrev car0 : Car := (bi 0#32, bi 0#32, bi 0#32, bi 0#32, bi 0#32, bi 0#32, bi 0#32, bi 0#32)

theorem wipe_zero (o : (A 32768).Idx → F .f32) : wipe car0 o = o := by
  have h : ∀ j : (A 32768).Idx, ¬ Hit (bi 0#32) (cmpi .sgt (bi 0#32) (bi 0#32)) j := by
    rintro j ⟨k, e, -⟩
    have : IntOp.cmpi .sgt 0#32 0#32 = 1#1 := e
    revert this; decide
  funext j
  unfold wipe
  rw [sca_not _ _ _ _ _ (h j), sca_not _ _ _ _ _ (h j), sca_not _ _ _ _ _ (h j), sca_not _ _ _ _ _ (h j)]

theorem carOk_zero : CarOk car0 := by
  refine ⟨?_, ?_, ?_, ?_⟩ <;> · intro k _; show (0#32 : BitVec 32).toNat < 32768; decide

/-! ### The rows -/

/-- The element of an array of 128 rows. -/
def at2 (r : ℕ) (k : ℕ) : S128x32768.Idx := fun a => match a with
  | ⟨0, _⟩ => ⟨r % 128, Nat.mod_lt _ (by decide)⟩
  | ⟨1, _⟩ => ⟨k % 32768, Nat.mod_lt _ (by decide)⟩

theorem at2_eta (j : S128x32768.Idx) : at2 (j 0).val (j 1).val = j := by
  funext a
  match a with
  | ⟨0, _⟩ => exact Fin.ext (Nat.mod_eq_of_lt (j 0).isLt)
  | ⟨1, _⟩ => exact Fin.ext (Nat.mod_eq_of_lt (j 1).isLt)

/-- Row `r` of an array. -/
def rowOf {α : Type} (x : S128x32768.Idx → α) (r : ℕ) : (A 32768).Idx → α := fun k => x (at2 r (k 0).val)

/-- The row a tile of the grid treats at its `t`-th turn. -/
def rowN (i : grid0.Coords) (t : ℕ) : ℕ := ((i 1).val * 2 + (i 0).val) * 4 + t

theorem rowN_lt (i : grid0.Coords) {t : ℕ} (ht : t < 4) : rowN i t < 128 := by
  have h0 : (i 0).val < 2 := (i 0).isLt
  have h1 : (i 1).val < 16 := (i 1).isLt
  unfold rowN; omega

theorem off2_row : ∀ i : grid0.Coords, k0_off2 i 0 = ((i 1).val * 2 + (i 0).val) * 4 ∧ k0_off2 i 1 = 0 := by decide +kernel
theorem off3_row : ∀ (i : grid0.Coords) (t : Fin k0_t2_loop.trips), k0_off3 i t 0 = ((i 1).val * 2 + (i 0).val) * 4 + t.val ∧ k0_off3 i t 1 = 0 := by decide +kernel
theorem off19_row : ∀ (i : grid0.Coords) (t : Fin k0_t2_loop.trips), k0_off19 i t 0 = ((i 1).val * 2 + (i 0).val) * 4 + t.val ∧ k0_off19 i t 1 = 0 := by decide +kernel

/-- A row as a copy names it. -/
abbrev rv (b : Memref sig .scVector .hbm S128x32768 .f32) (off : Fin 2 → ℕ) (h : ∀ a, off a + S1x32768.size a ≤ S128x32768.size a) :
    Memref sig .scVector .hbm S32768 .f32 :=
  (b.slice (Rect.unit (s := S128x32768) off S1x32768.size h) (fun _ => rfl)).squeeze S32768 squeezes_S1x32768_S32768

theorem emb_row (off : Fin 2 → ℕ) (h : ∀ a, off a + S1x32768.size a ≤ S128x32768.size a) (h1 : off 1 = 0) (k : S32768.Idx) :
    (Rect.unit (s := S128x32768) off S1x32768.size h).emb (Shape.reshapeEquiv squeezes_S1x32768_S32768.numel_eq k) = at2 (off 0) (k 0).val := by
  have e : Shape.reshapeEquiv squeezes_S1x32768_S32768.numel_eq k
      = (fun a => match a with | ⟨0, _⟩ => ⟨0, Nat.zero_lt_one⟩ | ⟨1, _⟩ => ⟨(k 0).val, (k 0).isLt⟩ : S1x32768.Idx) := by
    apply Shape.reshapeEquiv_eq_of_rowMajor
    rw [Shape.rowMajor_val_two, Shape.rowMajor_val_one]
    show 0 * _ + (k 0).val = _
    omega
  rw [e]
  have h0 : off 0 + 1 ≤ 128 := h 0
  have hk : (k 0).val < 32768 := (k 0).isLt
  funext a
  match a with
  | ⟨0, _⟩ => exact Fin.ext (by show off 0 + 0 * 1 = off 0 % 128; omega)
  | ⟨1, _⟩ => exact Fin.ext (by show off 1 + 1 * (k 0).val = (k 0).val % 32768; omega)

theorem read_row (off : Fin 2 → ℕ) (h) (h1 : off 1 = 0) (f : S128x32768.Idx → Elt F .f32) :
    (rv (Memref.whole main_arg0_scv) off h).view.read (Elt F) f = rowOf f (off 0) := by
  funext k
  show f ((Rect.unit (s := S128x32768) off S1x32768.size h).emb (Shape.reshapeEquiv squeezes_S1x32768_S32768.numel_eq k)) = _
  rw [emb_row off h h1]; rfl

theorem write_row (off : Fin 2 → ℕ) (h) (h1 : off 1 = 0) (f : S128x32768.Idx → Elt F .f32) (w : S32768.Idx → Elt F .f32) (j : S128x32768.Idx) :
    (rv (Memref.whole main_v0_scv) off h).view.write (Elt F) f w Finset.univ j = if (j 0).val = off 0 then w (ix 32768 (j 1).val) else f j := by
  have h0 : off 0 + 1 ≤ 128 := h 0
  split
  case isTrue e =>
    have ej : j = (rv (Memref.whole main_v0_scv) off h).view.emb (ix 32768 (j 1).val) := by
      refine Eq.trans ?_ (emb_row off h h1 _).symm
      rw [← e]
      exact (at2_eta j).symm.trans (congrArg (at2 (j 0).val) (Nat.mod_eq_of_lt (j 1).isLt).symm)
    have := View.write_emb_of_mem (Val := Elt F) (v := (rv (Memref.whole main_v0_scv) off h).view) f w (M := Finset.univ) (x := ix 32768 (j 1).val) (Finset.mem_univ _)
    rw [← ej] at this
    exact this
  case isFalse e =>
    apply View.write_of_not_mem
    intro hm
    obtain ⟨k, -, ek⟩ := Finset.mem_map.mp hm
    apply e
    rw [← ek]
    refine (congrArg (fun (j : S128x32768.Idx) => (j 0).val) (emb_row off h h1 k)).trans ?_
    show off 0 % 128 = off 0
    omega

/-- The elements of the four rows of a tile. -/
def tset (c : Fin 2) (s : Fin 16) : Finset S128x32768.Idx := Finset.univ.filter fun j => (j 0).val / 4 = s.val * 2 + c.val

theorem sub_x (off : Fin 2 → ℕ) (h) (h1 : off 1 = 0) (c : Fin 2) (s : Fin 16) (e : off 0 / 4 = s.val * 2 + c.val) :
    (rv (Memref.whole main_arg0_scv) off h).view.set ⊆ tset c s := by
  intro j hm
  obtain ⟨k, -, ek⟩ := Finset.mem_map.mp hm
  have h0 : off 0 + 1 ≤ 128 := h 0
  refine Finset.mem_filter.mpr ⟨Finset.mem_univ _, ?_⟩
  rw [← ek]
  refine (congrArg (fun (j : S128x32768.Idx) => (j 0).val / 4) (emb_row off h h1 k)).trans ?_
  show off 0 % 128 / 4 = _
  omega
theorem sub_o (off : Fin 2 → ℕ) (h) (h1 : off 1 = 0) (c : Fin 2) (s : Fin 16) (e : off 0 / 4 = s.val * 2 + c.val) :
    (rv (Memref.whole main_v0_scv) off h).view.set ⊆ tset c s := by
  intro j hm
  obtain ⟨k, -, ek⟩ := Finset.mem_map.mp hm
  have h0 : off 0 + 1 ≤ 128 := h 0
  refine Finset.mem_filter.mpr ⟨Finset.mem_univ _, ?_⟩
  rw [← ek]
  refine (congrArg (fun (j : S128x32768.Idx) => (j 0).val / 4) (emb_row off h h1 k)).trans ?_
  show off 0 % 128 / 4 = _
  omega

theorem tset_disj : ∀ p ∈ (Finset.univ : Finset (Fin 2 × Fin 16)), ∀ q ∈ (Finset.univ : Finset (Fin 2 × Fin 16)), p ≠ q →
    Disjoint (tset p.1 p.2) (tset q.1 q.2) := by
  intro p _ q _ hpq
  refine Finset.disjoint_left.mpr fun j h1 h2 => hpq ?_
  have h1 := (Finset.mem_filter.mp h1).2
  have h2 := (Finset.mem_filter.mp h2).2
  have := p.1.isLt; have := q.1.isLt
  exact Prod.ext (Fin.ext (by omega)) (Fin.ext (by omega))

theorem tset_cover : (Finset.univ : Finset (Fin 2 × Fin 16)).biUnion (fun p => tset p.1 p.2) = Finset.univ := by
  refine Finset.eq_univ_of_forall fun j => Finset.mem_biUnion.mpr ?_
  have hj : (j 0).val < 128 := (j 0).isLt
  refine ⟨(⟨(j 0).val / 4 % 2, by omega⟩, ⟨(j 0).val / 8, by omega⟩), Finset.mem_univ _, Finset.mem_filter.mpr ⟨Finset.mem_univ _, ?_⟩⟩
  show (j 0).val / 4 = (j 0).val / 8 * 2 + (j 0).val / 4 % 2
  omega

/-- Row `r` of `f` is what the run on row `r` of `x` writes. -/
def RowDone (x f : S128x32768.Idx → Elt F .f32) (r : ℕ) : Prop :=
  ∃ m : Mem F, m.s = rowOf x r ∧ rowOf f r = rowOut m blank

theorem rowDone_write (x f : S128x32768.Idx → Elt F .f32) (off : Fin 2 → ℕ) (h) (h1 : off 1 = 0) (m : Mem F)
    (hm : m.s = rowOf x (off 0)) : RowDone x ((rv (Memref.whole main_v0_scv) off h).view.write (Elt F) f (rowOut m blank) Finset.univ) (off 0) := by
  have h0 : off 0 + 1 ≤ 128 := h 0
  have key : ∀ g : S128x32768.Idx → Elt F .f32, (∀ j, g j = if (j 0).val = off 0 then rowOut m blank (ix 32768 (j 1).val) else f j) →
      RowDone x g (off 0) := by
    intro g hg
    refine ⟨m, hm, ?_⟩
    funext k
    refine (hg (at2 (off 0) (k 0).val)).trans ((if_pos (by show off 0 % 128 = off 0; omega)).trans ?_)
    congr 1
    funext a
    rw [Subsingleton.elim (α := Fin 1) a 0]
    have : (k 0).val < 32768 := (k 0).isLt
    exact Fin.ext (by show (k 0).val % 32768 % 32768 = (k 0).val; omega)
  exact key _ (write_row off h h1 f _)

theorem rowDone_keep (x f : S128x32768.Idx → Elt F .f32) (off : Fin 2 → ℕ) (h) (h1 : off 1 = 0) (w) {r : ℕ} (hr : r < 128) (hne : r ≠ off 0)
    (hd : RowDone x f r) : RowDone x ((rv (Memref.whole main_v0_scv) off h).view.write (Elt F) f w Finset.univ) r := by
  obtain ⟨m, hm, e⟩ := hd
  have key : ∀ g : S128x32768.Idx → Elt F .f32, (∀ j, g j = if (j 0).val = off 0 then w (ix 32768 (j 1).val) else f j) →
      RowDone x g r := by
    intro g hg
    refine ⟨m, hm, ?_⟩
    rw [← e]
    funext k
    exact (hg (at2 r (k 0).val)).trans (if_neg (by show r % 128 ≠ off 0; omega))
  exact key _ (write_row off h h1 f w)

theorem rowDone_congr {x f g : S128x32768.Idx → Elt F .f32} {r : ℕ} (e : rowOf f r = rowOf g r) (h : RowDone x f r) : RowDone x g r := by
  obtain ⟨m, hm, e'⟩ := h
  exact ⟨m, hm, e ▸ e'⟩

end Cert.Proof.Mem
-- ==== Proof.Tile.lean ====
module
public import proofs.«01_k».proof.Proof.Geo
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
/-! One tile's task: its four rows, each copied in, computed and copied out while the next is computed. -/
@[expose] public section
set_option pp.maxSteps 600
noncomputable section
namespace Cert.Proof.Mem
open Cert.KernelIdeal Cert.KernelIdeal.Facts₀ Cert.KernelIdeal.Facts Cert.Proof.Local
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable [Facts]
attribute [local irreducible] iter sca scaA

abbrev UH : Type := URounds (GSem nD τ sig) ℕ
abbrev UU : Type := UH × Counters
local notation "𝕄" => MT nD τ sig (HIx 1) (Elt F) ℕ UU ℕ
abbrev 𝒱₀ : Variants := Variants.none

abbrev xLoc (d : Dev nD) : Loc nD τ sig := (SparseCore.T d).loc main_arg0
abbrev oLoc (d : Dev nD) : Loc nD τ sig := (SparseCore.T d).loc main_v0

variable (d : Dev nD) (i : grid0.Coords)
abbrev cV (i : grid0.Coords) : Fin τ.nSC := (i 0).castLE hcore0
abbrev jV (i : grid0.Coords) : Fin τ.nSub := (i 1).castLE hsub0
abbrev tV (d : Dev nD) (i : grid0.Coords) : Thread nD τ := th d ((i 0).castLE hcore0) ((i 1).castLE hsub0)
theorem bound_zero : grid0.bound 0 = 2 := rfl
theorem bound_one : grid0.bound 1 = 16 := rfl
/-- The elements of the tile's rows. -/
abbrev rows (i : grid0.Coords) : Finset S128x32768.Idx := tset (Fin.cast bound_zero (i 0)) (Fin.cast bound_one (i 1))
abbrev xPts (x : Buf (Elt F) (xLoc d)) : sProp 𝕄 := xLoc d ↦[rows i]{fullShare} x
abbrev oPts (f : Buf (Elt F) (oLoc d)) : sProp 𝕄 := oLoc d ↦[rows i]{fullShare} f
abbrev bPts (o : (A 32768).Idx → F .f32) : sProp 𝕄 := (tV d i).loc cc0_scratch1 ↦{fullShare} (o : Buf (Elt F) ((tV d i).loc cc0_scratch1))
abbrev np : ℕ := (Memref.whole cc0_scratch1 : Memref sig .scVector .vmem S32768 .f32).view.dmaCredit
/-- The copy out under way. -/
abbrev FO (f : Buf (Elt F) (oLoc d)) (o : (A 32768).Idx → F .f32) : sProp 𝕄 :=
  Transfers.Flight countersEmb (tV d i) (.dma cc0_scratch10.sem) none np iprop(oPts d i f ∗ bPts d i o)
abbrev rowsDone (x : Buf (Elt F) (xLoc d)) (f : Buf (Elt F) (oLoc d)) (t : ℕ) : Prop := ∀ u < t, RowDone (F := F) x f (rowN i u)

variable (base : Bufs sig (Elt F) (tV d i))

theorem np_o (off : Fin 2 → ℕ) (h) : (rv (Memref.whole main_v0_scv) off h).view.dmaCredit = np := rfl
theorem np_s : (Memref.whole cc0_scratch0 : Memref sig .scVector .vmem S32768 .f32).view.dmaCredit = np := rfl
theorem np_pos : 0 < np := View.dmaCredit_pos _ (by decide)

theorem own_o (m : Mem F) : (Local.own (tV d i) (Ls true) (toSt base m) : sProp 𝕄) = iprop(bPts d i m.o ∗ Local.own (tV d i) (Ls false) (toSt base m)) := by
  rw [own_take (tV d i) mem_o]
  rfl

theorem own_s (m : Mem F) : (Local.own (tV d i) (Ls false) (toSt base m) : sProp 𝕄)
    = iprop(((tV d i).loc cc0_scratch0 ↦{fullShare} (m.s : Buf (Elt F) ((tV d i).loc cc0_scratch0)))
      ∗ bigSep ((Ls false).erase cc0_scratch0) fun b => (tV d i).loc b ↦{fullShare} toSt base m b) := by
  rw [own_take (tV d i) (mem_s false)]
  rfl

theorem own_any (m : Mem F) (o : (A 32768).Idx → F .f32) : (Local.own (tV d i) (Ls false) (toSt base m) : sProp 𝕄) = Local.own (tV d i) (Ls false) (toSt base { m with o := o }) := by
  unfold Local.own
  refine bigSep_congr fun b hb => ?_
  have e : toSt base m b = toSt base { m with o := o } b := by
    have h1 : cc0_scratch1 ∉ Ls false := by decide
    have hb : b ≠ cc0_scratch1 := fun e => h1 (e ▸ hb)
    unfold toSt
    repeat refine upc ?_
    rw [Function.update_of_ne hb, Function.update_of_ne hb]
  rw [e]

theorem own_put_o (m : Mem F) (o : (A 32768).Idx → F .f32) :
    iprop(bPts d i o ∗ Local.own (tV d i) (Ls false) (toSt base m)) ⊢ (Local.own (tV d i) (Ls true) (toSt base { m with o := o }) : sProp 𝕄) := by
  rw [own_o, ← own_any d i base m o]

theorem own_s' (m : Mem F) (s : (A 32768).Idx → F .f32) :
    iprop(((tV d i).loc cc0_scratch0 ↦{fullShare} (s : Buf (Elt F) ((tV d i).loc cc0_scratch0)))
      ∗ bigSep ((Ls false).erase cc0_scratch0) fun b => (tV d i).loc b ↦{fullShare} toSt base m b)
      ⊢ (Local.own (tV d i) (Ls false) (toSt base { m with s := s }) : sProp 𝕄) := by
  rw [own_s]
  refine sep_mono_right (Entails.of_eq (bigSep_congr fun b hb => ?_))
  have e : toSt base m b = toSt base { m with s := s } b := by
    have hb : b ≠ cc0_scratch0 := Finset.ne_of_mem_erase hb
    unfold toSt
    repeat refine upc ?_
    rw [Function.update_of_ne hb, Function.update_of_ne hb]
  rw [e]

abbrev PV (α : Type) (i : grid0.Coords) : Type 1 := Prog (TpuEff nD τ sig (Elt F) Λ₀ (.scVector ((i 0).castLE hcore0) ((i 1).castLE hsub0))) α

theorem wp_run {α : Type} {Q : α → sProp 𝕄} (o : Bool) (m m' : Mem F) (p p' : PV (F := F) α i) (h : run o base m p = (p', toSt base m')) :
    iprop(Local.own (tV d i) (Ls o) (toSt base m) ∗ (Local.own (tV d i) (Ls o) (toSt base m') -∗ wp frame (wpE (defs₀ (F := F)) 𝒱₀ (tV d i) none) Set.univ p' Q))
      ⊢ wp frame (wpE (defs₀ (F := F)) 𝒱₀ (tV d i) none) Set.univ p Q := by
  have := wp_res (defs := defs₀ (F := F)) (Q := Q) (tV d i) 𝒱₀ none Set.univ (Ls o) p (toSt base m)
  unfold run at h
  rw [h] at this
  exact this

theorem lift_bind {β α : Type} (e : TpuEff nD τ sig (Elt F) Λ₀ (.scVector ((i 0).castLE hcore0) ((i 1).castLE hsub0)) β) (k : β → PV (F := F) α i) :
    (Prog.lift e >>= k) = Prog.op e k := rfl

theorem wp_enq {α : Type} {Q : α → sProp 𝕄} {sp sp' : Space} {s : Shape} {e : EltTy} {src : Memref sig (tV d i).2.kind sp s e} {dst : Memref sig (tV d i).2.kind sp' s e} {sm : SemLoc sig}
    {hsrc : src.view.WordExact} {hdst : dst.view.WordExact} {hsem : DmaTarget.Typed (nD := nD) sp sm (.here dst)}
    {k : PUnit → PV (F := F) α i} {fs : Buf (Elt F) (src.view.loc (tV d i))}
    {Sd : Finset (Idx (dst.view.loc (tV d i)))} {fd : Buf (Elt F) (dst.view.loc (tV d i))}
    (hN : dst.view.amount sm = np) (hSd : dst.view.set ⊆ Sd) :
    iprop((src.view.loc (tV d i) ↦[src.view.set]{fullShare} fs) ∗ (dst.view.loc (tV d i) ↦[Sd]{fullShare} fd) ∗ semVal (tV d i, sm) 0)
      ⊢ iprop((Transfers.Flight countersEmb (tV d i) sm none np iprop((dst.view.loc (tV d i) ↦[Sd]{fullShare} (dst.view.write (Elt F) fd (src.view.read (Elt F) fs) Finset.univ))
                                    ∗ (src.view.loc (tV d i) ↦[src.view.set]{fullShare} fs))
              -∗ wp frame (wpE (defs₀ (F := F)) 𝒱₀ (tV d i) none) Set.univ (k ⟨⟩) Q)
          -∗ wp frame (wpE (defs₀ (F := F)) 𝒱₀ (tV d i) none) Set.univ (Prog.lift (.enqueueDma src (.here dst) sm hsrc hdst hsem) >>= k) Q) := by
  rw [lift_bind]
  exact Transfers.wp_dmaLocal (defs := defs₀ (F := F)) (src := src) (via := .same) (dst := dst) (sm := sm) (k := k) (q := fullShare) (fs := fs) (Sd := Sd) (fd := fd) countersEmb 𝒱₀ (tV d i) none none np hN np_pos hSd

theorem wp_wait {α : Type} {Q : α → sProp 𝕄} {sp sp' : Space} {s s' : Shape} {e e' : EltTy} {sem : DmaSem sig}
    {srcw : Memref sig (tV d i).2.kind sp' s' e'} {dstw : Memref sig (tV d i).2.kind sp s e} {hsrc : srcw.view.WordExact} {hdst : dstw.view.WordExact}
    {k : PUnit → PV (F := F) α i} (hN : dstw.view.dmaCredit = np) {D : sProp 𝕄} {O : CellTallies nD τ sig (HIx 1)} {W : Waits sig (HIx 1)} :
    iprop(Transfers.Flight countersEmb (tV d i) (.dma sem) none np D ∗ owes (tV d i) O W ∗ MayWait (tV d i) (.dma sem) none O)
      ⊢ iprop((iprop(D ∗ semVal (tV d i, .dma sem) 0 ∗ owes (tV d i) O (insert (SemLoc.dma sem, none) W)) -∗ wp frame (wpE (defs₀ (F := F)) 𝒱₀ (tV d i) none) Set.univ (k ⟨⟩) Q)
          -∗ wp frame (wpE (defs₀ (F := F)) 𝒱₀ (tV d i) none) Set.univ (Prog.lift (.waitDma2 sem srcw dstw hsrc hdst) >>= k) Q) := by
  rw [lift_bind]
  exact Transfers.wp_waitLocalO (defs := defs₀ (F := F)) countersEmb 𝒱₀ (tV d i) none none hN

theorem wp_enqX {α : Type} {Q : α → sProp 𝕄} (t : Fin k0_t2_loop.trips) {k : PUnit → PV (F := F) α i} {fs : Buf (Elt F) ((rv (Memref.whole main_arg0_scv) (k0_off3 i t) (k0_off3_inb i t)).view.loc (tV d i))}
    {fd : Buf (Elt F) (((Memref.whole cc0_scratch0 : Memref sig .scVector .vmem S32768 .f32)).view.loc (tV d i))} :
    iprop(((rv (Memref.whole main_arg0_scv) (k0_off3 i t) (k0_off3_inb i t)).view.loc (tV d i) ↦[(rv (Memref.whole main_arg0_scv) (k0_off3 i t) (k0_off3_inb i t)).view.set]{fullShare} fs) ∗ (((Memref.whole cc0_scratch0 : Memref sig .scVector .vmem S32768 .f32)).view.loc (tV d i) ↦[Finset.univ]{fullShare} fd) ∗ semVal (tV d i, SemLoc.dma cc0_scoped0.sem) 0)
      ⊢ iprop((Transfers.Flight countersEmb (tV d i) (SemLoc.dma cc0_scoped0.sem) none np iprop((((Memref.whole cc0_scratch0 : Memref sig .scVector .vmem S32768 .f32)).view.loc (tV d i) ↦[Finset.univ]{fullShare} (((Memref.whole cc0_scratch0 : Memref sig .scVector .vmem S32768 .f32)).view.write (Elt F) fd ((rv (Memref.whole main_arg0_scv) (k0_off3 i t) (k0_off3_inb i t)).view.read (Elt F) fs) Finset.univ))
                                    ∗ ((rv (Memref.whole main_arg0_scv) (k0_off3 i t) (k0_off3_inb i t)).view.loc (tV d i) ↦[(rv (Memref.whole main_arg0_scv) (k0_off3 i t) (k0_off3_inb i t)).view.set]{fullShare} fs))
              -∗ wp frame (wpE (defs₀ (F := F)) 𝒱₀ (tV d i) none) Set.univ (k ⟨⟩) Q)
          -∗ wp frame (wpE (defs₀ (F := F)) 𝒱₀ (tV d i) none) Set.univ (enqX i t >>= k) Q) := by
  exact wp_enq d i (src := rv (Memref.whole main_arg0_scv) (k0_off3 i t) (k0_off3_inb i t)) (dst := (Memref.whole cc0_scratch0 : Memref sig .scVector .vmem S32768 .f32)) (k := k) (fs := fs) (fd := fd) (Sd := Finset.univ) np_s (Finset.subset_univ _)

theorem wp_enqO {α : Type} {Q : α → sProp 𝕄} (t : Fin k0_t2_loop.trips) {k : PUnit → PV (F := F) α i} {fs : Buf (Elt F) (((Memref.whole cc0_scratch1 : Memref sig .scVector .vmem S32768 .f32)).view.loc (tV d i))}
    {fd : Buf (Elt F) ((rv (Memref.whole main_v0_scv) (k0_off19 i t) (k0_off19_inb i t)).view.loc (tV d i))} (hs : (rv (Memref.whole main_v0_scv) (k0_off19 i t) (k0_off19_inb i t)).view.set ⊆ rows i) :
    iprop((((Memref.whole cc0_scratch1 : Memref sig .scVector .vmem S32768 .f32)).view.loc (tV d i) ↦[Finset.univ]{fullShare} fs) ∗ ((rv (Memref.whole main_v0_scv) (k0_off19 i t) (k0_off19_inb i t)).view.loc (tV d i) ↦[rows i]{fullShare} fd) ∗ semVal (tV d i, SemLoc.dma cc0_scratch10.sem) 0)
      ⊢ iprop((Transfers.Flight countersEmb (tV d i) (SemLoc.dma cc0_scratch10.sem) none np iprop(((rv (Memref.whole main_v0_scv) (k0_off19 i t) (k0_off19_inb i t)).view.loc (tV d i) ↦[rows i]{fullShare} ((rv (Memref.whole main_v0_scv) (k0_off19 i t) (k0_off19_inb i t)).view.write (Elt F) fd (((Memref.whole cc0_scratch1 : Memref sig .scVector .vmem S32768 .f32)).view.read (Elt F) fs) Finset.univ))
                                    ∗ (((Memref.whole cc0_scratch1 : Memref sig .scVector .vmem S32768 .f32)).view.loc (tV d i) ↦[Finset.univ]{fullShare} fs))
              -∗ wp frame (wpE (defs₀ (F := F)) 𝒱₀ (tV d i) none) Set.univ (k ⟨⟩) Q)
          -∗ wp frame (wpE (defs₀ (F := F)) 𝒱₀ (tV d i) none) Set.univ (enqO i t >>= k) Q) := by
  have hu : (Memref.whole cc0_scratch1 : Memref sig .scVector .vmem S32768 .f32).view.set = Finset.univ := View.set_whole _
  have h := wp_enq (Q := Q) d i (sm := SemLoc.dma cc0_scratch10.sem) (hsrc := (Memref.isWhole_whole cc0_scratch1).wordExact) (hdst := ((View.wordExact_bits rfl).reshape _ _)) (hsem := ⟨Or.inl rfl, trivial⟩) (src := (Memref.whole cc0_scratch1 : Memref sig .scVector .vmem S32768 .f32)) (dst := rv (Memref.whole main_v0_scv) (k0_off19 i t) (k0_off19_inb i t)) (k := k) (fs := fs) (fd := fd) (Sd := rows i) (np_o _ _) hs
  rw [hu] at h
  exact h

theorem wp_enqI {α : Type} {Q : α → sProp 𝕄}  {k : PUnit → PV (F := F) α i} {fs : Buf (Elt F) (((Memref.whole cc0_scratch1 : Memref sig .scVector .vmem S32768 .f32)).view.loc (tV d i))}
    {fd : Buf (Elt F) ((rv (Memref.whole main_v0_scv) (k0_off2 i) (k0_off2_inb i)).view.loc (tV d i))} (hs : (rv (Memref.whole main_v0_scv) (k0_off2 i) (k0_off2_inb i)).view.set ⊆ rows i) :
    iprop((((Memref.whole cc0_scratch1 : Memref sig .scVector .vmem S32768 .f32)).view.loc (tV d i) ↦[Finset.univ]{fullShare} fs) ∗ ((rv (Memref.whole main_v0_scv) (k0_off2 i) (k0_off2_inb i)).view.loc (tV d i) ↦[rows i]{fullShare} fd) ∗ semVal (tV d i, SemLoc.dma cc0_scratch10.sem) 0)
      ⊢ iprop((Transfers.Flight countersEmb (tV d i) (SemLoc.dma cc0_scratch10.sem) none np iprop(((rv (Memref.whole main_v0_scv) (k0_off2 i) (k0_off2_inb i)).view.loc (tV d i) ↦[rows i]{fullShare} ((rv (Memref.whole main_v0_scv) (k0_off2 i) (k0_off2_inb i)).view.write (Elt F) fd (((Memref.whole cc0_scratch1 : Memref sig .scVector .vmem S32768 .f32)).view.read (Elt F) fs) Finset.univ))
                                    ∗ (((Memref.whole cc0_scratch1 : Memref sig .scVector .vmem S32768 .f32)).view.loc (tV d i) ↦[Finset.univ]{fullShare} fs))
              -∗ wp frame (wpE (defs₀ (F := F)) 𝒱₀ (tV d i) none) Set.univ (k ⟨⟩) Q)
          -∗ wp frame (wpE (defs₀ (F := F)) 𝒱₀ (tV d i) none) Set.univ (enqI i >>= k) Q) := by
  have hu : (Memref.whole cc0_scratch1 : Memref sig .scVector .vmem S32768 .f32).view.set = Finset.univ := View.set_whole _
  have h := wp_enq (Q := Q) d i (sm := SemLoc.dma cc0_scratch10.sem) (hsrc := (Memref.isWhole_whole cc0_scratch1).wordExact) (hdst := ((View.wordExact_bits rfl).reshape _ _)) (hsem := ⟨Or.inl rfl, trivial⟩) (src := (Memref.whole cc0_scratch1 : Memref sig .scVector .vmem S32768 .f32)) (dst := rv (Memref.whole main_v0_scv) (k0_off2 i) (k0_off2_inb i)) (k := k) (fs := fs) (fd := fd) (Sd := rows i) (np_o _ _) hs
  rw [hu] at h
  exact h

theorem wp_waitX {α : Type} {Q : α → sProp 𝕄} (t : Fin k0_t2_loop.trips) {k : PUnit → PV (F := F) α i} {D : sProp 𝕄} {O : CellTallies nD τ sig (HIx 1)} {W : Waits sig (HIx 1)} :
    iprop(Transfers.Flight countersEmb (tV d i) (.dma cc0_scoped0.sem) none np D ∗ owes (tV d i) O W ∗ MayWait (tV d i) (.dma cc0_scoped0.sem) none O)
      ⊢ iprop((iprop(D ∗ semVal (tV d i, SemLoc.dma cc0_scoped0.sem) 0 ∗ owes (tV d i) O (insert (SemLoc.dma cc0_scoped0.sem, none) W)) -∗ wp frame (wpE (defs₀ (F := F)) 𝒱₀ (tV d i) none) Set.univ (k ⟨⟩) Q)
          -∗ wp frame (wpE (defs₀ (F := F)) 𝒱₀ (tV d i) none) Set.univ (waitX i t >>= k) Q) :=
  wp_wait d i (dstw := (Memref.whole cc0_scratch0 : Memref sig .scVector .vmem S32768 .f32)) (k := k) np_s

theorem wp_waitO {α : Type} {Q : α → sProp 𝕄} (t : Fin k0_t2_loop.trips) {k : PUnit → PV (F := F) α i} {D : sProp 𝕄} {O : CellTallies nD τ sig (HIx 1)} {W : Waits sig (HIx 1)} :
    iprop(Transfers.Flight countersEmb (tV d i) (.dma cc0_scratch10.sem) none np D ∗ owes (tV d i) O W ∗ MayWait (tV d i) (.dma cc0_scratch10.sem) none O)
      ⊢ iprop((iprop(D ∗ semVal (tV d i, SemLoc.dma cc0_scratch10.sem) 0 ∗ owes (tV d i) O (insert (SemLoc.dma cc0_scratch10.sem, none) W)) -∗ wp frame (wpE (defs₀ (F := F)) 𝒱₀ (tV d i) none) Set.univ (k ⟨⟩) Q)
          -∗ wp frame (wpE (defs₀ (F := F)) 𝒱₀ (tV d i) none) Set.univ (waitO i t >>= k) Q) :=
  wp_wait d i (dstw := rv (Memref.whole main_v0_scv) (k0_off18 i t) (k0_off18_inb i t)) (k := k) (np_o _ _)

theorem wp_waitI {α : Type} {Q : α → sProp 𝕄}  {k : PUnit → PV (F := F) α i} {D : sProp 𝕄} {O : CellTallies nD τ sig (HIx 1)} {W : Waits sig (HIx 1)} :
    iprop(Transfers.Flight countersEmb (tV d i) (.dma cc0_scratch10.sem) none np D ∗ owes (tV d i) O W ∗ MayWait (tV d i) (.dma cc0_scratch10.sem) none O)
      ⊢ iprop((iprop(D ∗ semVal (tV d i, SemLoc.dma cc0_scratch10.sem) 0 ∗ owes (tV d i) O (insert (SemLoc.dma cc0_scratch10.sem, none) W)) -∗ wp frame (wpE (defs₀ (F := F)) 𝒱₀ (tV d i) none) Set.univ (k ⟨⟩) Q)
          -∗ wp frame (wpE (defs₀ (F := F)) 𝒱₀ (tV d i) none) Set.univ (waitI i >>= k) Q) :=
  wp_wait d i (dstw := rv (Memref.whole main_v0_scv) (k0_off2 i) (k0_off2_inb i)) (k := k) (np_o _ _)

/-- What holds before the `t`-th of the tile's rows. -/
def inv (x : Buf (Elt F) (xLoc d)) (O : CellTallies nD τ sig (HIx 1)) (W : Waits sig (HIx 1)) (t : ℕ) (car : Car) : sProp 𝕄 :=
  iprop(⌜CarOk car⌝ ∗ Transfers.MayWaits (tV d i) none O ∗ xPts d i x ∗ (∃ M, Local.own (tV d i) (Ls false) (toSt base M))
    ∗ semVal (tV d i, SemLoc.dma cc0_scoped0.sem) 0
    ∗ (∃ (f : Buf (Elt F) (oLoc d)) (o : (A 32768).Idx → F .f32), ⌜wipe car o = blank ∧ rowsDone d i x f t⌝ ∗ FO d i f o)
    ∗ ∃ W', ⌜∀ p ∈ W', p ∈ W ∨ p.2 = none⌝ ∗ owes (tV d i) O W')

theorem step_row (x : Buf (Elt F) (xLoc d)) (O : CellTallies nD τ sig (HIx 1)) (W : Waits sig (HIx 1)) (t : Fin k0_t2_loop.trips) (car : Car)
    (p : Prog (TpuEff nD τ sig (Elt F) Λ₀ (.scVector ((i 0).castLE hcore0) ((i 1).castLE hsub0))) Car)
    (hp : CarOk car → ∃ Q : PUnit → Prog (TpuEff nD τ sig (Elt F) Λ₀ (.scVector ((i 0).castLE hcore0) ((i 1).castLE hsub0))) Car,
      (∀ o m, run o base m p = (enqX i t >>= fun _ => waitX i t >>= Q, toSt base m)) ∧
      ∀ m, ∃ (M : Mem F) (P : PUnit → Prog (TpuEff nD τ sig (Elt F) Λ₀ (.scVector ((i 0).castLE hcore0) ((i 1).castLE hsub0))) Car),
        run false base m (Q ⟨⟩) = (waitO i t >>= P, toSt base M) ∧
        ∀ o', run true base { M with o := o' } (P ⟨⟩) = (enqO i t >>= fun _ => .ret (rowCar m), toSt base { M with o := rowOut m (wipe car o') })) :
    inv d i base x O W t.val car
      ⊢ wp frame (wpE (defs₀ (F := F)) 𝒱₀ (tV d i) none) Set.univ p (inv d i base x O W (t.val + 1)) := by
  unfold inv
  iintro ⟨%hc, #Hmw, Hx, ⟨%M₀, Hown⟩, Hs0, ⟨%f, %o, %hf, Hfl⟩, %W', %hW', HO⟩
  obtain ⟨Q, hQ, hq⟩ := hp hc
  obtain ⟨hwipe, hdone⟩ := hf
  -- the row in
  iapply (wp_run d i base false M₀ _ p _ (hQ false M₀)) $$ [Hown Hx Hs0 Hfl HO]
  isplitl [Hown]; · iexact Hown
  iintro Hown
  have h3 := off3_row i t
  have ht : t.val < 4 := t.isLt
  have hr : k0_off3 i t 0 = rowN i t.val := h3.1
  have h19 := off19_row i t
  have hr' : k0_off19 i t 0 = rowN i t.val := h19.1
  have hdiv : rowN i t.val / 4 = (Fin.cast bound_one (i 1)).val * 2 + (Fin.cast bound_zero (i 0)).val := by
    show (((i 1).val * 2 + (i 0).val) * 4 + t.val) / 4 = (i 1).val * 2 + (i 0).val
    omega
  ihave Hx2 := (pointsTo_split_subset (q := fullShare) (f := x) (S := rows i) (sub_x (k0_off3 i t) (k0_off3_inb i t) h3.2 _ _ (by rw [hr]; exact hdiv))).1 $$ Hx
  icases Hx2 with ⟨Hxa, Hxb⟩
  ihave Hown := (Entails.of_eq (own_s d i base M₀)) $$ Hown
  icases Hown with ⟨Hs, Hrest⟩
  iapply (wp_enqX d i t (fs := x) (fd := M₀.s)) $$ [Hxa Hs Hs0]
  · isplitl [Hxa]; · iexact Hxa
    isplitl [Hs]; · iexact Hs
    iexact Hs0
  iintro Hfx
  iapply (wp_waitX d i t) $$ [Hfx HO]
  · isplitl [Hfx]; · iexact Hfx
    isplitl [HO]; · iexact HO
    iapply (Transfers.MayWaits.elim (SemLoc.dma cc0_scoped0.sem)) $$ Hmw
  iintro ⟨⟨Hs, Hxa⟩, Hs0, HO⟩
  ihave Hx := (pointsTo_split_subset (q := fullShare) (f := x) (S := rows i) (sub_x (k0_off3 i t) (k0_off3_inb i t) h3.2 _ _ (by rw [hr]; exact hdiv))).2 $$ [Hxa Hxb]
  · isplitl [Hxa] <;> iassumption
  ihave Hs' := (Entails.of_eq (congrArg (fun g : Buf (Elt F) ((tV d i).loc cc0_scratch0) => ((tV d i).loc cc0_scratch0 ↦{fullShare} g : sProp 𝕄))
    (show _ = (rowOf x (rowN i t.val) : (A 32768).Idx → F .f32) from by
      rw [← hr]
      exact (View.write_whole_univ cc0_scratch0 _ _).trans (read_row (F := F) (k0_off3 i t) (k0_off3_inb i t) h3.2 x)))) $$ Hs
  ihave Hown := (own_s' d i base M₀ (rowOf x (rowN i t.val))) $$ [Hs' Hrest]
  · isplitl [Hs'] <;> iassumption
  -- the work on it
  generalize hm : ({ M₀ with s := rowOf x (rowN i t.val) } : Mem F) = m
  obtain ⟨M, P, e2, e3⟩ := hq m
  iapply (wp_run d i base false m _ (Q ⟨⟩) _ e2) $$ [Hown Hx Hs0 Hfl HO]
  isplitl [Hown]; · iexact Hown
  iintro Hown
  have e3' := e3 o
  rw [hwipe] at e3'
  -- the copy of the row before comes back
  iapply (wp_waitO d i t) $$ [Hfl HO]
  · isplitl [Hfl]; · iexact Hfl
    isplitl [HO]; · iexact HO
    iapply (Transfers.MayWaits.elim (SemLoc.dma cc0_scratch10.sem)) $$ Hmw
  iintro ⟨⟨Hf, Ho⟩, Hse, HO⟩
  iapply (wp_run d i base true _ _ (P ⟨⟩) _ e3') $$ [Hown Ho Hf Hse Hx Hs0 HO]
  isplitl [Hown Ho]
  · iapply (own_put_o d i base M o)
    isplitl [Ho] <;> iassumption
  iintro Hown
  ihave Hown := (Entails.of_eq (own_o d i base _)) $$ Hown
  icases Hown with ⟨Ho, Hown⟩
  -- the row out
  iapply (wp_enqO d i t (fs := (rowOut m blank : Buf (Elt F) ((tV d i).loc cc0_scratch1))) (fd := f) (sub_o (k0_off19 i t) (k0_off19_inb i t) h19.2 _ _ (by rw [hr']; exact hdiv))) $$ [Ho Hf Hse]
  · isplitl [Ho]; · iexact Ho
    isplitl [Hf]; · iexact Hf
    iexact Hse
  iintro Hfl
  iapply (Entails.of_eq (wp_ret ..).symm)
  imodintro
  isplitr; · ipureintro; exact carOk_row m
  isplitr; · iexact Hmw
  isplitl [Hx]; · iexact Hx
  isplitl [Hown]; · iexists _; iexact Hown
  isplitl [Hs0]; · iexact Hs0
  isplitl [Hfl]
  · iexists ((rv (Memref.whole main_v0_scv) (k0_off19 i t) (k0_off19_inb i t)).view.write (Elt F) f (rowOut m blank) Finset.univ)
    iexists (rowOut m blank)
    isplitr
    · ipureintro
      refine ⟨wipe_row m, fun u hu => ?_⟩
      by_cases eu : u = t.val
      · rw [eu, ← hr']
        exact rowDone_write x f (k0_off19 i t) (k0_off19_inb i t) h19.2 m (by rw [hr', ← hm])
      · exact rowDone_keep x f (k0_off19 i t) (k0_off19_inb i t) h19.2 _ (rowN_lt i (by omega)) (by rw [hr']; unfold rowN; omega) (hdone u (by omega))
    · iexact Hfl
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact hW' p hp

/-! ### The tile's own buffers and cells -/

theorem sub_refs : (Ls true).image (tV d i).2.devRef ⊆ ownRefs (τ := τ) (sig := sig) (tV d i).2 := by
  intro r hr
  obtain ⟨b, hb, rfl⟩ := Finset.mem_image.mp hr
  have e : ∀ b ∈ Ls true, b.space = .vmem := by decide
  apply SparseCore.Cfg.mem_ownRefs_of_owner
  revert b
  simp only [Ls, cond_true, Finset.mem_insert, Finset.mem_singleton]
  rintro b (rfl | rfl | rfl | rfl | rfl | rfl | rfl | rfl | rfl | rfl) - <;> rfl

theorem bufs_split :
    (ownBufs (tV d i) : sProp 𝕄)
      = iprop((bigSep (Ls true) fun b => iprop(∃ f, (tV d i).loc b ↦{fullShare} f))
          ∗ bigSep (ownRefs (τ := τ) (sig := sig) (tV d i).2 \ (Ls true).image (tV d i).2.devRef) fun b => iprop(∃ f, ((d, b) : Loc nD τ sig) ↦{fullShare} f)) := by
  unfold SparseCore.Cfg.ownBufs
  rw [bigSep_sdiff_split (sub_refs d i), bigSep_image_of_injOn (fun _ _ _ _ e => Proc.devRef_injective _ e)]
  rfl

theorem toSt_self (b : Bufs sig (Elt F) (tV d i)) : toSt b ⟨b cc0_scratch0, b cc0_scratch1, b cc0_scratch2, b cc0_scratch3, b cc0_scratch4, b cc0_scratch5, b cc0_scratch6, b cc0_scratch7, b cc0_scratch8, b cc0_scratch9⟩ = b := by
  unfold toSt
  simp only [Function.update_eq_self]

theorem bufs_in [∀ e, Nonempty (Elt F e)] : (bigSep (Ls true) fun b => iprop(∃ f, (tV d i).loc b ↦{fullShare} f) : sProp 𝕄)
    ⊢ iprop(∃ (base : Bufs sig (Elt F) (tV d i)) (m : Mem F), Local.own (tV d i) (Ls true) (toSt base m)) := by
  have : ∀ b : Ref sig (tV d i).2.kind, Nonempty (Buf (Elt F) ((tV d i).loc b)) := fun b => ⟨fun _ => Classical.choice inferInstance⟩
  refine (bigSep_exists_pi (Ls true) fun (b : Ref sig (tV d i).2.kind) (f : Buf (Elt F) ((tV d i).loc b)) => (tV d i).loc b ↦{fullShare} f).trans ?_
  iintro ⟨%b, H⟩
  iexists b
  iexists (⟨b cc0_scratch0, b cc0_scratch1, b cc0_scratch2, b cc0_scratch3, b cc0_scratch4, b cc0_scratch5, b cc0_scratch6, b cc0_scratch7, b cc0_scratch8, b cc0_scratch9⟩ : Mem F)
  have h : (bigSep (Ls true) fun c => (tV d i).loc c ↦{fullShare} b c : sProp 𝕄) = Local.own (tV d i) (Ls true) (toSt b ⟨b cc0_scratch0, b cc0_scratch1, b cc0_scratch2, b cc0_scratch3, b cc0_scratch4, b cc0_scratch5, b cc0_scratch6, b cc0_scratch7, b cc0_scratch8, b cc0_scratch9⟩) := by
    rw [toSt_self]; rfl
  iapply (Entails.of_eq h)
  iexact H

theorem bufs_out (m : Mem F) : (Local.own (tV d i) (Ls true) (toSt base m) : sProp 𝕄) ⊢ bigSep (Ls true) fun b => iprop(∃ f, (tV d i).loc b ↦{fullShare} f) := by
  refine bigSep_mono fun b _ => ?_
  show (iprop((tV d i).loc b ↦{fullShare} toSt base m b) : sProp 𝕄) ⊢ iprop(∃ f, (tV d i).loc b ↦{fullShare} f)
  iintro H
  iexists _; iexact H

abbrev cS : GSem nD τ sig := (tV d i, SemLoc.dma cc0_scoped0.sem)
abbrev cO : GSem nD τ sig := (tV d i, SemLoc.dma cc0_scratch10.sem)

theorem sems_split :
    (ownSems0 (tV d i) : sProp 𝕄)
      = iprop(semVal (cS d i) 0 ∗ semVal (cO d i) 0
          ∗ bigSep (((ownCells (tV d i)).erase (cS d i)).erase (cO d i)) fun g => semVal g 0) := by
  unfold SparseCore.Cfg.ownSems0
  rw [SparseCore.bigSep_erase' ((mem_ownCells (g := cS d i)).mpr ⟨rfl, by
      show (SemLoc.dma cc0_scoped0.sem : SemLoc sig).isScoped .scVector = true; rfl⟩),
    SparseCore.bigSep_erase' (Finset.mem_erase.mpr ⟨by simp only [cS, cO, ne_eq, Prod.mk.injEq, true_and, SemLoc.dma.injEq]; exact fun e => absurd (congrArg Fin.val e) (show ¬ (0 : ℕ) = 1 from Nat.zero_ne_one), (mem_ownCells (g := cO d i)).mpr ⟨rfl, by
      show (SemLoc.dma cc0_scratch10.sem : SemLoc sig).isScoped .scVector = true; rfl⟩⟩)]

end Cert.Proof.Mem
-- ==== Proof.Launch.lean ====
module
public import proofs.«01_k».proof.Proof.Tile
public import proofs.«01_k».proof.Proof.Row
public import proofs.«01_k».proof.Defs
public import proofs.«01_k».proof.Proof.Gen.KernelIdeal
public import proofs.«01_k».proof.Proof.Gen.Kernel
/-! The launch: thirty-two tiles, each with its four rows of the argument and of the result. -/
@[expose] public section
set_option pp.maxSteps 600
noncomputable section
namespace Cert.Proof.Mem
open Cert.KernelIdeal Cert.KernelIdeal.Facts₀ Cert.KernelIdeal.Facts Cert.Proof.Local
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable [Facts]
attribute [local irreducible] iter sca scaA

local notation "𝕄" => MT nD τ sig (HIx 1) (Elt F) ℕ UU ℕ

abbrev ΛP : Labels := Pipeline.Sig Λ₀ (Fin 0) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱 : Variants := 𝒱₀.lift
abbrev v₀ : 𝒱.V := Sum.inl none

theorem scFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev EH : Emb UH (MT nD τ sig (HIx 1) (Elt F) ℕ UU ℕ) := embL

variable (μ : (ℓ : Loc nD τ sig) → Buf (Elt F) ℓ) (ρ : Dev nD → PrngReg)

/-! ### One tile -/

section Body
variable (d : Dev nD) (i : grid0.Coords)

/-- What a tile brings back: its rows of the argument, and its rows of the result, each done. -/
abbrev tdOf (x : Buf (Elt F) (xLoc d)) : sProp 𝕄 := iprop(xPts d i x ∗ ∃ f, ⌜rowsDone d i x f 4⌝ ∗ oPts d i f)

theorem body_end (x : Buf (Elt F) (xLoc d)) (base : Bufs sig (Elt F) (tV d i)) (O : CellTallies nD τ sig (HIx 1)) (W : Waits sig (HIx 1)) (car : Car) :
    inv d i base x O W 4 car ⊢ wp frame (wpE (defs₀ (F := F)) 𝒱₀ (tV d i) none) Set.univ (waitI i)
      fun _ => iprop(tdOf d i x ∗ (∃ m : Mem F, Local.own (tV d i) (Ls true) (toSt base m)) ∗ semVal (tV d i, SemLoc.dma cc0_scoped0.sem) 0
        ∗ semVal (tV d i, SemLoc.dma cc0_scratch10.sem) 0 ∗ ∃ W', ⌜∀ p ∈ W', p ∈ W ∨ p.2 = none⌝ ∗ owes (tV d i) O W') := by
  have hl : (waitI i : PV (F := F) PUnit i) = (waitI i >>= fun _ => .ret ⟨⟩) := rfl
  rw [hl]
  unfold inv
  iintro ⟨-, #Hmw, Hx, ⟨%M, Hown⟩, Hs0, ⟨%f, %o, %hf, Hfl⟩, %W', %hW', HO⟩
  iapply (wp_waitI d i) $$ [Hfl HO]
  · isplitl [Hfl]; · iexact Hfl
    isplitl [HO]; · iexact HO
    iapply (Transfers.MayWaits.elim (SemLoc.dma cc0_scratch10.sem)) $$ Hmw
  iintro ⟨⟨Hf, Ho⟩, Hse, HO⟩
  iapply (Entails.of_eq (wp_ret ..).symm)
  imodintro
  isplitl [Hx Hf]
  · isplitl [Hx]; · iexact Hx
    iexists f; isplitr
    · ipureintro; exact hf.2
    · iexact Hf
  isplitl [Hown Ho]
  · iexists _
    iapply (own_put_o d i base M o)
    isplitl [Ho] <;> iassumption
  isplitl [Hs0]; · iexact Hs0
  isplitl [Hse]; · iexact Hse
  iexists _; isplitr
  swap; · iexact HO
  ipureintro; intro p hp
  rcases Finset.mem_insert.mp hp with hp | hp; · exact .inr (hp ▸ rfl)
  exact hW' p hp

theorem body_run (x : Buf (Elt F) (xLoc d)) (f : Buf (Elt F) (oLoc d)) (base : Bufs sig (Elt F) (tV d i)) (m : Mem F) (O : CellTallies nD τ sig (HIx 1)) (W : Waits sig (HIx 1)) :
    iprop(Transfers.MayWaits (tV d i) none O ∗ xPts d i x ∗ oPts d i f ∗ Local.own (tV d i) (Ls true) (toSt base m) ∗ semVal (tV d i, SemLoc.dma cc0_scoped0.sem) 0
        ∗ semVal (tV d i, SemLoc.dma cc0_scratch10.sem) 0 ∗ owes (tV d i) O W)
      ⊢ wp frame (wpE (defs₀ (F := F)) 𝒱₀ (tV d i) none) Set.univ (cc0__sc_body i (Memref.whole main_arg0_scv) (Memref.isWhole_whole _) (Memref.whole main_v0_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scoped0)
      fun _ => iprop(tdOf d i x ∗ (∃ m : Mem F, Local.own (tV d i) (Ls true) (toSt base m)) ∗ semVal (tV d i, SemLoc.dma cc0_scoped0.sem) 0
        ∗ semVal (tV d i, SemLoc.dma cc0_scratch10.sem) 0 ∗ ∃ W', ⌜∀ p ∈ W', p ∈ W ∨ p.2 = none⌝ ∗ owes (tV d i) O W') := by
  obtain ⟨B, h1, h2⟩ := body_shape (F := F) (d := d) i base
  have h2' := off2_row i
  have hdiv : k0_off2 i 0 / 4 = (Fin.cast bound_one (i 1)).val * 2 + (Fin.cast bound_zero (i 0)).val := by
    rw [h2'.1]; show ((i 1).val * 2 + (i 0).val) * 4 / 4 = (i 1).val * 2 + (i 0).val; omega
  iintro ⟨#Hmw, Hx, Hf, Hown, Hs0, Hse, HO⟩
  iapply (wp_run d i base true m _ _ _ (h1 m)) $$ [Hmw Hx Hf Hown Hs0 Hse HO]
  isplitl [Hown]; · iexact Hown
  iintro Hown
  ihave Hown := (Entails.of_eq (own_o d i base _)) $$ Hown
  icases Hown with ⟨Ho, Hown⟩
  iapply (wp_enqI d i (fs := (blank : Buf (Elt F) ((tV d i).loc cc0_scratch1))) (fd := f) (sub_o (k0_off2 i) (k0_off2_inb i) h2'.2 _ _ hdiv)) $$ [Ho Hf Hse]
  · isplitl [Ho]; · iexact Ho
    isplitl [Hf]; · iexact Hf
    iexact Hse
  iintro Hfl
  iapply (Scf.wp_for_bind frame (wpE (defs₀ (F := F)) 𝒱₀ (tV d i) none) Set.univ k0_t2_loop.lb k0_t2_loop.ub k0_t2_loop.st k0_t2_ok car0 B (inv d i base x O W)
    (fun t car => step_row d i base x O W t car (B t car) (h2 t car))) $$ [Hmw Hx Hown Hs0 Hfl HO]
  · unfold inv
    isplitr; · ipureintro; exact carOk_zero
    isplitr; · iexact Hmw
    isplitl [Hx]; · iexact Hx
    isplitl [Hown]; · iexists _; iexact Hown
    isplitl [Hs0]; · iexact Hs0
    isplitl [Hfl]
    · iexists ((rv (Memref.whole main_v0_scv) (k0_off2 i) (k0_off2_inb i)).view.write (Elt F) f (blank) Finset.univ)
      iexists blank
      isplitr
      · ipureintro; exact ⟨wipe_zero _, fun u hu => absurd hu (Nat.not_lt_zero u)⟩
      · iexact Hfl
    iexists W; isplitr
    · ipureintro; exact fun p hp => .inl hp
    · iexact HO
  iintro %car H
  iapply (body_end d i x base O W car)
  iexact H

set_option maxHeartbeats 4000000 in
theorem tile_body [∀ e, Nonempty (Elt F e)] (hF : (K (F := F)).Facts) (x : Buf (Elt F) (xLoc d)) (f : Buf (Elt F) (oLoc d)) (O : CellTallies nD τ sig (HIx 1)) (W : Waits sig (HIx 1)) (hO : ∀ g, O g none = 0) :
    iprop(levAts (K (F := F)).L (K (F := F)).lev ∗ emp ∗ (xPts d i x ∗ oPts d i f)
        ∗ scopedBufs (V d (cV i) (jV i)) ∗ scopedSems0 (V d (cV i) (jV i)) ∗ owes (V d (cV i) (jV i)) O W)
      ⊢ wp frame (wpE (defs₀ (F := F)) 𝒱₀ (V d (cV i) (jV i)) none) Set.univ
          (cc0__sc_body i (Memref.whole main_arg0_scv) (Memref.isWhole_whole _) (Memref.whole main_v0_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scoped0)
          fun _ => iprop(tdOf d i x ∗ scopedBufs (V d (cV i) (jV i)) ∗ scopedSems0 (V d (cV i) (jV i))
            ∗ ∃ W', ⌜∀ p ∈ W', p ∈ W ∨ p.2 = none⌝ ∗ owes (V d (cV i) (jV i)) O W') := by
  rw [(K (F := F)).scopedBufs_V hF d (cV i) (jV i), SparseCore.Cfg.scopedSems0_V (Val := Elt F) d (cV i) (jV i)]
  have eS := sems_split (F := F) d i
  have eB := bufs_split (F := F) d i
  iintro ⟨#Hlv, -, ⟨Hx, Hf⟩, Hbufs, Hsems, HO⟩
  ihave Hmw := (show levAts (K (F := F)).L (K (F := F)).lev ⊢ Transfers.MayWaits (V d (cV i) (jV i)) (default : HIx 1) O from
    (K (F := F)).mayWaits_none (thr := V d (cV i) (jV i)) hO) $$ Hlv
  ihave Hbufs := (Entails.of_eq eB) $$ Hbufs
  ihave Hsems := (Entails.of_eq eS) $$ Hsems
  icases Hbufs with ⟨Hb, Hbrest⟩
  icases Hsems with ⟨Hs0, Hse, Hsrest⟩
  ihave Hb := (bufs_in d i) $$ Hb
  icases Hb with ⟨%base, %m, Hown⟩
  iapply (wp_wand_r frame (wpE (defs₀ (F := F)) 𝒱₀ (tV d i) none) Set.univ (Q := fun _ => iprop(tdOf d i x ∗ (∃ m : Mem F, Local.own (tV d i) (Ls true) (toSt base m)) ∗ semVal (tV d i, SemLoc.dma cc0_scoped0.sem) 0
        ∗ semVal (tV d i, SemLoc.dma cc0_scratch10.sem) 0 ∗ ∃ W', ⌜∀ p ∈ W', p ∈ W ∨ p.2 = none⌝ ∗ owes (tV d i) O W')))
  isplitl [Hx Hf Hown Hs0 Hse HO]
  · iapply (body_run d i x f base m O W)
    isplitr; · iexact Hmw
    isplitl [Hx]; · iexact Hx
    isplitl [Hf]; · iexact Hf
    isplitl [Hown]; · iexact Hown
    isplitl [Hs0]; · iexact Hs0
    isplitl [Hse]; · iexact Hse
    iexact HO
  iintro %_ ⟨Htd, ⟨%m', Hown⟩, Hs0, Hse, HO⟩
  isplitl [Htd]; · iexact Htd
  isplitl [Hown Hbrest]
  · iapply (Entails.of_eq eB.symm)
    isplitl [Hown]
    · iapply (bufs_out d i base m'); iexact Hown
    · iexact Hbrest
  isplitl [Hs0 Hse Hsrest]
  · iapply (Entails.of_eq eS.symm)
    isplitl [Hs0]; · iexact Hs0
    isplitl [Hse]; · iexact Hse
    iexact Hsrest
  iexact HO

end Body

/-! ### What the handshakes carry -/

def coordsV (c : Fin (grid0.bound 0)) (s : Fin (grid0.bound 1)) : grid0.Coords :=
  fun | 0 => c | 1 => s | ⟨_ + 2, h⟩ => absurd h (Nat.not_lt.2 (Nat.le_add_left _ _))

theorem nCore_zero : (K (F := F)).nCore 0 = 2 := rfl
theorem nSub_zero : (K (F := F)).nSub 0 = 16 := rfl

/-- Tile `s` of core `c`. -/
abbrev co (c : Fin 2) (s : Fin 16) : grid0.Coords := coordsV (Fin.cast bound_zero.symm c) (Fin.cast bound_one.symm s)
abbrev goT (d : Dev nD) (c : Fin 2) (s : Fin 16) : sProp 𝕄 := iprop(xPts d (co c s) (μ (xLoc d)) ∗ oPts d (co c s) (μ (oLoc d)))
abbrev tdT (d : Dev nD) (c : Fin 2) (s : Fin 16) : sProp 𝕄 := tdOf d (co c s) (μ (xLoc d))
abbrev goC (d : Dev nD) (c : Fin 2) : sProp 𝕄 := bigSep Finset.univ fun s : Fin 16 => goT μ d c s
abbrev tdC (d : Dev nD) (c : Fin 2) : sProp 𝕄 := bigSep Finset.univ fun s : Fin 16 => tdT μ d c s

def P : (K (F := F)).Pay (nD := nD) (Val := Elt F) (Name := ℕ) (U := UU) where
  st := fun q d c => match q with | 0 => goC μ d (Fin.cast nCore_zero c)
  dn := fun q d c => match q with | 0 => tdC μ d (Fin.cast nCore_zero c)
  go := fun q d c s => match q with | 0 => goT μ d (Fin.cast nCore_zero c) (Fin.cast nSub_zero s)
  td := fun q d c s => match q with | 0 => tdT μ d (Fin.cast nCore_zero c) (Fin.cast nSub_zero s)
  x := fun _ _ => iprop(emp)

instance P_storable : (P (F := F) μ).IsStorable where
  st q d c := match q with
    | 0 => (inferInstance : BI.Storable (upEmb : UEmb _ 𝕄) (goC μ d (Fin.cast nCore_zero c)))
  dn q d c := match q with
    | 0 => (inferInstance : BI.Storable (upEmb : UEmb _ 𝕄) (tdC μ d (Fin.cast nCore_zero c)))
  go q d c s := match q with
    | 0 => (inferInstance : BI.Storable (upEmb : UEmb _ 𝕄) (goT μ d (Fin.cast nCore_zero c) (Fin.cast nSub_zero s)))
  td q d c s := match q with
    | 0 => (inferInstance : BI.Storable (upEmb : UEmb _ 𝕄) (tdT μ d (Fin.cast nCore_zero c) (Fin.cast nSub_zero s)))

theorem defs₀_vector (c : Fin τ.nSC) (s : Fin τ.nSub) :
    defs₀ (F := F) (.scVector c s) 0 ()
      = SparseCore.onTile hcore0 hsub0 (fun c s => cc0__sc_body (coordsV c s) (Memref.whole main_arg0_scv) (Memref.isWhole_whole _) (Memref.whole main_v0_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scoped0) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl [∀ e, Nonempty (Elt F e)] (hF : (K (F := F)).Facts) : (K (F := F)).TileObl (D (F := F)) 𝒱 (P μ) v₀ 0 := by
  intro d c i O W hO _ _
  simp only [show (P μ).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) hF (μ (xLoc d)) (μ (oLoc d)) O W hO).trans (wp_mono frame _ _ fun _ => obl_post)

/-! ### The rows split and join -/

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P μ) 0 := by
  intro d c
  show goC μ d (Fin.cast nCore_zero c) ⊢ |={Set.univ}=> iprop(
      (bigSep Finset.univ fun i : Fin ((K (F := F)).nSub 0) => goT μ d (Fin.cast nCore_zero c) (Fin.cast nSub_zero i))
      ∗ ((bigSep Finset.univ fun i : Fin ((K (F := F)).nSub 0) => tdT μ d (Fin.cast nCore_zero c) (Fin.cast nSub_zero i)) -∗ tdC μ d (Fin.cast nCore_zero c)))
  rw [bigSep_tasks (F := F) (fun i => goT μ d (Fin.cast nCore_zero c) i), bigSep_tasks (F := F) (fun i => tdT μ d (Fin.cast nCore_zero c) i)]
  iintro H; imodintro
  isplitl [H]; · iexact H
  iintro H; iexact H

theorem xPts_tiles (d : Dev nD) (f : Buf (Elt F) (xLoc d)) :
    (xLoc d ↦{fullShare} f : sProp 𝕄) = bigSep Finset.univ fun p : Fin 2 × Fin 16 => xPts d (co p.1 p.2) f := by
  have h := pointsTo_biUnion (Name := ℕ) (U := UU) (Lvl := ℕ) (Ix := HIx 1) (f := f) (q := fullShare) Finset.univ (ℓ := xLoc d) (fun p : Fin 2 × Fin 16 => tset p.1 p.2) tset_disj
  rw [tset_cover] at h
  exact h
theorem oPts_tiles (d : Dev nD) (f : Buf (Elt F) (oLoc d)) :
    (oLoc d ↦{fullShare} f : sProp 𝕄) = bigSep Finset.univ fun p : Fin 2 × Fin 16 => oPts d (co p.1 p.2) f := by
  have h := pointsTo_biUnion (Name := ℕ) (U := UU) (Lvl := ℕ) (Ix := HIx 1) (f := f) (q := fullShare) Finset.univ (ℓ := oLoc d) (fun p : Fin 2 × Fin 16 => tset p.1 p.2) tset_disj
  rw [tset_cover] at h
  exact h

theorem bigSep_pairs (Φ : Fin 2 → Fin 16 → sProp 𝕄) :
    (bigSep Finset.univ fun p : Fin 2 × Fin 16 => Φ p.1 p.2) = bigSep Finset.univ fun c => bigSep Finset.univ fun s => Φ c s := by
  exact bigSep_univ_prod _

/-- Every row of the result is done. -/
abbrev AllDone (x f : S128x32768.Idx → Elt F .f32) : Prop := ∀ r < 128, RowDone (F := F) x f r

theorem join_done (x g : S128x32768.Idx → Elt F .f32) (fs : Fin 2 × Fin 16 → S128x32768.Idx → Elt F .f32)
    (hf : ∀ p : Fin 2 × Fin 16, ∀ u < 4, RowDone (F := F) x (fs p) (rowN (co p.1 p.2) u))
    (hg : ∀ p ∈ (Finset.univ : Finset (Fin 2 × Fin 16)), ∀ j ∈ tset p.1 p.2, g j = fs p j) : AllDone (F := F) x g := by
  intro r hr
  have hc : r / 4 % 2 < 2 := by omega
  have hs : r / 8 < 16 := by omega
  have h := hf (⟨r / 4 % 2, hc⟩, ⟨r / 8, hs⟩) (r % 4) (by omega)
  have e : rowN (co ⟨r / 4 % 2, hc⟩ ⟨r / 8, hs⟩) (r % 4) = r := by
    show (r / 8 * 2 + r / 4 % 2) * 4 + r % 4 = r
    omega
  rw [e] at h
  refine rowDone_congr ?_ h
  funext k
  refine (hg (⟨r / 4 % 2, hc⟩, ⟨r / 8, hs⟩) (Finset.mem_univ _) (at2 r (k 0).val) (Finset.mem_filter.mpr ⟨Finset.mem_univ _, ?_⟩)).symm
  show r % 128 / 4 = r / 8 * 2 + r / 4 % 2
  omega

theorem oTiles_join (d : Dev nD) (x : Buf (Elt F) (xLoc d)) :
    (bigSep Finset.univ fun p : Fin 2 × Fin 16 => iprop(∃ f, ⌜rowsDone d (co p.1 p.2) x f 4⌝ ∗ oPts d (co p.1 p.2) f))
      ⊢ (iprop(∃ f, ⌜AllDone (F := F) x f⌝ ∗ oLoc d ↦{fullShare} f) : sProp 𝕄) := by
  refine (bigSep_exists_pi Finset.univ (fun (p : Fin 2 × Fin 16) (f : Buf (Elt F) (oLoc d)) => iprop(⌜rowsDone d (co p.1 p.2) x f 4⌝ ∗ oPts d (co p.1 p.2) f))).trans ?_
  iintro ⟨%fs, H⟩
  have : Nonempty (Buf (Elt F) (oLoc d)) := ⟨fs 0⟩
  ihave H := (bigSep_pure_sep Finset.univ (fun p : Fin 2 × Fin 16 => rowsDone d (co p.1 p.2) x (fs p) 4) (fun p => (oPts d (co p.1 p.2) (fs p) : sProp 𝕄))) $$ H
  icases H with ⟨%hf, H⟩
  ihave H' := (show (bigSep Finset.univ fun p : Fin 2 × Fin 16 => (oPts d (co p.1 p.2) (fs p) : sProp 𝕄)) ⊢ _ from pointsTo_biUnion_join (ℓ := oLoc d) (q := fullShare) (Val := Elt F) Finset.univ (fun p : Fin 2 × Fin 16 => tset p.1 p.2) fs (fs 0) tset_disj) $$ H
  icases H' with ⟨%g, %hg, Hg⟩
  ihave Hg := (Entails.of_eq (congrArg (fun S => (oLoc d ↦[S]{fullShare} g : sProp 𝕄)) tset_cover)) $$ Hg
  iexists g
  isplitr
  · ipureintro; exact join_done x g fs (fun p => hf p (Finset.mem_univ p)) hg
  · iexact Hg

/-! ### The launch element -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P μ).x q thr) := by
  have h1 : (bigSep Finset.univ fun thr : Thread nD τ => bigSep Finset.univ fun q : Fin 1 => (P (F := F) μ).x q thr) = (iprop(emp) : sProp 𝕄) :=
    (bigSep_congr fun _ _ => bigSep_univ_of_subsingleton (0 : Fin 1)).trans (bigSep_emp_const _)
  have h2 : (bigSep Finset.univ fun _ : Dev nD => iprop(emp)) = (iprop(emp) : sProp 𝕄) := bigSep_emp_const _
  rw [h1, h2]
  unfold u₀
  iintro Hu
  ihave H := (ownU_pair (initOf (K (F := F)).hsCells (K (F := F)).hsToks) (1 : Counters)) $$ Hu
  icases H with ⟨HH, -⟩
  imodintro
  isplitl [HH]; · iexact HH
  isplitr <;> iempintro

/-! ### `main` -/

theorem unscopedBufs_eq (d : Dev nD) (W : (b : Ref sig .tc) → Buf (Elt F) ((d.tc : Thread nD τ).loc b)) :
    (unscopedBufs d W : sProp 𝕄) = iprop((xLoc d ↦{fullShare} W main_arg0) ∗ oLoc d ↦{fullShare} W main_v0) := by
  unfold unscopedBufs
  rw [show (Finset.univ.filter fun b : Ref sig .tc => ¬ b.isScoped) = {main_arg0, main_v0} by decide,
    SparseCore.bigSep_insert' (by decide), bigSep_singleton]

theorem st0_eq (d : Dev nD) : (bigSep Finset.univ fun c : Fin ((K (F := F)).nCore 0) => (P μ).st 0 d c)
    = iprop((xLoc d ↦{fullShare} μ (xLoc d)) ∗ oLoc d ↦{fullShare} μ (oLoc d)) := by
  rw [xPts_tiles, oPts_tiles, ← bigSep_sep']
  exact (bigSep_cores (F := F) (fun c => goC μ d c)).trans (bigSep_pairs (fun c s => goT μ d c s)).symm
theorem dn0_eq (d : Dev nD) : (bigSep Finset.univ fun c : Fin ((K (F := F)).nCore 0) => (P μ).dn 0 d c)
    ⊢ iprop((xLoc d ↦{fullShare} μ (xLoc d)) ∗ ∃ f, ⌜AllDone (F := F) (μ (xLoc d)) f⌝ ∗ oLoc d ↦{fullShare} f) := by
  refine (Entails.of_eq ((bigSep_cores (F := F) (fun c => tdC μ d c)).trans (bigSep_pairs (fun c s => tdT μ d c s)).symm)).trans ?_
  refine (Entails.of_eq (bigSep_sep' Finset.univ (fun p : Fin 2 × Fin 16 => xPts d (co p.1 p.2) (μ (xLoc d))) (fun p => iprop(∃ f, ⌜rowsDone d (co p.1 p.2) (μ (xLoc d)) f 4⌝ ∗ oPts d (co p.1 p.2) f)))).trans ?_
  rw [xPts_tiles]
  exact sep_mono_right (oTiles_join d _)

abbrev FIN (d : Dev nD) : sProp 𝕄 := iprop((xLoc d ↦{fullShare} μ (xLoc d)) ∗ ∃ f, ⌜AllDone (F := F) (μ (xLoc d)) f⌝ ∗ oLoc d ↦{fullShare} f)

theorem hmain (κ : GSem nD τ sig → ℕ) (d : Dev nD) :
    iprop((K (F := F)).ctx EH (P μ) κ ∗ (K (F := F)).tcSt EH d 0 ∗ (K (F := F)).tcRes μ ρ d ∗ emp)
      ⊢ wp frame (wpE ((K (F := F)).defs (D (F := F))) 𝒱 (SparseCore.T d) none) Set.univ (main d)
          fun _ => iprop((K (F := F)).tcSt EH d 1 ∗ FIN μ d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hx, Ho⟩, Hts, -⟩, -⟩
  iapply ((K (F := F)).wp_run (D (F := F)) 𝒱 (EH := EH) (P := P μ) κ d 0) $$ [Hst Hx Ho Hb Hts]
  isplitr; · iexact Hctx
  isplitl [Hst]; · iexact Hst
  isplitl [Hx Ho]
  · rw [st0_eq]
    isplitl [Hx]; · iexact Hx
    iexact Ho
  iintro ⟨Hst, Hdn⟩
  ihave Hdn' := (dn0_eq μ d) $$ Hdn
  imodintro
  isplitl [Hst]; · iexact Hst
  isplitl [Hdn']; · iexact Hdn'
  isplitl [Hb] <;> iassumption

def fq (d : Dev nD) (s' : Phys nD τ sig (Elt F)) : Prop := s'.mem.mem (xLoc d) = μ (xLoc d) ∧ AllDone (F := F) (μ (xLoc d)) (s'.mem.mem (oLoc d))

set_option maxRecDepth 16384 in
theorem hfin (d : Dev nD) (s' : Phys nD τ sig (Elt F)) : iprop(FIN μ d ∗ SI s') ⊢ (⌜fq μ d s'⌝ : sProp 𝕄) := by
  iintro ⟨⟨Hx, %f, %hd, Ho⟩, HSI⟩
  ihave H := (persistent_entails_right (SI_pointsTo_agree (st := s') (ℓ := xLoc d) (I := Finset.univ) (q := fullShare) (f := μ (xLoc d)))) $$ [HSI Hx]
  · isplitl [HSI] <;> iassumption
  icases H with ⟨%h1, HSI, -⟩
  ihave H := (SI_pointsTo_agree (st := s') (ℓ := oLoc d) (I := Finset.univ) (q := fullShare) (f := f)) $$ [HSI Ho]
  · isplitl [HSI] <;> iassumption
  icases H with %h2
  ipureintro
  refine ⟨funext fun i => h1 i (Finset.mem_univ i), ?_⟩
  rw [show s'.mem.mem (oLoc d) = f from funext fun i => h2 i (Finset.mem_univ i)]
  exact hd

/-! ### The run -/

def QC : PUnit × MemSt nD τ sig (Elt F) → Prop := fun r => (∀ c : Dev nD, r.2.mem (xLoc c) = μ (xLoc c) ∧ AllDone (F := F) (μ (xLoc c)) (r.2.mem (oLoc c))) ∧ r.2.sem = fun _ => 0

theorem run_main [∀ e, Nonempty (Elt F e)] :
    θ_run (Cert.KernelIdeal.defs (F := F)) (Cert.KernelIdeal.threads (F := F)) ⟨μ, fun _ => 0, ρ⟩ (QC μ) :=
  SparseCore.Cfg.θ_run_sc_quiescent (K := K (F := F)) (D := D (F := F)) (𝒱 := 𝒱) (EH := EH) (P := P μ) (A := ∅) scFacts v₀
    (fun q hq => match q with | 0 => nomatch hq)
    (fun q _ => match q with | 0 => tileObl μ scFacts)
    (fun q _ => match q with | 0 => SparseCore.Cfg.VecSplit.of_plain (vecSplit μ))
    μ ρ main (fun _ => iprop(emp)) (FIN μ) (u₀ (F := F)) (sep_elim_left.trans (hu₀ μ)) (hmain μ ρ) (fq μ) (hfin μ) (QC μ) (fun _ h hz => ⟨h, hz⟩)

end Cert.Proof.Mem
-- ==== Proof.RefRun.lean ====
module
public import proofs.«01_k».proof.Defs
public import Idealize.ShloMosaic.Lib.StableHlo.Run
public import Idealize.ShloMosaic.Lib.Quiescent
public import proofs.«01_k».proof.Proof.Gen.ReferenceIdeal
/-! The reference's run: its operations in order, the functions it calls written out at their calls, in eight groups. -/
@[expose] public section
noncomputable section
namespace Cert.Proof.Ref
open Idealize.ShloMosaic Idealize.ShloMosaic.TcCoe Idealize.ShloMosaic.StableHlo Idealize.SL.Sem
open Cert.ReferenceIdeal Cert.ReferenceIdeal.Gen
set_option pp.maxSteps 400
variable {F : FTy → Type} [FloatOps F]

def w1 : List (HloOp τ sig (Elt F)) :=
  [ nullary main_cst (constant S_ .f32 0xFF800000#32),
    binary main_arg0 main_cst main_v0 ((fun x v => Host.reduce FloatOps.maximumf x v reducesTo_S128x32768_S128_d1 h_S_) : (⟨S128x32768, .f32⟩ : BufTy).Contents (Elt F) → (⟨S_, .f32⟩ : BufTy).Contents (Elt F) → (⟨S128, .f32⟩ : BufTy).Contents (Elt F)),
    nullary main_cst_0 (constant S_ .f32 0xFF800000#32),
    unary main_cst_0 main_v1 (broadcastInDim S128 ![] bcast_S_S128 : (⟨S_, .f32⟩ : BufTy).Contents (Elt F) → (⟨S128, .f32⟩ : BufTy).Contents (Elt F)),
    binary main_v1 main_v0 main_v2 (maximumf : (⟨S128, .f32⟩ : BufTy).Contents (Elt F) → (⟨S128, .f32⟩ : BufTy).Contents (Elt F) → (⟨S128, .f32⟩ : BufTy).Contents (Elt F)),
    unary main_v2 main_v3 (broadcastInDim S128x1 ![0] bcast_S128_S128x1_0 : (⟨S128, .f32⟩ : BufTy).Contents (Elt F) → (⟨S128x1, .f32⟩ : BufTy).Contents (Elt F)),
    unary main_v3 main_v4 (broadcastInDim S128x32768 ![0, 1] bcast_S128x1_S128x32768_0_1 : (⟨S128x1, .f32⟩ : BufTy).Contents (Elt F) → (⟨S128x32768, .f32⟩ : BufTy).Contents (Elt F)),
    binary main_arg0 main_v4 main_v5 (subf : (⟨S128x32768, .f32⟩ : BufTy).Contents (Elt F) → (⟨S128x32768, .f32⟩ : BufTy).Contents (Elt F) → (⟨S128x32768, .f32⟩ : BufTy).Contents (Elt F)),
    unary main_v5 main_v6 (Host.exp : (⟨S128x32768, .f32⟩ : BufTy).Contents (Elt F) → (⟨S128x32768, .f32⟩ : BufTy).Contents (Elt F)),
    nullary main_cst_1 (constant S_ .f32 0x00000000#32),
    binary main_v6 main_cst_1 main_v7 ((fun x v => Host.reduceAdd x v reducesTo_S128x32768_S128_d1 h_S_) : (⟨S128x32768, .f32⟩ : BufTy).Contents (Elt F) → (⟨S_, .f32⟩ : BufTy).Contents (Elt F) → (⟨S128, .f32⟩ : BufTy).Contents (Elt F)),
    unary main_v7 main_v8 (broadcastInDim S128x1 ![0] bcast_S128_S128x1_0 : (⟨S128, .f32⟩ : BufTy).Contents (Elt F) → (⟨S128x1, .f32⟩ : BufTy).Contents (Elt F)),
    unary main_v8 main_v9 (broadcastInDim S128x32768 ![0, 1] bcast_S128x1_S128x32768_0_1 : (⟨S128x1, .f32⟩ : BufTy).Contents (Elt F) → (⟨S128x32768, .f32⟩ : BufTy).Contents (Elt F)),
    binary main_v6 main_v9 main_v10 (Host.divf : (⟨S128x32768, .f32⟩ : BufTy).Contents (Elt F) → (⟨S128x32768, .f32⟩ : BufTy).Contents (Elt F) → (⟨S128x32768, .f32⟩ : BufTy).Contents (Elt F)),
    unary main_v10 main_v11 (Host.negf : (⟨S128x32768, .f32⟩ : BufTy).Contents (Elt F) → (⟨S128x32768, .f32⟩ : BufTy).Contents (Elt F)) ]

def w2 : List (HloOp τ sig (Elt F)) :=
  [ TRef.nullary main_call0.v0 (iotaInDim S128x32768 32 1),
    TRef.binary (.of main_v11) main_call0.v0 main_call0.v1_0 (fun x y => (Host.sort2 S128x32768 1 comparator_f32_i32_d1 x y).1),
    TRef.binary (.of main_v11) main_call0.v0 main_call0.v1_1 (fun x y => (Host.sort2 S128x32768 1 comparator_f32_i32_d1 x y).2) ]

def w3 : List (HloOp τ sig (Elt F)) :=
  [ TRef.nullary main_call1.c (constantI S_ 32 0#32),
    TRef.unary main_call1.c main_call1.v0 (broadcastInDim S128x32768 ![] bcast_S_S128x32768),
    TRef.binary (.of main_v12) main_call1.v0 main_call1.v1 (cmpi .slt),
    TRef.nullary main_call1.c_0 (constantI S_ 32 32768#32),
    TRef.unary main_call1.c_0 main_call1.v2 (broadcastInDim S128x32768 ![] bcast_S_S128x32768),
    TRef.binary (.of main_v12) main_call1.v2 main_call1.v3 addi,
    TRef.ternary main_call1.v1 main_call1.v3 (.of main_v12) main_call1.v4 select,
    TRef.reshape main_call1.v4 main_call1.v5 (rfl : (.i32 : EltTy) = .i32) shapeCasts_S128x32768_S128x32768x1,
    TRef.nullary main_call1.c_1 (constantI S1 32 32767#32),
    TRef.nullary main_call1.c_2 (constantI S_ 32 0#32),
    TRef.unary main_call1.c_2 main_call1.v6 (broadcastInDim S128x32768x1 ![] bcast_S_S128x32768x1),
    TRef.binary main_call1.v5 main_call1.v6 main_call1.v7 (cmpi .sge),
    TRef.unary main_call1.c_1 main_call1.v8 (broadcastInDim S1x1x1 ![2] bcast_S1_S1x1x1_2),
    TRef.unary main_call1.v8 main_call1.v9 (broadcastInDim S128x32768x1 ![0, 1, 2] bcast_S1x1x1_S128x32768x1_0_1_2),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S128x32768x1_S128x32768_d2 h_S_),
    TRef.binary (.of main_v10) main_call1.v5 main_call1.v13 (fun x i => Host.gather gather_S128x32768_S128x32768x1_S128x32768_n_1_0_0_1_2_11 x i),
    TRef.nullary main_call1.cst (constant S_ .f32 0x7FC00000#32),
    TRef.unary main_call1.cst main_call1.v14 (broadcastInDim S128x32768 ![] bcast_S_S128x32768),
    TRef.ternary main_call1.v12 main_call1.v13 main_call1.v14 main_call1.v15 select ]

def w4 : List (HloOp τ sig (Elt F)) :=
  [ TRef.nullary main_call2.call0.cst (constant S_ .f32 0x00000000#32),
    TRef.unary main_call2.call0.cst main_call2.call0.v0 (broadcastInDim S_ ![] bcast_S_S_),
    TRef.binary (.of main_v13) main_call2.call0.v0 main_call2.call0.v1 (fun x v => Host.reduceWindowAdd ![1, 32768] ![1, 1] ![0, 32767] ![0, 0] x v reduceWindows_S128x32768_S128x32768_w1s1p0_0_w32768s1p32767_0 h_S_),
    nullary main_cst_2 (constant S_ .f32 0x3F19999A#32),
    unary main_cst_2 main_v15 (broadcastInDim S128x32768 ![] bcast_S_S128x32768 : (⟨S_, .f32⟩ : BufTy).Contents (Elt F) → (⟨S128x32768, .f32⟩ : BufTy).Contents (Elt F)),
    binary main_v14 main_v15 main_v16 (cmpf .ogt : (⟨S128x32768, .f32⟩ : BufTy).Contents (Elt F) → (⟨S128x32768, .f32⟩ : BufTy).Contents (Elt F) → (⟨S128x32768, .i1⟩ : BufTy).Contents (Elt F)),
    unary main_v16 main_v17 ((extui 32 · natLt_1_32) : (⟨S128x32768, .i1⟩ : BufTy).Contents (Elt F) → (⟨S128x32768, .i32⟩ : BufTy).Contents (Elt F)) ]

def w5 : List (HloOp τ sig (Elt F)) :=
  [ TRef.nullary main_call3.v0 (iotaInDim S128x32768 32 1),
    TRef.nullary main_call3.c (constantI S_ 32 2147483648#32),
    TRef.nullary main_call3.c_0 (constantI S_ 32 0#32),
    TRef.quaternary (.of main_v17) main_call3.v0 main_call3.c main_call3.c_0 main_call3.v1_0 (fun x y u v j => (Host.reduce2 reducer_argmax_i32_i32 x y u v reducesTo_S128x32768_S128_d1 h_S_ j).1),
    TRef.quaternary (.of main_v17) main_call3.v0 main_call3.c main_call3.c_0 main_call3.v1_1 (fun x y u v j => (Host.reduce2 reducer_argmax_i32_i32 x y u v reducesTo_S128x32768_S128_d1 h_S_ j).2) ]

def w6 : List (HloOp τ sig (Elt F)) :=
  [ nullary main_v19 (iotaInDim S32768 32 0),
    unary main_v18 main_v20 (broadcastInDim S128x1 ![0] bcast_S128_S128x1_0 : (⟨S128, .i32⟩ : BufTy).Contents (Elt F) → (⟨S128x1, .i32⟩ : BufTy).Contents (Elt F)),
    unary main_v19 main_v21 (broadcastInDim S1x32768 ![1] bcast_S32768_S1x32768_1 : (⟨S32768, .i32⟩ : BufTy).Contents (Elt F) → (⟨S1x32768, .i32⟩ : BufTy).Contents (Elt F)),
    unary main_v21 main_v22 (broadcastInDim S128x32768 ![0, 1] bcast_S1x32768_S128x32768_0_1 : (⟨S1x32768, .i32⟩ : BufTy).Contents (Elt F) → (⟨S128x32768, .i32⟩ : BufTy).Contents (Elt F)),
    unary main_v20 main_v23 (broadcastInDim S128x32768 ![0, 1] bcast_S128x1_S128x32768_0_1 : (⟨S128x1, .i32⟩ : BufTy).Contents (Elt F) → (⟨S128x32768, .i32⟩ : BufTy).Contents (Elt F)),
    binary main_v22 main_v23 main_v24 (cmpi .eq : (⟨S128x32768, .i32⟩ : BufTy).Contents (Elt F) → (⟨S128x32768, .i32⟩ : BufTy).Contents (Elt F) → (⟨S128x32768, .i1⟩ : BufTy).Contents (Elt F)),
    unary main_v24 main_v25 (noti : (⟨S128x32768, .i1⟩ : BufTy).Contents (Elt F) → (⟨S128x32768, .i1⟩ : BufTy).Contents (Elt F)),
    binary main_v16 main_v25 main_v26 (andi : (⟨S128x32768, .i1⟩ : BufTy).Contents (Elt F) → (⟨S128x32768, .i1⟩ : BufTy).Contents (Elt F) → (⟨S128x32768, .i1⟩ : BufTy).Contents (Elt F)),
    nullary main_v27 (iotaInDim S32768 32 0),
    nullary main_c (constantI S_ 32 64#32),
    unary main_c main_v28 (broadcastInDim S32768 ![] bcast_S_S32768 : (⟨S_, .i32⟩ : BufTy).Contents (Elt F) → (⟨S32768, .i32⟩ : BufTy).Contents (Elt F)),
    binary main_v27 main_v28 main_v29 (cmpi .sge : (⟨S32768, .i32⟩ : BufTy).Contents (Elt F) → (⟨S32768, .i32⟩ : BufTy).Contents (Elt F) → (⟨S32768, .i1⟩ : BufTy).Contents (Elt F)),
    unary main_v29 main_v30 (broadcastInDim S1x32768 ![1] bcast_S32768_S1x32768_1 : (⟨S32768, .i1⟩ : BufTy).Contents (Elt F) → (⟨S1x32768, .i1⟩ : BufTy).Contents (Elt F)),
    unary main_v30 main_v31 (broadcastInDim S128x32768 ![0, 1] bcast_S1x32768_S128x32768_0_1 : (⟨S1x32768, .i1⟩ : BufTy).Contents (Elt F) → (⟨S128x32768, .i1⟩ : BufTy).Contents (Elt F)),
    binary main_v26 main_v31 main_v32 (ori : (⟨S128x32768, .i1⟩ : BufTy).Contents (Elt F) → (⟨S128x32768, .i1⟩ : BufTy).Contents (Elt F) → (⟨S128x32768, .i1⟩ : BufTy).Contents (Elt F)) ]

def w7 : List (HloOp τ sig (Elt F)) :=
  [ nullary main_cst_3 (constant S_ .f32 0xFF800000#32),
    TRef.unary (.of main_cst_3) main_call4.v0 id,
    TRef.unary main_call4.v0 main_call4.v1 (broadcastInDim S128x32768 ![] bcast_S_S128x32768),
    TRef.ternary (.of main_v32) main_call4.v1 (.of main_v13) main_call4.v2 select ]

def w8 : List (HloOp τ sig (Elt F)) :=
  [ TRef.nullary main_call5.c (constantI S_ 32 0#32),
    TRef.unary main_call5.c main_call5.v0 (broadcastInDim S128x32768 ![] bcast_S_S128x32768),
    TRef.binary (.of main_v12) main_call5.v0 main_call5.v1 (cmpi .slt),
    TRef.nullary main_call5.c_0 (constantI S_ 32 32768#32),
    TRef.unary main_call5.c_0 main_call5.v2 (broadcastInDim S128x32768 ![] bcast_S_S128x32768),
    TRef.binary (.of main_v12) main_call5.v2 main_call5.v3 addi,
    TRef.ternary main_call5.v1 main_call5.v3 (.of main_v12) main_call5.v4 select,
    TRef.reshape main_call5.v4 main_call5.v5 (rfl : (.i32 : EltTy) = .i32) shapeCasts_S128x32768_S128x32768x1,
    TRef.nullary main_call5.c_1 (constantI S1 32 32767#32),
    TRef.nullary main_call5.c_2 (constantI S_ 32 0#32),
    TRef.unary main_call5.c_2 main_call5.v6 (broadcastInDim S128x32768x1 ![] bcast_S_S128x32768x1),
    TRef.binary main_call5.v5 main_call5.v6 main_call5.v7 (cmpi .sge),
    TRef.unary main_call5.c_1 main_call5.v8 (broadcastInDim S1x1x1 ![2] bcast_S1_S1x1x1_2),
    TRef.unary main_call5.v8 main_call5.v9 (broadcastInDim S128x32768x1 ![0, 1, 2] bcast_S1x1x1_S128x32768x1_0_1_2),
    TRef.binary main_call5.v5 main_call5.v9 main_call5.v10 (cmpi .sle),
    TRef.binary main_call5.v7 main_call5.v10 main_call5.v11 andi,
    TRef.nullary main_call5.c_3 (constantI S_ 1 1#1),
    TRef.binary main_call5.v11 main_call5.c_3 main_call5.v12 (fun x v => Host.reduce IntOp.andi x v reducesTo_S128x32768x1_S128x32768_d2 h_S_),
    TRef.binary (.of main_v33) main_call5.v5 main_call5.v13 (fun x i => Host.gather gather_S128x32768_S128x32768x1_S128x32768_n_1_0_0_1_2_11 x i),
    TRef.nullary main_call5.cst (constant S_ .f32 0x7FC00000#32),
    TRef.unary main_call5.cst main_call5.v14 (broadcastInDim S128x32768 ![] bcast_S_S128x32768),
    TRef.ternary main_call5.v12 main_call5.v13 main_call5.v14 main_call5.v15 select ]

/-- All of them. -/
def ops : List (HloOp τ sig (Elt F)) := w1 ++ (w2 ++ (w3 ++ (w4 ++ (w5 ++ (w6 ++ (w7 ++ w8))))))

set_option maxRecDepth 4096 in
set_option maxHeartbeats 4000000 in
theorem main_eq (c : Dev nD) : main (F := F) c = seq ops := by
  simp only [main, fn_argsort.body, fn_take_along_axis.body, fn_cumsum.body, fn_cumsum_0.body, fn_argmax.body, fn_where.body,
    ops, w1, w2, w3, w4, w5, w6, w7, w8, List.cons_append, List.nil_append, seq, bind_assoc, pure_bind]

theorem w1_sub : (w1 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub ..⟩

theorem w2_sub : (w2 : List (HloOp τ sig (Elt F))).Forall fun op => op.bufs ⊆ tcRefs τ sig :=
  ⟨nullary_bufs_sub .., binary_bufs_sub .., binary_bufs_sub ..⟩

theorem w3_sub : (w3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩

theorem w4_sub : (w4 : List (HloOp τ sig (Elt F))).Forall fun op => op.bufs ⊆ tcRefs τ sig :=
  ⟨nullary_bufs_sub .., unary_bufs_sub .., binary_bufs_sub .., nullary_bufs_sub .., unary_bufs_sub .., binary_bufs_sub .., unary_bufs_sub ..⟩

theorem w5_sub : (w5 : List (HloOp τ sig (Elt F))).Forall fun op => op.bufs ⊆ tcRefs τ sig :=
  ⟨nullary_bufs_sub .., nullary_bufs_sub .., nullary_bufs_sub .., quaternary_bufs_sub .., quaternary_bufs_sub ..⟩

theorem w6_sub : (w6 : List (HloOp τ sig (Elt F))).Forall fun op => op.bufs ⊆ tcRefs τ sig :=
  ⟨nullary_bufs_sub .., unary_bufs_sub .., unary_bufs_sub .., unary_bufs_sub .., unary_bufs_sub .., binary_bufs_sub .., unary_bufs_sub .., binary_bufs_sub .., nullary_bufs_sub .., nullary_bufs_sub .., unary_bufs_sub .., binary_bufs_sub .., unary_bufs_sub .., unary_bufs_sub .., binary_bufs_sub ..⟩

theorem w7_sub : (w7 : List (HloOp τ sig (Elt F))).Forall fun op => op.bufs ⊆ tcRefs τ sig :=
  ⟨nullary_bufs_sub .., unary_bufs_sub .., unary_bufs_sub .., ternary_bufs_sub ..⟩

theorem w8_sub : (w8 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩

theorem forall_app {α : Type*} {p : α → Prop} {a b : List α} (ha : a.Forall p) (hb : b.Forall p) : (a ++ b).Forall p := by
  rw [List.forall_iff_forall_mem] at *
  intro x hx
  rcases List.mem_append.mp hx with h | h
  exacts [ha x h, hb x h]

theorem ops_sub : (ops : List (HloOp τ sig (Elt F))).Forall fun op => op.bufs ⊆ tcRefs τ sig :=
  forall_app w1_sub (forall_app w2_sub (forall_app w3_sub (forall_app w4_sub (forall_app w5_sub (forall_app w6_sub
    (forall_app w7_sub w8_sub))))))

theorem after_app (a b : List (HloOp τ sig (Elt F))) (V : Valuation τ sig (Elt F)) :
    after (a ++ b) V = after b (after a V) := by
  induction a generalizing V with
  | nil => rfl
  | cons o a ih => exact ih _

theorem scopedRefs_eq : (Finset.univ.filter fun b : Ref sig .tc => b.isScoped) = ∅ := by decide
theorem scopedSems_eq : (Finset.univ.filter fun sm : SemLoc sig => sm.isScoped .tc) = ∅ := by decide

theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

theorem arg0_w1 (V : Valuation τ sig (Elt F)) : after w1 V (main_arg0 : DevRef τ sig) = V (main_arg0 : DevRef τ sig) := by
  simp only [w1, after_cons, after_nil]
  rfl

theorem arg0_w2 (V : Valuation τ sig (Elt F)) : after w2 V (main_arg0 : DevRef τ sig) = V (main_arg0 : DevRef τ sig) := by
  simp only [w2, after_cons, after_nil]
  rfl

theorem arg0_w3 (V : Valuation τ sig (Elt F)) : after w3 V (main_arg0 : DevRef τ sig) = V (main_arg0 : DevRef τ sig) := by
  simp only [w3, after_cons, after_nil]
  rfl

theorem arg0_w4 (V : Valuation τ sig (Elt F)) : after w4 V (main_arg0 : DevRef τ sig) = V (main_arg0 : DevRef τ sig) := by
  simp only [w4, after_cons, after_nil]
  rfl

theorem arg0_w5 (V : Valuation τ sig (Elt F)) : after w5 V (main_arg0 : DevRef τ sig) = V (main_arg0 : DevRef τ sig) := by
  simp only [w5, after_cons, after_nil]
  rfl

theorem arg0_w6 (V : Valuation τ sig (Elt F)) : after w6 V (main_arg0 : DevRef τ sig) = V (main_arg0 : DevRef τ sig) := by
  simp only [w6, after_cons, after_nil]
  rfl

theorem arg0_w7 (V : Valuation τ sig (Elt F)) : after w7 V (main_arg0 : DevRef τ sig) = V (main_arg0 : DevRef τ sig) := by
  simp only [w7, after_cons, after_nil]
  rfl

theorem arg0_w8 (V : Valuation τ sig (Elt F)) : after w8 V (main_arg0 : DevRef τ sig) = V (main_arg0 : DevRef τ sig) := by
  simp only [w8, after_cons, after_nil]
  rfl

theorem arg0_eq (V : Valuation τ sig (Elt F)) : after ops V (main_arg0 : DevRef τ sig) = V (main_arg0 : DevRef τ sig) := by
  simp only [ops, after_app]
  rw [arg0_w8, arg0_w7, arg0_w6, arg0_w5, arg0_w4, arg0_w3, arg0_w2, arg0_w1]

end Cert.Proof.Ref
-- ==== Proof.Frames.lean ====
module
public import proofs.«01_k».proof.Proof.Launch
public import proofs.«01_k».proof.Proof.RefRun
/-! The three frames. -/
@[expose] public section
noncomputable section
namespace Cert.Proof.Mem
open Idealize.ShloMosaic Idealize.SL.Sem

instance : Cert.KernelIdeal.Facts := Cert.KernelIdeal.Gen.facts
instance : Cert.Kernel.Facts := Cert.Kernel.Gen.facts
instance : Cert.ReferenceIdeal.Facts := Cert.ReferenceIdeal.Gen.facts

theorem frame_kernelIdeal : Cert.quiescent_KernelIdeal := fun m ρ _ =>
  (θ_run Cert.KernelIdeal.defs _ _).mono (fun _ h => ⟨fun c => (h.1 c).1, h.2⟩) (run_main (F := Ideal) m ρ)

/-- The program as compiled has the same text, read at the machine's words. -/
theorem frame_kernel : Cert.quiescent_Kernel := fun m ρ _ =>
  (θ_run Cert.KernelIdeal.defs _ _).mono (fun _ h => ⟨fun c => (h.1 c).1, h.2⟩) (run_main (F := Bits) m ρ)

theorem frame_referenceIdeal : Cert.quiescent_ReferenceIdeal := fun m ρ _ =>
  (θ_run Cert.ReferenceIdeal.defs _ _).mono
    (fun r h => ⟨fun c => (h c _).trans (Ref.arg0_eq _), Idealize.ShloMosaic.sem_eq_zero_of_no_sems (by decide) r.2⟩)
    (Ref.run_main (F := Ideal) m ρ)

end Cert.Proof.Mem
-- ==== Proof.RefVal.lean ====
module
public import proofs.«01_k».proof.Proof.RefRun
public import Idealize.ShloMosaic.PureOps.Ideal
/-! What each group of the reference's operations leaves in the buffers that the next groups read. -/
@[expose] public section
noncomputable section
namespace Cert.Proof.Ref
open Idealize.ShloMosaic Idealize.ShloMosaic.TcCoe Idealize.ShloMosaic.StableHlo Idealize.SL.Sem
open Cert.ReferenceIdeal Cert.ReferenceIdeal.Gen
set_option pp.maxSteps 400
variable {F : FTy → Type} [FloatOps F]

/-- A block of numbers, of words, of bits. -/
abbrev BF (F : FTy → Type) := S128x32768.Idx → F .f32
abbrev BI := S128x32768.Idx → BitVec 32
abbrev BB := S128x32768.Idx → BitVec 1

/-- The exponentials of a block. -/
def ex (x : BF F) : BF F :=
  Host.exp (subf x (broadcastInDim S128x32768 ![0, 1] bcast_S128x1_S128x32768_0_1 (broadcastInDim S128x1 ![0] bcast_S128_S128x1_0
    (maximumf (broadcastInDim S128 ![] bcast_S_S128 (constant S_ .f32 0xFF800000#32))
      (Host.reduce FloatOps.maximumf x (constant S_ .f32 0xFF800000#32 : S_.Idx → F .f32) reducesTo_S128x32768_S128_d1 h_S_)))) : BF F)

/-- The shares of a block. -/
def so (x : BF F) : BF F :=
  Host.divf (ex x) (broadcastInDim S128x32768 ![0, 1] bcast_S128x1_S128x32768_0_1 (broadcastInDim S128x1 ![0] bcast_S128_S128x1_0
    (Host.reduceAdd (ex x) (constant S_ .f32 0x00000000#32 : S_.Idx → F .f32) reducesTo_S128x32768_S128_d1 h_S_)))

theorem w1_v10 (V : Valuation τ sig (Elt F)) :
    after w1 V (main_v10 : DevRef τ sig) = (so (V (main_arg0 : DevRef τ sig) : BF F) : BF F) := by
  unfold w1
  after_results_simp
  rfl

theorem w1_v11 (V : Valuation τ sig (Elt F)) :
    after w1 V (main_v11 : DevRef τ sig) = (Host.negf (so (V (main_arg0 : DevRef τ sig) : BF F)) : BF F) := by
  unfold w1
  after_results_simp
  rfl

/-- The places of a block's elements in order. -/
def pl (y : BF F) : BI := (Host.sort2 S128x32768 1 comparator_f32_i32_d1 y (iotaInDim S128x32768 32 1)).2

theorem w2_v12 (V : Valuation τ sig (Elt F)) :
    after w2 V (main_v12 : DevRef τ sig) = (pl (V (main_v11 : DevRef τ sig) : BF F) : BI) := by
  unfold w2
  after_results_simp
  rfl

/-- A block's places brought into range, one more axis after them. -/
def tki (p : BI) : S128x32768x1.Idx → BitVec 32 :=
  shapeCast S128x32768x1 (select (cmpi .slt p (broadcastInDim S128x32768 ![] bcast_S_S128x32768 (constantI S_ 32 0#32)))
    (addi p (broadcastInDim S128x32768 ![] bcast_S_S128x32768 (constantI S_ 32 32768#32))) p) shapeCasts_S128x32768_S128x32768x1

/-- Which of them are in range. -/
def tkm (q : S128x32768x1.Idx → BitVec 32) : BB :=
  Host.reduce IntOp.andi (andi (cmpi .sge q (broadcastInDim S128x32768x1 ![] bcast_S_S128x32768x1 (constantI S_ 32 0#32)))
    (cmpi .sle q (broadcastInDim S128x32768x1 ![0, 1, 2] bcast_S1x1x1_S128x32768x1_0_1_2 (broadcastInDim S1x1x1 ![2] bcast_S1_S1x1x1_2 (constantI S1 32 32767#32)))))
    (constantI S_ 1 1#1 : S_.Idx → BitVec 1) reducesTo_S128x32768x1_S128x32768_d2 h_S_

/-- A block read along its rows at given places. -/
def tka (x : BF F) (p : BI) : BF F :=
  select (tkm (tki p)) (Host.gather gather_S128x32768_S128x32768x1_S128x32768_n_1_0_0_1_2_11 x (tki p))
    (broadcastInDim S128x32768 ![] bcast_S_S128x32768 (constant S_ .f32 0x7FC00000#32))

theorem w3_v13_a (V : Valuation τ sig (Elt F)) :
    after (w3.take 8) V (main_call1_v5 : DevRef τ sig) = (tki (V (main_v12 : DevRef τ sig) : BI) : S128x32768x1.Idx → BitVec 32) := by
  unfold w3
  simp only [List.take_succ_cons, List.take_zero]
  after_results_simp
  rfl

theorem w3_v13_x (V : Valuation τ sig (Elt F)) : after (w3.take 8) V (main_v10 : DevRef τ sig) = V (main_v10 : DevRef τ sig) := by
  unfold w3
  simp only [List.take_succ_cons, List.take_zero, after_cons, after_nil]
  rfl

theorem w3_v13_b (V : Valuation τ sig (Elt F)) :
    after (w3.drop 8) V (main_v13 : DevRef τ sig) =
      (select (tkm (V (main_call1_v5 : DevRef τ sig))) (Host.gather gather_S128x32768_S128x32768x1_S128x32768_n_1_0_0_1_2_11 (V (main_v10 : DevRef τ sig) : BF F) (V (main_call1_v5 : DevRef τ sig) : S128x32768x1.Idx → BitVec 32))
    (broadcastInDim S128x32768 ![] bcast_S_S128x32768 (constant S_ .f32 0x7FC00000#32)) : BF F) := by
  unfold w3
  simp only [List.drop_succ_cons, List.drop_zero]
  after_results_simp
  simp -implicitDefEqProofs only [TRef.toBuf, TRef.ofBuf, cast_cast, cast_eq]
  rfl

theorem w3_v13 (V : Valuation τ sig (Elt F)) :
    after w3 V (main_v13 : DevRef τ sig) = (tka (V (main_v10 : DevRef τ sig) : BF F) (V (main_v12 : DevRef τ sig) : BI) : BF F) := by
  rw [show (w3 : List (HloOp τ sig (Elt F))) = w3.take 8 ++ w3.drop 8 from rfl, after_app, w3_v13_b, w3_v13_a, w3_v13_x]
  rfl

/-- Where a block's running sums pass the bound. -/
def ov (x : BF F) : BB :=
  cmpf .ogt (Host.reduceWindowAdd ![1, 32768] ![1, 1] ![0, 32767] ![0, 0] x (broadcastInDim S_ ![] bcast_S_S_ (constant S_ .f32 0x00000000#32) : S_.Idx → F .f32) reduceWindows_S128x32768_S128x32768_w1s1p0_0_w32768s1p32767_0 h_S_ : BF F)
    (broadcastInDim S128x32768 ![] bcast_S_S128x32768 (constant S_ .f32 0x3F19999A#32))

theorem w4_v16 (V : Valuation τ sig (Elt F)) :
    after w4 V (main_v16 : DevRef τ sig) = (ov (V (main_v13 : DevRef τ sig) : BF F) : BB) := by
  unfold w4
  after_results_simp
  rfl

theorem w4_v17 (V : Valuation τ sig (Elt F)) :
    after w4 V (main_v17 : DevRef τ sig) = (extui 32 (ov (V (main_v13 : DevRef τ sig) : BF F)) natLt_1_32 : BI) := by
  unfold w4
  after_results_simp
  rfl

/-- The second part of a fold of pairs along an axis. -/
def red2s {s t u : Shape} (f : BitVec 32 × BitVec 32 → BitVec 32 × BitVec 32 → BitVec 32 × BitVec 32) (x y : s.Idx → BitVec 32) (c d : u.Idx → BitVec 32)
    {dims : List (Fin s.rank)} (h : s.ReducesTo dims t) (hu : 0 < u.numel) : t.Idx → BitVec 32 := fun j => (Host.reduce2 f x y c d h hu j).2

/-- The first place that holds the greatest word of each row. -/
def am (y : BI) : S128.Idx → BitVec 32 :=
  red2s reducer_argmax_i32_i32 y (iotaInDim S128x32768 32 1) (constantI S_ 32 2147483648#32) (constantI S_ 32 0#32) reducesTo_S128x32768_S128_d1 h_S_

theorem w5_v18 (V : Valuation τ sig (Elt F)) :
    after w5 V (main_v18 : DevRef τ sig) = (am (V (main_v17 : DevRef τ sig) : BI) : S128.Idx → BitVec 32) := by
  unfold w5
  after_results_simp
  rfl

/-- The places dropped. -/
def mk (o : BB) (a : S128.Idx → BitVec 32) : BB :=
  ori (andi o (noti (cmpi .eq (broadcastInDim S128x32768 ![0, 1] bcast_S1x32768_S128x32768_0_1 (broadcastInDim S1x32768 ![1] bcast_S32768_S1x32768_1 (iotaInDim S32768 32 0)) : BI)
      (broadcastInDim S128x32768 ![0, 1] bcast_S128x1_S128x32768_0_1 (broadcastInDim S128x1 ![0] bcast_S128_S128x1_0 a)))))
    (broadcastInDim S128x32768 ![0, 1] bcast_S1x32768_S128x32768_0_1 (broadcastInDim S1x32768 ![1] bcast_S32768_S1x32768_1
      (cmpi .sge (iotaInDim S32768 32 0) (broadcastInDim S32768 ![] bcast_S_S32768 (constantI S_ 32 64#32)))))

theorem w6_v32 (V : Valuation τ sig (Elt F)) :
    after w6 V (main_v32 : DevRef τ sig) = (mk (V (main_v16 : DevRef τ sig) : BB) (V (main_v18 : DevRef τ sig) : S128.Idx → BitVec 32) : BB) := by
  unfold w6
  after_results_simp
  rfl

/-- A block with its dropped places at the least number. -/
def dr (o : BB) (x : BF F) : BF F := select o (broadcastInDim S128x32768 ![] bcast_S_S128x32768 (constant S_ .f32 0xFF800000#32)) x

theorem w7_v33 (V : Valuation τ sig (Elt F)) :
    after w7 V (main_v33 : DevRef τ sig) = (dr (V (main_v32 : DevRef τ sig) : BB) (V (main_v13 : DevRef τ sig) : BF F) : BF F) := by
  unfold w7
  after_results_simp
  rfl

theorem w8_v34_a (V : Valuation τ sig (Elt F)) :
    after (w8.take 8) V (main_call5_v5 : DevRef τ sig) = (tki (V (main_v12 : DevRef τ sig) : BI) : S128x32768x1.Idx → BitVec 32) := by
  unfold w8
  simp only [List.take_succ_cons, List.take_zero]
  after_results_simp
  rfl

theorem w8_v34_x (V : Valuation τ sig (Elt F)) : after (w8.take 8) V (main_v33 : DevRef τ sig) = V (main_v33 : DevRef τ sig) := by
  unfold w8
  simp only [List.take_succ_cons, List.take_zero, after_cons, after_nil]
  rfl

theorem w8_v34_b (V : Valuation τ sig (Elt F)) :
    after (w8.drop 8) V (main_v34 : DevRef τ sig) =
      (select (tkm (V (main_call5_v5 : DevRef τ sig))) (Host.gather gather_S128x32768_S128x32768x1_S128x32768_n_1_0_0_1_2_11 (V (main_v33 : DevRef τ sig) : BF F) (V (main_call5_v5 : DevRef τ sig) : S128x32768x1.Idx → BitVec 32))
    (broadcastInDim S128x32768 ![] bcast_S_S128x32768 (constant S_ .f32 0x7FC00000#32)) : BF F) := by
  unfold w8
  simp only [List.drop_succ_cons, List.drop_zero]
  after_results_simp
  simp -implicitDefEqProofs only [TRef.toBuf, TRef.ofBuf, cast_cast, cast_eq]
  rfl

theorem w8_v34 (V : Valuation τ sig (Elt F)) :
    after w8 V (main_v34 : DevRef τ sig) = (tka (V (main_v33 : DevRef τ sig) : BF F) (V (main_v12 : DevRef τ sig) : BI) : BF F) := by
  rw [show (w8 : List (HloOp τ sig (Elt F))) = w8.take 8 ++ w8.drop 8 from rfl, after_app, w8_v34_b, w8_v34_a, w8_v34_x]
  rfl

theorem v10_w2 (V : Valuation τ sig (Elt F)) : after w2 V (main_v10 : DevRef τ sig) = V (main_v10 : DevRef τ sig) := by
  simp only [w2, after_cons, after_nil]
  rfl

theorem v12_w3 (V : Valuation τ sig (Elt F)) : after w3 V (main_v12 : DevRef τ sig) = V (main_v12 : DevRef τ sig) := by
  simp only [w3, after_cons, after_nil]
  rfl

theorem v12_w4 (V : Valuation τ sig (Elt F)) : after w4 V (main_v12 : DevRef τ sig) = V (main_v12 : DevRef τ sig) := by
  simp only [w4, after_cons, after_nil]
  rfl

theorem v12_w5 (V : Valuation τ sig (Elt F)) : after w5 V (main_v12 : DevRef τ sig) = V (main_v12 : DevRef τ sig) := by
  simp only [w5, after_cons, after_nil]
  rfl

theorem v12_w6 (V : Valuation τ sig (Elt F)) : after w6 V (main_v12 : DevRef τ sig) = V (main_v12 : DevRef τ sig) := by
  simp only [w6, after_cons, after_nil]
  rfl

theorem v12_w7 (V : Valuation τ sig (Elt F)) : after w7 V (main_v12 : DevRef τ sig) = V (main_v12 : DevRef τ sig) := by
  simp only [w7, after_cons, after_nil]
  rfl

theorem v13_w4 (V : Valuation τ sig (Elt F)) : after w4 V (main_v13 : DevRef τ sig) = V (main_v13 : DevRef τ sig) := by
  simp only [w4, after_cons, after_nil]
  rfl

theorem v13_w5 (V : Valuation τ sig (Elt F)) : after w5 V (main_v13 : DevRef τ sig) = V (main_v13 : DevRef τ sig) := by
  simp only [w5, after_cons, after_nil]
  rfl

theorem v13_w6 (V : Valuation τ sig (Elt F)) : after w6 V (main_v13 : DevRef τ sig) = V (main_v13 : DevRef τ sig) := by
  simp only [w6, after_cons, after_nil]
  rfl

theorem v16_w5 (V : Valuation τ sig (Elt F)) : after w5 V (main_v16 : DevRef τ sig) = V (main_v16 : DevRef τ sig) := by
  simp only [w5, after_cons, after_nil]
  rfl

/-- The shares in order. -/
def st (x : BF F) : BF F := tka (so x) (pl (Host.negf (so x)))

/-- The reference's result, from its operand. -/
def res (x : BF F) : BF F :=
  tka (dr (mk (ov (st x)) (am (extui 32 (ov (st x)) natLt_1_32))) (st x)) (pl (Host.negf (so x)))

theorem ops_v34 (V : Valuation τ sig (Elt F)) :
    after ops V (main_v34 : DevRef τ sig) = (res (V (main_arg0 : DevRef τ sig) : BF F) : BF F) := by
  simp only [ops, after_app]
  rw [w8_v34, w7_v33, v12_w7, w6_v32, v13_w6, v12_w6, w5_v18, v16_w5, v13_w5, v12_w5, w4_v17, w4_v16, v13_w4, v12_w4,
    w3_v13, v12_w3, w2_v12, v10_w2, w1_v11, w1_v10]
  rfl

end Cert.Proof.Ref
-- ==== Proof.Rank.lean ====
module
public import proofs.«01_k».proof.Proof.Fun
public import Idealize.ShloMosaic.PureOps.Ideal.Laws
public import Idealize.ShloMosaic.Lib.IdealHost
/-! Ranks under a strict order, the place of each rank, and the row that a filter by rank keeps. -/
@[expose] public section
noncomputable section
namespace Cert.Proof.Val
open Idealize.ShloMosaic
open scoped Classical

/-- A strict linear order on the naturals. -/
structure Lin (R : ℕ → ℕ → Prop) : Prop where
  irr : ∀ a, ¬ R a a
  tr : ∀ a b c, R a b → R b c → R a c
  tri : ∀ a b, a ≠ b → R a b ∨ R b a

/-- How many of the first `n` come before `i`. -/
def rnk (n : ℕ) (R : ℕ → ℕ → Prop) (i : ℕ) : ℕ := ((Finset.range n).filter fun k => R k i).card

variable {n : ℕ} {R : ℕ → ℕ → Prop}

theorem rnk_mono (h : Lin R) {a b : ℕ} (ha : a < n) (hab : R a b) : rnk n R a < rnk n R b := by
  apply Finset.card_lt_card
  rw [Finset.ssubset_iff_of_subset]
  · exact ⟨a, Finset.mem_filter.mpr ⟨Finset.mem_range.mpr ha, hab⟩, fun q => h.irr a (Finset.mem_filter.mp q).2⟩
  · intro k hk
    have := Finset.mem_filter.mp hk
    exact Finset.mem_filter.mpr ⟨this.1, h.tr _ _ _ this.2 hab⟩

theorem rnk_lt (h : Lin R) {i : ℕ} (hi : i < n) : rnk n R i < n := by
  have : rnk n R i < (Finset.range n).card := by
    apply Finset.card_lt_card
    rw [Finset.ssubset_iff_of_subset (Finset.filter_subset _ _)]
    exact ⟨i, Finset.mem_range.mpr hi, fun q => h.irr i (Finset.mem_filter.mp q).2⟩
  rwa [Finset.card_range] at this

theorem rnk_inj (h : Lin R) {a b : ℕ} (ha : a < n) (hb : b < n) (e : rnk n R a = rnk n R b) : a = b := by
  by_contra hne
  rcases h.tri a b hne with q | q
  · exact absurd (rnk_mono h ha q) (by omega)
  · exact absurd (rnk_mono h hb q) (by omega)

theorem rnk_lt_iff (h : Lin R) {a b : ℕ} (ha : a < n) (hb : b < n) : rnk n R a < rnk n R b ↔ R a b := by
  refine ⟨fun q => ?_, rnk_mono h ha⟩
  have hne : a ≠ b := fun e => by rw [e] at q; omega
  rcases h.tri a b hne with r | r
  · exact r
  · exact absurd (rnk_mono h hb r) (by omega)

theorem rnk_surj (h : Lin R) {v : ℕ} (hv : v < n) : ∃ i, i < n ∧ rnk n R i = v := by
  have := Finset.surj_on_of_inj_on_of_card_le (s := Finset.range n) (t := Finset.range n) (fun a _ => rnk n R a)
    (fun a ha => Finset.mem_range.mpr (rnk_lt h (Finset.mem_range.mp ha)))
    (fun a b ha hb e => rnk_inj h (Finset.mem_range.mp ha) (Finset.mem_range.mp hb) e) le_rfl v (Finset.mem_range.mpr hv)
  obtain ⟨i, hi, e⟩ := this
  exact ⟨i, Finset.mem_range.mp hi, e.symm⟩

/-- The larger first, of equals the earlier. -/
def bef (E : ℕ → EReal) (k i : ℕ) : Prop := E i < E k ∨ (E k = E i ∧ k < i)

theorem lin_bef (E : ℕ → EReal) : Lin (bef E) where
  irr a := by
    rintro (q | q)
    · exact lt_irrefl _ q
    · omega
  tr a b c := by
    rintro (q | ⟨q, q'⟩) (r | ⟨r, r'⟩)
    · exact .inl (lt_trans r q)
    · exact .inl (r ▸ q)
    · exact .inl (q ▸ r)
    · exact .inr ⟨q.trans r, by omega⟩
  tri a b hne := by
    rcases lt_trichotomy (E a) (E b) with q | q | q
    · exact .inr (.inl q)
    · rcases Nat.lt_or_gt_of_ne hne with r | r
      · exact .inl (.inr ⟨q, r⟩)
      · exact .inr (.inr ⟨q.symm, r⟩)
    · exact .inl (.inl q)

/-- The rank of an element among the first `n`. -/
abbrev rk (n : ℕ) (E : ℕ → EReal) (i : ℕ) : ℕ := rnk n (bef E) i

/-- The element of a rank. -/
def sig (n : ℕ) (E : ℕ → EReal) (v : ℕ) : ℕ := if h : v < n then (rnk_surj (lin_bef E) h).choose else 0

theorem sig_lt (E : ℕ → EReal) {v : ℕ} (h : v < n) : sig n E v < n := by
  unfold sig; rw [dif_pos h]; exact (rnk_surj (lin_bef E) h).choose_spec.1
theorem rk_sig (E : ℕ → EReal) {v : ℕ} (h : v < n) : rk n E (sig n E v) = v := by
  unfold sig; rw [dif_pos h]; exact (rnk_surj (lin_bef E) h).choose_spec.2
theorem sig_rk (E : ℕ → EReal) {i : ℕ} (h : i < n) : sig n E (rk n E i) = i :=
  rnk_inj (lin_bef E) (sig_lt E (rnk_lt (lin_bef E) h)) h (rk_sig E (rnk_lt (lin_bef E) h))
theorem sig_eq_iff (E : ℕ → EReal) {i v : ℕ} (h : i < n) (hv : v < n) : sig n E v = i ↔ rk n E i = v :=
  ⟨fun e => e ▸ rk_sig E hv, fun e => e ▸ sig_rk E h⟩

/-- Equal orders have equal ranks. -/
theorem sig_congr {E E' : ℕ → EReal} (h : ∀ a < n, ∀ b < n, bef E a b ↔ bef E' a b) (v : ℕ) : sig n E v = sig n E' v := by
  by_cases hv : v < n
  · have hr : ∀ i < n, rk n E i = rk n E' i := fun i hi => by
      unfold rk rnk
      congr 1
      apply Finset.filter_congr
      intro k hk
      exact h k (Finset.mem_range.mp hk) i hi
    rw [sig_eq_iff E (sig_lt E' hv) hv, hr _ (sig_lt E' hv), rk_sig E' hv]
  · unfold sig; rw [dif_neg hv, dif_neg hv]

/-- The share of the element of rank `v`. -/
def shr (n : ℕ) (E : ℕ → EReal) (S : EReal) (v : ℕ) : EReal := Ideal.div (E (sig n E v)) S
/-- The shares of the first ranks, summed. -/
def cms (n : ℕ) (E : ℕ → EReal) (S : EReal) (v : ℕ) : EReal := ∑ u ∈ Finset.range (v + 1), shr n E S u
/-- The bound on the summed shares. -/
def lim : EReal := Ideal.ofBits .f32 0x3F19999A#32
/-- How many ranks are kept. -/
def kept (n : ℕ) (E : ℕ → EReal) (S : EReal) : ℕ := min (((Finset.range 64).filter fun v => cms n E S v ≤ lim).card + 1) 64
/-- The filtered row. -/
def filt (n : ℕ) (E : ℕ → EReal) (S : EReal) (j : ℕ) : EReal :=
  if sig n E j < kept n E S then shr n E S (sig n E j) else ⊥

theorem sum_split (f : ℕ → EReal) (b : ℕ) : ∀ a : ℕ,
    ∑ j ∈ Finset.range (b * a), f j = ∑ i ∈ Finset.range a, ∑ k ∈ Finset.range b, f (b * i + k)
  | 0 => by simp
  | a + 1 => by
    rw [Finset.sum_range_succ, ← sum_split f b a, Nat.mul_succ, Finset.sum_range_add]

/-- The exponentials of a row, its greatest taken off. -/
def expo (X : ℕ → EReal) (M : EReal) (i : ℕ) : EReal := Ideal.exp (X i - M)

end Cert.Proof.Val
-- ==== Proof.Base.lean ====
module
public import proofs.«01_k».proof.Proof.Rank
public import proofs.«01_k».proof.Proof.Geo
/-! Lanes and elements read by number; the vector operations at the extended reals. -/
@[expose] public section
set_option pp.maxSteps 400
noncomputable section
namespace Cert.Proof.Val
open Idealize.ShloMosaic
open Cert.KernelIdeal Cert.Proof.Mem
open scoped Classical
variable [Facts]
variable {α : Type}

/-- Element `k` of a vector. -/
def ln {n : ℕ} [NeZero n] (f : (A n).Idx → α) (k : ℕ) : α := f (ix n k)

theorem ln_ext {n : ℕ} [NeZero n] {f g : (A n).Idx → α} (h : ∀ k < n, ln f k = ln g k) : f = g := by
  funext i
  rw [eq_ix i]
  exact h _ (i 0).isLt

theorem ln_ld {n : ℕ} [NeZero n] (f : (A n).Idx → α) (o k : ℕ) (hk : k < 16) : ln (ld f o) k = ln f (o + k) := by
  unfold ln ld
  rw [ix_val (n := 16) hk]

theorem ln_sd {n : ℕ} [NeZero n] (f : (A n).Idx → α) (o : ℕ) (w : (A 16).Idx → α) (i : ℕ) (hi : i < n) :
    ln (sd f o w) i = if o ≤ i ∧ i < o + 16 then ln w (i - o) else ln f i := by
  unfold ln sd
  rw [ix_val hi]

theorem ln_gat {n k : ℕ} [NeZero n] [NeZero k] (f : (A n).Idx → α) (v : (A k).Idx → BitVec 32) (i : ℕ) : ln (gat f v) i = ln f (ln v i).toNat := rfl
theorem ln_bi (c : BitVec 32) (k : ℕ) : ln (bi c) k = c := rfl
theorem ln_bf (c : EReal) (k : ℕ) : ln (bf (F := Ideal) c) k = c := rfl
theorem ln_io (k : ℕ) (h : k < 16) : ln io k = BitVec.ofNat 32 k := io_ix k h
theorem ln_addi (a b : VI) (k : ℕ) : ln (addi a b) k = ln a k + ln b k := rfl
theorem ln_subi (a b : VI) (k : ℕ) : ln (subi a b) k = ln a k - ln b k := rfl
theorem ln_muli (a b : VI) (k : ℕ) : ln (muli a b) k = ln a k * ln b k := rfl
theorem ln_andi {w : ℕ} (a b : IVec S16 w) (k : ℕ) : ln (andi a b) k = ln a k &&& ln b k := rfl
theorem ln_select (c : IVec S16 1) (a b : (A 16).Idx → α) (k : ℕ) : ln (select c a b) k = if ln c k = 1 then ln a k else ln b k := rfl

theorem ofBool_one (b : Bool) : BitVec.ofBool b = 1 ↔ b = true := by cases b <;> decide

theorem bit_and (a b : BitVec 1) : a &&& b = 1 ↔ a = 1 ∧ b = 1 := by revert a b; decide

theorem cmpi_eq_one (a b : BitVec 32) : IntOp.cmpi .eq a b = 1 ↔ a = b := by
  unfold IntOp.cmpi; rw [ofBool_one]; exact beq_iff_eq
theorem cmpi_ne_one (a b : BitVec 32) : IntOp.cmpi .ne a b = 1 ↔ a ≠ b := by
  unfold IntOp.cmpi; rw [ofBool_one]; exact bne_iff_ne

theorem toInt_small (a : BitVec 32) (h : a.toNat < 2 ^ 31) : a.toInt = a.toNat := by
  rw [BitVec.toInt_eq_toNat_cond, if_pos (by omega)]

theorem cmpi_slt_one (a b : BitVec 32) (ha : a.toNat < 2 ^ 31) (hb : b.toNat < 2 ^ 31) : IntOp.cmpi .slt a b = 1 ↔ a.toNat < b.toNat := by
  unfold IntOp.cmpi
  rw [ofBool_one]
  show BitVec.slt a b = true ↔ _
  rw [BitVec.slt_iff_toInt_lt, toInt_small a ha, toInt_small b hb]
  omega
theorem cmpi_sgt_one (a b : BitVec 32) (ha : a.toNat < 2 ^ 31) (hb : b.toNat < 2 ^ 31) : IntOp.cmpi .sgt a b = 1 ↔ b.toNat < a.toNat := by
  have : IntOp.cmpi .sgt a b = IntOp.cmpi .slt b a := rfl
  rw [this, cmpi_slt_one _ _ hb ha]

theorem ofNat_small {k : ℕ} (h : k < 2 ^ 32) : (BitVec.ofNat 32 k).toNat = k := by rw [BitVec.toNat_ofNat]; omega

theorem ln_cmpf_oeq (a b : VF Ideal) (k : ℕ) : ln (cmpf .oeq a b) k = 1 ↔ ln a k = ln b k := by
  show BitVec.ofBool (decide (ln a k = ln b k)) = 1 ↔ _
  rw [ofBool_one, decide_eq_true_eq]
theorem ln_cmpf_olt (a b : VF Ideal) (k : ℕ) : ln (cmpf .olt a b) k = 1 ↔ ln a k < ln b k := by
  show BitVec.ofBool (decide (ln a k < ln b k)) = 1 ↔ _
  rw [ofBool_one, decide_eq_true_eq]
theorem ln_cmpf_ole (a b : VF Ideal) (k : ℕ) : ln (cmpf .ole a b) k = 1 ↔ ln a k ≤ ln b k := by
  show BitVec.ofBool (decide (ln a k ≤ ln b k)) = 1 ↔ _
  rw [ofBool_one, decide_eq_true_eq]

theorem ln_maximumf (a b : VF Ideal) (k : ℕ) : ln (maximumf a b) k = max (ln a k) (ln b k) := rfl
theorem ln_addf (a b : VF Ideal) (k : ℕ) : ln (addf a b) k = ln a k + ln b k := rfl
theorem ln_expsub (a b : VF Ideal) (k : ℕ) : ln (exp (subf a b)) k = Ideal.exp (ln a k - ln b k) := rfl
theorem ln_divf (a b : VF Ideal) (k : ℕ) : ln (divf a b) k = Ideal.div (ln a k) (ln b k) := rfl

theorem bits_ninf : Ideal.ofBits .f32 0xFF800000#32 = ⊥ := by simp [Ideal.ofBits, Ideal.ieee]
theorem bits_zero : Ideal.ofBits .f32 0x00000000#32 = 0 := by simp [Ideal.ofBits, Ideal.ieee]
theorem bits_mone : Ideal.ofBits .f32 0xBF800000#32 < 0 := by
  have : Ideal.ofBits .f32 0xBF800000#32 = ((-1 : ℝ) : EReal) := by
    simp [Ideal.ofBits, Ideal.ieee, -EReal.coe_mul, -EReal.coe_neg]
    norm_num
  rw [this]
  exact_mod_cast (show (-1 : ℝ) < 0 by norm_num)
theorem bits_mone' : ⊥ < Ideal.ofBits .f32 0xBF800000#32 := by
  have : Ideal.ofBits .f32 0xBF800000#32 = ((-1 : ℝ) : EReal) := by
    simp [Ideal.ofBits, Ideal.ieee, -EReal.coe_mul, -EReal.coe_neg]
    norm_num
  rw [this]
  exact EReal.bot_lt_coe _
theorem ln_ninf (k : ℕ) : ln (ninf (F := Ideal)) k = ⊥ := bits_ninf
theorem ln_zf (k : ℕ) : ln (zf (F := Ideal)) k = 0 := bits_zero

/-- One lane replaced. -/
theorem ln_put (b : BitVec 32) (x y : (A 16).Idx → α) (k : ℕ) (hk : k < 16) :
    ln (select (cmpi .eq io (bi b)) x y) k = if k = b.toNat then ln x k else ln y k := by
  rw [ln_select]
  have : ln (cmpi .eq io (bi b)) k = 1 ↔ k = b.toNat := by
    show IntOp.cmpi .eq (ln io k) b = 1 ↔ _
    rw [cmpi_eq_one, ln_io k hk]
    constructor
    · rintro rfl; rw [ofNat_small (by omega)]
    · rintro rfl; exact BitVec.eq_of_toNat_eq (by rw [ofNat_small (by omega)])
  by_cases h : k = b.toNat
  · rw [if_pos (this.mpr h), if_pos h]
  · rw [if_neg (fun q => h (this.mp q)), if_neg h]

/-! ### The greatest lane and the lanes' sum -/

theorem foldl_max_le (g : ℕ → EReal) (a b : EReal) (n : ℕ) :
    (List.range n).foldl (fun a k => max a (g (k + 1))) a ≤ b ↔ a ≤ b ∧ ∀ k < n, g (k + 1) ≤ b := by
  induction n with
  | zero => simp
  | succ n ih =>
    rw [List.range_succ, List.foldl_append]
    show max _ _ ≤ b ↔ _
    rw [max_le_iff, ih]
    constructor
    · rintro ⟨⟨h1, h2⟩, h3⟩
      refine ⟨h1, fun k hk => ?_⟩
      rcases Nat.lt_succ_iff_lt_or_eq.mp hk with h | rfl
      exacts [h2 k h, h3]
    · rintro ⟨h1, h2⟩
      exact ⟨⟨h1, fun k hk => h2 k (by omega)⟩, h2 n (by omega)⟩

theorem vmax_le (v : VF Ideal) (b : EReal) : vmax v ≤ b ↔ ∀ k < 16, ln v k ≤ b := by
  have : vmax v = (List.range 15).foldl (fun a k => max a (ln v (k + 1))) (ln v 0) := rfl
  rw [this, foldl_max_le (ln v)]
  constructor
  · rintro ⟨h1, h2⟩ k hk
    rcases Nat.eq_zero_or_pos k with rfl | hp
    · exact h1
    · obtain ⟨j, rfl⟩ : ∃ j, k = j + 1 := ⟨k - 1, by omega⟩
      exact h2 j (by omega)
  · exact fun h => ⟨h 0 (by decide), fun k hk => h (k + 1) (by omega)⟩

theorem le_vmax (v : VF Ideal) {k : ℕ} (hk : k < 16) : ln v k ≤ vmax v := (vmax_le v _).mp le_rfl k hk

theorem vmax_mem (v : VF Ideal) : ∃ k < 16, ln v k = vmax v := by
  by_contra h
  push Not at h
  have h' : ∀ k < 16, ln v k < vmax v := fun k hk => lt_of_le_of_ne (le_vmax v hk) (h k hk)
  obtain ⟨k0, hk0, hm⟩ := Finset.exists_max_image (Finset.range 16) (ln v) ⟨0, by decide⟩
  have := (vmax_le v (ln v k0)).mpr fun k hk => hm k (Finset.mem_range.mpr hk)
  exact absurd (h' k0 (Finset.mem_range.mp hk0)) (not_lt.mpr this)

theorem foldl_add (g : ℕ → EReal) (n : ℕ) :
    (List.range n).foldl (fun a k => a + g (k + 1)) (g 0) = ∑ k ∈ Finset.range (n + 1), g k := by
  induction n with
  | zero => simp
  | succ n ih =>
    rw [List.range_succ, List.foldl_append, Finset.sum_range_succ, ← ih]
    rfl

theorem vsum_eq (v : VF Ideal) : vsum v = ∑ k ∈ Finset.range 16, ln v k := foldl_add (ln v) 15

theorem vcum_eq (v : VF Ideal) (k : ℕ) (hk : k < 16) : ln (vcum v) k = ∑ u ∈ Finset.range (k + 1), ln v u := by
  have key : ∀ n ≤ 15, ∀ k < 16,
      ((List.range n).foldl (fun (p : Ideal .f32 × VF Ideal) k =>
        (Scalar.addf p.1 (v (ix 16 (k + 1))),
          select (cmpi .eq io (bi (BitVec.ofNat 32 (k + 1)))) (bf (Scalar.addf p.1 (v (ix 16 (k + 1))))) p.2)) (v (ix 16 0), v)).1
        = ∑ u ∈ Finset.range (n + 1), ln v u ∧
      ln ((List.range n).foldl (fun (p : Ideal .f32 × VF Ideal) k =>
        (Scalar.addf p.1 (v (ix 16 (k + 1))),
          select (cmpi .eq io (bi (BitVec.ofNat 32 (k + 1)))) (bf (Scalar.addf p.1 (v (ix 16 (k + 1))))) p.2)) (v (ix 16 0), v)).2 k
        = if k ≤ n then ∑ u ∈ Finset.range (k + 1), ln v u else ln v k := by
    intro n
    induction n with
    | zero =>
      intro _ k _
      refine ⟨by simp [ln], ?_⟩
      by_cases h : k ≤ 0
      · obtain rfl : k = 0 := by omega
        simp [ln]
      · rw [if_neg h]; rfl
    | succ n ih =>
      intro hn k hk
      rw [List.range_succ, List.foldl_append]
      obtain ⟨i1, i2⟩ := ih (by omega) k hk
      refine ⟨?_, ?_⟩
      · rw [Finset.sum_range_succ _ (n + 1), ← i1]; rfl
      · rw [List.foldl_cons, List.foldl_nil]
        dsimp only
        rw [ln_put _ _ _ k hk, i2, i1, ofNat_small (by omega), ln_bf]
        by_cases h : k = n + 1
        · subst h
          rw [if_pos rfl, if_pos le_rfl, Finset.sum_range_succ _ (n + 1)]; rfl
        · rw [if_neg h]
          by_cases h' : k ≤ n
          · rw [if_pos h', if_pos (by omega)]
          · rw [if_neg h', if_neg (by omega)]
  have := (key 15 le_rfl k hk).2
  rw [if_pos (by omega)] at this
  exact this

/-- The first lane holding the greatest value. -/
theorem eQ_spec (mv : EReal) (v : VF Ideal) (last : BitVec 32) (hl : last.toNat < 16) (h : ∃ k ≤ last.toNat, ln v k = mv) :
    (eQ (F := Ideal) mv v last).toNat ≤ last.toNat ∧ ln v (eQ (F := Ideal) mv v last).toNat = mv
      ∧ ∀ k < (eQ (F := Ideal) mv v last).toNat, ln v k ≠ mv := by
  have hc : ∀ k, (cmpf .oeq v (bf mv) : IVec S16 1) (ix 16 k) = 1 ↔ ln v k = mv := fun k => ln_cmpf_oeq v (bf mv) k
  obtain ⟨h1, k0, hk0, h2⟩ := ffs_spec (cmpf .oeq v (bf mv)) last (by omega)
  have hle := ffs_le (cmpf .oeq v (bf mv)) last hl
  refine ⟨hle, ?_, ?_⟩
  · show ln v (ffs _ last).toNat = mv
    unfold off1st at h2
    by_cases hk : ln v k0 = mv
    · rw [if_pos ((hc k0).mpr hk)] at h2; rw [h2]; exact hk
    · rw [if_neg (fun q => hk ((hc k0).mp q))] at h2
      obtain ⟨k, hk1, hk2⟩ := h
      have := h1 k (by omega)
      unfold off1st at this
      rw [if_pos ((hc k).mpr hk2)] at this
      have : k = (ffs (cmpf .oeq v (bf mv)) last).toNat := by omega
      rw [← this]; exact hk2
  · intro k hk e
    have hk' : k < (ffs (cmpf .oeq v (bf mv)) last).toNat := hk
    have := h1 k (by omega)
    unfold off1st at this
    rw [if_pos ((hc k).mpr e)] at this
    omega

/-- A loop's invariant. -/
theorem iter_inv {σ : Type} (P : ℕ → σ → Prop) (g : ℕ → σ → σ) (a : σ) (n : ℕ) (h0 : P 0 a) (hs : ∀ i < n, ∀ p, P i p → P (i + 1) (g i p)) :
    P n (iter n g a) := by
  induction n with
  | zero => exact h0
  | succ n ih =>
    rw [iter_succ]
    exact hs n (by omega) _ (ih fun i hi => hs i (by omega))

end Cert.Proof.Val
-- ==== Proof.Soft.lean ====
module
public import proofs.«01_k».proof.Proof.Base
/-! The row's greatest element, its exponentials with their sum, and the maxima over blocks. -/
@[expose] public section
set_option pp.maxSteps 400
noncomputable section
namespace Cert.Proof.Val
open Idealize.ShloMosaic
open Cert.KernelIdeal Cert.Proof.Mem
open scoped Classical
variable [Facts]
attribute [local irreducible] iter

/-- The greatest of sixteen. -/
def hmx (f : ℕ → EReal) (t : ℕ) : EReal := (Finset.range 16).sup fun k => f (16 * t + k)

theorem hmx_le (f : ℕ → EReal) (t : ℕ) (b : EReal) : hmx f t ≤ b ↔ ∀ k < 16, f (16 * t + k) ≤ b := by
  unfold hmx
  rw [Finset.sup_le_iff]
  exact ⟨fun h k hk => h k (Finset.mem_range.mpr hk), fun h k hk => h k (Finset.mem_range.mp hk)⟩

theorem vmax_hmx (v : VF Ideal) (f : ℕ → EReal) (t : ℕ) (h : ∀ k < 16, ln v k = f (16 * t + k)) : vmax v = hmx f t := by
  refine eq_of_forall_ge_iff fun b => ?_
  rw [vmax_le, hmx_le]
  exact ⟨fun q k hk => h k hk ▸ q k hk, fun q k hk => (h k hk).symm ▸ q k hk⟩

theorem hmx_congr {f g : ℕ → EReal} {t : ℕ} (h : ∀ k < 16, f (16 * t + k) = g (16 * t + k)) : hmx f t = hmx g t :=
  Finset.sup_congr rfl fun k hk => h k (Finset.mem_range.mp hk)

/-- The maxima of maxima as the extraction keeps them. -/
structure Hier (S M1 M2 M3 : ℕ → EReal) : Prop where
  a : ∀ t < 2048, M1 t = hmx S t
  b : ∀ t < 128, M2 t = hmx M1 t
  c : ∀ q < 8, M3 q = hmx M2 q
  d : ∀ q, 8 ≤ q → q < 16 → M3 q = ⊥

theorem p1_le (s : (A 32768).Idx → EReal) (b : EReal) :
    vmax (p1v (p1all (F := Ideal) s)) ≤ b ↔ ∀ i < 32768, ln s i ≤ b := by
  have key := iter_inv (fun n (a : VF Ideal × VF Ideal × VF Ideal × VF Ideal) => ∀ k < 16,
      (ln a.1 k ≤ b ↔ ∀ g < n, ln s (64 * g + k) ≤ b) ∧ (ln a.2.1 k ≤ b ↔ ∀ g < n, ln s (64 * g + 16 + k) ≤ b)
      ∧ (ln a.2.2.1 k ≤ b ↔ ∀ g < n, ln s (64 * g + 32 + k) ≤ b) ∧ (ln a.2.2.2 k ≤ b ↔ ∀ g < n, ln s (64 * g + 48 + k) ≤ b))
    (p1 (F := Ideal) s) (ninf, ninf, ninf, ninf) 512
    (fun k _ => by
      dsimp only
      rw [ln_ninf]
      exact ⟨⟨fun _ g hg => absurd hg (by omega), fun _ => bot_le⟩, ⟨fun _ g hg => absurd hg (by omega), fun _ => bot_le⟩,
        ⟨fun _ g hg => absurd hg (by omega), fun _ => bot_le⟩, ⟨fun _ g hg => absurd hg (by omega), fun _ => bot_le⟩⟩)
    (fun i _ p hp k hk => by
      have st : ∀ (c x : EReal) (f : ℕ → EReal) (hx : x = f i), (c ≤ b ↔ ∀ g < i, f g ≤ b) → (max c x ≤ b ↔ ∀ g < i + 1, f g ≤ b) := by
        intro c x f hx h
        rw [max_le_iff, h, hx]
        constructor
        · rintro ⟨h1, h2⟩ g hg
          rcases Nat.lt_succ_iff_lt_or_eq.mp hg with q | rfl
          exacts [h1 g q, h2]
        · exact fun q => ⟨fun g hg => q g (by omega), q i (by omega)⟩
      obtain ⟨h1, h2, h3, h4⟩ := hp k hk
      exact ⟨st _ _ (fun g => ln s (64 * g + k)) (ln_ld s _ k hk) h1, st _ _ (fun g => ln s (64 * g + 16 + k)) (ln_ld s _ k hk) h2,
        st _ _ (fun g => ln s (64 * g + 32 + k)) (ln_ld s _ k hk) h3, st _ _ (fun g => ln s (64 * g + 48 + k)) (ln_ld s _ k hk) h4⟩)
  rw [vmax_le]
  have e : ∀ a : VF Ideal × VF Ideal × VF Ideal × VF Ideal, ∀ k, ln (p1v a) k = max (max (ln a.1 k) (ln a.2.1 k)) (max (ln a.2.2.1 k) (ln a.2.2.2 k)) := fun _ _ => rfl
  constructor
  · intro h i hi
    have h16 : i % 16 < 16 := Nat.mod_lt _ (by decide)
    have := h (i % 16) h16
    rw [e, max_le_iff, max_le_iff, max_le_iff] at this
    obtain ⟨k1, k2, k3, k4⟩ := key (i % 16) h16
    have hg : i / 64 < 512 := by omega
    have hc : i % 64 / 16 = 0 ∨ i % 64 / 16 = 1 ∨ i % 64 / 16 = 2 ∨ i % 64 / 16 = 3 := by omega
    rcases hc with q | q | q | q
    · have := k1.mp this.1.1 _ hg
      rwa [show 64 * (i / 64) + i % 16 = i by omega] at this
    · have := k2.mp this.1.2 _ hg
      rwa [show 64 * (i / 64) + 16 + i % 16 = i by omega] at this
    · have := k3.mp this.2.1 _ hg
      rwa [show 64 * (i / 64) + 32 + i % 16 = i by omega] at this
    · have := k4.mp this.2.2 _ hg
      rwa [show 64 * (i / 64) + 48 + i % 16 = i by omega] at this
  · intro h k hk
    obtain ⟨k1, k2, k3, k4⟩ := key k hk
    rw [e, max_le_iff, max_le_iff, max_le_iff]
    exact ⟨⟨k1.mpr fun g hg => h _ (by omega), k2.mpr fun g hg => h _ (by omega)⟩,
      k3.mpr fun g hg => h _ (by omega), k4.mpr fun g hg => h _ (by omega)⟩

theorem p2in_inv (X : ℕ → EReal) (M : EReal) (h : ℕ) (hh : h < 128) (a0 a1 : VF Ideal) (m : Mem Ideal)
    (hs : ∀ i < 32768, ln m.s i = if i < 256 * h then expo X M i else X i) :
    let r := iter 16 (p2in (F := Ideal) M h) ((a0, a1, ninf), m)
    (∀ l < 16, ln r.1.1 l + ln r.1.2.1 l = ln a0 l + ln a1 l + ∑ i ∈ Finset.range 16, expo X M (256 * h + 16 * i + l))
    ∧ (∀ l < 16, ln r.1.2.2 l = hmx (expo X M) (16 * h + l))
    ∧ (∀ i < 32768, ln r.2.s i = if i < 256 * h + 256 then expo X M i else X i)
    ∧ r.2.m1 = m.m1 := by
  intro r
  have key := iter_inv (fun k (r : (VF Ideal × VF Ideal × VF Ideal) × Mem Ideal) =>
      (∀ l < 16, ln r.1.1 l + ln r.1.2.1 l = ln a0 l + ln a1 l + ∑ i ∈ Finset.range k, expo X M (256 * h + 16 * i + l))
      ∧ (∀ l < k, ln r.1.2.2 l = hmx (expo X M) (16 * h + l))
      ∧ (∀ i < 32768, ln r.2.s i = if i < 256 * h + 16 * k then expo X M i else X i)
      ∧ r.2.m1 = m.m1)
    (p2in (F := Ideal) M h) ((a0, a1, ninf), m) 16
    ⟨fun l _ => by simp, fun l hl => absurd hl (by omega), fun i hi => by rw [hs i hi, Nat.mul_zero, Nat.add_zero], rfl⟩
    (fun k hk p => by
      rintro ⟨h1, h2, h3, h4⟩
      have hv : ∀ l < 16, ln (exp (subf (ld p.2.s (256 * h + 16 * k)) (bf M)) : VF Ideal) l = expo X M (256 * h + 16 * k + l) := by
        intro l hl
        rw [ln_expsub, ln_ld _ _ _ hl, ln_bf, h3 _ (by omega), if_neg (by omega)]
        rfl
      refine ⟨?_, ?_, ?_, h4⟩
      · intro l hl
        have e : ln (p2in (F := Ideal) M h k p).1.1 l + ln (p2in (F := Ideal) M h k p).1.2.1 l
            = ln p.1.2.1 l + (ln p.1.1 l + ln (exp (subf (ld p.2.s (256 * h + 16 * k)) (bf M)) : VF Ideal) l) := rfl
        rw [e, hv l hl, Finset.sum_range_succ, ← add_assoc _ (∑ _ ∈ _, _), ← h1 l hl, ← add_assoc, add_comm (ln p.1.2.1 l)]
      · intro l hl
        have e : ln (p2in (F := Ideal) M h k p).1.2.2 l
            = ln (select (cmpi .eq io (bi (BitVec.ofNat 32 k))) (bf (vmax (exp (subf (ld p.2.s (256 * h + 16 * k)) (bf M))))) p.1.2.2) l := rfl
        rw [e, ln_put _ _ _ _ (by omega), ofNat_small (by omega)]
        by_cases q : l = k
        · subst q
          rw [if_pos rfl, ln_bf]
          exact vmax_hmx _ _ _ fun j hj => by rw [hv j hj]; congr 1; omega
        · rw [if_neg q, h2 l (by omega)]
      · intro i hi
        have e : ln (p2in (F := Ideal) M h k p).2.s i
            = ln (sd p.2.s (256 * h + 16 * k) (exp (subf (ld p.2.s (256 * h + 16 * k)) (bf M)) : VF Ideal)) i := rfl
        rw [e, ln_sd _ _ _ _ hi]
        by_cases q : 256 * h + 16 * k ≤ i ∧ i < 256 * h + 16 * k + 16
        · rw [if_pos q, hv _ (by omega), if_pos (by omega)]
          congr 1; omega
        · rw [if_neg q, h3 i hi]
          by_cases q' : i < 256 * h + 16 * k
          · rw [if_pos q', if_pos (by omega)]
          · rw [if_neg q', if_neg (by omega)])
  exact ⟨key.1, key.2.1, fun i hi => key.2.2.1 i hi, key.2.2.2⟩

theorem p2all_inv (M : EReal) (m : Mem Ideal) :
    let X := ln m.s
    let r := p2all (F := Ideal) M m
    (∀ l < 16, ln r.1.1 l + ln r.1.2 l = ∑ h ∈ Finset.range 128, ∑ i ∈ Finset.range 16, expo X M (256 * h + 16 * i + l))
    ∧ (∀ t < 2048, ln r.2.m1 t = hmx (expo X M) t)
    ∧ (∀ i < 32768, ln r.2.s i = expo X M i) := by
  intro X r
  have key := iter_inv (fun n (r : (VF Ideal × VF Ideal) × Mem Ideal) =>
      (∀ l < 16, ln r.1.1 l + ln r.1.2 l = ∑ h ∈ Finset.range n, ∑ i ∈ Finset.range 16, expo X M (256 * h + 16 * i + l))
      ∧ (∀ t < 16 * n, ln r.2.m1 t = hmx (expo X M) t)
      ∧ (∀ i < 32768, ln r.2.s i = if i < 256 * n then expo X M i else X i))
    (p2out (F := Ideal) M) ((zf, zf), m) 128
    ⟨fun l _ => by simp [ln_zf], fun t ht => absurd ht (by omega), fun i _ => by rw [if_neg (by omega)]⟩
    (fun h hh p => by
      rintro ⟨h1, h2, h3⟩
      obtain ⟨k1, k2, k3, k4⟩ := p2in_inv X M h hh p.1.1 p.1.2 p.2 h3
      refine ⟨fun l hl => ?_, fun t ht => ?_, fun i hi => ?_⟩
      · rw [Finset.sum_range_succ, ← h1 l hl]
        exact k1 l hl
      · have e : ln (p2out (F := Ideal) M h p).2.m1 t
            = ln (sd (iter 16 (p2in (F := Ideal) M h) ((p.1.1, p.1.2, ninf), p.2)).2.m1 (16 * h)
                (iter 16 (p2in (F := Ideal) M h) ((p.1.1, p.1.2, ninf), p.2)).1.2.2) t := rfl
        rw [e, ln_sd _ _ _ _ (by omega)]
        by_cases q : 16 * h ≤ t ∧ t < 16 * h + 16
        · rw [if_pos q, k2 _ (by omega)]
          congr 1; omega
        · rw [if_neg q, k4, h2 t (by omega)]
      · have := k3 i hi
        rw [show 256 * (h + 1) = 256 * h + 256 by omega]
        exact this)
  exact ⟨key.1, fun t ht => key.2.1 t (by omega), fun i hi => (key.2.2 i hi).trans (if_pos (by omega))⟩

theorem m2all_inv (m : Mem Ideal) :
    (∀ t < 128, ln (m2all m).m2 t = hmx (ln m.m1) t) ∧ (m2all m).s = m.s ∧ (m2all m).m1 = m.m1 := by
  have inn : ∀ (f : (A 2048).Idx → EReal) (q : ℕ), q < 8 → ∀ l < 16, ln (iter 16 (m2in (F := Ideal) f q) ninf) l = hmx (ln f) (16 * q + l) := by
    intro f q hq
    exact iter_inv (fun k (v : VF Ideal) => ∀ l < k, ln v l = hmx (ln f) (16 * q + l)) (m2in (F := Ideal) f q) ninf 16
      (fun l hl => absurd hl (by omega))
      (fun k hk v hv l hl => by
        have e : ln (m2in (F := Ideal) f q k v) l
          = ln (select (cmpi .eq io (bi (BitVec.ofNat 32 k))) (bf (vmax (F := Ideal) (ld f (256 * q + 16 * k)))) v) l := rfl
        rw [e, ln_put _ _ _ _ (by omega), ofNat_small (by omega)]
        by_cases c : l = k
        · subst c
          rw [if_pos rfl, ln_bf]
          exact vmax_hmx _ _ _ fun j hj => by rw [ln_ld _ _ _ hj]; congr 1; omega
        · rw [if_neg c, hv l (by omega)])
  have key := iter_inv (fun n (p : BitVec 32 × Mem Ideal) =>
      (∀ t < 16 * n, ln p.2.m2 t = hmx (ln m.m1) t) ∧ p.2.s = m.s ∧ p.2.m1 = m.m1)
    m2out (0#32, m) 8 ⟨fun t ht => absurd ht (by omega), rfl, rfl⟩
    (fun q hq p => by
      rintro ⟨h1, h2, h3⟩
      refine ⟨fun t ht => ?_, h2, h3⟩
      have e : ln (m2out (F := Ideal) q p).2.m2 t = ln (sd p.2.m2 (16 * q) (iter 16 (m2in (F := Ideal) p.2.m1 q) (ninf (F := Ideal)))) t := rfl
      rw [e, ln_sd _ _ _ _ (by omega)]
      by_cases c : 16 * q ≤ t ∧ t < 16 * q + 16
      · rw [if_pos c, inn _ q hq _ (by omega), h3]
        congr 1; omega
      · rw [if_neg c, h1 t (by omega)])
  exact ⟨fun t ht => key.1 t (by omega), key.2⟩

theorem m3all_inv (m : Mem Ideal) :
    (∀ q < 8, ln (m3all m) q = hmx (ln m.m2) q) ∧ ∀ q, 8 ≤ q → q < 16 → ln (m3all m) q = ⊥ := by
  have key := iter_inv (fun n (v : VF Ideal) => (∀ q < n, ln v q = hmx (ln m.m2) q) ∧ ∀ q, n ≤ q → q < 16 → ln v q = ⊥)
    (m3in (F := Ideal) m.m2) ninf 8 ⟨fun t ht => absurd ht (by omega), fun q _ _ => ln_ninf q⟩
    (fun k hk v => by
      rintro ⟨h1, h2⟩
      have e : ∀ l < 16, ln (m3in (F := Ideal) m.m2 k v) l = if l = k then vmax (F := Ideal) (ld m.m2 (16 * k)) else ln v l := by
        intro l hl
        have e : ln (m3in (F := Ideal) m.m2 k v) l = ln (select (cmpi .eq io (bi (BitVec.ofNat 32 k))) (bf (vmax (F := Ideal) (ld m.m2 (16 * k)))) v) l := rfl
        rw [e, ln_put _ _ _ _ hl, ofNat_small (by omega), ln_bf]
      refine ⟨fun q hq => ?_, fun q hq hq' => ?_⟩
      · rw [e q (by omega)]
        by_cases c : q = k
        · subst c
          rw [if_pos rfl]
          exact vmax_hmx _ _ _ fun j hj => ln_ld _ _ _ hj
        · rw [if_neg c, h1 q (by omega)]
      · rw [e q hq', if_neg (by omega), h2 q (by omega) hq'])
  exact key

/-- The row's greatest element. -/
abbrev rM (m : Mem Ideal) : EReal := vmax (F := Ideal) (p1v (p1all m.s))
/-- The row's exponentials. -/
abbrev rEx (m : Mem Ideal) : ℕ → EReal := expo (ln m.s) (rM m)

theorem rA_s (m : Mem Ideal) : ∀ i < 32768, ln (rA m).s i = rEx m i := by
  intro i hi
  have h := (m2all_inv (rE m).2).2.1
  have : (rA m).s = (rE m).2.s := h
  rw [this]
  exact (p2all_inv (rM m) m).2.2 i hi

theorem rS_eq (m : Mem Ideal) : rS m = ∑ i ∈ Finset.range 32768, rEx m i := by
  have h := (p2all_inv (rM m) m).1
  unfold rS
  rw [vsum_eq]
  have e : ∀ l ∈ Finset.range 16, ln (addf (rE m).1.1 (rE m).1.2) l
      = ∑ h ∈ Finset.range 128, ∑ i ∈ Finset.range 16, rEx m (256 * h + 16 * i + l) := fun l hl => h l (Finset.mem_range.mp hl)
  rw [Finset.sum_congr rfl e, Finset.sum_comm]
  refine Eq.symm ((congrArg (fun n => ∑ j ∈ Finset.range n, rEx m j) (show 32768 = 256 * 128 by norm_num)).trans ?_)
  refine (sum_split (rEx m) 256 128).trans (Finset.sum_congr rfl fun h _ => ?_)
  refine Eq.symm (Eq.trans Finset.sum_comm (Eq.symm ?_))
  refine (congrArg (fun n => ∑ j ∈ Finset.range n, rEx m (256 * h + j)) (show 256 = 16 * 16 by norm_num)).trans ?_
  refine (sum_split (fun j => rEx m (256 * h + j)) 16 16).trans ?_
  refine Finset.sum_congr rfl fun i _ => Finset.sum_congr rfl fun l _ => ?_
  congr 1; omega

theorem rA_hier (m : Mem Ideal) : Hier (ln (rA m).s) (ln (rA m).m1) (ln (rA m).m2) (ln (m3all (rA m))) := by
  obtain ⟨h1, h2, h3⟩ := m2all_inv (rE m).2
  obtain ⟨-, k2, k3⟩ := p2all_inv (rM m) m
  obtain ⟨j1, j2⟩ := m3all_inv (rA m)
  refine ⟨fun t ht => ?_, fun t ht => ?_, j1, j2⟩
  · have : (rA m).m1 = (rE m).2.m1 := h3
    rw [this]
    refine (k2 t ht).trans (hmx_congr fun k hk => ?_)
    exact (rA_s m _ (by omega)).symm
  · have : (rA m).m1 = (rE m).2.m1 := h3
    rw [this]
    exact h1 t ht

end Cert.Proof.Val
-- ==== Proof.Pick.lean ====
module
public import proofs.«01_k».proof.Proof.Soft
/-! One extraction: the first of the greatest elements found through the maxima over blocks, and taken out. -/
@[expose] public section
set_option pp.maxSteps 400
noncomputable section
namespace Cert.Proof.Val
open Idealize.ShloMosaic
open Cert.KernelIdeal Cert.Proof.Mem
open scoped Classical
variable [Facts]
attribute [local irreducible] iter

theorem fdiv16_eq (a : BitVec 32) (h : a.toNat < 2 ^ 31) : fdiv16 a = BitVec.ofNat 32 (a.toNat / 16) := by
  have hm : a.msb = false := by rw [BitVec.msb_eq_false_iff_two_mul_lt]; omega
  have hd : Scalar.divsi a 16#32 = BitVec.ofNat 32 (a.toNat / 16) := by
    show IntOp.divsi .scalar a 16#32 = _
    unfold IntOp.divsi
    rw [if_neg (by simp [IntOp.SDivCorner])]
    rw [BitVec.sdiv_eq, hm, show (16#32).msb = false by decide]
    apply BitVec.eq_of_toNat_eq
    show (a / 16#32).toNat = _
    rw [BitVec.toNat_udiv]
    exact (ofNat_small (k := a.toNat / 16) (by omega)).symm
  have hr : Scalar.remsi a 16#32 = BitVec.ofNat 32 (a.toNat % 16) := by
    show IntOp.remsi .scalar a 16#32 = _
    unfold IntOp.remsi
    rw [if_neg (by simp [IntOp.SDivCorner])]
    rw [BitVec.srem_eq, hm, show (16#32).msb = false by decide]
    apply BitVec.eq_of_toNat_eq
    show (a % 16#32).toNat = _
    rw [BitVec.toNat_umod]
    exact (ofNat_small (k := a.toNat % 16) (by omega)).symm
  have hc : Scalar.andi
    (Scalar.cmpi .ne
      (Scalar.subi (Scalar.extui (Scalar.cmpi .sgt a 0#32)) (Scalar.extui (Scalar.cmpi .slt a 0#32)))
      (Scalar.subi (Scalar.extui (Scalar.cmpi .sgt 16#32 0#32)) (Scalar.extui (Scalar.cmpi .slt 16#32 0#32))))
    (Scalar.cmpi .ne (Scalar.remsi a 16#32) 0#32) ≠ 1 := by
    intro q
    rw [hr] at q
    obtain ⟨q1, q2⟩ := (bit_and _ _).mp q
    have q1 := (cmpi_ne_one _ _).mp q1
    have q2 := (cmpi_ne_one _ _).mp q2
    have hp : 0 < a.toNat := by
      by_contra hz
      apply q2
      rw [show a.toNat % 16 = 0 by omega]
    apply q1
    have e1 : Scalar.cmpi .sgt a 0#32 = 1#1 := (cmpi_sgt_one a 0#32 h (by decide)).mpr hp
    have e2 : Scalar.cmpi .slt a 0#32 = 0#1 := by
      have : ¬ Scalar.cmpi .slt a 0#32 = 1#1 := fun q => absurd ((cmpi_slt_one a 0#32 h (by decide)).mp q) (by simp)
      revert this
      generalize Scalar.cmpi .slt a 0#32 = b
      revert b; decide
    rw [e1, e2]
    decide
  unfold fdiv16 Scalar.select
  rw [if_neg hc, hd]

theorem rem16_eq (a : BitVec 32) (h : a.toNat < 2 ^ 31) : Scalar.subi a (Scalar.muli (fdiv16 a) 16#32) = BitVec.ofNat 32 (a.toNat % 16) := by
  rw [fdiv16_eq a h]
  apply BitVec.eq_of_toNat_eq
  show (a - BitVec.ofNat 32 (a.toNat / 16) * 16#32).toNat = _
  rw [BitVec.toNat_sub, BitVec.toNat_mul, ofNat_small (k := a.toNat / 16) (by omega), ofNat_small (k := a.toNat % 16) (by omega), show (16#32 : BitVec 32).toNat = 16 from rfl]
  omega

theorem ln_at (j c : ℕ) (hj : j < 64) (hc : c < 4) (k : ℕ) (hk : k < 16) :
    ln (at_ (BitVec.ofNat 32 j) (BitVec.ofNat 32 c)) k = 1 ↔ j = 16 * c + k := by
  unfold at_
  have hjn : (BitVec.ofNat 32 j).toNat = j := ofNat_small (by omega)
  rw [rem16_eq _ (by omega), fdiv16_eq _ (by omega), ln_andi, bit_and, hjn]
  have e1 : ln (broadcast S16 (Scalar.cmpi .eq (BitVec.ofNat 32 (j / 16)) (BitVec.ofNat 32 c))) k = 1 ↔ j / 16 = c := by
    refine (cmpi_eq_one _ _).trans ⟨fun q => ?_, fun q => q ▸ rfl⟩
    have := congrArg BitVec.toNat q
    rwa [ofNat_small (by omega), ofNat_small (by omega)] at this
  have e2 : ln (cmpi .eq io (bi (BitVec.ofNat 32 (j % 16)))) k = 1 ↔ j % 16 = k := by
    refine (cmpi_eq_one (ln io k) _).trans ?_
    rw [ln_io k hk]
    constructor
    · intro q
      change BitVec.ofNat 32 k = BitVec.ofNat 32 (j % 16) at q
      have := congrArg BitVec.toNat q
      rw [ofNat_small (by omega), ofNat_small (by omega)] at this
      exact this.symm
    · rintro rfl; rfl
  rw [e1, e2]
  omega

theorem hmx_mem (f : ℕ → EReal) (t : ℕ) : ∃ k < 16, f (16 * t + k) = hmx f t := by
  by_contra h
  push Not at h
  obtain ⟨k0, hk0, hm⟩ := Finset.exists_max_image (Finset.range 16) (fun k => f (16 * t + k)) ⟨0, by decide⟩
  have := (hmx_le f t (f (16 * t + k0))).mpr fun k hk => hm k (Finset.mem_range.mpr hk)
  exact h k0 (Finset.mem_range.mp hk0) (le_antisymm ((hmx_le f t _).mp le_rfl k0 (Finset.mem_range.mp hk0)) this)

theorem le_hmx (f : ℕ → EReal) (i : ℕ) : f i ≤ hmx f (i / 16) := by
  have := (hmx_le f (i / 16) _).mp le_rfl (i % 16) (Nat.mod_lt _ (by decide))
  rwa [show 16 * (i / 16) + i % 16 = i by omega] at this

theorem hmx_upd {f g : ℕ → EReal} {t i : ℕ} (h : ∀ k, k ≠ i → k / 16 = t → g k = f k) (ht : t ≠ i / 16) : hmx g t = hmx f t :=
  hmx_congr fun k hk => h _ (by omega) (by omega)

/-! ### What a step finds -/

def xv (p : Ext Ideal × Mem Ideal) : EReal := vmax (F := Ideal) p.1.1
def xq (p : Ext Ideal × Mem Ideal) : BitVec 32 := eQ (F := Ideal) (xv p) p.1.1 7#32
def xh (p : Ext Ideal × Mem Ideal) : BitVec 32 := eQ (F := Ideal) (xv p) (ld p.2.m2 (16 * (xq p).toNat)) 15#32
def xg (p : Ext Ideal × Mem Ideal) : BitVec 32 := eQ (F := Ideal) (xv p) (ld p.2.m1 (256 * (xq p).toNat + 16 * (xh p).toNat)) 15#32
def xe (p : Ext Ideal × Mem Ideal) : BitVec 32 :=
  eQ (F := Ideal) (xv p) (ld p.2.s (4096 * (xq p).toNat + 256 * (xh p).toNat + 16 * (xg p).toNat)) 15#32
/-- The place found. -/
def xi (p : Ext Ideal × Mem Ideal) : ℕ := 4096 * (xq p).toNat + 256 * (xh p).toNat + 16 * (xg p).toNat + (xe p).toNat

theorem find_spec (p : Ext Ideal × Mem Ideal) (H : Hier (ln p.2.s) (ln p.2.m1) (ln p.2.m2) (ln p.1.1))
    (hpos : ∀ i < 32768, ⊥ < ln p.2.s i) :
    (xq p).toNat < 8 ∧ (xh p).toNat < 16 ∧ (xg p).toNat < 16 ∧ (xe p).toNat < 16
    ∧ ln p.2.s (xi p) = xv p ∧ (∀ i < 32768, ln p.2.s i ≤ xv p) ∧ ∀ i < xi p, ln p.2.s i ≠ xv p := by
  have l1 : ∀ i < 32768, ln p.2.s i ≤ ln p.2.m1 (i / 16) := fun i hi => by rw [H.a _ (by omega)]; exact le_hmx _ _
  have l2 : ∀ i < 2048, ln p.2.m1 i ≤ ln p.2.m2 (i / 16) := fun i hi => by rw [H.b _ (by omega)]; exact le_hmx _ _
  have l3 : ∀ i < 128, ln p.2.m2 i ≤ ln p.1.1 (i / 16) := fun i hi => by rw [H.c _ (by omega)]; exact le_hmx _ _
  have l4 : ∀ k < 16, ln p.1.1 k ≤ xv p := fun k hk => le_vmax _ hk
  have hgt : ⊥ < xv p := lt_of_lt_of_le (hpos 0 (by decide)) ((l1 0 (by decide)).trans ((l2 0 (by decide)).trans ((l3 0 (by decide)).trans (l4 0 (by decide)))))
  obtain ⟨k0, hk0, hv0⟩ := vmax_mem p.1.1
  have hk8 : k0 < 8 := by
    by_contra hc
    rw [H.d k0 (by omega) hk0] at hv0
    exact absurd hv0 hgt.ne
  obtain ⟨q1, q2, q3⟩ := eQ_spec (xv p) p.1.1 7#32 (by decide) ⟨k0, by show k0 ≤ 7; omega, hv0⟩
  change (xq p).toNat ≤ 7 at q1
  change ln p.1.1 (xq p).toNat = xv p at q2
  change ∀ k < (xq p).toNat, _ at q3
  obtain ⟨k1, hk1, hv1⟩ := hmx_mem (ln p.2.m2) (xq p).toNat
  rw [← H.c _ (by omega), q2] at hv1
  obtain ⟨h1, h2, h3⟩ := eQ_spec (xv p) (ld p.2.m2 (16 * (xq p).toNat)) 15#32 (by decide)
    ⟨k1, by show k1 ≤ 15; omega, by rw [ln_ld _ _ _ hk1]; exact hv1⟩
  change (xh p).toNat ≤ 15 at h1
  change ln _ (xh p).toNat = xv p at h2
  change ∀ k < (xh p).toNat, _ at h3
  rw [ln_ld _ _ _ (by omega)] at h2
  obtain ⟨k2, hk2, hv2⟩ := hmx_mem (ln p.2.m1) (16 * (xq p).toNat + (xh p).toNat)
  rw [← H.b _ (by omega), h2, show 16 * (16 * (xq p).toNat + (xh p).toNat) = 256 * (xq p).toNat + 16 * (xh p).toNat by omega] at hv2
  obtain ⟨g1, g2, g3⟩ := eQ_spec (xv p) (ld p.2.m1 (256 * (xq p).toNat + 16 * (xh p).toNat)) 15#32 (by decide)
    ⟨k2, by show k2 ≤ 15; omega, by rw [ln_ld _ _ _ hk2]; exact hv2⟩
  change (xg p).toNat ≤ 15 at g1
  change ln _ (xg p).toNat = xv p at g2
  change ∀ k < (xg p).toNat, _ at g3
  rw [ln_ld _ _ _ (by omega)] at g2
  obtain ⟨k3, hk3, hv3⟩ := hmx_mem (ln p.2.s) (256 * (xq p).toNat + 16 * (xh p).toNat + (xg p).toNat)
  rw [← H.a _ (by omega), g2, show 16 * (256 * (xq p).toNat + 16 * (xh p).toNat + (xg p).toNat)
    = 4096 * (xq p).toNat + 256 * (xh p).toNat + 16 * (xg p).toNat by omega] at hv3
  obtain ⟨e1, e2, e3⟩ := eQ_spec (xv p) (ld p.2.s (4096 * (xq p).toNat + 256 * (xh p).toNat + 16 * (xg p).toNat)) 15#32 (by decide)
    ⟨k3, by show k3 ≤ 15; omega, by rw [ln_ld _ _ _ hk3]; exact hv3⟩
  change (xe p).toNat ≤ 15 at e1
  change ln _ (xe p).toNat = xv p at e2
  change ∀ k < (xe p).toNat, _ at e3
  rw [ln_ld _ _ _ (by omega)] at e2
  refine ⟨by omega, by omega, by omega, by omega, e2, fun i hi => ?_, fun i hi he => ?_⟩
  · exact (l1 i hi).trans ((l2 _ (by omega)).trans ((l3 _ (by omega)).trans (l4 _ (by omega))))
  · have hxi : xi p = 4096 * (xq p).toNat + 256 * (xh p).toNat + 16 * (xg p).toNat + (xe p).toNat := rfl
    have hi' : i < 32768 := by omega
    have b1 := l1 i hi'
    have b2 := l2 (i / 16) (by omega)
    have b3 := l3 (i / 16 / 16) (by omega)
    have b4 := l4 (i / 16 / 16 / 16) (by omega)
    rw [he] at b1
    have c1 : ln p.2.m1 (i / 16) = xv p := le_antisymm (b2.trans (b3.trans b4)) b1
    have c2 : ln p.2.m2 (i / 16 / 16) = xv p := le_antisymm (b3.trans b4) (b1.trans b2)
    have c3 : ln p.1.1 (i / 16 / 16 / 16) = xv p := le_antisymm b4 (b1.trans (b2.trans b3))
    have d1 : (xq p).toNat ≤ i / 16 / 16 / 16 := by
      by_contra hc
      exact q3 _ (by omega) c3
    have d2 : 16 * (xq p).toNat + (xh p).toNat ≤ i / 16 / 16 := by
      by_contra hc
      refine h3 (i / 16 / 16 - 16 * (xq p).toNat) (by omega) ?_
      rw [ln_ld _ _ _ (by omega), ← c2]
      congr 1; omega
    have d3 : 256 * (xq p).toNat + 16 * (xh p).toNat + (xg p).toNat ≤ i / 16 := by
      by_contra hc
      refine g3 (i / 16 - (256 * (xq p).toNat + 16 * (xh p).toNat)) (by omega) ?_
      rw [ln_ld _ _ _ (by omega), ← c1]
      congr 1; omega
    refine e3 (i - (4096 * (xq p).toNat + 256 * (xh p).toNat + 16 * (xg p).toNat)) (by omega) ?_
    rw [ln_ld _ _ _ (by omega), ← he]
    congr 1; omega

end Cert.Proof.Val
-- ==== Proof.Take.lean ====
module
public import proofs.«01_k».proof.Proof.Pick
/-! Sixty-four extractions give the sixty-four first ranks. -/
@[expose] public section
set_option pp.maxSteps 400
noncomputable section
namespace Cert.Proof.Val
open Idealize.ShloMosaic
open Cert.KernelIdeal Cert.Proof.Mem
open scoped Classical
variable [Facts]
attribute [local irreducible] iter

/-- What stands in a place once taken. -/
def mark : EReal := Ideal.ofBits .f32 0xBF800000#32
theorem mark_neg : mark < 0 := bits_mone
theorem bot_mark : ⊥ < mark := bits_mone'

def xve (p : Ext Ideal × Mem Ideal) : VF Ideal :=
  select (cmpi .eq io (bi (xe p))) (bf (Scalar.ofBits .f32 0xBF800000#32))
    (ld p.2.s (4096 * (xq p).toNat + 256 * (xh p).toNat + 16 * (xg p).toNat))
def xhh (p : Ext Ideal × Mem Ideal) : BitVec 32 := Scalar.addi (Scalar.muli (xq p) 16#32) (xh p)
def xgg (p : Ext Ideal × Mem Ideal) : BitVec 32 := Scalar.addi (Scalar.muli (xhh p) 16#32) (xg p)
def xff (p : Ext Ideal × Mem Ideal) : BitVec 32 := Scalar.addi (Scalar.muli (xgg p) 16#32) (xe p)
def xv1 (p : Ext Ideal × Mem Ideal) : VF Ideal :=
  select (cmpi .eq io (bi (Scalar.subi (xgg p) (Scalar.muli (fdiv16 (xgg p)) 16#32)))) (bf (vmax (xve p)))
    (ld p.2.m1 (256 * (xq p).toNat + 16 * (xh p).toNat))
def xv2 (p : Ext Ideal × Mem Ideal) : VF Ideal :=
  select (cmpi .eq io (bi (Scalar.subi (xhh p) (Scalar.muli (xq p) 16#32)))) (bf (vmax (xv1 p))) (ld p.2.m2 (16 * (xq p).toNat))
def xv3 (p : Ext Ideal × Mem Ideal) : VF Ideal := select (cmpi .eq io (bi (xq p))) (bf (vmax (xv2 p))) p.1.1

theorem st_s (j : ℕ) (p : Ext Ideal × Mem Ideal) :
    (extStep j p).2.s = sd p.2.s (4096 * (xq p).toNat + 256 * (xh p).toNat + 16 * (xg p).toNat) (xve p) := rfl
theorem st_m1 (j : ℕ) (p : Ext Ideal × Mem Ideal) : (extStep j p).2.m1 = sd p.2.m1 (256 * (xq p).toNat + 16 * (xh p).toNat) (xv1 p) := rfl
theorem st_m2 (j : ℕ) (p : Ext Ideal × Mem Ideal) : (extStep j p).2.m2 = sd p.2.m2 (16 * (xq p).toNat) (xv2 p) := rfl
theorem st_m3 (j : ℕ) (p : Ext Ideal × Mem Ideal) : (extStep j p).1.1 = xv3 p := rfl
theorem st_tk (j : ℕ) (p : Ext Ideal × Mem Ideal) : (extStep j p).2.tk = p.2.tk := rfl

/-- The values and the places found so far, in the block of lanes `c`. -/
def Got (E : ℕ → EReal) (j c : ℕ) (v : VF Ideal) (t : VI) : Prop :=
  ∀ k < 16, 16 * c + k < j → ln v k = E (sig 32768 E (16 * c + k)) ∧ ln t k = BitVec.ofNat 32 (sig 32768 E (16 * c + k))

/-- The state after `j` extractions. -/
structure PInv (E : ℕ → EReal) (tk : (A 1024).Idx → EReal) (j : ℕ) (p : Ext Ideal × Mem Ideal) : Prop where
  h : Hier (ln p.2.s) (ln p.2.m1) (ln p.2.m2) (ln p.1.1)
  s : ∀ i < 32768, ln p.2.s i = if rk 32768 E i < j then mark else E i
  k : p.2.tk = tk
  g0 : Got E j 0 p.1.2.1 p.1.2.2.2.2.2.1
  g1 : Got E j 1 p.1.2.2.1 p.1.2.2.2.2.2.2.1
  g2 : Got E j 2 p.1.2.2.2.1 p.1.2.2.2.2.2.2.2.1
  g3 : Got E j 3 p.1.2.2.2.2.1 p.1.2.2.2.2.2.2.2.2

theorem got_step {E : ℕ → EReal} {j c : ℕ} (hj : j < 64) (hc : c < 4) {v : VF Ideal} {t : VI} (h : Got E j c v t) (mv : EReal) (f : BitVec 32)
    (hm : mv = E (sig 32768 E j)) (hf : f = BitVec.ofNat 32 (sig 32768 E j)) :
    Got E (j + 1) c (select (at_ (BitVec.ofNat 32 j) (BitVec.ofNat 32 c)) (bf (F := Ideal) mv) v)
      (select (at_ (BitVec.ofNat 32 j) (BitVec.ofNat 32 c)) (bi f) t) := by
  intro k hk hlt
  rw [ln_select, ln_select]
  by_cases e : j = 16 * c + k
  · rw [if_pos ((ln_at j c hj hc k hk).mpr e), if_pos ((ln_at j c hj hc k hk).mpr e), ← e]
    exact ⟨hm, hf⟩
  · rw [if_neg (fun q => e ((ln_at j c hj hc k hk).mp q)), if_neg (fun q => e ((ln_at j c hj hc k hk).mp q))]
    exact h k hk (by omega)

theorem step_inv {E : ℕ → EReal} {tk : (A 1024).Idx → EReal} (hE : ∀ i < 32768, 0 ≤ E i) {j : ℕ} (hj : j < 64)
    {p : Ext Ideal × Mem Ideal} (P : PInv E tk j p) : PInv E tk (j + 1) (extStep j p) := by
  have hpos : ∀ i < 32768, ⊥ < ln p.2.s i := fun i hi => by
    rw [P.s i hi]
    split
    · exact bot_mark
    · exact lt_of_lt_of_le (by exact EReal.bot_lt_zero) (hE i hi)
  obtain ⟨hq, hh, hg, he, f1, f2, f3⟩ := find_spec p P.h hpos
  have hxi : xi p = 4096 * (xq p).toNat + 256 * (xh p).toNat + 16 * (xg p).toNat + (xe p).toNat := rfl
  have hxl : xi p < 32768 := by omega
  have hL := lin_bef E
  -- the place found has rank `j`
  have hw := sig_lt (n := 32768) E (v := j) (by omega)
  have hr := rk_sig (n := 32768) E (v := j) (by omega)
  have hsw : ln p.2.s (sig 32768 E j) = E (sig 32768 E j) := by rw [P.s _ hw, hr, if_neg (lt_irrefl _)]
  have hmv0 : 0 ≤ xv p := (hE _ hw).trans (hsw ▸ f2 _ hw)
  have hnm : ¬ rk 32768 E (xi p) < j := fun q => by
    rw [P.s _ hxl, if_pos q] at f1
    exact absurd (f1 ▸ hmv0) (not_le.mpr mark_neg)
  have hEx : E (xi p) = xv p := by rw [P.s _ hxl, if_neg hnm] at f1; exact f1
  have hx : xi p = sig 32768 E j := by
    by_contra hne
    have hlt : ¬ bef E (xi p) (sig 32768 E j) := fun q => hnm (by
      have a := rnk_mono (n := 32768) hL hxl q
      have b : rnk 32768 (bef E) (sig 32768 E j) = j := hr
      show rnk 32768 (bef E) (xi p) < j
      omega)
    have hgt : bef E (sig 32768 E j) (xi p) := (hL.tri _ _ hne).resolve_left hlt
    rcases hgt with q | ⟨q, q'⟩
    · rw [hEx, ← hsw] at q
      exact absurd (f2 _ hw) (not_le.mpr q)
    · exact f3 _ q' (by rw [hsw, q, hEx])
  have hmv : xv p = E (sig 32768 E j) := by rw [← hEx, hx]
  have hhh : (xhh p).toNat = 16 * (xq p).toNat + (xh p).toNat := by
    show (xq p * 16#32 + xh p).toNat = _
    simp; omega
  have hgg : (xgg p).toNat = 256 * (xq p).toNat + 16 * (xh p).toNat + (xg p).toNat := by
    show (xhh p * 16#32 + xg p).toNat = _
    simp; omega
  have hff : (xff p).toNat = xi p := by
    show (xgg p * 16#32 + xe p).toNat = _
    simp; omega
  have hf : xff p = BitVec.ofNat 32 (sig 32768 E j) := by
    rw [← hx, ← hff]
    exact BitVec.eq_of_toNat_eq (ofNat_small (xff p).isLt).symm
  -- the buffers after it
  have ls : ∀ i < 32768, ln (extStep j p).2.s i = if i = xi p then mark else ln p.2.s i := by
    intro i hi
    rw [st_s, ln_sd _ _ _ _ hi]
    by_cases c : 4096 * (xq p).toNat + 256 * (xh p).toNat + 16 * (xg p).toNat ≤ i ∧ i < 4096 * (xq p).toNat + 256 * (xh p).toNat + 16 * (xg p).toNat + 16
    · rw [if_pos c]
      unfold xve
      rw [ln_put _ _ _ _ (by omega), ln_ld _ _ _ (by omega)]
      by_cases c' : i = xi p
      · rw [if_pos (by omega), if_pos c']; rfl
      · rw [if_neg (by omega), if_neg c']; exact congrArg _ (by omega)
    · rw [if_neg c, if_neg (by omega)]
  have hve : vmax (xve p) = hmx (ln (extStep j p).2.s) (xi p / 16) := vmax_hmx _ _ _ fun k hk => by
    rw [ls _ (by omega)]
    unfold xve
    rw [ln_put _ _ _ _ hk, ln_ld _ _ _ hk]
    by_cases c : k = (xe p).toNat
    · rw [if_pos c, if_pos (by omega)]; rfl
    · rw [if_neg c, if_neg (by omega)]; exact congrArg _ (by omega)
  have hs : ∀ t < 2048, t ≠ xi p / 16 → hmx (ln (extStep j p).2.s) t = hmx (ln p.2.s) t := fun t ht hne =>
    hmx_upd (fun k hk hk' => by rw [ls k (by omega), if_neg hk]) hne
  have lane1 : (Scalar.subi (xgg p) (Scalar.muli (fdiv16 (xgg p)) 16#32)).toNat = (xg p).toNat := by
    rw [rem16_eq _ (by omega), ofNat_small (by omega)]; omega
  have lane2 : (Scalar.subi (xhh p) (Scalar.muli (xq p) 16#32)).toNat = (xh p).toNat := by
    show (xhh p - xq p * 16#32).toNat = _
    rw [BitVec.toNat_sub, BitVec.toNat_mul, hhh, show (16#32 : BitVec 32).toNat = 16 from rfl]
    omega
  have l1 : ∀ t < 2048, ln (extStep j p).2.m1 t = hmx (ln (extStep j p).2.s) t := by
    intro t ht
    rw [st_m1, ln_sd _ _ _ _ ht]
    by_cases c : 256 * (xq p).toNat + 16 * (xh p).toNat ≤ t ∧ t < 256 * (xq p).toNat + 16 * (xh p).toNat + 16
    · rw [if_pos c]
      unfold xv1
      rw [ln_put _ _ _ _ (by omega), ln_ld _ _ _ (by omega), lane1]
      by_cases c' : t = xi p / 16
      · rw [if_pos (by omega), ln_bf, hve, c']
      · rw [if_neg (by omega), hs t ht c', ← P.h.a t ht]; exact congrArg _ (by omega)
    · rw [if_neg c, hs t ht (by omega), ← P.h.a t ht]
  have hv1 : vmax (xv1 p) = hmx (ln (extStep j p).2.m1) (xi p / 256) := vmax_hmx _ _ _ fun k hk => by
    rw [st_m1, ln_sd _ _ _ _ (by omega), if_pos (by omega)]
    exact congrArg _ (by omega)
  have hs1 : ∀ t < 128, t ≠ xi p / 256 → hmx (ln (extStep j p).2.m1) t = hmx (ln p.2.m1) t := fun t ht hne =>
    hmx_congr fun k hk => by rw [l1 _ (by omega), hs _ (by omega) (by omega), ← P.h.a _ (by omega)]
  have l2 : ∀ t < 128, ln (extStep j p).2.m2 t = hmx (ln (extStep j p).2.m1) t := by
    intro t ht
    rw [st_m2, ln_sd _ _ _ _ ht]
    by_cases c : 16 * (xq p).toNat ≤ t ∧ t < 16 * (xq p).toNat + 16
    · rw [if_pos c]
      unfold xv2
      rw [ln_put _ _ _ _ (by omega), ln_ld _ _ _ (by omega), lane2]
      by_cases c' : t = xi p / 256
      · rw [if_pos (by omega), ln_bf, hv1, c']
      · rw [if_neg (by omega), hs1 t ht c', ← P.h.b t ht]; exact congrArg _ (by omega)
    · rw [if_neg c, hs1 t ht (by omega), ← P.h.b t ht]
  have hv2 : vmax (xv2 p) = hmx (ln (extStep j p).2.m2) (xi p / 4096) := vmax_hmx _ _ _ fun k hk => by
    rw [st_m2, ln_sd _ _ _ _ (by omega), if_pos (by omega)]
    exact congrArg _ (by omega)
  have hs2 : ∀ t < 8, t ≠ xi p / 4096 → hmx (ln (extStep j p).2.m2) t = hmx (ln p.2.m2) t := fun t ht hne =>
    hmx_congr fun k hk => by rw [l2 _ (by omega), hs1 _ (by omega) (by omega), ← P.h.b _ (by omega)]
  refine ⟨⟨l1, l2, fun q hq' => ?_, fun q hq' hq'' => ?_⟩, fun i hi => ?_, (st_tk j p).trans P.k,
    got_step hj (by decide) P.g0 _ _ hmv hf, got_step hj (by decide) P.g1 _ _ hmv hf, got_step hj (by decide) P.g2 _ _ hmv hf,
    got_step hj (by decide) P.g3 _ _ hmv hf⟩
  · rw [st_m3]
    unfold xv3
    rw [ln_put _ _ _ _ (by omega)]
    by_cases c' : q = xi p / 4096
    · rw [if_pos (by omega), ln_bf, hv2, c']
    · rw [if_neg (by omega), hs2 q hq' c', P.h.c q hq']
  · rw [st_m3]
    unfold xv3
    rw [ln_put _ _ _ _ (by omega), if_neg (by omega), P.h.d q hq' hq'']
  · rw [ls i hi]
    by_cases c : i = xi p
    · rw [if_pos c, if_pos (by rw [c, hx]; show rk 32768 E _ < _; rw [hr]; omega)]
    · rw [if_neg c, P.s i hi]
      have : rk 32768 E i ≠ j := fun q => c (by rw [hx]; exact ((sig_eq_iff E hi (by omega)).mpr q).symm)
      by_cases c2 : rk 32768 E i < j
      · rw [if_pos c2, if_pos (by omega)]
      · rw [if_neg c2, if_neg (by omega)]

theorem ext_inv {E : ℕ → EReal} (hE : ∀ i < 32768, 0 ≤ E i) (v3 : VF Ideal) (m : Mem Ideal)
    (H : Hier (ln m.s) (ln m.m1) (ln m.m2) (ln v3)) (hs : ∀ i < 32768, ln m.s i = E i) :
    PInv E m.tk 64 (extAll v3 m) := by
  unfold extAll
  exact iter_inv (PInv E m.tk) extStep _ 64
    ⟨H, fun i hi => by rw [if_neg (by omega)]; exact hs i hi, rfl, fun _ _ h => absurd h (by omega), fun _ _ h => absurd h (by omega),
      fun _ _ h => absurd h (by omega), fun _ _ h => absurd h (by omega)⟩
    fun j hj p P => step_inv hE hj P

theorem ln_sca_hit {α : Type} {n : ℕ} [NeZero n] (f : (A n).Idx → α) (v : VI) (w : (A 16).Idx → α) (mask : IVec S16 1) (j : ℕ) (hj : j < n)
    (k : ℕ) (hk : k < 16) (hm : ln mask k = 1) (h : j = (ln v k).toNat) (x : α)
    (hx : ∀ k' < 16, ln mask k' = 1 → j = (ln v k').toNat → ln w k' = x) : ln (sca f v w mask) j = x := by
  have hh : Hit v mask (ix n j) := ⟨⟨k, hk⟩, hm, (ix_val hj 0).trans h⟩
  obtain ⟨k', h1, h2, h3⟩ := sca_hit f v w mask (ix n j) hh
  exact h3.trans (hx k' k'.isLt h1 ((ix_val hj 0).symm.trans h2))

theorem ln_sca_not {α : Type} {n : ℕ} [NeZero n] (f : (A n).Idx → α) (v : VI) (w : (A 16).Idx → α) (mask : IVec S16 1) (j : ℕ) (hj : j < n)
    (h : ∀ k < 16, ln mask k = 1 → j ≠ (ln v k).toNat) : ln (sca f v w mask) j = ln f j :=
  sca_not f v w mask (ix n j) fun ⟨k, h1, h2⟩ => h k k.isLt h1 ((ix_val hj 0).symm.trans h2)

theorem ones_one (k : ℕ) : ln ones k = 1 := rfl

/-- A block of extracted values put back. -/
theorem put_got {E : ℕ → EReal} {c : ℕ} (hc : c < 4) {v : VF Ideal} {t : VI} (h : Got E 64 c v t) (f : (A 32768).Idx → EReal) (i : ℕ) (hi : i < 32768) :
    ln (sca f t v ones) i = if 16 * c ≤ rk 32768 E i ∧ rk 32768 E i < 16 * c + 16 then E i else ln f i := by
  by_cases q : 16 * c ≤ rk 32768 E i ∧ rk 32768 E i < 16 * c + 16
  · rw [if_pos q]
    have hs : sig 32768 E (16 * c + (rk 32768 E i - 16 * c)) = i := by
      rw [show 16 * c + (rk 32768 E i - 16 * c) = rk 32768 E i by omega, sig_rk E hi]
    refine ln_sca_hit f t v ones i hi (rk 32768 E i - 16 * c) (by omega) rfl ?_ _ fun k' hk' _ e => ?_
    · rw [(h _ (by omega) (by omega)).2, hs, ofNat_small (by omega)]
    · obtain ⟨a, b⟩ := h k' hk' (by omega)
      rw [b, ofNat_small (by have := sig_lt (n := 32768) E (v := 16 * c + k') (by omega); omega)] at e
      rw [a, ← e]
  · rw [if_neg q]
    refine ln_sca_not f t v ones i hi fun k hk _ e => q ?_
    rw [(h k hk (by omega)).2, ofNat_small (by have := sig_lt (n := 32768) E (v := 16 * c + k) (by omega); omega)] at e
    have := rk_sig (n := 32768) E (v := 16 * c + k) (by omega)
    rw [e, this]
    omega

theorem restore_inv {E : ℕ → EReal} {tk : (A 1024).Idx → EReal} {p : Ext Ideal × Mem Ideal} (P : PInv E tk 64 p) :
    ∀ i < 32768, ln (restore p.1 p.2.s) i = E i := by
  intro i hi
  unfold restore
  rw [put_got (by decide) P.g3 _ i hi, put_got (by decide) P.g2 _ i hi, put_got (by decide) P.g1 _ i hi, put_got (by decide) P.g0 _ i hi, P.s i hi]
  split_ifs <;> first | rfl | omega

end Cert.Proof.Val
-- ==== Proof.Sort.lean ====
module
public import proofs.«01_k».proof.Proof.Take
/-! Sixteen pairs put in order by counting, and the merges that put sixty-four in order. -/
@[expose] public section
set_option pp.maxSteps 400
noncomputable section
namespace Cert.Proof.Val
open Idealize.ShloMosaic
open Cert.KernelIdeal Cert.Proof.Mem
open scoped Classical
variable [Facts]
attribute [local irreducible] iter

theorem rnk_succ (n : ℕ) (R : ℕ → ℕ → Prop) (i : ℕ) : rnk (n + 1) R i = rnk n R i + if R n i then 1 else 0 := by
  unfold rnk
  rw [Finset.range_add_one, Finset.filter_insert]
  by_cases h : R n i
  · rw [if_pos h, if_pos h, Finset.card_insert_of_notMem (by simp)]
  · rw [if_neg h, if_neg h]; rfl

/-- The smaller first, of equals the earlier. -/
def asc (k : ℕ → EReal) (b i : ℕ) : Prop := k b < k i ∨ (k b = k i ∧ b < i)

theorem lin_asc (k : ℕ → EReal) : Lin (asc k) where
  irr a := by
    rintro (q | q)
    · exact lt_irrefl _ q
    · omega
  tr a b c := by
    rintro (q | ⟨q, q'⟩) (r | ⟨r, r'⟩)
    · exact .inl (lt_trans q r)
    · exact .inl (r ▸ q)
    · exact .inl (q ▸ r)
    · exact .inr ⟨q.trans r, by omega⟩
  tri a b hne := by
    rcases lt_trichotomy (k a) (k b) with q | q | q
    · exact .inl (.inl q)
    · rcases Nat.lt_or_gt_of_ne hne with r | r
      · exact .inl (.inr ⟨q, r⟩)
      · exact .inr (.inr ⟨q.symm, r⟩)
    · exact .inr (.inl q)

theorem rnk_le (n : ℕ) (R : ℕ → ℕ → Prop) (i : ℕ) : rnk n R i ≤ n := by
  have := Finset.card_filter_le (Finset.range n) (fun k => R k i)
  rwa [Finset.card_range] at this

theorem cnt_inv (k : VF Ideal) : ∀ i < 16, ln (iter 16 (cntStep k k) (bi 0#32)) i = BitVec.ofNat 32 (rnk 16 (asc (ln k)) i) := by
  refine iter_inv (fun b (r : VI) => ∀ i < 16, ln r i = BitVec.ofNat 32 (rnk b (asc (ln k)) i)) (cntStep k k) (bi 0#32) 16 (fun i _ => ?_)
    fun b hb r P i hi => ?_
  · rw [ln_bi]; simp [rnk]
  · have e : ln (cntStep k k b r) i = ln r i + if (if b < i then ln k b ≤ ln k i else ln k b < ln k i) then 1#32 else 0#32 := by
      have g : ln (gat k (bi (BitVec.ofNat 32 b))) i = ln k b := by rw [ln_gat, ln_bi, ofNat_small (by omega)]
      have c : ln (cmpi .sgt io (bi (BitVec.ofNat 32 b))) i = 1 ↔ b < i := by
        show IntOp.cmpi .sgt (ln io i) (BitVec.ofNat 32 b) = 1 ↔ _
        rw [ln_io i hi, cmpi_sgt_one _ _ (by rw [ofNat_small] <;> omega) (by rw [ofNat_small] <;> omega), ofNat_small (by omega), ofNat_small (by omega)]
      unfold cntStep
      rw [ln_addi, ln_select, ln_select, ln_bi, ln_bi]
      congr 1
      by_cases h : b < i
      · rw [if_pos (c.mpr h)]
        simp only [ln_cmpf_ole, g, if_pos h]
      · rw [if_neg (fun q => h (c.mp q))]
        simp only [ln_cmpf_olt, g, if_neg h]
    have q : (if b < i then ln k b ≤ ln k i else ln k b < ln k i) ↔ asc (ln k) b i := by
      unfold asc
      by_cases h : b < i
      · rw [if_pos h, le_iff_lt_or_eq]; simp [h]
      · rw [if_neg h]; simp [h]
    rw [e, P i hi, rnk_succ]
    by_cases h : asc (ln k) b i
    · rw [if_pos (q.mpr h), if_pos h]
      exact BitVec.eq_of_toNat_eq (by simp)
    · rw [if_neg (fun h' => h (q.mp h')), if_neg h]
      simp

theorem srtR_eq (k : VF Ideal) (i : ℕ) (hi : i < 16) : (ln (srtR k) i).toNat = rnk 16 (asc (ln k)) i := by
  have h := rnk_lt (n := 16) (lin_asc (ln k)) hi
  unfold srtR
  rw [ln_andi, cnt_inv k i hi, ln_bi]
  rw [BitVec.toNat_and, ofNat_small (by omega)]
  show _ &&& (2 ^ 4 - 1) = _
  rw [Nat.and_two_pow_sub_one_eq_mod]
  omega

/-- One vector of pairs has the pairs of another. -/
structure Perm (a b : KV Ideal) : Prop where
  fwd : ∀ k < 16, ∃ k' < 16, ln b.1 k = ln a.1 k' ∧ ln b.2 k = ln a.2 k'
  fro : ∀ k < 16, ∃ k' < 16, ln b.2 k' = ln a.2 k

/-- Lanes in order. -/
def Srt (v : VF Ideal) : Prop := ∀ i j, i ≤ j → j < 16 → ln v i ≤ ln v j

theorem srt_lane (p : KV Ideal) (i : ℕ) (hi : i < 16) :
    ln (srt p).1 (rnk 16 (asc (ln p.1)) i) = ln p.1 i ∧ ln (srt p).2 (rnk 16 (asc (ln p.1)) i) = ln p.2 i := by
  have h := rnk_lt (n := 16) (lin_asc (ln p.1)) hi
  have u : ∀ k' < 16, rnk 16 (asc (ln p.1)) i = (ln (srtR p.1) k').toNat → k' = i := fun k' hk' e =>
    (rnk_inj (n := 16) (lin_asc (ln p.1)) hi hk' (by rw [e, srtR_eq _ _ hk'])).symm
  exact ⟨ln_sca_hit p.1 (srtR p.1) p.1 ones _ h i hi rfl (srtR_eq _ _ hi).symm _ fun k' hk' _ e => by rw [u k' hk' e],
    ln_sca_hit p.2 (srtR p.1) p.2 ones _ h i hi rfl (srtR_eq _ _ hi).symm _ fun k' hk' _ e => by rw [u k' hk' e]⟩

theorem srt_perm (p : KV Ideal) : Perm p (srt p) := by
  refine ⟨fun k hk => ?_, fun k hk => ⟨_, rnk_lt (lin_asc (ln p.1)) hk, (srt_lane p k hk).2⟩⟩
  obtain ⟨i, hi, e⟩ := rnk_surj (lin_asc (ln p.1)) hk
  exact ⟨i, hi, e ▸ srt_lane p i hi⟩

theorem srt_srt (p : KV Ideal) : Srt (srt p).1 := by
  intro a b hab hb
  obtain ⟨i, hi, e⟩ := rnk_surj (lin_asc (ln p.1)) (show a < 16 by omega)
  obtain ⟨i', hi', e'⟩ := rnk_surj (lin_asc (ln p.1)) hb
  rw [← e, ← e', (srt_lane p i hi).1, (srt_lane p i' hi').1]
  rcases Nat.eq_or_lt_of_le hab with h | h
  · rw [rnk_inj (lin_asc (ln p.1)) hi hi' (by omega)]
  · rcases (rnk_lt_iff (lin_asc (ln p.1)) hi hi').mp (by omega) with q | q
    exacts [q.le, q.1.le]

theorem ln_r15 (k : ℕ) (hk : k < 16) : (ln r15 k).toNat = 15 - k := by
  unfold r15
  rw [ln_subi, ln_bi, ln_io k hk, BitVec.toNat_sub, ofNat_small (by omega)]
  show (2 ^ 32 - k + 15) % 2 ^ 32 = _
  omega

theorem rvp_1 (p : KV Ideal) (k : ℕ) (hk : k < 16) : ln (rvp p).1 k = ln p.1 (15 - k) := by
  unfold rvp; rw [ln_gat, ln_r15 k hk]
theorem rvp_2 (p : KV Ideal) (k : ℕ) (hk : k < 16) : ln (rvp p).2 k = ln p.2 (15 - k) := by
  unfold rvp; rw [ln_gat, ln_r15 k hk]

theorem lop_1 (a b : KV Ideal) (k : ℕ) : ln (lop a b).1 k = min (ln a.1 k) (ln b.1 k) := by
  unfold lop
  rw [ln_select]
  by_cases h : ln a.1 k ≤ ln b.1 k
  · rw [if_pos ((ln_cmpf_ole _ _ _).mpr h), min_eq_left h]
  · rw [if_neg (fun q => h ((ln_cmpf_ole _ _ _).mp q)), min_eq_right (not_le.mp h).le]
theorem hip_1 (a b : KV Ideal) (k : ℕ) : ln (hip a b).1 k = max (ln a.1 k) (ln b.1 k) := by
  unfold hip
  rw [ln_select]
  by_cases h : ln a.1 k ≤ ln b.1 k
  · rw [if_pos ((ln_cmpf_ole _ _ _).mpr h), max_eq_right h]
  · rw [if_neg (fun q => h ((ln_cmpf_ole _ _ _).mp q)), max_eq_left (not_le.mp h).le]

/-- All lanes of one at most all lanes of the other. -/
def LeA (a b : VF Ideal) : Prop := ∀ i < 16, ∀ j < 16, ln a i ≤ ln b j

theorem leA_perm {a b a' b' : KV Ideal} (h : LeA a.1 b.1) (pa : Perm a a') (pb : Perm b b') : LeA a'.1 b'.1 := by
  intro i hi j hj
  obtain ⟨i', h1, e1, _⟩ := pa.fwd i hi
  obtain ⟨j', h2, e2, _⟩ := pb.fwd j hj
  rw [e1, e2]
  exact h i' h1 j' h2

theorem merge (a b : KV Ideal) (ha : Srt a.1) (hb : Srt b.1) : LeA (lop a (rvp b)).1 (hip a (rvp b)).1 := by
  intro i hi j hj
  rw [lop_1, hip_1, rvp_1 _ _ hi, rvp_1 _ _ hj]
  rcases Nat.lt_or_ge j i with h | h
  · exact (min_le_right _ _).trans ((hb (15 - i) (15 - j) (by omega) (by omega)).trans (le_max_right _ _))
  · exact (min_le_left _ _).trans ((ha i j h hj).trans (le_max_left _ _))

section four
variable (A B C D : KV Ideal) (hA : Srt A.1) (hB : Srt B.1) (hC : Srt C.1) (hD : Srt D.1) (hAB : LeA A.1 B.1) (hCD : LeA C.1 D.1)
include hA hB hC hD hAB hCD

theorem merge_ll : LeA (lop (lop A (rvp D)) (lop B (rvp C))).1 (hip (lop A (rvp D)) (lop B (rvp C))).1 := by
  intro i hi j hj
  rw [lop_1, hip_1, lop_1, lop_1, lop_1, lop_1, rvp_1 _ _ hi, rvp_1 _ _ hj, rvp_1 _ _ hi, rvp_1 _ _ hj]
  have a1 : min (min (ln A.1 i) (ln D.1 (15 - i))) (min (ln B.1 i) (ln C.1 (15 - i))) ≤ ln A.1 i := (min_le_left _ _).trans (min_le_left _ _)
  have a2 : min (min (ln A.1 i) (ln D.1 (15 - i))) (min (ln B.1 i) (ln C.1 (15 - i))) ≤ ln C.1 (15 - i) := (min_le_right _ _).trans (min_le_right _ _)
  rcases Nat.lt_or_ge j i with h | h
  · exact (le_min (a1.trans (hAB i hi j hj)) (a2.trans (hC _ _ (by omega) (by omega)))).trans (le_max_right _ _)
  · exact (le_min (a1.trans (hA i j h hj)) (a2.trans (hCD _ (by omega) _ (by omega)))).trans (le_max_left _ _)

theorem merge_hh : LeA (lop (hip A (rvp D)) (hip B (rvp C))).1 (hip (hip A (rvp D)) (hip B (rvp C))).1 := by
  intro i hi j hj
  rw [lop_1, hip_1, hip_1, hip_1, hip_1, hip_1, rvp_1 _ _ hi, rvp_1 _ _ hj, rvp_1 _ _ hi, rvp_1 _ _ hj]
  have a1 : ln B.1 j ≤ max (max (ln A.1 j) (ln D.1 (15 - j))) (max (ln B.1 j) (ln C.1 (15 - j))) := (le_max_left _ _).trans (le_max_right _ _)
  have a2 : ln D.1 (15 - j) ≤ max (max (ln A.1 j) (ln D.1 (15 - j))) (max (ln B.1 j) (ln C.1 (15 - j))) := (le_max_right _ _).trans (le_max_left _ _)
  rcases Nat.lt_or_ge i j with h | h
  · exact (min_le_right _ _).trans (max_le ((hB i j h.le hj).trans a1) ((hCD _ (by omega) _ (by omega)).trans a2))
  · exact (min_le_left _ _).trans (max_le ((hAB i hi j hj).trans a1) ((hD _ _ (by omega) (by omega)).trans a2))

theorem merge_lh : LeA (hip (lop A (rvp D)) (lop B (rvp C))).1 (lop (hip A (rvp D)) (hip B (rvp C))).1 := by
  intro i hi j hj
  have m1 := merge A D hA hD i hi j hj
  have m2 := merge B C hB hC i hi j hj
  rw [lop_1, hip_1, hip_1, hip_1, lop_1, lop_1, rvp_1 _ _ hi, rvp_1 _ _ hj, rvp_1 _ _ hi, rvp_1 _ _ hj]
  rw [lop_1, hip_1, rvp_1 _ _ hi, rvp_1 _ _ hj] at m1 m2
  exact max_le (le_min m1 ((min_le_left _ _).trans ((hAB i hi j hj).trans (le_max_left _ _))))
    (le_min ((min_le_right _ _).trans ((hCD _ (by omega) _ (by omega)).trans (le_max_right _ _))) m2)
end four

/-! ### The sixty-four -/

/-- Each key is the row's element at its position. -/
def Tied (s : (A 32768).Idx → EReal) (p : KV Ideal) : Prop := ∀ k < 16, (ln p.2 k).toNat < 64 ∧ ln p.1 k = ln s (ln p.2 k).toNat
/-- A position held. -/
def Has (v : ℕ) (p : KV Ideal) : Prop := ∃ k < 16, (ln p.2 k).toNat = v

theorem Tied.perm {s : (A 32768).Idx → EReal} {a b : KV Ideal} (h : Tied s a) (p : Perm a b) : Tied s b := fun k hk => by
  obtain ⟨k', h1, e1, e2⟩ := p.fwd k hk
  rw [e1, e2]; exact h k' h1
theorem Has.perm {v : ℕ} {a b : KV Ideal} (h : Has v a) (p : Perm a b) : Has v b := by
  obtain ⟨k, hk, e⟩ := h
  obtain ⟨k', hk', e'⟩ := p.fro k hk
  exact ⟨k', hk', by rw [e', e]⟩
theorem rvp_perm (p : KV Ideal) : Perm p (rvp p) :=
  ⟨fun k hk => ⟨15 - k, by omega, rvp_1 p k hk, rvp_2 p k hk⟩, fun k hk => ⟨15 - k, by omega, by rw [rvp_2 _ _ (by omega)]; congr 1; omega⟩⟩

theorem lane_split (a b : KV Ideal) (k : ℕ) :
    ((ln (lop a b).1 k = ln a.1 k ∧ ln (lop a b).2 k = ln a.2 k) ∧ (ln (hip a b).1 k = ln b.1 k ∧ ln (hip a b).2 k = ln b.2 k)) ∨
    ((ln (lop a b).1 k = ln b.1 k ∧ ln (lop a b).2 k = ln b.2 k) ∧ (ln (hip a b).1 k = ln a.1 k ∧ ln (hip a b).2 k = ln a.2 k)) := by
  unfold lop hip
  simp only [ln_select]
  by_cases h : ln (cmpf (F := Ideal) .ole a.1 b.1) k = 1
  · left; simp only [if_pos h, and_self]
  · right; simp only [if_neg h, and_self]

theorem Tied.lop {s : (A 32768).Idx → EReal} {a b : KV Ideal} (h : Tied s a) (h' : Tied s b) : Tied s (lop a b) := fun k hk => by
  rcases lane_split a b k with ⟨⟨e1, e2⟩, _⟩ | ⟨⟨e1, e2⟩, _⟩ <;> rw [e1, e2]
  exacts [h k hk, h' k hk]
theorem Tied.hip {s : (A 32768).Idx → EReal} {a b : KV Ideal} (h : Tied s a) (h' : Tied s b) : Tied s (hip a b) := fun k hk => by
  rcases lane_split a b k with ⟨_, ⟨e1, e2⟩⟩ | ⟨_, ⟨e1, e2⟩⟩ <;> rw [e1, e2]
  exacts [h' k hk, h k hk]
theorem Has.split {v : ℕ} {a b : KV Ideal} (h : Has v a ∨ Has v b) : Has v (Mem.lop a b) ∨ Has v (Mem.hip a b) := by
  rcases h with ⟨k, hk, e⟩ | ⟨k, hk, e⟩ <;> rcases lane_split a b k with ⟨⟨_, e2⟩, ⟨_, e4⟩⟩ | ⟨⟨_, e2⟩, ⟨_, e4⟩⟩
  · exact .inl ⟨k, hk, by rw [e2, e]⟩
  · exact .inr ⟨k, hk, by rw [e4, e]⟩
  · exact .inr ⟨k, hk, by rw [e4, e]⟩
  · exact .inl ⟨k, hk, by rw [e2, e]⟩

variable (s : (A 32768).Idx → EReal)

theorem tied_base (b : ℕ) (hb : b ≤ 48) : Tied s (ld s b, addi io (bi (BitVec.ofNat 32 b))) := fun k hk => by
  have : (ln (addi io (bi (BitVec.ofNat 32 b))) k).toNat = b + k := by
    rw [ln_addi, ln_io k hk, ln_bi, BitVec.toNat_add, ofNat_small (by omega), ofNat_small (by omega)]; omega
  show (ln (addi io (bi (BitVec.ofNat 32 b))) k).toNat < 64 ∧ ln (ld s b) k = _
  rw [this, ln_ld _ _ _ hk]
  exact ⟨by omega, rfl⟩
theorem tied_io : Tied s (ld s 0, io) := fun k hk => by
  show (ln io k).toNat < 64 ∧ ln (ld s 0) k = ln s (ln io k).toNat
  rw [ln_io k hk, ofNat_small (by omega), ln_ld _ _ _ hk]
  exact ⟨by omega, by rw [Nat.zero_add]⟩
theorem has_base (b : ℕ) (hb : b ≤ 48) (v : ℕ) (h1 : b ≤ v) (h2 : v < b + 16) : Has v (ld s b, addi io (bi (BitVec.ofNat 32 b))) :=
  ⟨v - b, by omega, by
    show (ln (addi io (bi (BitVec.ofNat 32 b))) (v - b)).toNat = v
    rw [ln_addi, ln_io _ (by omega), ln_bi, BitVec.toNat_add, ofNat_small (by omega), ofNat_small (by omega)]; omega⟩
theorem has_io (v : ℕ) (h2 : v < 16) : Has v (ld s 0, io) :=
  ⟨v, by omega, by
    show (ln io v).toNat = v
    rw [ln_io _ (by omega), ofNat_small (by omega)]⟩

/-- One of four vectors by the lane's number. -/
def pick4 {α : Type} (a b c d : (A 16).Idx → α) (p : ℕ) : α :=
  if p < 16 then ln a p else if p < 32 then ln b (p - 16) else if p < 48 then ln c (p - 32) else ln d (p - 48)
/-- The keys in order. -/
def kk4 (p : ℕ) : EReal := pick4 (q0 (F := Ideal) s).1 (q1 (F := Ideal) s).1 (q2 (F := Ideal) s).1 (q3 (F := Ideal) s).1 p
/-- Their positions. -/
def vv4 (p : ℕ) : BitVec 32 := pick4 (q0 (F := Ideal) s).2 (q1 (F := Ideal) s).2 (q2 (F := Ideal) s).2 (q3 (F := Ideal) s).2 p

theorem srt_A : Srt (qA (F := Ideal) s).1 := srt_srt _
theorem srt_B : Srt (qB (F := Ideal) s).1 := srt_srt _
theorem srt_C : Srt (qC (F := Ideal) s).1 := srt_srt _
theorem srt_D : Srt (qD (F := Ideal) s).1 := srt_srt _
theorem le_AB : LeA (qA (F := Ideal) s).1 (qB (F := Ideal) s).1 := leA_perm (merge _ _ (srt_srt _) (srt_srt _)) (srt_perm _) (srt_perm _)
theorem le_CD : LeA (qC (F := Ideal) s).1 (qD (F := Ideal) s).1 := leA_perm (merge _ _ (srt_srt _) (srt_srt _)) (srt_perm _) (srt_perm _)
theorem le_01 : LeA (q0 (F := Ideal) s).1 (q1 (F := Ideal) s).1 := leA_perm (merge_ll _ _ _ _ (srt_A s) (srt_B s) (srt_C s) (srt_D s) (le_AB s) (le_CD s)) (srt_perm _) (srt_perm _)
theorem le_12 : LeA (q1 (F := Ideal) s).1 (q2 (F := Ideal) s).1 := leA_perm (merge_lh _ _ _ _ (srt_A s) (srt_B s) (srt_C s) (srt_D s) (le_AB s) (le_CD s)) (srt_perm _) (srt_perm _)
theorem le_23 : LeA (q2 (F := Ideal) s).1 (q3 (F := Ideal) s).1 := leA_perm (merge_hh _ _ _ _ (srt_A s) (srt_B s) (srt_C s) (srt_D s) (le_AB s) (le_CD s)) (srt_perm _) (srt_perm _)

theorem pick4_mono {a b c d : VF Ideal} (s0 : Srt a) (s1 : Srt b) (s2 : Srt c) (s3 : Srt d) (e01 : LeA a b) (e12 : LeA b c) (e23 : LeA c d)
    {p q : ℕ} (h : p ≤ q) (hq : q < 64) : (pick4 a b c d p : EReal) ≤ pick4 a b c d q := by
  have e02 : LeA a c := fun i hi j hj => (e01 i hi 0 (by decide)).trans (e12 0 (by decide) j hj)
  have e13 : LeA b d := fun i hi j hj => (e12 i hi 0 (by decide)).trans (e23 0 (by decide) j hj)
  have e03 : LeA a d := fun i hi j hj => (e02 i hi 0 (by decide)).trans (e23 0 (by decide) j hj)
  unfold pick4
  rcases (by omega : p < 16 ∨ 16 ≤ p ∧ p < 32 ∨ 32 ≤ p ∧ p < 48 ∨ 48 ≤ p) with hp | hp | hp | hp <;>
  rcases (by omega : q < 16 ∨ 16 ≤ q ∧ q < 32 ∨ 32 ≤ q ∧ q < 48 ∨ 48 ≤ q) with hr | hr | hr | hr
  · rw [if_pos (by omega), if_pos (by omega)]; exact s0 _ _ (by omega) (by omega)
  · rw [if_pos (by omega), if_neg (by omega), if_pos (by omega)]; exact e01 _ (by omega) _ (by omega)
  · rw [if_pos (by omega), if_neg (by omega), if_neg (by omega), if_pos (by omega)]; exact e02 _ (by omega) _ (by omega)
  · rw [if_pos (by omega), if_neg (by omega), if_neg (by omega), if_neg (by omega)]; exact e03 _ (by omega) _ (by omega)
  · omega
  · rw [if_neg (by omega), if_pos (by omega), if_neg (by omega), if_pos (by omega)]; exact s1 _ _ (by omega) (by omega)
  · rw [if_neg (by omega), if_pos (by omega), if_neg (by omega), if_neg (by omega), if_pos (by omega)]; exact e12 _ (by omega) _ (by omega)
  · rw [if_neg (by omega), if_pos (by omega), if_neg (by omega), if_neg (by omega), if_neg (by omega)]; exact e13 _ (by omega) _ (by omega)
  · omega
  · omega
  · rw [if_neg (by omega), if_neg (by omega), if_pos (by omega), if_neg (by omega), if_neg (by omega), if_pos (by omega)]; exact s2 _ _ (by omega) (by omega)
  · rw [if_neg (by omega), if_neg (by omega), if_pos (by omega), if_neg (by omega), if_neg (by omega), if_neg (by omega)]; exact e23 _ (by omega) _ (by omega)
  · omega
  · omega
  · omega
  · rw [if_neg (by omega), if_neg (by omega), if_neg (by omega), if_neg (by omega), if_neg (by omega), if_neg (by omega)]; exact s3 _ _ (by omega) (by omega)

/-- The keys are in order. -/
theorem kk4_mono {p q : ℕ} (h : p ≤ q) (hq : q < 64) : kk4 s p ≤ kk4 s q :=
  pick4_mono (srt_srt _) (srt_srt _) (srt_srt _) (srt_srt _) (le_01 s) (le_12 s) (le_23 s) h hq

theorem tied_A : Tied s (qA (F := Ideal) s) := (((tied_io s).perm (srt_perm _)).lop (((tied_base s 16 (by decide)).perm (srt_perm _)).perm (rvp_perm _))).perm (srt_perm _)
theorem tied_B : Tied s (qB (F := Ideal) s) := (((tied_io s).perm (srt_perm _)).hip (((tied_base s 16 (by decide)).perm (srt_perm _)).perm (rvp_perm _))).perm (srt_perm _)
theorem tied_C : Tied s (qC (F := Ideal) s) :=
  (((tied_base s 32 (by decide)).perm (srt_perm _)).lop (((tied_base s 48 (by decide)).perm (srt_perm _)).perm (rvp_perm _))).perm (srt_perm _)
theorem tied_D : Tied s (qD (F := Ideal) s) :=
  (((tied_base s 32 (by decide)).perm (srt_perm _)).hip (((tied_base s 48 (by decide)).perm (srt_perm _)).perm (rvp_perm _))).perm (srt_perm _)
theorem tied_l0 : Tied s (l0 (F := Ideal) s) := (tied_A s).lop ((tied_D s).perm (rvp_perm _))
theorem tied_l1 : Tied s (l1 (F := Ideal) s) := (tied_B s).lop ((tied_C s).perm (rvp_perm _))
theorem tied_h0 : Tied s (h0 (F := Ideal) s) := (tied_A s).hip ((tied_D s).perm (rvp_perm _))
theorem tied_h1 : Tied s (h1 (F := Ideal) s) := (tied_B s).hip ((tied_C s).perm (rvp_perm _))
theorem tied_0 : Tied s (q0 (F := Ideal) s) := ((tied_l0 s).lop (tied_l1 s)).perm (srt_perm _)
theorem tied_1 : Tied s (q1 (F := Ideal) s) := ((tied_l0 s).hip (tied_l1 s)).perm (srt_perm _)
theorem tied_2 : Tied s (q2 (F := Ideal) s) := ((tied_h0 s).lop (tied_h1 s)).perm (srt_perm _)
theorem tied_3 : Tied s (q3 (F := Ideal) s) := ((tied_h0 s).hip (tied_h1 s)).perm (srt_perm _)

theorem kk4_tied {p : ℕ} (hp : p < 64) : (vv4 s p).toNat < 64 ∧ kk4 s p = ln s (vv4 s p).toNat := by
  unfold kk4 vv4 pick4
  split_ifs
  · exact tied_0 s p (by omega)
  · exact tied_1 s _ (by omega)
  · exact tied_2 s _ (by omega)
  · exact tied_3 s _ (by omega)

theorem has_all (v : ℕ) (hv : v < 64) : Has v (q0 (F := Ideal) s) ∨ Has v (q1 (F := Ideal) s) ∨ Has v (q2 (F := Ideal) s) ∨ Has v (q3 (F := Ideal) s) := by
  have h1 : (Has v (qA (F := Ideal) s) ∨ Has v (qB (F := Ideal) s)) ∨ (Has v (qC (F := Ideal) s) ∨ Has v (qD (F := Ideal) s)) := by
    rcases Nat.lt_or_ge v 32 with h | h
    · left
      have : Has v (qa (F := Ideal) s) ∨ Has v (qb (F := Ideal) s) := by
        rcases Nat.lt_or_ge v 16 with h' | h'
        · exact .inl ((has_io s v h').perm (srt_perm _))
        · exact .inr ((has_base s 16 (by decide) v h' (by omega)).perm (srt_perm _))
      exact (Has.split (this.imp_right fun q => q.perm (rvp_perm _))).imp (fun q => q.perm (srt_perm _)) fun q => q.perm (srt_perm _)
    · right
      have : Has v (qc (F := Ideal) s) ∨ Has v (qd (F := Ideal) s) := by
        rcases Nat.lt_or_ge v 48 with h' | h'
        · exact .inl ((has_base s 32 (by decide) v h (by omega)).perm (srt_perm _))
        · exact .inr ((has_base s 48 (by decide) v h' (by omega)).perm (srt_perm _))
      exact (Has.split (this.imp_right fun q => q.perm (rvp_perm _))).imp (fun q => q.perm (srt_perm _)) fun q => q.perm (srt_perm _)
  have h2 : (Has v (l0 (F := Ideal) s) ∨ Has v (l1 (F := Ideal) s)) ∨ (Has v (h0 (F := Ideal) s) ∨ Has v (Mem.h1 (F := Ideal) s)) := by
    have cA : Has v (qA (F := Ideal) s) → _ := fun q => Has.split (b := rvp (qD (F := Ideal) s)) (.inl q)
    have cD : Has v (qD (F := Ideal) s) → _ := fun q => Has.split (a := qA s) (.inr (q.perm (rvp_perm _)))
    have cB : Has v (qB (F := Ideal) s) → _ := fun q => Has.split (b := rvp (qC (F := Ideal) s)) (.inl q)
    have cC : Has v (qC (F := Ideal) s) → _ := fun q => Has.split (a := qB s) (.inr (q.perm (rvp_perm _)))
    rcases h1 with (q | q) | (q | q)
    · exact (cA q).imp .inl .inl
    · exact (cB q).imp .inr .inr
    · exact (cC q).imp .inr .inr
    · exact (cD q).imp .inl .inl
  rcases h2 with q | q
  · rcases Has.split q with r | r
    · exact .inl (r.perm (srt_perm _))
    · exact .inr (.inl (r.perm (srt_perm _)))
  · rcases Has.split q with r | r
    · exact .inr (.inr (.inl (r.perm (srt_perm _))))
    · exact .inr (.inr (.inr (r.perm (srt_perm _))))

theorem vv4_surj {v : ℕ} (hv : v < 64) : ∃ p < 64, (vv4 s p).toNat = v := by
  unfold vv4 pick4
  rcases has_all s v hv with ⟨k, hk, e⟩ | ⟨k, hk, e⟩ | ⟨k, hk, e⟩ | ⟨k, hk, e⟩
  · exact ⟨k, by omega, by rw [if_pos hk, e]⟩
  · exact ⟨16 + k, by omega, by rw [if_neg (by omega), if_pos (by omega), Nat.add_sub_cancel_left, e]⟩
  · exact ⟨32 + k, by omega, by rw [if_neg (by omega), if_neg (by omega), if_pos (by omega), Nat.add_sub_cancel_left, e]⟩
  · exact ⟨48 + k, by omega, by rw [if_neg (by omega), if_neg (by omega), if_neg (by omega), Nat.add_sub_cancel_left, e]⟩

end Cert.Proof.Val
-- ==== Proof.Hist.lean ====
module
public import proofs.«01_k».proof.Proof.Sort
/-! Where an element falls among the sixty-four keys, and the counts of the elements above each key. -/
@[expose] public section
set_option pp.maxSteps 400
noncomputable section
namespace Cert.Proof.Val
open Idealize.ShloMosaic
open Cert.KernelIdeal Cert.Proof.Mem
open scoped Classical
variable [Facts]
attribute [local irreducible] iter

/-! ### The table of keys -/

theorem tk_step (v : VF Ideal) (b : ℕ) (hb : b ≤ 48) (k : ℕ) (hk : k < 16) (f : (A 1024).Idx → EReal) (p l : ℕ) (hp : p < 64) (hl : l < 16) :
    ln (tkStep v (BitVec.ofNat 32 b) k f) (16 * p + l) = if l = k ∧ b ≤ p ∧ p < b + 16 then ln v (p - b) else ln f (16 * p + l) := by
  have hi : ∀ q < 16, (ln (addi (muli (addi io (bi (BitVec.ofNat 32 b))) (bi 16#32)) (bi (BitVec.ofNat 32 k))) q).toNat = 16 * (b + q) + k := by
    intro q hq
    rw [ln_addi, ln_muli, ln_addi, ln_io q hq, ln_bi, ln_bi, ln_bi]
    simp
    omega
  unfold tkStep
  by_cases c : l = k ∧ b ≤ p ∧ p < b + 16
  · rw [if_pos c]
    refine ln_sca_hit f _ v ones _ (by omega) (p - b) (by omega) rfl (by rw [hi _ (by omega)]; omega) _ fun k' hk' _ e => ?_
    rw [hi k' hk'] at e
    exact congrArg _ (by omega)
  · rw [if_neg c]
    refine ln_sca_not f _ v ones _ (by omega) fun k' hk' _ e => c ?_
    rw [hi k' hk'] at e
    omega

theorem tk_iter (v : VF Ideal) (b : ℕ) (hb : b ≤ 48) (f : (A 1024).Idx → EReal) (p l : ℕ) (hp : p < 64) (hl : l < 16) :
    ln (iter 16 (tkStep v (BitVec.ofNat 32 b)) f) (16 * p + l) = if b ≤ p ∧ p < b + 16 then ln v (p - b) else ln f (16 * p + l) := by
  have := iter_inv (fun n (g : (A 1024).Idx → EReal) =>
    ∀ l < 16, ln g (16 * p + l) = if l < n ∧ b ≤ p ∧ p < b + 16 then ln v (p - b) else ln f (16 * p + l))
    (tkStep v (BitVec.ofNat 32 b)) f 16 (fun l _ => by rw [if_neg (by omega)]) fun k hk g P l hl => by
      rw [tk_step v b hb k hk g p l hp hl, P l hl]
      split_ifs <;> first | rfl | omega
  rw [this l hl]
  simp only [hl, true_and]

theorem tk_all (v0 v1 v2 v3 : VF Ideal) (f : (A 1024).Idx → EReal) (p l : ℕ) (hp : p < 64) (hl : l < 16) :
    ln (iter 16 (tkStep v3 (BitVec.ofNat 32 48)) (iter 16 (tkStep v2 (BitVec.ofNat 32 32))
      (iter 16 (tkStep v1 (BitVec.ofNat 32 16)) (iter 16 (tkStep v0 (BitVec.ofNat 32 0)) f)))) (16 * p + l) = pick4 v0 v1 v2 v3 p := by
  rw [tk_iter _ 48 (by decide) _ p l hp hl, tk_iter _ 32 (by decide) _ p l hp hl, tk_iter _ 16 (by decide) _ p l hp hl,
    tk_iter _ 0 (by decide) _ p l hp hl]
  unfold pick4
  split_ifs <;> first | rfl | (exfalso; omega)

theorem rB_tk (m : Mem Ideal) (p l : ℕ) (hp : p < 64) (hl : l < 16) : ln (rB m).tk (16 * p + l) = kk4 (rA m).s p :=
  tk_all (q0 (F := Ideal) (rA m).s).1 (q1 (F := Ideal) (rA m).s).1 (q2 (F := Ideal) (rA m).s).1 (q3 (F := Ideal) (rA m).s).1 (rA m).tk p l hp hl

/-! ### The number of keys below -/

theorem pp_ex (K : ℕ → EReal) (y : EReal) : ∃ P, P = 64 ∨ y ≤ K P := ⟨64, .inl rfl⟩
/-- The number of keys below `y`. -/
def pp (K : ℕ → EReal) (y : EReal) : ℕ := Nat.find (pp_ex K y)
theorem pp_le (K : ℕ → EReal) (y : EReal) : pp K y ≤ 64 := Nat.find_min' _ (.inl rfl)
theorem pp_iff {K : ℕ → EReal} (hK : ∀ p q, p ≤ q → q < 64 → K p ≤ K q) (y : EReal) (p : ℕ) (hp : p < 64) : K p < y ↔ p < pp K y := by
  constructor
  · intro h
    by_contra hc
    rcases Nat.find_spec (pp_ex K y) with e | e
    · have : pp K y = 64 := e
      omega
    · exact absurd (h.trans_le e) (not_lt.mpr (hK _ p (not_lt.mp hc) hp))
  · intro h
    have := Nat.find_min (pp_ex K y) h
    push Not at this
    exact this.2

theorem vmax_srt {v : VF Ideal} (h : Srt v) : vmax v = ln v 15 :=
  le_antisymm ((vmax_le v _).mpr fun k hk => h k 15 (by omega) (by decide)) (le_vmax v (by decide))
theorem low8_srt {v : VF Ideal} (h : Srt v) : low8 v = ln v 7 := by
  have e : ∀ k < 16, ln (select (cmpi .slt io (bi 8#32)) v (ninf : VF Ideal)) k = if k < 8 then ln v k else ⊥ := by
    intro k hk
    rw [ln_select]
    have c : ln (cmpi .slt io (bi 8#32)) k = 1 ↔ k < 8 := by
      show IntOp.cmpi .slt (ln io k) 8#32 = 1 ↔ _
      rw [ln_io k hk, cmpi_slt_one _ _ (by rw [ofNat_small] <;> omega) (by decide), ofNat_small (by omega)]
      exact Iff.rfl
    by_cases h : k < 8
    · rw [if_pos (c.mpr h), if_pos h]
    · rw [if_neg (fun q => h (c.mp q)), if_neg h]; exact ln_ninf k
  refine le_antisymm ((vmax_le _ _).mpr fun k hk => ?_) ?_
  · rw [e k hk]
    split
    · exact h k 7 (by omega) (by decide)
    · exact bot_le
  · have := le_vmax (select (cmpi .slt io (bi 8#32)) v (ninf : VF Ideal)) (k := 7) (by decide)
    rw [e 7 (by decide), if_pos (by decide)] at this
    exact this

theorem prb_lane (tk : (A 1024).Idx → EReal) (K : ℕ → EReal) (htk : ∀ p l, p < 64 → l < 16 → ln tk (16 * p + l) = K p) (y : VF Ideal)
    (w d : ℕ) (hw : w < 64) (hd : d < 64) (pos : VI) (l : ℕ) (hl : l < 16) (n : ℕ) (hn : (ln pos l).toNat = n) (hnd : n + d < 64) :
    (ln (prb tk y (BitVec.ofNat 32 w) (BitVec.ofNat 32 d) pos) l).toNat = if K (n + d) < ln y l then n + w else n := by
  have hi : (ln (addi (muli (addi pos (bi (BitVec.ofNat 32 d))) (bi 16#32)) io) l).toNat = 16 * (n + d) + l := by
    rw [ln_addi, ln_muli, ln_addi, ln_io l hl, ln_bi, ln_bi]
    simp
    omega
  have c : ln (cmpf .olt (gat tk (addi (muli (addi pos (bi (BitVec.ofNat 32 d))) (bi 16#32)) io) : VF Ideal) y) l = 1 ↔ K (n + d) < ln y l := by
    rw [ln_cmpf_olt, ln_gat, hi, htk _ _ hnd hl]
  unfold prb
  rw [ln_select]
  by_cases h : K (n + d) < ln y l
  · rw [if_pos (c.mpr h), if_pos h, ln_addi, ln_bi, BitVec.toNat_add, hn, ofNat_small (by omega)]
    omega
  · rw [if_neg (fun q => h (c.mp q)), if_neg h, hn]

theorem bpos_lane (s : (A 32768).Idx → EReal) (tk : (A 1024).Idx → EReal) (htk : ∀ p l, p < 64 → l < 16 → ln tk (16 * p + l) = kk4 s p)
    (y : VF Ideal) (l : ℕ) (hl : l < 16) :
    (ln (bpos (F := Ideal) (q0 s).1 (q1 s).1 (q2 s).1 (q3 s).1 tk y) l).toNat = pp (kk4 s) (ln y l) := by
  have hP := pp_le (kk4 s) (ln y l)
  have h := pp_iff (K := kk4 s) (fun p q a b => kk4_mono s a b) (ln y l)
  generalize pp (kk4 s) (ln y l) = P at hP h ⊢
  have s0 : Srt (q0 (F := Ideal) s).1 := srt_srt _
  have s1 : Srt (q1 (F := Ideal) s).1 := srt_srt _
  have s2 : Srt (q2 (F := Ideal) s).1 := srt_srt _
  have s3 : Srt (q3 (F := Ideal) s).1 := srt_srt _
  have v0 : vmax (q0 (F := Ideal) s).1 = kk4 s 15 := vmax_srt s0
  have v1 : vmax (q1 (F := Ideal) s).1 = kk4 s 31 := vmax_srt s1
  have v2 : vmax (q2 (F := Ideal) s).1 = kk4 s 47 := vmax_srt s2
  have v3 : vmax (q3 (F := Ideal) s).1 = kk4 s 63 := vmax_srt s3
  have w0 : low8 (q0 (F := Ideal) s).1 = kk4 s 7 := low8_srt s0
  have w1 : low8 (q1 (F := Ideal) s).1 = kk4 s 23 := low8_srt s1
  have w2 : low8 (q2 (F := Ideal) s).1 = kk4 s 39 := low8_srt s2
  have w3 : low8 (q3 (F := Ideal) s).1 = kk4 s 55 := low8_srt s3
  have cc : ∀ u : VF Ideal, ∀ k < 64, ln u l = kk4 s k → (ln (cmpf .olt u y) l = 1 ↔ k < P) := fun u k hk e => by
    rw [ln_cmpf_olt, e, h k hk]
  unfold bpos
  rw [v0, v1, v2, v3, w0, w1, w2, w3]
  dsimp only
  generalize hc32 : cmpf .olt (bf (F := Ideal) (kk4 s 31)) y = c32
  have e32 : ln c32 l = 1 ↔ 31 < P := by rw [← hc32]; exact cc _ 31 (by decide) rfl
  generalize hc16 : cmpf .olt (select c32 (bf (F := Ideal) (kk4 s 47)) (bf (F := Ideal) (kk4 s 15)) : VF Ideal) y = c16
  have e16 : ln c16 l = 1 ↔ (if 31 < P then 47 else 15) < P := by
    rw [← hc16]
    refine cc _ _ (by split <;> decide) ?_
    rw [ln_select, ln_bf, ln_bf]
    by_cases a : 31 < P
    · rw [if_pos a, if_pos (e32.mpr a)]
    · rw [if_neg a, if_neg (fun q => a (e32.mp q))]
  generalize hc8 : cmpf .olt (select c32 (select c16 (bf (F := Ideal) (kk4 s 55)) (bf (F := Ideal) (kk4 s 39)))
    (select c16 (bf (F := Ideal) (kk4 s 23)) (bf (F := Ideal) (kk4 s 7))) : VF Ideal) y = c8
  have e8 : ln c8 l = 1 ↔ 16 * (min P 63 / 16) + 7 < P := by
    rw [← hc8]
    refine cc _ _ (by omega) ?_
    rw [ln_select, ln_select, ln_select, ln_bf, ln_bf, ln_bf, ln_bf]
    by_cases a : 31 < P
    · rw [if_pos (e32.mpr a)]
      rw [if_pos a] at e16
      by_cases b : 47 < P
      · rw [if_pos (e16.mpr b)]; exact congrArg _ (by omega)
      · rw [if_neg (fun q => b (e16.mp q))]; exact congrArg _ (by omega)
    · rw [if_neg (fun q => a (e32.mp q))]
      rw [if_neg a] at e16
      by_cases b : 15 < P
      · rw [if_pos (e16.mpr b)]; exact congrArg _ (by omega)
      · rw [if_neg (fun q => b (e16.mp q))]; exact congrArg _ (by omega)
  have t0 : (ln (select c32 (bi 32#32) (bi 0#32) : VI) l).toNat = 32 * (min P 63 / 32) := by
    rw [ln_select, ln_bi, ln_bi]
    by_cases a : 31 < P
    · rw [if_pos (e32.mpr a)]; show 32 = _; omega
    · rw [if_neg (fun q => a (e32.mp q))]; show 0 = _; omega
  generalize (select c32 (bi 32#32) (bi 0#32) : VI) = u0 at t0 ⊢
  have t1 : (ln (select c16 (addi u0 (bi 16#32)) u0 : VI) l).toNat = 16 * (min P 63 / 16) := by
    rw [ln_select, ln_addi, ln_bi]
    by_cases b : (if 31 < P then 47 else 15) < P
    · rw [if_pos (e16.mpr b), BitVec.toNat_add, t0]
      show (_ + 16) % 2 ^ 32 = _
      split at b <;> omega
    · rw [if_neg (fun q => b (e16.mp q)), t0]
      split at b <;> omega
  generalize (select c16 (addi u0 (bi 16#32)) u0 : VI) = u1 at t1 ⊢
  have t2 : (ln (select c8 (addi u1 (bi 8#32)) u1 : VI) l).toNat = 8 * (min P 63 / 8) := by
    rw [ln_select, ln_addi, ln_bi]
    by_cases b : 16 * (min P 63 / 16) + 7 < P
    · rw [if_pos (e8.mpr b), BitVec.toNat_add, t1]
      show (_ + 8) % 2 ^ 32 = _
      omega
    · rw [if_neg (fun q => b (e8.mp q)), t1]
      omega
  generalize (select c8 (addi u1 (bi 8#32)) u1 : VI) = u2 at t2 ⊢
  have t3 := prb_lane tk (kk4 s) htk y 4 3 (by decide) (by decide) u2 l hl _ t2 (by omega)
  rw [if_congr (h _ (by omega)) rfl rfl] at t3
  have t3' : (ln (prb tk y 4#32 3#32 u2) l).toNat = 4 * (min P 63 / 4) := t3.trans (by split <;> omega)
  generalize prb tk y 4#32 3#32 u2 = u3 at t3' ⊢
  have t4 := prb_lane tk (kk4 s) htk y 2 1 (by decide) (by decide) u3 l hl _ t3' (by omega)
  rw [if_congr (h _ (by omega)) rfl rfl] at t4
  have t4' : (ln (prb tk y 2#32 1#32 u3) l).toNat = 2 * (min P 63 / 2) := t4.trans (by split <;> omega)
  generalize prb tk y 2#32 1#32 u3 = u4 at t4' ⊢
  have t5 := prb_lane tk (kk4 s) htk y 1 0 (by decide) (by decide) u4 l hl _ t4' (by omega)
  rw [if_congr (h _ (by omega)) rfl rfl] at t5
  have t5' : (ln (prb tk y 1#32 0#32 u4) l).toNat = min P 63 := t5.trans (by split <;> omega)
  generalize prb tk y 1#32 0#32 u4 = u5 at t5' ⊢
  rw [ln_select, ln_andi, ln_bi]
  have c1 : ln (cmpi .eq u5 (bi 63#32)) l = 1 ↔ min P 63 = 63 := by
    show IntOp.cmpi .eq (ln u5 l) 63#32 = 1 ↔ _
    rw [cmpi_eq_one]
    constructor
    · intro q; rw [← t5', q]; rfl
    · intro q; exact BitVec.eq_of_toNat_eq (by rw [t5', q]; rfl)
  have c2 := cc (bf (F := Ideal) (kk4 s 63)) 63 (by decide) rfl
  by_cases a : P = 64
  · rw [if_pos ((bit_and _ _).mpr ⟨c1.mpr (by omega), c2.mpr (by omega)⟩), a]; rfl
  · rw [if_neg (fun q => by have := c2.mp ((bit_and _ _).mp q).2; omega), t5']
    omega

/-! ### The counts -/

theorem ln_scaA {n : ℕ} [NeZero n] (f : (A n).Idx → BitVec 32) (v : VI) (j : ℕ) (hj : j < n) :
    ln (scaA f v) j = ln f j + BitVec.ofNat 32 (((List.finRange 16).filter fun k => decide (j = (ln v k.val).toNat)).length) := by
  unfold scaA
  generalize List.finRange 16 = L
  induction L generalizing f with
  | nil => simp
  | cons k L ih =>
    rw [List.foldl_cons, ih]
    have e : ln (fun i : (A n).Idx => if (i 0).val = (v (ix 16 k.val)).toNat then f i + 1#32 else f i) j
        = if j = (ln v k.val).toNat then ln f j + 1#32 else ln f j := by
      show (if (ix n j 0).val = _ then _ else _) = _
      rw [ix_val hj]; rfl
    rw [e, List.filter_cons]
    by_cases h : j = (ln v k.val).toNat
    · rw [if_pos h, if_pos (by simpa using h), List.length_cons, BitVec.ofNat_add]
      ac_rfl
    · rw [if_neg h, if_neg (by simpa using h)]

/-- How many of the first groups hold, in lane `l`, an element with `p` keys below. -/
def hcn (K E : ℕ → EReal) (p l g : ℕ) : ℕ := ∑ t ∈ Finset.range g, if pp K (E (16 * t + l)) = p then 1 else 0

theorem filter_one (l : ℕ) (hl : l < 16) (P : Prop) [Decidable P] (q : Fin 16 → Bool) (h : ∀ k : Fin 16, q k = true ↔ k.val = l ∧ P) :
    ((List.finRange 16).filter q).length = if P then 1 else 0 := by
  have : q = fun k => decide (k.val = l ∧ P) := by
    funext k
    rw [Bool.eq_iff_iff, h, decide_eq_true_eq]
  subst this
  by_cases hp : P
  · simp only [hp, and_true, if_true]
    have hall : ∀ l : Fin 16, ((List.finRange 16).filter fun k => decide (k.val = l.val)).length = 1 := by decide
    exact hall ⟨l, hl⟩
  · simp [hp]

theorem hist_inv (v0 v1 v2 v3 : VF Ideal) (f' : (A 32768).Idx → EReal) (tk : (A 1024).Idx → EReal) (K : ℕ → EReal)
    (hbp : ∀ (y : VF Ideal) (l : ℕ), l < 16 → (ln (bpos v0 v1 v2 v3 tk y) l).toNat = pp K (ln y l))
    (f : (A 1040).Idx → BitVec 32) (h0 : ∀ i < 1040, ln f i = 0#32) :
    ∀ p ≤ 64, ∀ l < 16, ln (iter 2048 (hStep (F := Ideal) v0 v1 v2 v3 tk f') f) (16 * p + l)
      = BitVec.ofNat 32 (hcn K (ln f') p l 2048) := by
  refine iter_inv (fun g (f : (A 1040).Idx → BitVec 32) => ∀ p ≤ 64, ∀ l < 16, ln f (16 * p + l) = BitVec.ofNat 32 (hcn K (ln f') p l g))
    (hStep (F := Ideal) v0 v1 v2 v3 tk f') f 2048 (fun p hp l hl => ?_) fun g hg a P p hp l hl => ?_
  · rw [h0 _ (by omega)]; rfl
  · unfold hStep
    rw [ln_scaA _ _ _ (by omega), P p hp l hl]
    have e : ∀ k < 16, (ln (addi (muli (bpos (F := Ideal) v0 v1 v2 v3 tk (ld f' (16 * g))) (bi 16#32)) io) k).toNat
        = 16 * pp K (ln f' (16 * g + k)) + k := by
      intro k hk
      have h1 := hbp (ld f' (16 * g)) k hk
      rw [ln_ld _ _ _ hk] at h1
      have h2 := pp_le K (ln f' (16 * g + k))
      rw [ln_addi, ln_muli, ln_io k hk, ln_bi, BitVec.toNat_add, BitVec.toNat_mul, h1, ofNat_small (k := k) (by omega), show (16#32 : BitVec 32).toNat = 16 from rfl]
      omega
    rw [filter_one l hl (pp K (ln f' (16 * g + l)) = p) _ fun k => by
      rw [decide_eq_true_eq, e k.val k.isLt]
      constructor
      · intro q
        have : k.val = l := by have := k.isLt; omega
        rw [this] at q
        exact ⟨this, by omega⟩
      · rintro ⟨q, r⟩
        rw [q, r]]
    unfold hcn
    rw [Finset.sum_range_succ, BitVec.ofNat_add]

theorem hz_inv (f : (A 1040).Idx → BitVec 32) : ∀ i < 1040, ln (iter 65 hzStep f) i = 0#32 := by
  have := iter_inv (fun n (g : (A 1040).Idx → BitVec 32) => ∀ i < 1040, i < 16 * n → ln g i = 0#32) hzStep f 65
    (fun i _ h => absurd h (by omega)) fun k hk g P i hi h => by
      unfold hzStep
      rw [ln_sd _ _ _ _ hi]
      split
      · rfl
      · exact P i hi (by omega)
  exact fun i hi => this i hi (by omega)

/-- The number of elements with `p` keys below. -/
def hct (K E : ℕ → EReal) (p : ℕ) : ℕ := ∑ l ∈ Finset.range 16, hcn K E p l 2048

theorem tot_lane (K E : ℕ → EReal) (hi : (A 1040).Idx → BitVec 32)
    (h : ∀ p ≤ 64, ∀ l < 16, ln hi (16 * p + l) = BitVec.ofNat 32 (hcn K E p l 2048)) (b : ℕ) (hb : b ≤ 48) :
    ∀ k < 16, ln (tot hi (BitVec.ofNat 32 b)) k = BitVec.ofNat 32 (hct K E (k + (b + 1))) := by
  refine iter_inv (fun n (a : VI) => ∀ k < 16, ln a k = BitVec.ofNat 32 (∑ l ∈ Finset.range n, hcn K E (k + (b + 1)) l 2048))
    (totStep hi (BitVec.ofNat 32 b)) (bi 0#32) 16 (fun k _ => rfl) fun j hj a P k hk => ?_
  unfold totStep
  have e : (ln (addi (muli (addi (addi io (bi (BitVec.ofNat 32 b))) (bi 1#32)) (bi 16#32)) (bi (BitVec.ofNat 32 j))) k).toNat
      = 16 * (k + (b + 1)) + j := by
    rw [ln_addi, ln_muli, ln_addi, ln_addi, ln_io k hk, ln_bi, ln_bi, ln_bi, ln_bi]
    simp
    omega
  rw [ln_addi, P k hk, ln_gat, e, h _ (by omega) _ hj, Finset.sum_range_succ, BitVec.ofNat_add]

theorem scan_sum (v : VI) (u : ℕ → ℕ) (h : ∀ k < 16, ln v k = BitVec.ofNat 32 (u k)) (j : ℕ) (hj : j < 16) :
    ln (scan .sum v) j = BitVec.ofNat 32 (∑ k ∈ Finset.range (j + 1), u k) := by
  show scan .sum v (ix 16 j) = _
  rw [scan_ix .sum v j hj]
  have : ∀ n < 16, (List.range n).foldl (fun r k => ScanKind.step (w := 32) .sum r (v (ix 16 (k + 1)))) (v (ix 16 0))
      = BitVec.ofNat 32 (∑ k ∈ Finset.range (n + 1), u k) := by
    intro n hn
    induction n with
    | zero => rw [Finset.sum_range_one]; exact h 0 (by decide)
    | succ n ih =>
      rw [List.range_succ, List.foldl_append, ih (by omega), Finset.sum_range_succ _ (n + 1), BitVec.ofNat_add, ← h (n + 1) hn]
      rfl
  exact this j hj

theorem rcs_lane (t : VI) (u : ℕ → ℕ) (h : ∀ k < 16, ln t k = BitVec.ofNat 32 (u k)) (i : ℕ) (hi : i < 16) :
    ln (rcs t) i = BitVec.ofNat 32 (∑ k ∈ Finset.Ico i 16, u k) := by
  unfold rcs
  rw [ln_gat, ln_r15 i hi, scan_sum (gat t r15) (fun k => u (15 - k)) (fun k hk => by rw [ln_gat, ln_r15 k hk, h _ (by omega)]) _ (by omega),
    Finset.range_eq_Ico, Finset.sum_Ico_reflect u 0 (by omega)]
  congr 2
  congr 1; omega

theorem lsum_eq (t : VI) (u : ℕ → ℕ) (h : ∀ k < 16, ln t k = BitVec.ofNat 32 (u k)) :
    lsum t = BitVec.ofNat 32 (∑ k ∈ Finset.Ico 0 16, u k) := by
  rw [← Finset.range_eq_Ico]
  exact scan_sum t u h 15 (by decide)

/-- The elements with more than `p` keys below. -/
def tl (K E : ℕ → EReal) (p : ℕ) : ℕ := ∑ q ∈ Finset.Ico (p + 1) 65, hct K E q

theorem sum_split' (f : ℕ → ℕ) (b : ℕ) : ∀ a : ℕ,
    ∑ j ∈ Finset.range (b * a), f j = ∑ i ∈ Finset.range a, ∑ k ∈ Finset.range b, f (b * i + k)
  | 0 => by simp
  | a + 1 => by
    rw [Finset.sum_range_succ, ← sum_split' f b a, Nat.mul_succ, Finset.sum_range_add]

theorem tl_eq (K E : ℕ → EReal) (hK : ∀ p q, p ≤ q → q < 64 → K p ≤ K q) (p : ℕ) (hp : p < 64) :
    tl K E p = ((Finset.range 32768).filter fun y => K p < E y).card := by
  have h1 : ∀ q, hct K E q = ∑ y ∈ Finset.range 32768, if pp K (E y) = q then 1 else 0 := fun q => by
    have := sum_split' (fun y => if pp K (E y) = q then 1 else 0) 16 2048
    refine Eq.trans ?_ this.symm
    unfold hct hcn
    rw [Finset.sum_comm]
  unfold tl
  simp only [h1]
  rw [Finset.sum_comm, Finset.card_filter]
  apply Finset.sum_congr rfl
  intro y _
  rw [Finset.sum_ite_eq]
  have := pp_le K (E y)
  have h2 := pp_iff hK (E y) p hp
  by_cases c : K p < E y
  · rw [if_pos c, if_pos (by rw [Finset.mem_Ico]; have := h2.mp c; omega)]
  · rw [if_neg c, if_neg (by rw [Finset.mem_Ico]; intro q; exact c (h2.mpr (by omega)))]

end Cert.Proof.Val
-- ==== Proof.Kern.lean ====
module
public import proofs.«01_k».proof.Proof.Hist
/-! A row of the kernel's result: the row filtered by rank. -/
@[expose] public section
set_option pp.maxSteps 400
noncomputable section
namespace Cert.Proof.Val
open Idealize.ShloMosaic
open Cert.KernelIdeal Cert.Proof.Mem
open scoped Classical
variable [Facts]
attribute [local irreducible] iter

theorem exp_nonneg (x : EReal) : 0 ≤ Ideal.exp x := by
  induction x with
  | bot => exact le_rfl
  | top => exact le_top
  | coe r => exact EReal.coe_nonneg.mpr (Real.exp_pos r).le

theorem expo_nonneg (X : ℕ → EReal) (M : EReal) (i : ℕ) : 0 ≤ expo X M i := exp_nonneg _

/-- The extractions from a memory whose tables have been set. -/
theorem ext_upd (E : ℕ → EReal) (hE : ∀ i < 32768, 0 ≤ E i) (v3 : VF Ideal) (a : Mem Ideal) (kb : (A 16).Idx → EReal) (vb : (A 16).Idx → BitVec 32)
    (tk : (A 1024).Idx → EReal) (tp : (A 64).Idx → BitVec 32) (H : Hier (ln a.s) (ln a.m1) (ln a.m2) (ln v3)) (hs : ∀ i < 32768, ln a.s i = E i) :
    PInv E tk 64 (extAll v3 { a with kb := kb, vb := vb, tk := tk, tp := tp }) :=
  ext_inv hE v3 { a with kb := kb, vb := vb, tk := tk, tp := tp } H hs

theorem rX_inv (m : Mem Ideal) : PInv (rEx m) (rB m).tk 64 (rX m) := by
  unfold rX rB
  exact ext_upd (rEx m) (fun i _ => expo_nonneg _ _ i) (m3all (rA m)) (rA m) _ _ _ _ (rA_hier m) (rA_s m)

theorem rR_eq (m : Mem Ideal) : ∀ i < 32768, ln (rR m) i = rEx m i := restore_inv (rX_inv m)

theorem rX_tk (m : Mem Ideal) (p l : ℕ) (hp : p < 64) (hl : l < 16) : ln (rX m).2.tk (16 * p + l) = kk4 (rA m).s p := by
  rw [(rX_inv m).k]
  exact rB_tk m p l hp hl

/-- The keys in order. -/
abbrev kK (m : Mem Ideal) : ℕ → EReal := kk4 (rA m).s

theorem rH_eq (m : Mem Ideal) : ∀ p ≤ 64, ∀ l < 16, ln (rH m) (16 * p + l) = BitVec.ofNat 32 (hcn (kK m) (ln (rR m)) p l 2048) := by
  unfold rH
  exact hist_inv (q0 (F := Ideal) (rA m).s).1 (q1 (F := Ideal) (rA m).s).1 (q2 (F := Ideal) (rA m).s).1 (q3 (F := Ideal) (rA m).s).1 (rR m)
    (rX m).2.tk (kK m) (fun y l hl => bpos_lane (rA m).s (rX m).2.tk (rX_tk m) y l hl) (iter 65 hzStep (rX m).2.hi) (hz_inv _)

section tails
variable (K E : ℕ → EReal) (hi : (A 1040).Idx → BitVec 32)
  (h : ∀ p ≤ 64, ∀ l < 16, ln hi (16 * p + l) = BitVec.ofNat 32 (hcn K E p l 2048))
include h

theorem lsum_tot (b : ℕ) (hb : b ≤ 48) : lsum (tot hi (BitVec.ofNat 32 b)) = BitVec.ofNat 32 (∑ q ∈ Finset.Ico (b + 1) (b + 17), hct K E q) := by
  rw [lsum_eq _ _ (tot_lane K E hi h b hb), Finset.sum_Ico_add' (hct K E) 0 16 (b + 1), Nat.zero_add, show 16 + (b + 1) = b + 17 by omega]

theorem gv_lane (b : ℕ) (hb : b ≤ 48) (c : BitVec 32) (hc : c = BitVec.ofNat 32 (∑ q ∈ Finset.Ico (b + 17) 65, hct K E q)) (k : ℕ) (hk : k < 16) :
    ln (gv (tot hi (BitVec.ofNat 32 b)) c) k = BitVec.ofNat 32 (tl K E (b + k)) := by
  unfold gv
  rw [ln_addi, ln_bi, hc, rcs_lane _ _ (tot_lane K E hi h b hb) k hk, Finset.sum_Ico_add' (hct K E) k 16 (b + 1), ← BitVec.ofNat_add,
    show 16 + (b + 1) = b + 17 by omega, Finset.sum_Ico_consecutive _ (by omega) (by omega), show k + (b + 1) = b + k + 1 by omega]
  rfl
end tails

theorem c3_eq (m : Mem Ideal) : c3 m = BitVec.ofNat 32 (∑ q ∈ Finset.Ico 49 65, hct (kK m) (ln (rR m)) q) := by
  have := lsum_tot _ _ _ (rH_eq m) 48 (by decide)
  show 0#32 + lsum (tot (rH m) (BitVec.ofNat 32 48)) = _
  rw [this, BitVec.zero_add]
theorem c2_eq (m : Mem Ideal) : c2 m = BitVec.ofNat 32 (∑ q ∈ Finset.Ico 33 65, hct (kK m) (ln (rR m)) q) := by
  have := lsum_tot _ _ _ (rH_eq m) 32 (by decide)
  show c3 m + lsum (tot (rH m) (BitVec.ofNat 32 32)) = _
  rw [this, c3_eq, ← BitVec.ofNat_add, add_comm, Finset.sum_Ico_consecutive _ (by decide) (by decide)]
theorem c1_eq (m : Mem Ideal) : c1 m = BitVec.ofNat 32 (∑ q ∈ Finset.Ico 17 65, hct (kK m) (ln (rR m)) q) := by
  have := lsum_tot _ _ _ (rH_eq m) 16 (by decide)
  show c2 m + lsum (tot (rH m) (BitVec.ofNat 32 16)) = _
  rw [this, c2_eq, ← BitVec.ofNat_add, add_comm, Finset.sum_Ico_consecutive _ (by decide) (by decide)]

theorem sca_or {α : Type} {n : ℕ} [NeZero n] (f : (A n).Idx → α) (v : VI) (w : (A 16).Idx → α) (j : ℕ) (hj : j < n) (x : α)
    (hx : ∀ k < 16, (ln v k).toNat = j → ln w k = x) (ho : ln f j = x ∨ ∃ k < 16, (ln v k).toNat = j) : ln (sca f v w ones) j = x := by
  by_cases h : ∃ k < 16, (ln v k).toNat = j
  · obtain ⟨k, hk, e⟩ := h
    exact ln_sca_hit f v w ones j hj k hk rfl e.symm x fun k' hk' _ e' => hx k' hk' e'.symm
  · rw [ln_sca_not f v w ones j hj fun k hk _ e => h ⟨k, hk, e.symm⟩]
    exact ho.resolve_right h

theorem pick4_0 {α : Type} (a b c d : (A 16).Idx → α) (k : ℕ) (hk : k < 16) : pick4 a b c d (0 + k) = ln a k := by
  unfold pick4; rw [if_pos (by omega), Nat.zero_add]
theorem pick4_1 {α : Type} (a b c d : (A 16).Idx → α) (k : ℕ) (hk : k < 16) : pick4 a b c d (16 + k) = ln b k := by
  unfold pick4; rw [if_neg (by omega), if_pos (by omega), Nat.add_sub_cancel_left]
theorem pick4_2 {α : Type} (a b c d : (A 16).Idx → α) (k : ℕ) (hk : k < 16) : pick4 a b c d (32 + k) = ln c k := by
  unfold pick4; rw [if_neg (by omega), if_neg (by omega), if_pos (by omega), Nat.add_sub_cancel_left]
theorem pick4_3 {α : Type} (a b c d : (A 16).Idx → α) (k : ℕ) (hk : k < 16) : pick4 a b c d (48 + k) = ln d k := by
  unfold pick4; rw [if_neg (by omega), if_neg (by omega), if_neg (by omega), Nat.add_sub_cancel_left]

/-- The number of elements above element `v`. -/
def abv (E : ℕ → EReal) (v : ℕ) : ℕ := rnk 32768 (fun k i => E i < E k) v

theorem card_eq {P Q : ℕ → Prop} {dP : DecidablePred P} {dQ : DecidablePred Q} (s : Finset ℕ) (h : ∀ x ∈ s, P x ↔ Q x) :
    (s.filter P).card = (s.filter Q).card :=
  congrArg Finset.card (Finset.ext fun y => by rw [Finset.mem_filter, Finset.mem_filter]; exact and_congr_right (h y))

theorem tl_abv (m : Mem Ideal) (p v : ℕ) (hp : p < 64) (h : (vv4 (rA m).s p).toNat = v) : tl (kK m) (ln (rR m)) p = abv (rEx m) v := by
  rw [tl_eq _ _ (fun p q a b => kk4_mono _ a b) p hp]
  have := kk4_tied (rA m).s hp
  rw [h] at this
  unfold abv rnk
  refine card_eq _ fun y hy => ?_
  rw [rR_eq m y (Finset.mem_range.mp hy), this.2.trans (rA_s m v (by omega))]

theorem rG_eq (m : Mem Ideal) (v : ℕ) (hv : v < 64) : ln (rG m) v = BitVec.ofNat 32 (abv (rEx m) v) := by
  have g0 := gv_lane _ _ _ (rH_eq m) 0 (by decide) (c1 m) (c1_eq m)
  have g1 := gv_lane _ _ _ (rH_eq m) 16 (by decide) (c2 m) (c2_eq m)
  have g2 := gv_lane _ _ _ (rH_eq m) 32 (by decide) (c3 m) (c3_eq m)
  have g3 := gv_lane _ _ _ (rH_eq m) 48 (by decide) 0#32 (by rw [Finset.Ico_self]; rfl)
  have T := fun p hp h => tl_abv m p v hp h
  have hs : ∃ p < 64, (vv4 (rA m).s p).toNat = v := vv4_surj _ hv
  unfold vv4 at T hs
  unfold rG
  generalize hf : (rX m).2.rk = f0
  generalize (q0 (F := Ideal) (rA m).s).2 = a at T hs ⊢
  generalize (q1 (F := Ideal) (rA m).s).2 = b at T hs ⊢
  generalize (q2 (F := Ideal) (rA m).s).2 = c at T hs ⊢
  generalize (q3 (F := Ideal) (rA m).s).2 = d at T hs ⊢
  refine sca_or _ _ _ v hv _ (fun k hk e => (g3 k hk).trans (congrArg _ (T _ (by omega) (by rw [pick4_3 _ _ _ _ k hk]; exact e)))) ?_
  rw [or_iff_not_imp_right]
  intro n3
  refine sca_or _ _ _ v hv _ (fun k hk e => (g2 k hk).trans (congrArg _ (T _ (by omega) (by rw [pick4_2 _ _ _ _ k hk]; exact e)))) ?_
  rw [or_iff_not_imp_right]
  intro n2
  refine sca_or _ _ _ v hv _ (fun k hk e => (g1 k hk).trans (congrArg _ (T _ (by omega) (by rw [pick4_1 _ _ _ _ k hk]; exact e)))) ?_
  rw [or_iff_not_imp_right]
  intro n1
  refine sca_or _ _ _ v hv _ (fun k hk e => (g0 k hk).trans (congrArg _ (T _ (by omega) (by rw [pick4_0 _ _ _ _ k hk]; exact e)))) (.inr ?_)
  obtain ⟨p, hp, e⟩ := hs
  rcases (by omega : p < 16 ∨ 16 ≤ p ∧ p < 32 ∨ 32 ≤ p ∧ p < 48 ∨ 48 ≤ p) with q | q | q | q
  · exact ⟨p, q, by rw [← e, ← pick4_0 a b c d p q, Nat.zero_add]⟩
  · exact absurd ⟨p - 16, by omega, by rw [← e, ← pick4_1 a b c d (p - 16) (by omega), show 16 + (p - 16) = p by omega]⟩ n1
  · exact absurd ⟨p - 32, by omega, by rw [← e, ← pick4_2 a b c d (p - 32) (by omega), show 32 + (p - 32) = p by omega]⟩ n2
  · exact absurd ⟨p - 48, by omega, by rw [← e, ← pick4_3 a b c d (p - 48) (by omega), show 48 + (p - 48) = p by omega]⟩ n3

/-! ### The equals before -/

def eqb (E : ℕ → EReal) (k i : ℕ) : Prop := E k = E i ∧ k < i

theorem eq_lane (s : (A 32768).Idx → EReal) (u : ℕ) (hu : u < 63) (b : ℕ) (hb : b ≤ 48) (k : ℕ) (hk : k < 16) :
    ln (select (andi (cmpf .oeq (ld s b : VF Ideal) (gat s (addi (bi 0#32) (bi (BitVec.ofNat 32 u)))))
      (cmpi .sgt (addi io (bi (BitVec.ofNat 32 b))) (bi (BitVec.ofNat 32 u)))) (bi 1#32) (bi 0#32) : VI) k
      = BitVec.ofNat 32 (if eqb (ln s) u (b + k) then 1 else 0) := by
  have g : (ln (addi (bi 0#32) (bi (BitVec.ofNat 32 u))) k).toNat = u := by
    rw [ln_addi, ln_bi, ln_bi, BitVec.zero_add, ofNat_small (by omega)]
  have i : (ln (addi io (bi (BitVec.ofNat 32 b))) k).toNat = b + k := by
    rw [ln_addi, ln_io k hk, ln_bi, BitVec.toNat_add, ofNat_small (by omega), ofNat_small (by omega)]; omega
  have c : ln (andi (cmpf .oeq (ld s b : VF Ideal) (gat s (addi (bi 0#32) (bi (BitVec.ofNat 32 u)))))
      (cmpi .sgt (addi io (bi (BitVec.ofNat 32 b))) (bi (BitVec.ofNat 32 u)))) k = 1 ↔ eqb (ln s) u (b + k) := by
    rw [ln_andi, bit_and, ln_cmpf_oeq, ln_ld _ _ _ hk, ln_gat, g]
    have : ln (cmpi .sgt (addi io (bi (BitVec.ofNat 32 b))) (bi (BitVec.ofNat 32 u))) k = 1 ↔ u < b + k := by
      show IntOp.cmpi .sgt (ln (addi io (bi (BitVec.ofNat 32 b))) k) (BitVec.ofNat 32 u) = 1 ↔ _
      rw [cmpi_sgt_one _ _ (by rw [i]; omega) (by rw [ofNat_small] <;> omega), i, ofNat_small (by omega)]
    rw [this]
    exact and_congr_left fun _ => eq_comm
  rw [ln_select]
  by_cases h : eqb (ln s) u (b + k)
  · rw [if_pos (c.mpr h), if_pos h]; rfl
  · rw [if_neg (fun q => h (c.mp q)), if_neg h]; rfl

theorem eqAll_lane (s : (A 32768).Idx → EReal) : ∀ k < 16,
    ln (eqAll (F := Ideal) s).1 k = BitVec.ofNat 32 (rnk 63 (eqb (ln s)) (0 + k)) ∧
    ln (eqAll (F := Ideal) s).2.1 k = BitVec.ofNat 32 (rnk 63 (eqb (ln s)) (16 + k)) ∧
    ln (eqAll (F := Ideal) s).2.2.1 k = BitVec.ofNat 32 (rnk 63 (eqb (ln s)) (32 + k)) ∧
    ln (eqAll (F := Ideal) s).2.2.2 k = BitVec.ofNat 32 (rnk 63 (eqb (ln s)) (48 + k)) := by
  unfold eqAll
  refine iter_inv (fun n (a : VI × VI × VI × VI) => ∀ k < 16, ln a.1 k = BitVec.ofNat 32 (rnk n (eqb (ln s)) (0 + k)) ∧
    ln a.2.1 k = BitVec.ofNat 32 (rnk n (eqb (ln s)) (16 + k)) ∧ ln a.2.2.1 k = BitVec.ofNat 32 (rnk n (eqb (ln s)) (32 + k)) ∧
    ln a.2.2.2 k = BitVec.ofNat 32 (rnk n (eqb (ln s)) (48 + k))) (eqStep (F := Ideal) s) _ 63 (fun k _ => ⟨rfl, rfl, rfl, rfl⟩) fun u hu a P k hk => ?_
  obtain ⟨p0, p1, p2, p3⟩ := P k hk
  have r := fun b hb => eq_lane s u hu b hb k hk
  refine ⟨?_, ?_, ?_, ?_⟩
  · rw [rnk_succ, BitVec.ofNat_add, ← p0, ← r 0 (by decide)]; rfl
  · rw [rnk_succ, BitVec.ofNat_add, ← p1, ← r 16 (by decide)]; rfl
  · rw [rnk_succ, BitVec.ofNat_add, ← p2, ← r 32 (by decide)]; rfl
  · rw [rnk_succ, BitVec.ofNat_add, ← p3, ← r 48 (by decide)]; rfl

theorem rnk_or (n : ℕ) (P Q : ℕ → ℕ → Prop) (i : ℕ) (h : ∀ k, P k i → ¬ Q k i) : rnk n (fun k i => P k i ∨ Q k i) i = rnk n P i + rnk n Q i := by
  induction n with
  | zero => rfl
  | succ n ih =>
    rw [rnk_succ, rnk_succ, rnk_succ, ih]
    have := h n
    by_cases p : P n i
    · rw [if_pos p, if_neg (this p), if_pos (.inl p)]; omega
    · by_cases q : Q n i
      · rw [if_neg p, if_pos q, if_pos (.inr q)]; omega
      · rw [if_neg p, if_neg q, if_neg (by rintro (r | r) <;> contradiction)]; omega

theorem rnk_trim (R : ℕ → ℕ → Prop) (i a b : ℕ) (hab : a ≤ b) (h : ∀ k, R k i → k < a) : rnk a R i = rnk b R i := by
  unfold rnk
  refine congrArg Finset.card (Finset.ext fun k => ?_)
  rw [Finset.mem_filter, Finset.mem_filter, Finset.mem_range, Finset.mem_range]
  constructor
  · rintro ⟨p, q⟩; exact ⟨by omega, q⟩
  · rintro ⟨p, q⟩; exact ⟨h k q, q⟩

theorem rk_split (E : ℕ → EReal) (v : ℕ) (hv : v < 64) : rk 32768 E v = abv E v + rnk 63 (eqb E) v := by
  rw [rnk_trim (eqb E) v 63 32768 (by decide) fun k q => by have := q.2; omega]
  exact rnk_or 32768 (fun k i => E i < E k) (eqb E) v fun k q r => by
    have := r.1
    rw [this] at q
    exact lt_irrefl _ q

theorem eqb_congr {E E' : ℕ → EReal} (h : ∀ i < 32768, E i = E' i) (v : ℕ) (hv : v < 64) : rnk 63 (eqb E) v = rnk 63 (eqb E') v := by
  unfold rnk
  refine congrArg Finset.card (Finset.filter_congr fun k hk => ?_)
  have := Finset.mem_range.mp hk
  unfold eqb
  rw [h k (by omega), h v (by omega)]

theorem rkf_lane (m : Mem Ideal) (b : ℕ) (hb : b ≤ 48) (e : VI) (k : ℕ) (hk : k < 16)
    (he : ln e k = BitVec.ofNat 32 (rnk 63 (eqb (ln (rR m))) (b + k))) : (ln (rkf (ld (rG m) b) e) k).toNat = rk 32768 (rEx m) (b + k) := by
  have hr := rk_split (rEx m) (b + k) (by omega)
  have hl := rnk_lt (n := 32768) (lin_bef (rEx m)) (i := b + k) (by omega)
  have hl' : rk 32768 (rEx m) (b + k) < 32768 := hl
  unfold rkf
  rw [ln_andi, ln_addi, ln_bi, ln_ld _ _ _ hk, he, rG_eq m _ (by omega), eqb_congr (rR_eq m) _ (by omega), ← BitVec.ofNat_add, ← hr,
    BitVec.toNat_and, ofNat_small (by omega)]
  show _ &&& (2 ^ 15 - 1) = _
  rw [Nat.and_two_pow_sub_one_eq_mod]
  exact Nat.mod_eq_of_lt hl'

/-! ### How many are kept -/

/-- How many of the first sums are within the bound. -/
def cn (E : ℕ → EReal) (S : EReal) (n : ℕ) : ℕ := rnk n (fun v _ => cms 32768 E S v ≤ lim) 0

theorem rnk_add (R : ℕ → ℕ → Prop) (i b : ℕ) : ∀ n, rnk (b + n) R i = rnk b R i + ∑ k ∈ Finset.range n, if R (b + k) i then 1 else 0
  | 0 => rfl
  | n + 1 => by
    rw [Finset.sum_range_succ, ← add_assoc (rnk b R i), ← rnk_add R i b n]
    exact rnk_succ (b + n) R i

theorem cn_kept (E : ℕ → EReal) (S : EReal) : min (cn E S 64 + 1) 64 = kept 32768 E S := by
  unfold cn rnk kept
  refine congrArg (fun t => min (t + 1) 64) (card_eq _ fun k _ => Iff.rfl)

theorem popc_eq (c : IVec S16 1) (P : ℕ → Prop) (h : ∀ k < 16, ln c k = 1 ↔ P k) : popc c = BitVec.ofNat 32 (∑ k ∈ Finset.range 16, if P k then 1 else 0) := by
  refine scan_sum (select c (bi 1#32) (bi 0#32)) (fun k => if P k then 1 else 0) (fun k hk => ?_) 15 (by decide)
  rw [ln_select, ln_bi, ln_bi]
  by_cases q : P k
  · rw [if_pos ((h k hk).mpr q), if_pos q]
  · rw [if_neg (fun q' => q ((h k hk).mp q')), if_neg q]

theorem kk_step (E : ℕ → EReal) (S : EReal) (b b' : ℕ) (hb : b + 16 = b') (v : VF Ideal) (hv : ∀ k < 16, ln v k = shr 32768 E S (b + k)) (p : EReal × BitVec 32)
    (h1 : p.1 = ∑ u ∈ Finset.range b, shr 32768 E S u) (h2 : p.2 = BitVec.ofNat 32 (cn E S b)) :
    (kkStep (F := Ideal) v p).1 = ∑ u ∈ Finset.range b', shr 32768 E S u ∧ (kkStep (F := Ideal) v p).2 = BitVec.ofNat 32 (cn E S b') := by
  subst hb
  constructor
  · show p.1 + vsum v = _
    rw [vsum_eq, h1, Finset.sum_range_add]
    congr 1
    exact Finset.sum_congr rfl fun k hk => hv k (Finset.mem_range.mp hk)
  · have c : ∀ k < 16, ln (cmpf .ole (addf (vcum v) (bf p.1)) (bf (F := Ideal) (Scalar.ofBits .f32 0x3F19999A#32))) k = 1 ↔ cms 32768 E S (b + k) ≤ lim := by
      intro k hk
      rw [ln_cmpf_ole, ln_addf, vcum_eq v k hk, ln_bf, ln_bf, h1]
      have : ∑ u ∈ Finset.range (k + 1), ln v u = ∑ u ∈ Finset.range (k + 1), shr 32768 E S (b + u) :=
        Finset.sum_congr rfl fun u hu => hv u (by have := Finset.mem_range.mp hu; omega)
      rw [this, add_comm, ← Finset.sum_range_add]
      exact Iff.rfl
    have := popc_eq _ (fun k => cms 32768 E S (b + k) ≤ lim) c
    show p.2 + popc (cmpf .ole (addf (vcum v) (bf p.1)) (bf (F := Ideal) (Scalar.ofBits .f32 0x3F19999A#32))) = _
    rw [this, h2, ← BitVec.ofNat_add]
    exact congrArg _ (rnk_add (fun v _ => cms 32768 E S v ≤ lim) 0 b 16).symm

theorem kkf_eq (E : ℕ → EReal) (S : EReal) (v0 v1 v2 v3 : VF Ideal) (h0 : ∀ k < 16, ln v0 k = shr 32768 E S (0 + k))
    (h1 : ∀ k < 16, ln v1 k = shr 32768 E S (16 + k)) (h2 : ∀ k < 16, ln v2 k = shr 32768 E S (32 + k))
    (h3 : ∀ k < 16, ln v3 k = shr 32768 E S (48 + k)) : (kkf v0 v1 v2 v3).toNat = kept 32768 E S := by
  obtain ⟨a1, b1⟩ := kk_step E S 0 16 rfl v0 h0 ((Scalar.ofBits (F := Ideal) .f32 0x00000000#32 : EReal), 0#32) (bits_zero.trans (Finset.sum_range_zero _).symm) rfl
  obtain ⟨a2, b2⟩ := kk_step E S 16 32 rfl v1 h1 _ a1 b1
  obtain ⟨a3, b3⟩ := kk_step E S 32 48 rfl v2 h2 _ a2 b2
  obtain ⟨_, b4⟩ := kk_step E S 48 64 rfl v3 h3 _ a3 b3
  rw [← cn_kept]
  unfold kkf
  have hc : cn E S 64 ≤ 64 := rnk_le 64 (fun v _ => cms 32768 E S v ≤ lim) 0
  show (IntOp.minsi ((kkStep (F := Ideal) v3 _).2 + 1#32) 64#32).toNat = min (cn E S 64 + 1) 64
  rw [b4, show 1#32 = BitVec.ofNat 32 1 from rfl, ← BitVec.ofNat_add]
  unfold IntOp.minsi
  have e : (BitVec.ofNat 32 (cn E S 64 + 1)).slt 64#32 = true ↔ cn E S 64 + 1 < 64 := by
    rw [BitVec.slt_iff_toInt_lt, toInt_small _ (by rw [ofNat_small] <;> omega), ofNat_small (by omega)]
    show ((cn E S 64 + 1 : ℕ) : ℤ) < 64 ↔ _
    omega
  by_cases h : cn E S 64 + 1 < 64
  · rw [if_pos (e.mpr h), ofNat_small (by omega), min_eq_left h.le]
  · rw [if_neg (fun q => h (e.mp q)), min_eq_right (by omega)]; rfl

theorem kpf_gen (kk : BitVec 32) (n : ℕ) (h : kk.toNat = n) (hn : n ≤ 64) (b : ℕ) (hb : b ≤ 48) (k : ℕ) (hk : k < 16) :
    ln (kpf (BitVec.ofNat 32 b) kk) k = 1 ↔ b + k < n := by
  have i : (ln (addi io (bi (BitVec.ofNat 32 b))) k).toNat = b + k := by
    rw [ln_addi, ln_io k hk, ln_bi, BitVec.toNat_add, ofNat_small (by omega), ofNat_small (by omega)]; omega
  show IntOp.cmpi .slt (ln (addi io (bi (BitVec.ofNat 32 b))) k) kk = 1 ↔ _
  rw [cmpi_slt_one _ _ (by rw [i]; omega) (by rw [h]; omega), i, h]

/-- One block of sixteen written. -/
theorem blk (E : ℕ → EReal) (S : EReal) (kk : BitVec 32) (hkk : kk.toNat = kept 32768 E S) (b : ℕ) (hb : b ≤ 48) (o : (A 32768).Idx → EReal) (v : VI) (w : VF Ideal) (hv : ∀ k < 16, (ln v k).toNat = rk 32768 E (b + k))
    (hw : ∀ k < 16, ln w k = shr 32768 E S (b + k)) (j : ℕ) (hj : j < 32768) :
    ln (sca o v w (kpf (BitVec.ofNat 32 b) kk)) j =
      if b ≤ sig 32768 E j ∧ sig 32768 E j < b + 16 ∧ sig 32768 E j < kept 32768 E S
      then shr 32768 E S (sig 32768 E j) else ln o j := by
  by_cases h : b ≤ sig 32768 E j ∧ sig 32768 E j < b + 16 ∧ sig 32768 E j < kept 32768 E S
  · rw [if_pos h]
    have e : b + (sig 32768 E j - b) = sig 32768 E j := by omega
    refine ln_sca_hit o v w _ j hj (sig 32768 E j - b) (by omega) ((kpf_gen kk _ hkk (min_le_right _ _) b hb _ (by omega)).mpr (by omega)) ?_ _ fun k hk _ q => ?_
    · rw [hv _ (by omega), e, rk_sig _ hj]
    · rw [hw k hk]
      rw [hv k hk] at q
      rw [(sig_eq_iff E (show b + k < 32768 by omega) hj).mpr q.symm]
  · rw [if_neg h]
    refine ln_sca_not o v w _ j hj fun k hk c q => h ?_
    rw [hv k hk] at q
    rw [(sig_eq_iff E (show b + k < 32768 by omega) hj).mpr q.symm]
    have := (kpf_gen kk _ hkk (min_le_right _ _) b hb k hk).mp c
    exact ⟨by omega, by omega, this⟩

section row
variable (m : Mem Ideal)

theorem sv_lane (c : ℕ) (v : VF Ideal) (t : VI) (h : Got (rEx m) 64 c v t) (hc : c < 4) (k : ℕ) (hk : k < 16) :
    ln (divf v (bf (rS m))) k = shr 32768 (rEx m) (rS m) (16 * c + k) := by
  rw [ln_divf, ln_bf, (h k hk (by omega)).1]; rfl

theorem sv0_eq : ∀ k < 16, ln (sv0 m) k = shr 32768 (rEx m) (rS m) (0 + k) := sv_lane m 0 _ _ (rX_inv m).g0 (by decide)
theorem sv1_eq : ∀ k < 16, ln (sv1 m) k = shr 32768 (rEx m) (rS m) (16 + k) := sv_lane m 1 _ _ (rX_inv m).g1 (by decide)
theorem sv2_eq : ∀ k < 16, ln (sv2 m) k = shr 32768 (rEx m) (rS m) (32 + k) := sv_lane m 2 _ _ (rX_inv m).g2 (by decide)
theorem sv3_eq : ∀ k < 16, ln (sv3 m) k = shr 32768 (rEx m) (rS m) (48 + k) := sv_lane m 3 _ _ (rX_inv m).g3 (by decide)

theorem rK_eq : (rK m).toNat = kept 32768 (rEx m) (rS m) := kkf_eq _ _ _ _ _ _ (sv0_eq m) (sv1_eq m) (sv2_eq m) (sv3_eq m)

theorem kept_le : kept 32768 (rEx m) (rS m) ≤ 64 := min_le_right _ _

theorem kpf_lane (b : ℕ) (hb : b ≤ 48) (k : ℕ) (hk : k < 16) : ln (kpf (BitVec.ofNat 32 b) (rK m)) k = 1 ↔ b + k < kept 32768 (rEx m) (rS m) :=
  kpf_gen (rK m) _ (rK_eq m) (kept_le m) b hb k hk

/-- The row the kernel writes. -/
theorem row_val (j : ℕ) (hj : j < 32768) : ln (rowOut m (blank (F := Ideal))) j = filt 32768 (rEx m) (rS m) j := by
  have e := eqAll_lane (rR m)
  have hk := kept_le m
  unfold rowOut rowCar
  have r0 := fun o => blk _ _ (rK m) (rK_eq m) 0 (by decide) o _ _ (fun k hk => rkf_lane m 0 (by decide) _ k hk (e k hk).1) (sv0_eq m) j hj
  have r1 := fun o => blk _ _ (rK m) (rK_eq m) 16 (by decide) o _ _ (fun k hk => rkf_lane m 16 (by decide) _ k hk (e k hk).2.1) (sv1_eq m) j hj
  have r2 := fun o => blk _ _ (rK m) (rK_eq m) 32 (by decide) o _ _ (fun k hk => rkf_lane m 32 (by decide) _ k hk (e k hk).2.2.1) (sv2_eq m) j hj
  have r3 := fun o => blk _ _ (rK m) (rK_eq m) 48 (by decide) o _ _ (fun k hk => rkf_lane m 48 (by decide) _ k hk (e k hk).2.2.2) (sv3_eq m) j hj
  refine (r3 _).trans ?_
  refine (if_congr Iff.rfl rfl (r2 _)).trans ?_
  refine (if_congr Iff.rfl rfl (if_congr Iff.rfl rfl (r1 _))).trans ?_
  refine (if_congr Iff.rfl rfl (if_congr Iff.rfl rfl (if_congr Iff.rfl rfl (r0 _)))).trans ?_
  have hb : ln (blank (F := Ideal)) j = ⊥ := bits_ninf
  rw [hb]
  unfold filt
  split_ifs <;> first | rfl | omega
end row

end Cert.Proof.Val
-- ==== Proof.RefSort.lean ====
module
public import proofs.«01_k».proof.Proof.RefVal
public import proofs.«01_k».proof.Proof.Kern
public import proofs.«01_k».proof.Proof.Gen.KernelIdeal
public import Idealize.ShloMosaic.Lib.SortFacts
public import Idealize.ShloMosaic.Lib.SortPrefix
/-! The stable sort of a row: each place holds the element of that rank. -/
@[expose] public section
noncomputable section
namespace Cert.Proof.Ref
open Idealize.ShloMosaic
open Cert.ReferenceIdeal Cert.ReferenceIdeal.Gen
open Cert.Proof.Mem (at2 at2_eta)
open Cert.Proof.Val
open scoped Classical
set_option pp.maxSteps 400

theorem ins_congr {ι : Type} {B C : ι → ι → Bool} (a : ι) : ∀ l : List ι, (∀ b ∈ l, B b a = C b a) → insertBefore B a l = insertBefore C a l
  | [], _ => rfl
  | b :: l, h => by
    unfold insertBefore
    rw [h b (List.mem_cons_self ..), ins_congr a l fun c hc => h c (List.mem_cons_of_mem _ hc)]

/-- Two orders that agree on a later element against an earlier one sort an ascending list alike. -/
theorem stable_congr {n : ℕ} {B C : Fin n → Fin n → Bool} (h : ∀ a b, a < b → B b a = C b a) :
    ∀ l : List (Fin n), l.Pairwise (· < ·) → stableSort B l = stableSort C l
  | [], _ => rfl
  | a :: l, hl => by
    rw [List.pairwise_cons] at hl
    unfold stableSort
    rw [stable_congr h l hl.2]
    exact ins_congr a _ fun b hb => h a b (hl.1 b ((perm_stableSort C l).mem_iff.mp hb))

theorem sorted_congr {n : ℕ} {B C : Fin n → Fin n → Bool} (h : ∀ a b, a < b → B b a = C b a) : sortedFrom B = sortedFrom C := by
  have e : sortPositions n B = sortPositions n C := stable_congr h _ (List.pairwise_lt_finRange n)
  funext k
  unfold sortedFrom
  rw [List.get_of_eq e]
  rfl

theorem sorted_sig {n : ℕ} (B : Fin n → Fin n → Bool) (E : ℕ → EReal) (hB : ∀ k k', B k k' = true ↔ E k'.val < E k.val) (v : Fin n) :
    (sortedFrom B v).val = sig n E v.val := by
  have e : sortedFrom B = sortedFrom fun k k' : Fin n => decide (bef E k.val k'.val) := by
    refine sorted_congr fun a b hab => ?_
    rw [Bool.eq_iff_iff, hB, decide_eq_true_iff]
    refine ⟨.inl, ?_⟩
    rintro (q | ⟨_, q⟩)
    · exact q
    · exact absurd q (by have : a.val < b.val := hab; omega)
  have L := lin_bef E
  have hs : StrictTotalBefore fun k k' : Fin n => decide (bef E k.val k'.val) :=
    { irrefl := fun a => decide_eq_false (L.irr _)
      trans := fun a b c h h' => decide_eq_true (L.tr _ _ _ (of_decide_eq_true h) (of_decide_eq_true h'))
      total := fun a b h => (L.tri a.val b.val fun q => h (Fin.ext q)).imp decide_eq_true decide_eq_true }
  have := hs.sortedFrom_eq_of_prefix (le_refl n) (fun i => ⟨sig n E i.val, sig_lt E i.isLt⟩)
    (fun i j h => Fin.ext (by
      have q : sig n E i.val = sig n E j.val := congrArg Fin.val h
      rw [← rk_sig E i.isLt, ← rk_sig E j.isLt, q]))
    (fun i j h => decide_eq_false fun q => by
      have := rnk_mono L (sig_lt E j.isLt) q
      have a := rk_sig E i.isLt
      have b := rk_sig E j.isLt
      have c : i.val < j.val := h
      have d : rnk n (bef E) (sig n E j.val) < rnk n (bef E) (sig n E i.val) := this
      unfold rk at a b
      omega)
    (fun i p h => absurd (Fin.ext (sig_rk E p.isLt)) (h ⟨rk n E p.val, rnk_lt L p.isLt⟩)) v
  rw [e, show v = v.castLE (le_refl n) from rfl, this]
  rfl

theorem cmp_eq (a b : EReal × BitVec 32) : (comparator_f32_i32_d1 (F := Ideal) a b == 1#1) = true ↔ a.1 < b.1 := by
  have h : ∀ x : EReal, Scalar.select (FloatOps.cmpf (F := Ideal) (φ := .f32) .une x x) (FloatOps.ofBits (F := Ideal) .f32 0x7FC00000#32)
      (Scalar.select (FloatOps.cmpf (F := Ideal) (φ := .f32) .oeq x (FloatOps.ofBits (F := Ideal) .f32 0x00000000#32)) (FloatOps.ofBits (F := Ideal) .f32 0x00000000#32) x) = x := by
    intro x
    have e1 : FloatOps.cmpf (F := Ideal) (φ := .f32) .une x x = 0 := by
      show BitVec.ofBool (decide (x ≠ x)) = 0
      rw [decide_eq_false (not_not.mpr rfl)]; rfl
    have e2 : FloatOps.cmpf (F := Ideal) (φ := .f32) .oeq x (FloatOps.ofBits (F := Ideal) .f32 0x00000000#32) = 1 ↔ x = FloatOps.ofBits (F := Ideal) .f32 0x00000000#32 := by
      show BitVec.ofBool (decide (x = _)) = 1 ↔ _
      rw [ofBool_one, decide_eq_true_iff]
    unfold Scalar.select
    rw [e1, if_neg (by decide)]
    split_ifs with q
    · exact (e2.mp q).symm
    · rfl
  have k : ∀ p q : EReal, FloatOps.cmpfTotal (F := Ideal) (φ := .f32) .lt p q = 1 ↔ p < q := by
    intro p q
    show BitVec.ofBool (decide (p < q)) = 1 ↔ _
    rw [ofBool_one, decide_eq_true_iff]
  rw [beq_iff_eq, ← k]
  exact iff_of_eq (congrArg (· = (1 : BitVec 1)) (congrArg₂ (FloatOps.cmpfTotal (F := Ideal) (φ := .f32) .lt) (h a.1) (h b.1)))

theorem sort2_snd {s : Shape} {d : ℕ} (hd : d < s.rank) {α β : Type} (cmp : α × β → α × β → BitVec 1) (x : s.Idx → α) (y : s.Idx → β) (j : s.Idx) :
    (Host.sort2 s d cmp x y).2 j = y (j.along ⟨d, hd⟩ (sortedFrom (fun k k' => cmp (x (j.along ⟨d, hd⟩ k), y (j.along ⟨d, hd⟩ k))
      (x (j.along ⟨d, hd⟩ k'), y (j.along ⟨d, hd⟩ k')) == 1#1) (j ⟨d, hd⟩))) := by
  unfold Host.sort2
  rw [dif_pos hd]

theorem along_at2 (h : 1 < S128x32768.rank) (r v : ℕ) (k : Fin (S128x32768.size ⟨1, h⟩)) : Shape.Idx.along (s := S128x32768) (at2 r v) ⟨1, h⟩ k = at2 r k.val := by
  funext a
  match a with
  | ⟨0, _⟩ => rfl
  | ⟨1, _⟩ => exact Fin.ext (Nat.mod_eq_of_lt k.isLt).symm

theorem negf_at (s : BF Ideal) (j : S128x32768.Idx) : Host.negf s j = -(s j : EReal) := rfl
theorem iota_at (r : ℕ) (v : ℕ) (hv : v < 32768) : iotaInDim S128x32768 32 1 (at2 r v) = BitVec.ofNat 32 v :=
  congrArg (BitVec.ofNat 32) (Nat.mod_eq_of_lt hv)

theorem pl_at (s : BF Ideal) (r v : ℕ) (hv : v < 32768) :
    pl (Host.negf s) (at2 r v) = BitVec.ofNat 32 (sig 32768 (fun i => s (at2 r i)) v) := by
  have h : 1 < S128x32768.rank := by decide
  unfold pl
  rw [sort2_snd h, along_at2]
  refine (iota_at r _ (Fin.isLt (n := S128x32768.size ⟨1, h⟩) _)).trans ?_
  refine congrArg (BitVec.ofNat 32) ?_
  refine (sorted_sig _ (fun i => s (at2 r i)) (fun k k' => ?_) _).trans (congrArg (sig 32768 _) (Nat.mod_eq_of_lt hv))
  rw [cmp_eq, along_at2, along_at2, negf_at, negf_at]
  exact EReal.neg_lt_neg_iff

end Cert.Proof.Ref
-- ==== Proof.RefOps.lean ====
module
public import proofs.«01_k».proof.Proof.RefVal
public import proofs.«01_k».proof.Proof.Kern
public import proofs.«01_k».proof.Proof.Gen.KernelIdeal
public import Idealize.ShloMosaic.Lib.IdealHost
public import Idealize.ShloMosaic.Lib.ReduceAll
/-! The reference's operations read at an element. -/
@[expose] public section
noncomputable section
namespace Cert.Proof.Ref
open Idealize.ShloMosaic
open Cert.ReferenceIdeal Cert.ReferenceIdeal.Gen
open Cert.Proof.Mem (at2 at2_eta)
open Cert.Proof.Val
set_option pp.maxSteps 400
variable {α : Type}

/-- A row's place in an array of one number a row, a column's in a row. -/
def a1 (r : ℕ) : S128.Idx := fun a => match a with | ⟨0, _⟩ => ⟨r % 128, Nat.mod_lt _ (by decide)⟩
def b1 (v : ℕ) : S32768.Idx := fun a => match a with | ⟨0, _⟩ => ⟨v % 32768, Nat.mod_lt _ (by decide)⟩

theorem bc_row (g : S128.Idx → α) (r v : ℕ) :
    broadcastInDim S128x32768 ![0, 1] bcast_S128x1_S128x32768_0_1 (broadcastInDim S128x1 ![0] bcast_S128_S128x1_0 g) (at2 r v) = g (a1 r) := by
  unfold broadcastInDim
  refine congrArg g (funext fun a => ?_)
  match a with
  | ⟨0, _⟩ => rfl

theorem bc_col (g : S32768.Idx → α) (r v : ℕ) :
    broadcastInDim S128x32768 ![0, 1] bcast_S1x32768_S128x32768_0_1 (broadcastInDim S1x32768 ![1] bcast_S32768_S1x32768_1 g) (at2 r v) = g (b1 v) := by
  unfold broadcastInDim
  refine congrArg g (funext fun a => ?_)
  match a with
  | ⟨0, _⟩ => rfl

theorem drop_iff (i : S128x32768.Idx) (r : ℕ) : reducesTo_S128x32768_S128_d1.drop i = a1 r ↔ (i 0).val = r % 128 := by
  have e : (reducesTo_S128x32768_S128_d1.drop i 0 : ℕ) = (i 0).val := Shape.ReducesTo.drop_apply_val_of_eq _ i 0 0
  refine ⟨fun h => ?_, fun h => funext fun a => ?_⟩
  · rw [← e, h]; rfl
  · match a with
    | ⟨0, _⟩ => exact Fin.ext (e.trans h)

theorem mem_row (i : S128x32768.Idx) (r : ℕ) (h : (i 0).val = r % 128) : i = at2 r (i 1).val := by
  funext a
  match a with
  | ⟨0, _⟩ => exact Fin.ext h
  | ⟨1, _⟩ => exact Fin.ext (Nat.mod_eq_of_lt (i 1).isLt).symm

theorem sum_row (f : S128x32768.Idx → EReal) (r : ℕ) :
    ∑ i ∈ Finset.univ.filter (fun i => reducesTo_S128x32768_S128_d1.drop i = a1 r), f i = ∑ v ∈ Finset.range 32768, f (at2 r v) := by
  refine Finset.sum_nbij' (fun i => (i 1).val) (fun v => at2 r v) ?_ ?_ ?_ ?_ ?_
  · intro i _; exact Finset.mem_range.mpr (i 1).isLt
  · intro v _; exact Finset.mem_filter.mpr ⟨Finset.mem_univ _, (drop_iff _ _).mpr rfl⟩
  · intro i hi; exact (mem_row i r ((drop_iff _ _).mp (Finset.mem_filter.mp hi).2)).symm
  · intro v hv; exact Nat.mod_eq_of_lt (Finset.mem_range.mp hv)
  · intro i hi; exact congrArg f (mem_row i r ((drop_iff _ _).mp (Finset.mem_filter.mp hi).2))

/-- The greatest of a row. -/
def mx (x : BF Ideal) (r : ℕ) : EReal :=
  maximumf (broadcastInDim S128 ![] bcast_S_S128 (constant S_ .f32 0xFF800000#32))
      (Host.reduce FloatOps.maximumf x (constant S_ .f32 0xFF800000#32 : S_.Idx → Ideal .f32) reducesTo_S128x32768_S128_d1 h_S_) (a1 r)

theorem maxf_at (a b : S128.Idx → EReal) (j : S128.Idx) : maximumf (F := Ideal) (φ := .f32) a b j = max (a j) (b j) := rfl
theorem fold_maxf {ι : Type} (s : Finset ι) (f : ι → EReal) (c b : EReal) :
    Finset.fold (FloatOps.maximumf (F := Ideal) (φ := .f32)) c f s ≤ b ↔ c ≤ b ∧ ∀ x ∈ s, f x ≤ b := Finset.fold_max_le b
theorem cst_at {s : Shape} (c : BitVec 32) (j : s.Idx) : constant (F := Ideal) s .f32 c j = Ideal.ofBits .f32 c := rfl
theorem bc_scal {t : Shape} (h : S_.BroadcastsInDim t ![]) (c : BitVec 32) (j : t.Idx) :
    broadcastInDim t ![] h (constant (F := Ideal) S_ .f32 c) j = Ideal.ofBits .f32 c := rfl

theorem mx_le (x : BF Ideal) (r : ℕ) (b : EReal) : mx x r ≤ b ↔ ∀ i < 32768, x (at2 r i) ≤ b := by
  unfold mx
  rw [maxf_at, Host.reduce_eq_fold, bc_scal, max_le_iff, fold_maxf, cst_at, bits_ninf]
  refine ⟨fun h i _ => h.2.2 _ (Finset.mem_filter.mpr ⟨Finset.mem_univ _, (drop_iff _ _).mpr rfl⟩),
    fun h => ⟨bot_le, bot_le, fun i hi => ?_⟩⟩
  rw [mem_row i r ((drop_iff _ _).mp (Finset.mem_filter.mp hi).2)]
  exact h _ (i 1).isLt

theorem expsub_at (a b : BF Ideal) (j : S128x32768.Idx) : Host.exp (F := Ideal) (φ := .f32) (subf a b) j = Ideal.exp (a j - b j) := rfl

theorem ex_at (x : BF Ideal) (r v : ℕ) : ex x (at2 r v) = expo (fun i => x (at2 r i)) (mx x r) v := by
  unfold ex
  rw [expsub_at, bc_row]
  unfold expo mx
  rfl

theorem so_at (x : BF Ideal) (r v : ℕ) : so x (at2 r v)
    = Ideal.div (expo (fun i => x (at2 r i)) (mx x r) v) (∑ i ∈ Finset.range 32768, expo (fun i => x (at2 r i)) (mx x r) i) := by
  unfold so
  rw [ValueIdx.hostDivf_apply, bc_row, ValueIdx.hostReduceAdd_apply]
  unfold Ideal.hostReduceAdd
  rw [sum_row, ex_at, cst_at, bits_zero, zero_add]
  exact congrArg _ (Finset.sum_congr rfl fun i _ => ex_at x r i)

theorem sel_at {s : Shape} (c : IVec s 1) (a b : s.Idx → α) (j : s.Idx) : select c a b j = if c j = 1 then a j else b j := rfl
theorem cmpi_at {s : Shape} (c : CmpIPredicate) (a b : IVec s 32) (j : s.Idx) : cmpi c a b j = IntOp.cmpi c (a j) (b j) := rfl
theorem bc_scali {t : Shape} (h : S_.BroadcastsInDim t ![]) (w : ℕ) (c : BitVec w) (j : t.Idx) : broadcastInDim t ![] h (constantI S_ w c) j = c := rfl
theorem andi_at {s : Shape} {w : ℕ} (a b : IVec s w) (j : s.Idx) : andi a b j = a j &&& b j := rfl

/-- A place of the gathered places. -/
def at3 (r v : ℕ) : S128x32768x1.Idx := fun a => match a with
  | ⟨0, _⟩ => ⟨r % 128, Nat.mod_lt _ (by decide)⟩
  | ⟨1, _⟩ => ⟨v % 32768, Nat.mod_lt _ (by decide)⟩
  | ⟨2, _⟩ => ⟨0, Nat.zero_lt_one⟩

theorem at3_eta (k : S128x32768x1.Idx) : k = at3 (k 0).val (k 1).val := by
  funext a
  match a with
  | ⟨0, _⟩ => exact Fin.ext (Nat.mod_eq_of_lt (k 0).isLt).symm
  | ⟨1, _⟩ => exact Fin.ext (Nat.mod_eq_of_lt (k 1).isLt).symm
  | ⟨2, _⟩ => exact Fin.ext (by have : (k 2).val < 1 := (k 2).isLt; show (k 2).val = 0; omega)

theorem cast_at (f : S128x32768.Idx → α) (r v : ℕ) : shapeCast S128x32768x1 f shapeCasts_S128x32768_S128x32768x1 (at3 r v) = f (at2 r v) := by
  unfold shapeCast
  refine congrArg f ?_
  apply Shape.reshapeEquiv_eq_of_rowMajor
  rw [Shape.rowMajor_val_two, Shape.rowMajor_val_three]
  show r % 128 * 32768 + v % 32768 = (r % 128 * 32768 + v % 32768) * 1 + 0
  omega

variable (p : BI) (q : ℕ → ℕ → ℕ) (hq : ∀ r v, r < 128 → v < 32768 → q r v < 32768 ∧ p (at2 r v) = BitVec.ofNat 32 (q r v))
include hq

theorem tki_at (r v : ℕ) (hr : r < 128) (hv : v < 32768) : tki p (at3 r v) = BitVec.ofNat 32 (q r v) := by
  obtain ⟨h1, h2⟩ := hq r v hr hv
  unfold tki
  rw [cast_at]
  rw [sel_at, cmpi_at, bc_scali, if_neg, h2]
  rw [h2, cmpi_slt_one _ _ (by rw [ofNat_small] <;> omega) (by decide)]
  exact Nat.not_lt_zero _

theorem tkm_at (j : S128x32768.Idx) : tkm (tki p) j = 1#1 := by
  unfold tkm
  refine Host.reduce_andi_one _ _ _ _ j rfl fun k => ?_
  rw [at3_eta k]
  have hr : (k 0).val < 128 := (k 0).isLt
  have hv : (k 1).val < 32768 := (k 1).isLt
  obtain ⟨h1, _⟩ := hq _ _ hr hv
  show IntOp.cmpi .sge (tki p (at3 (k 0).val (k 1).val)) 0#32 &&& IntOp.cmpi .sle (tki p (at3 (k 0).val (k 1).val)) 32767#32 = 1#1
  rw [tki_at p q hq _ _ hr hv, show (1#1 : BitVec 1) = 1 from rfl, bit_and]
  have t : (BitVec.ofNat 32 (q (k 0).val (k 1).val)).toInt = q (k 0).val (k 1).val := by
    rw [toInt_small _ (by rw [ofNat_small] <;> omega), ofNat_small (by omega)]
  constructor
  · show BitVec.ofBool ((0#32).sle _) = 1
    rw [ofBool_one, BitVec.sle_iff_toInt_le, t]
    show (0 : ℤ) ≤ _
    omega
  · show BitVec.ofBool (BitVec.sle _ 32767#32) = 1
    rw [ofBool_one, BitVec.sle_iff_toInt_le, t]
    show _ ≤ (32767 : ℤ)
    omega

omit hq in
theorem gather_at (x : S128x32768.Idx → α) (i : S128x32768x1.Idx → BitVec 32) (r v : ℕ) (k : ℕ) (hk : k < 32768) (hi : i (at3 r v) = BitVec.ofNat 32 k) :
    Host.gather gather_S128x32768_S128x32768x1_S128x32768_n_1_0_0_1_2_11 x i (at2 r v) = x (at2 r k) := by
  unfold Host.gather
  refine congrArg x (funext fun a => Fin.ext ?_)
  let d := gather_S128x32768_S128x32768x1_S128x32768_n_1_0_0_1_2_11
  show d.start (at2 r v) i a + d.batchCoord (at2 r v) a + d.offCoord (at2 r v) a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ d.operandBatchingDims from List.mem_singleton.mpr rfl)]
    rfl
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ d.startIndexMap from List.mem_singleton.mpr rfl)]
    have hsi : d.siIdx (at2 r v) ⟨List.idxOf (1 : Fin 2) d.startIndexMap,
        List.idxOf_lt_length_iff.2 (List.mem_singleton.mpr rfl)⟩ = at3 r v := by
      funext b; refine Fin.ext ?_
      match b with
      | ⟨0, _⟩ => rfl
      | ⟨1, _⟩ => rfl
      | ⟨2, _⟩ => rfl
    rw [hsi, hi, toInt_small _ (by rw [ofNat_small] <;> omega), ofNat_small (by omega)]
    show min k 32767 = k % 32768
    omega

theorem tka_at (x : BF Ideal) (r v : ℕ) (hr : r < 128) (hv : v < 32768) : tka x p (at2 r v) = x (at2 r (q r v)) := by
  unfold tka
  rw [sel_at, if_pos (show tkm (tki p) (at2 r v) = 1 from tkm_at p q hq _)]
  exact gather_at x _ r v _ (hq r v hr hv).1 (tki_at p q hq r v hr hv)

end Cert.Proof.Ref
-- ==== Proof.RefMask.lean ====
module
public import proofs.«01_k».proof.Proof.RefOps
/-! The running sums of a row, the first place past the bound, and the places dropped. -/
@[expose] public section
noncomputable section
namespace Cert.Proof.Ref
open Idealize.ShloMosaic
open Cert.ReferenceIdeal Cert.ReferenceIdeal.Gen
open Cert.Proof.Mem (at2 at2_eta)
open Cert.Proof.Val
set_option pp.maxSteps 400

theorem foldl_plus {ι : Type} (g : ι → EReal) : ∀ (l : List ι) (v : EReal), l.foldl (fun r n => r + g n) v = v + (l.map g).sum
  | [], v => (add_zero v).symm
  | a :: l, v => by rw [List.foldl_cons, foldl_plus g l, List.map_cons, List.sum_cons, add_assoc]

theorem dite_inst {α : Type} {P : Prop} (i j : Decidable P) (f : P → α) (g : ¬ P → α) : @dite _ P i f g = @dite _ P j f g := by
  rw [Subsingleton.elim i j]

theorem win_all {s t : Shape} (window strides lo hi : Fin s.rank → ℕ) (x : s.Idx → EReal) (c : EReal) (h : s.ReduceWindows window strides lo hi t) (j : t.Idx) :
    Ideal.hostReduceWindowAdd window strides lo hi h x c j = c + ∑ w : (⟨s.rank, window⟩ : Shape).Idx,
      (if hin : ∀ a, lo a ≤ (j (a.cast h.1.symm)).val * strides a + (w a).val ∧ (j (a.cast h.1.symm)).val * strides a + (w a).val - lo a < s.size a
        then x (fun a => ⟨(j (a.cast h.1.symm)).val * strides a + (w a).val - lo a, (hin a).2⟩) else c) := by
  unfold Ideal.hostReduceWindowAdd Host.reduceWindow
  refine (foldl_plus _ _ _).trans (congrArg (c + ·) ?_)
  rw [← Fin.sum_univ_def]
  refine Eq.trans (Finset.sum_congr rfl fun n _ => dite_inst _ _ _ _) (Equiv.sum_comp (Shape.rowMajor (⟨s.rank, window⟩ : Shape)).symm (fun w => if hin : ∀ a, lo a ≤ (j (a.cast h.1.symm)).val * strides a + (w a).val ∧ (j (a.cast h.1.symm)).val * strides a + (w a).val - lo a < s.size a
        then x (fun a => ⟨(j (a.cast h.1.symm)).val * strides a + (w a).val - lo a, (hin a).2⟩) else c))

theorem win_sum (f g : ℕ → EReal) (N v : ℕ) (hv : v < N) (hg : ∀ k < N, g k = if N - 1 ≤ v + k then f (v + k - (N - 1)) else 0) :
    ∑ k ∈ Finset.range N, g k = ∑ u ∈ Finset.range (v + 1), f u := by
  obtain ⟨a, rfl⟩ : ∃ a, N = a + (v + 1) := ⟨N - (v + 1), by omega⟩
  rw [Finset.sum_range_add, Finset.sum_eq_zero, zero_add]
  · refine Finset.sum_congr rfl fun u hu => ?_
    have := Finset.mem_range.mp hu
    rw [hg _ (by omega), if_pos (by omega)]
    exact congrArg f (by omega)
  · intro k hk
    have := Finset.mem_range.mp hk
    rw [hg _ (by omega), if_neg (by omega)]

/-- A window's place by its column. -/
def w1x (k : ℕ) : (⟨2, ![1, 32768]⟩ : Shape).Idx := fun a => match a with
  | ⟨0, _⟩ => ⟨0, Nat.zero_lt_one⟩
  | ⟨1, _⟩ => ⟨k % 32768, Nat.mod_lt _ (by decide)⟩

theorem w1x_eta (w : (⟨2, ![1, 32768]⟩ : Shape).Idx) : w1x (w 1).val = w := by
  funext a
  match a with
  | ⟨0, _⟩ => exact Fin.ext (by have : (w 0).val < 1 := (w 0).isLt; show 0 = (w 0).val; omega)
  | ⟨1, _⟩ => exact Fin.ext (Nat.mod_eq_of_lt (w 1).isLt)

theorem sum_w1x (f : (⟨2, ![1, 32768]⟩ : Shape).Idx → EReal) : ∑ w, f w = ∑ k ∈ Finset.range 32768, f (w1x k) := by
  refine Finset.sum_nbij' (fun w => (w 1).val) w1x ?_ ?_ ?_ ?_ ?_
  · intro w _; exact Finset.mem_range.mpr (w 1).isLt
  · intro k _; exact Finset.mem_univ _
  · intro w _; exact w1x_eta w
  · intro k hk; exact Nat.mod_eq_of_lt (Finset.mem_range.mp hk)
  · intro w _; exact congrArg f (w1x_eta w).symm

theorem cum_at (x : BF Ideal) (h : S128x32768.ReduceWindows ![1, 32768] ![1, 1] ![0, 32767] ![0, 0] S128x32768) (r v : ℕ) (hr : r < 128) (hv : v < 32768) :
    Ideal.hostReduceWindowAdd ![1, 32768] ![1, 1] ![0, 32767] ![0, 0] h x 0 (at2 r v) = ∑ u ∈ Finset.range (v + 1), x (at2 r u) := by
  rw [win_all, zero_add]
  refine (sum_w1x _).trans (win_sum _ _ 32768 v hv fun k hk => ?_)
  have p0 : (at2 r v 0).val * 1 + (w1x k 0).val = r := by
    show r % 128 * 1 + 0 = r
    omega
  have p1 : (at2 r v 1).val * 1 + (w1x k 1).val = v + k := by
    show v % 32768 * 1 + k % 32768 = v + k
    omega
  by_cases c : 32768 - 1 ≤ v + k
  · rw [if_pos c, dif_pos]
    · refine congrArg x (funext fun a => ?_)
      match a with
      | ⟨0, _⟩ => exact Fin.ext ((congrArg (· - 0) p0).trans (Nat.mod_eq_of_lt hr).symm)
      | ⟨1, _⟩ => exact Fin.ext ((congrArg (· - 32767) p1).trans (Nat.mod_eq_of_lt (by omega)).symm)
    · intro a
      match a with
      | ⟨0, _⟩ => exact ⟨Nat.zero_le _, lt_of_eq_of_lt (congrArg (· - 0) p0) hr⟩
      | ⟨1, _⟩ => exact ⟨le_of_le_of_eq c p1.symm, lt_of_eq_of_lt (congrArg (· - 32767) p1) (by show v + k - 32767 < 32768; omega)⟩
  · rw [if_neg c, dif_neg]
    intro q
    exact c (le_of_le_of_eq (q 1).1 p1)

theorem ogt_at (a b : BF Ideal) (j : S128x32768.Idx) : cmpf .ogt a b j = 1 ↔ (b j : EReal) < a j := by
  show BitVec.ofBool (decide _) = 1 ↔ _
  rw [ofBool_one, decide_eq_true_iff]

theorem rwa_at {s t u : Shape} (window strides lo hi : Fin s.rank → ℕ) (x : s.Idx → Ideal .f32) (c : u.Idx → Ideal .f32)
    (h : s.ReduceWindows window strides lo hi t) (hu : 0 < u.numel) (j : t.Idx) :
    Host.reduceWindowAdd (F := Ideal) (φ := .f32) window strides lo hi x c h hu j = Ideal.hostReduceWindowAdd window strides lo hi h x (c (Shape.Idx.first hu)) j := rfl

theorem ov_at (x : BF Ideal) (r v : ℕ) (hr : r < 128) (hv : v < 32768) : ov x (at2 r v) = 1 ↔ lim < ∑ u ∈ Finset.range (v + 1), x (at2 r u) := by
  unfold ov
  rw [ogt_at, rwa_at, bc_scal, bc_scal, bits_zero, cum_at x _ r v hr hv]
  rfl

/-- Of two pairs of words, one is no worse: a larger value, or the same and a place no later. -/
def Bt (r q : BitVec 32 × BitVec 32) : Prop := q.1.toInt < r.1.toInt ∨ (q.1.toInt = r.1.toInt ∧ r.2.toInt ≤ q.2.toInt)

theorem bt_refl (a : BitVec 32 × BitVec 32) : Bt a a := .inr ⟨rfl, le_rfl⟩
theorem bt_trans {a b c : BitVec 32 × BitVec 32} (h : Bt a b) (k : Bt b c) : Bt a c := by unfold Bt at *; omega

theorem sgt_int (a b : BitVec 32) : IntOp.cmpi .sgt a b = 1 ↔ b.toInt < a.toInt := by
  show BitVec.ofBool (BitVec.slt b a) = 1 ↔ _
  rw [ofBool_one, BitVec.slt_iff_toInt_lt]
theorem slt_int (a b : BitVec 32) : IntOp.cmpi .slt a b = 1 ↔ a.toInt < b.toInt := by
  show BitVec.ofBool (BitVec.slt a b) = 1 ↔ _
  rw [ofBool_one, BitVec.slt_iff_toInt_lt]
theorem sge_int (a b : BitVec 32) : IntOp.cmpi .sge a b = 1 ↔ b.toInt ≤ a.toInt := by
  show BitVec.ofBool (BitVec.sle b a) = 1 ↔ _
  rw [ofBool_one, BitVec.sle_iff_toInt_le]
theorem bit_or (a b : BitVec 1) : a ||| b = 1 ↔ a = 1 ∨ b = 1 := by revert a b; decide

theorem red_bt (a b : BitVec 32 × BitVec 32) :
    (reducer_argmax_i32_i32 a b = a ∨ reducer_argmax_i32_i32 a b = b) ∧ Bt (reducer_argmax_i32_i32 a b) a ∧ Bt (reducer_argmax_i32_i32 a b) b := by
  have e : reducer_argmax_i32_i32 a b = (if IntOp.cmpi .sgt a.1 b.1 ||| IntOp.cmpi .ne a.1 a.1 = 1 then a.1 else b.1,
      if IntOp.cmpi .sgt a.1 b.1 ||| IntOp.cmpi .ne a.1 a.1 ||| IntOp.cmpi .eq a.1 b.1 &&& IntOp.cmpi .slt a.2 b.2 = 1 then a.2 else b.2) := rfl
  have c4 : IntOp.cmpi .sgt a.1 b.1 ||| IntOp.cmpi .ne a.1 a.1 = 1 ↔ b.1.toInt < a.1.toInt := by
    rw [bit_or, sgt_int, cmpi_ne_one]
    exact or_iff_left fun q => q rfl
  have c8 : IntOp.cmpi .sgt a.1 b.1 ||| IntOp.cmpi .ne a.1 a.1 ||| IntOp.cmpi .eq a.1 b.1 &&& IntOp.cmpi .slt a.2 b.2 = 1
      ↔ b.1.toInt < a.1.toInt ∨ (a.1 = b.1 ∧ a.2.toInt < b.2.toInt) := by
    rw [bit_or, c4, bit_and, cmpi_eq_one, slt_int]
  by_cases h1 : b.1.toInt < a.1.toInt
  · have q : reducer_argmax_i32_i32 a b = a := by rw [e, if_pos (c4.mpr h1), if_pos (c8.mpr (.inl h1))]
    rw [q]
    exact ⟨.inl rfl, bt_refl _, .inl h1⟩
  · by_cases h2 : a.1 = b.1 ∧ a.2.toInt < b.2.toInt
    · have q : reducer_argmax_i32_i32 a b = a := by
        rw [e, if_neg (fun z => h1 (c4.mp z)), if_pos (c8.mpr (.inr h2)), ← h2.1]
      rw [q]
      exact ⟨.inl rfl, bt_refl _, .inr ⟨by rw [h2.1], h2.2.le⟩⟩
    · have q : reducer_argmax_i32_i32 a b = b := by
        rw [e, if_neg (fun z => h1 (c4.mp z)), if_neg (fun z => (c8.mp z).elim h1 h2)]
      rw [q]
      refine ⟨.inr rfl, ?_, bt_refl _⟩
      by_cases h3 : a.1.toInt = b.1.toInt
      · exact .inr ⟨h3, not_lt.mp fun z => h2 ⟨BitVec.eq_of_toInt_eq h3, z⟩⟩
      · exact .inl (by omega)

theorem fold_bt : ∀ (l : List (BitVec 32 × BitVec 32)) (c : BitVec 32 × BitVec 32),
    (l.foldl reducer_argmax_i32_i32 c = c ∨ l.foldl reducer_argmax_i32_i32 c ∈ l) ∧ Bt (l.foldl reducer_argmax_i32_i32 c) c ∧
      ∀ q ∈ l, Bt (l.foldl reducer_argmax_i32_i32 c) q
  | [], c => ⟨.inl rfl, bt_refl _, fun q hq => nomatch hq⟩
  | a :: l, c => by
    obtain ⟨h1, h2, h3⟩ := fold_bt l (reducer_argmax_i32_i32 c a)
    obtain ⟨k1, k2, k3⟩ := red_bt c a
    rw [List.foldl_cons]
    refine ⟨?_, bt_trans h2 k2, fun q hq => ?_⟩
    · rcases h1 with h1 | h1
      · rw [h1]
        rcases k1 with k1 | k1
        · exact .inl k1
        · exact .inr (by rw [k1]; exact List.mem_cons_self ..)
      · exact .inr (List.mem_cons_of_mem _ h1)
    · rcases List.mem_cons.mp hq with rfl | hq
      · exact bt_trans h2 k3
      · exact h3 q hq

theorem mem_fiber (y z : BI) (r : ℕ) (p : BitVec 32 × BitVec 32) :
    p ∈ Host.argReduceFiber y z reducesTo_S128x32768_S128_d1 (a1 r) ↔ ∃ v < 32768, p = (y (at2 r v), z (at2 r v)) := by
  unfold Host.argReduceFiber
  rw [List.mem_map]
  constructor
  · rintro ⟨n, hn, rfl⟩
    rw [List.mem_filter] at hn
    have := mem_row _ r ((drop_iff _ _).mp (of_decide_eq_true hn.2))
    refine ⟨_, (S128x32768.rowMajor.symm n 1).isLt, ?_⟩
    rw [← this]
  · rintro ⟨v, hv, rfl⟩
    refine ⟨S128x32768.rowMajor (at2 r v), ?_, ?_⟩
    · rw [List.mem_filter, Equiv.symm_apply_apply]
      exact ⟨List.mem_finRange _, decide_eq_true ((drop_iff _ _).mpr rfl)⟩
    · rw [Equiv.symm_apply_apply]

theorem int_small {k : ℕ} (h : k < 32768) : (BitVec.ofNat 32 k).toInt = k := by
  rw [toInt_small _ (by rw [ofNat_small] <;> omega), ofNat_small (by omega)]

theorem bit_cases (b : BitVec 1) : b = 1 ∨ b = 0 := by revert b; decide

theorem iota_at' (r : ℕ) (v : ℕ) (hv : v < 32768) : iotaInDim S128x32768 32 1 (at2 r v) = BitVec.ofNat 32 v :=
  congrArg (BitVec.ofNat 32) (Nat.mod_eq_of_lt hv)

theorem best_of (l : List (BitVec 32 × BitVec 32)) (c w : BitVec 32 × BitVec 32) (hw : w = l.foldl reducer_argmax_i32_i32 c) (hc : c.1.toInt < 0) (y z : ℕ → BitVec 32)
    (hl : ∀ p, p ∈ l ↔ ∃ v < 32768, p = (y v, z v)) (o : ℕ → Prop) (y1 : ∀ v, o v → (y v).toInt = 1) (y0 : ∀ v, ¬ o v → (y v).toInt = 0)
    (hz : ∀ v < 32768, z v = BitVec.ofNat 32 v) (h : ∃ v < 32768, o v) :
    ∃ a < 32768, w.2 = BitVec.ofNat 32 a ∧ o a ∧ ∀ v < a, ¬ o v := by
  obtain ⟨v₀, hv₀, ho₀⟩ := h
  obtain ⟨f1, f2, f3⟩ := fold_bt l c
  rw [← hw] at f1 f2 f3
  have b0 := f3 _ ((hl _).mpr ⟨v₀, hv₀, rfl⟩)
  unfold Bt at b0
  dsimp only at b0
  rw [y1 _ ho₀] at b0
  have hmem : w ∈ l := by
    refine f1.resolve_left fun q => ?_
    rw [q] at b0
    omega
  obtain ⟨a, ha, hw⟩ := (hl _).mp hmem
  have w1 : w.1 = y a := congrArg Prod.fst hw
  have w2 : w.2 = z a := congrArg Prod.snd hw
  have oa : o a := by
    by_contra q
    have := y0 _ q
    rw [w1] at b0
    omega
  refine ⟨a, ha, w2.trans (hz a ha), oa, fun v hv q => ?_⟩
  have b := f3 _ ((hl _).mpr ⟨v, by omega, rfl⟩)
  unfold Bt at b
  dsimp only at b
  rw [w1, w2, y1 _ oa, y1 _ q, hz a ha, hz v (by omega), int_small ha, int_small (by omega)] at b
  omega

theorem ext_one (b : BitVec 1) : b = 1 → (b.setWidth 32).toInt = 1 := by revert b; decide
theorem ext_zero (b : BitVec 1) : ¬ b = 1 → (b.setWidth 32).toInt = 0 := by revert b; decide
theorem extui_at (o : BB) (j : S128x32768.Idx) : (extui 32 o natLt_1_32 : BI) j = (o j).setWidth 32 := rfl

theorem consti_at {s : Shape} {w : ℕ} (c : BitVec w) (j : s.Idx) : constantI s w c j = c := rfl

theorem red2s_fold {s t u : Shape} (f : BitVec 32 × BitVec 32 → BitVec 32 × BitVec 32 → BitVec 32 × BitVec 32) (x y : s.Idx → BitVec 32) (c d : BitVec 32) {dims : List (Fin s.rank)}
    (h : s.ReducesTo dims t) (hu : 0 < u.numel) (j : t.Idx) :
    ∃ w : BitVec 32 × BitVec 32, red2s f x y (constantI u 32 c) (constantI u 32 d) h hu j = w.2 ∧ w = (Host.argReduceFiber x y h j).foldl f (c, d) :=
  ⟨_, rfl, Host.reduce2_eq_foldl_fiber ..⟩

theorem am_fold (y : BI) (j : S128.Idx) : ∃ w : BitVec 32 × BitVec 32, am y j = w.2 ∧
    w = (Host.argReduceFiber y (iotaInDim S128x32768 32 1) reducesTo_S128x32768_S128_d1 j).foldl reducer_argmax_i32_i32 (2147483648#32, 0#32) := by
  unfold am
  exact red2s_fold reducer_argmax_i32_i32 y (iotaInDim S128x32768 32 1) 2147483648#32 0#32 reducesTo_S128x32768_S128_d1 h_S_ j

/-- The first place of a bit set in a row, where one is. -/
theorem am_at (o : BB) (r : ℕ) (h : ∃ v < 32768, o (at2 r v) = 1) :
    ∃ a < 32768, am (extui 32 o natLt_1_32) (a1 r) = BitVec.ofNat 32 a ∧ o (at2 r a) = 1 ∧ ∀ v < a, ¬ o (at2 r v) = 1 := by
  generalize hy : (extui 32 o natLt_1_32 : BI) = y
  have hj : ∀ j, y j = (o j).setWidth 32 := fun j => by rw [← hy, extui_at]
  clear hy
  obtain ⟨w, e1, e3⟩ := am_fold y (a1 r)
  rw [e1]
  exact best_of _ (2147483648#32, 0#32) w e3 (by decide) (fun v => y (at2 r v)) (fun v => iotaInDim S128x32768 32 1 (at2 r v))
    (fun p => mem_fiber _ _ r p) (fun v => o (at2 r v) = 1) (fun v q => (congrArg BitVec.toInt (hj _)).trans (ext_one _ q))
    (fun v q => (congrArg BitVec.toInt (hj _)).trans (ext_zero _ q)) (fun v hv => iota_at' r v hv) h

theorem ori_at {s : Shape} {w : ℕ} (a b : IVec s w) (j : s.Idx) : ori a b j = a j ||| b j := rfl
theorem iota1_at (v : ℕ) (hv : v < 32768) : iotaInDim S32768 32 0 (b1 v) = BitVec.ofNat 32 v :=
  congrArg (BitVec.ofNat 32) (Nat.mod_eq_of_lt hv)

theorem noti_at {s : Shape} (a : IVec s 1) (j : s.Idx) : noti a j = 1 ↔ a j ≠ 1 := by
  show ~~~(a j) = 1 ↔ _
  generalize a j = b
  revert b; decide

theorem mk_at (o : BB) (a : S128.Idx → BitVec 32) (r v : ℕ) (hv : v < 32768) :
    mk o a (at2 r v) = 1 ↔ (o (at2 r v) = 1 ∧ BitVec.ofNat 32 v ≠ a (a1 r)) ∨ 64 ≤ v := by
  unfold mk
  rw [ori_at, bit_or, andi_at, bit_and, noti_at, cmpi_at, bc_col, bc_row, bc_col, cmpi_at, bc_scali, iota1_at v hv, Ne, cmpi_eq_one, sge_int, int_small hv]
  refine or_congr Iff.rfl ?_
  show (64 : ℤ) ≤ _ ↔ _
  omega

theorem dr_at (o : BB) (x : BF Ideal) (j : S128x32768.Idx) : dr o x j = if o j = 1 then (⊥ : EReal) else x j := by
  unfold dr
  rw [sel_at, bc_scal, bits_ninf]

end Cert.Proof.Ref
-- ==== Proof.RefSpec.lean ====
module
public import proofs.«01_k».proof.Proof.Rank
/-! Shares keep the order of the exponentials; the ranks kept are those up to the first whose summed shares pass the bound. -/
@[expose] public section
noncomputable section
namespace Cert.Proof.Val
open Idealize.ShloMosaic
open scoped Classical

/-- Exponentials and their sum: all zero, or real and not negative with a positive sum. -/
def Tame (n : ℕ) (E : ℕ → EReal) (S : EReal) : Prop :=
  (S = 0 ∧ ∀ i < n, E i = 0) ∨ ∃ s : ℝ, 0 < s ∧ S = (s : EReal) ∧ ∀ i < n, ∃ e : ℝ, 0 ≤ e ∧ E i = (e : EReal)

theorem coe_sum (e : ℕ → ℝ) (n : ℕ) : ((∑ i ∈ Finset.range n, e i : ℝ) : EReal) = ∑ i ∈ Finset.range n, (e i : EReal) := by
  induction n with
  | zero => rfl
  | succ n ih => rw [Finset.sum_range_succ, Finset.sum_range_succ, EReal.coe_add, ih]

theorem tame_real {n : ℕ} {E : ℕ → EReal} (e : ℕ → ℝ) (h : ∀ i < n, E i = (e i : EReal)) (h0 : ∀ i < n, 0 ≤ e i) (hp : ∃ i < n, 0 < e i) :
    Tame n E (∑ i ∈ Finset.range n, E i) := by
  refine .inr ⟨∑ i ∈ Finset.range n, e i, ?_, ?_, fun i hi => ⟨e i, h0 i hi, h i hi⟩⟩
  · obtain ⟨i, hi, hp⟩ := hp
    exact Finset.sum_pos' (fun k hk => h0 k (Finset.mem_range.mp hk)) ⟨i, Finset.mem_range.mpr hi, hp⟩
  · rw [coe_sum]
    exact Finset.sum_congr rfl fun i hi => h i (Finset.mem_range.mp hi)

theorem exp_bot : Ideal.exp ⊥ = 0 := rfl
theorem exp_coe (x : ℝ) : Ideal.exp (x : EReal) = (Real.exp x : EReal) := rfl

theorem tame_zero {n : ℕ} {E : ℕ → EReal} (h : ∀ i < n, E i = 0) : Tame n E (∑ i ∈ Finset.range n, E i) :=
  .inl ⟨Finset.sum_eq_zero fun i hi => h i (Finset.mem_range.mp hi), h⟩

theorem tame_expo {n : ℕ} {X : ℕ → EReal} {M : EReal} (hM : ∀ b, M ≤ b ↔ ∀ i < n, X i ≤ b) :
    Tame n (expo X M) (∑ i ∈ Finset.range n, expo X M i) := by
  have hX := (hM M).mp le_rfl
  induction M with
  | bot =>
    refine tame_zero fun i hi => ?_
    have : X i = ⊥ := le_bot_iff.mp (hX i hi)
    unfold expo
    rw [this, sub_eq_add_neg, EReal.bot_add]
    rfl
  | top =>
    refine tame_zero fun i _ => ?_
    unfold expo
    rw [sub_eq_add_neg, EReal.neg_top, EReal.add_bot]
    rfl
  | coe m =>
    have key : ∀ i < n, ∃ e : ℝ, 0 ≤ e ∧ expo X m i = (e : EReal) ∧ (X i ≠ ⊥ → 0 < e) := by
      intro i hi
      have h := hX i hi
      unfold expo
      generalize X i = x at h ⊢
      induction x with
      | bot => exact ⟨0, le_rfl, by rw [sub_eq_add_neg, EReal.bot_add]; rfl, fun q => absurd rfl q⟩
      | top => exact absurd (top_le_iff.mp h) (EReal.coe_ne_top m)
      | coe x => exact ⟨Real.exp (x - m), (Real.exp_pos _).le, by rw [← EReal.coe_sub]; rfl, fun _ => Real.exp_pos _⟩
    have hne : ∃ i < n, X i ≠ ⊥ := by
      by_contra q
      push Not at q
      exact EReal.coe_ne_bot m (le_bot_iff.mp ((hM ⊥).mpr fun i hi => (q i hi).le))
    refine tame_real (fun i => if h : i < n then (key i h).choose else 0) (fun i hi => ?_) (fun i hi => ?_) ?_
    · rw [dif_pos hi]; exact (key i hi).choose_spec.2.1
    · rw [dif_pos hi]; exact (key i hi).choose_spec.1
    · obtain ⟨i, hi, q⟩ := hne
      refine ⟨i, hi, ?_⟩
      rw [dif_pos hi]; exact (key i hi).choose_spec.2.2 q

theorem div_real (e s : ℝ) (hs : 0 < s) : Ideal.div (e : EReal) (s : EReal) = ((e * s⁻¹ : ℝ) : EReal) := by
  unfold Ideal.div
  rw [if_neg (by rw [EReal.coe_eq_zero]; exact hs.ne'), ← EReal.coe_inv, ← EReal.coe_mul]

variable {n : ℕ} {E : ℕ → EReal} {S : EReal}

theorem bef_div (h : Tame n E S) (a : ℕ) (ha : a < n) (b : ℕ) (hb : b < n) : bef (fun i => Ideal.div (E i) S) a b ↔ bef E a b := by
  rcases h with ⟨_, h⟩ | ⟨s, hs, rfl, h⟩
  · unfold bef
    simp only [h a ha, h b hb, lt_irrefl]
  · obtain ⟨x, _, hx⟩ := h a ha
    obtain ⟨y, _, hy⟩ := h b hb
    unfold bef
    simp only [hx, hy, div_real _ _ hs, EReal.coe_lt_coe_iff, EReal.coe_eq_coe_iff]
    have i : 0 < s⁻¹ := inv_pos.mpr hs
    rw [mul_lt_mul_iff_left₀ i, mul_left_inj' i.ne']

theorem share_cases (h : Tame n E S) : (∀ v < n, shr n E S v = ⊥) ∨ ∀ v < n, 0 ≤ shr n E S v := by
  rcases h with ⟨hS, h⟩ | ⟨s, hs, rfl, h⟩
  · left
    intro v hv
    unfold shr
    rw [h _ (sig_lt E hv), hS]
    unfold Ideal.div
    rw [if_pos rfl, if_neg (lt_irrefl _)]
  · right
    intro v hv
    obtain ⟨x, h0, hx⟩ := h _ (sig_lt E hv)
    unfold shr
    rw [hx, div_real _ _ hs, EReal.coe_nonneg]
    exact mul_nonneg h0 (inv_pos.mpr hs).le

theorem over_up (h : Tame n E S) {u v : ℕ} (huv : u ≤ v) (hv : v < n) (hu : lim < cms n E S u) : lim < cms n E S v := by
  rcases share_cases h with k | k
  · exfalso
    have : cms n E S u = ⊥ := by
      unfold cms
      rw [Finset.sum_range_succ, k u (by omega), EReal.add_bot]
    rw [this] at hu
    exact not_lt_bot hu
  · refine lt_of_lt_of_le hu ?_
    unfold cms
    refine Finset.sum_le_sum_of_subset_of_nonneg (Finset.range_subset_range.mpr (by omega)) fun w hw _ => ?_
    exact k w (by have := Finset.mem_range.mp hw; omega)

theorem card_lt (a : ℕ) : ((Finset.range 64).filter fun v => v < a).card = min a 64 := by
  have : ((Finset.range 64).filter fun v => v < a) = Finset.range (min a 64) := by
    ext v
    rw [Finset.mem_filter, Finset.mem_range, Finset.mem_range]
    omega
  rw [this, Finset.card_range]

/-- None passes the bound: the first 64 are kept. -/
theorem kept_none (hn : 64 ≤ n) (h : ∀ v < n, ¬ lim < cms n E S v) : kept n E S = 64 := by
  have : ((Finset.range 64).filter fun v => cms n E S v ≤ lim) = Finset.range 64 :=
    Finset.filter_true_of_mem fun v hv => not_lt.mp (h v (by have := Finset.mem_range.mp hv; omega))
  unfold kept
  rw [this, Finset.card_range]
  rfl

/-- `a` is the first past the bound: those up to it are kept, of the first 64. -/
theorem kept_first (ht : Tame n E S) (hn : 64 ≤ n) (a : ℕ) (ha : lim < cms n E S a) (hf : ∀ v < a, ¬ lim < cms n E S v) : kept n E S = min (a + 1) 64 := by
  have : ((Finset.range 64).filter fun v => cms n E S v ≤ lim) = (Finset.range 64).filter fun v => v < a := by
    refine Finset.filter_congr fun v hv => ⟨fun q => ?_, fun q => not_lt.mp (hf v q)⟩
    by_contra c
    exact absurd (over_up ht (not_lt.mp c) (by have := Finset.mem_range.mp hv; omega) ha) (not_lt.mpr q)
  unfold kept
  rw [this, card_lt]
  omega

end Cert.Proof.Val
-- ==== Proof.RefRow.lean ====
module
public import proofs.«01_k».proof.Proof.RefSort
public import proofs.«01_k».proof.Proof.RefMask
public import proofs.«01_k».proof.Proof.RefSpec
/-! A row of the reference's result: the shares by rank, cut at the first rank past the bound, put in the order of the ranks. -/
@[expose] public section
noncomputable section
namespace Cert.Proof.Ref
open Idealize.ShloMosaic
open Cert.ReferenceIdeal Cert.ReferenceIdeal.Gen
open Cert.Proof.Mem (at2 at2_eta)
open Cert.Proof.Val
set_option pp.maxSteps 400

/-- A row's exponentials and their sum. -/
def gE (x : BF Ideal) (r : ℕ) : ℕ → EReal := expo (fun i => x (at2 r i)) (mx x r)
def gS (x : BF Ideal) (r : ℕ) : EReal := ∑ i ∈ Finset.range 32768, gE x r i

theorem g_tame (x : BF Ideal) (r : ℕ) : Tame 32768 (gE x r) (gS x r) := tame_expo (mx_le x r)

theorem g_so (x : BF Ideal) (r v : ℕ) : so x (at2 r v) = Ideal.div (gE x r v) (gS x r) := so_at x r v

theorem g_sig (x : BF Ideal) (r v : ℕ) : sig 32768 (fun i => so x (at2 r i)) v = sig 32768 (gE x r) v := by
  rw [show (fun i => so x (at2 r i)) = fun i => Ideal.div (gE x r i) (gS x r) from funext fun i => g_so x r i]
  exact sig_congr (fun a ha b hb => bef_div (g_tame x r) a ha b hb) v

theorem g_place (x : BF Ideal) (r v : ℕ) (_ : r < 128) (hv : v < 32768) :
    sig 32768 (gE x r) v < 32768 ∧ pl (Host.negf (so x)) (at2 r v) = BitVec.ofNat 32 (sig 32768 (gE x r) v) :=
  ⟨sig_lt _ hv, by rw [pl_at (so x) r v hv, g_sig]⟩

theorem g_tka (x y : BF Ideal) (r v : ℕ) (hr : r < 128) (hv : v < 32768) :
    tka y (pl (Host.negf (so x))) (at2 r v) = y (at2 r (sig 32768 (gE x r) v)) :=
  tka_at (pl (Host.negf (so x))) (fun r v => sig 32768 (gE x r) v) (g_place x) y r v hr hv

theorem g_st (x : BF Ideal) (r v : ℕ) (hr : r < 128) (hv : v < 32768) : st x (at2 r v) = shr 32768 (gE x r) (gS x r) v := by
  unfold st
  rw [g_tka x _ r v hr hv, g_so]
  rfl

theorem g_ov (x : BF Ideal) (r v : ℕ) (hr : r < 128) (hv : v < 32768) : ov (st x) (at2 r v) = 1 ↔ lim < cms 32768 (gE x r) (gS x r) v := by
  rw [ov_at (st x) r v hr hv]
  have e : ∑ u ∈ Finset.range (v + 1), st x (at2 r u) = cms 32768 (gE x r) (gS x r) v := by
    unfold cms
    exact Finset.sum_congr rfl fun u hu => g_st x r u hr (by have := Finset.mem_range.mp hu; omega)
  rw [e]

theorem ofNat_ne {a b : ℕ} (ha : a < 32768) (hb : b < 32768) : BitVec.ofNat 32 a ≠ BitVec.ofNat 32 b ↔ a ≠ b := by
  refine not_congr ⟨fun h => ?_, fun h => by rw [h]⟩
  have := congrArg BitVec.toInt h
  rw [int_small ha, int_small hb] at this
  omega

theorem g_mk (x : BF Ideal) (r v : ℕ) (hr : r < 128) (hv : v < 32768) :
    mk (ov (st x)) (am (extui 32 (ov (st x)) natLt_1_32)) (at2 r v) = 1 ↔ ¬ v < kept 32768 (gE x r) (gS x r) := by
  rw [mk_at _ _ r v hv]
  by_cases h : ∃ v < 32768, ov (st x) (at2 r v) = 1
  · obtain ⟨a, ha, e, oa, hf⟩ := am_at (ov (st x)) r h
    have oa' := (g_ov x r a hr ha).mp oa
    have hf' : ∀ u < a, ¬ lim < cms 32768 (gE x r) (gS x r) u := fun u hu q => hf u hu ((g_ov x r u hr (by omega)).mpr q)
    rw [kept_first (g_tame x r) (by omega) a oa' hf', e, ofNat_ne hv ha, g_ov x r v hr hv]
    constructor
    · rintro (⟨p, q⟩ | p)
      · have : ¬ v < a := fun z => hf' v z p
        omega
      · omega
    · intro p
      by_cases c : 64 ≤ v
      · exact .inr c
      · exact .inl ⟨over_up (g_tame x r) (show a ≤ v by omega) hv oa', by omega⟩
  · have hn : ∀ u < 32768, ¬ lim < cms 32768 (gE x r) (gS x r) u := fun u hu q => h ⟨u, hu, (g_ov x r u hr hu).mpr q⟩
    rw [kept_none (by omega) hn, g_ov x r v hr hv]
    constructor
    · rintro (⟨p, _⟩ | p)
      · exact absurd p (hn v hv)
      · omega
    · intro p
      exact .inr (by omega)

theorem res_at (x : BF Ideal) (r j : ℕ) (hr : r < 128) (hj : j < 32768) : res x (at2 r j) = filt 32768 (gE x r) (gS x r) j := by
  have hs := sig_lt (gE x r) hj
  unfold res
  rw [g_tka x _ r j hr hj, dr_at, g_st x r _ hr hs]
  unfold filt
  by_cases c : sig 32768 (gE x r) j < kept 32768 (gE x r) (gS x r)
  · rw [if_pos c, if_neg fun q => (g_mk x r _ hr hs).mp q c]
  · rw [if_neg c, if_pos ((g_mk x r _ hr hs).mpr c)]

end Cert.Proof.Ref
-- ==== Proof.Value.lean ====
module
public import proofs.«01_k».proof.Proof.Frames
public import proofs.«01_k».proof.Proof.RefRow
/-! The kernel's result is the reference's. -/
@[expose] public section
noncomputable section
namespace Cert.Proof.Mem
open Idealize.ShloMosaic Idealize.ShloMosaic.TcCoe Idealize.SL.Sem
open Cert.Proof.Val
set_option pp.maxSteps 400

theorem at2_mod (r i : ℕ) : at2 r (i % 32768) = at2 r i := by
  funext a
  match a with
  | ⟨0, _⟩ => rfl
  | ⟨1, _⟩ => exact Fin.ext (Nat.mod_mod i 32768)

theorem ln_row (x : Ref.BF Ideal) (r : ℕ) : ln (rowOf x r) = fun i => x (at2 r i) :=
  funext fun i => congrArg x (at2_mod r i)

theorem row_res (x f : Ref.BF Ideal) (r j : ℕ) (hr : r < 128) (hj : j < 32768) (h : RowDone (F := Ideal) x f r) : f (at2 r j) = Ref.res x (at2 r j) := by
  obtain ⟨m, hs, ho⟩ := h
  have hX : ln m.s = fun i => x (at2 r i) := by rw [hs, ln_row]
  have hM : rM m = Ref.mx x r := eq_of_forall_ge_iff fun b => by
    rw [Ref.mx_le, show rM m ≤ b ↔ ∀ i < 32768, ln m.s i ≤ b from p1_le m.s b, hX]
  have hE : rEx m = Ref.gE x r := by
    unfold Ref.gE
    rw [← hX, ← hM]
  have hS : rS m = Ref.gS x r := by
    rw [rS_eq, hE]
    rfl
  have e := row_val m j hj
  rw [hE, hS, ← Ref.res_at x r j hr hj, ← ho, ln_row] at e
  exact e

theorem all_res (x f : Ref.BF Ideal) (h : AllDone (F := Ideal) x f) : f = Ref.res x := by
  funext j
  have e := row_res x f (j 0).val (j 1).val (j 0).isLt (j 1).isLt (h _ (j 0).isLt)
  rwa [at2_eta] at e

theorem algebraic : Cert.algebraic_KernelIdeal_ReferenceIdeal := by
  intro m g m' g' _ hm
  refine ⟨fun c => (Ref.res (F := Ideal) (m (xLoc c)) : Ref.BF Ideal), ?_, ?_⟩
  · exact (θ_run Cert.KernelIdeal.defs _ _).mono (fun r h c => ⟨all_res _ _ (h.1 c).2, (h.1 c).1⟩) (run_main (F := Ideal) m g)
  · refine (θ_run Cert.ReferenceIdeal.defs _ _).mono (fun r h c => ⟨?_, (h c _).trans (Ref.arg0_eq _)⟩) (Ref.run_main (F := Ideal) m' g')
    exact ((h c _).trans (Ref.ops_v34 _)).trans (congrArg (Ref.res (F := Ideal)) (hm c))

end Cert.Proof.Mem
-- ==== Proof.lean ====
/- The claim of `Defs.lean`, put together from its parts. -/
module

public import proofs.«01_k».proof.Defs
public import proofs.«01_k».proof.Proof.Value

@[expose] public section

noncomputable section

namespace Cert.Proof

open Cert.Proof.Mem

theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
